-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_alike [hPre_alike : Cert.Pre_alike.Facts] (m : (ℓ : Loc Cert.KernelIdeal.nD Cert.KernelIdeal.τ Cert.KernelIdeal.sig) → Buf (Elt Ideal) ℓ) : Prop :=
  ∀ c : Dev Cert.KernelIdeal.nD,
    (Cert.Pre_alike.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_ReferenceIdeal_alike [hPre_alike : Cert.Pre_alike.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_alike.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishIdeal_counted [hPre_counted : Cert.Pre_counted.Facts] (m : (ℓ : Loc Cert.FinishIdeal.nD Cert.FinishIdeal.τ Cert.FinishIdeal.sig) → Buf (Elt Ideal) ℓ) : Prop :=
  ∀ c : Dev Cert.FinishIdeal.nD,
    (Cert.Pre_counted.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6)) (m ((c.tc : Thread Cert.FinishIdeal.nD Cert.FinishIdeal.τ).loc Cert.FinishIdeal.main_arg7)) (m ((c.tc : Thread Cert.FinishIdeal.nD Cert.FinishIdeal.τ).loc Cert.FinishIdeal.main_arg8)) (m ((c.tc : Thread Cert.FinishIdeal.nD Cert.FinishIdeal.τ).loc Cert.FinishIdeal.main_arg9)) (m ((c.tc : Thread Cert.FinishIdeal.nD Cert.FinishIdeal.τ).loc Cert.FinishIdeal.main_arg10)) (m ((c.tc : Thread Cert.FinishIdeal.nD Cert.FinishIdeal.τ).loc Cert.FinishIdeal.main_arg11)) (m ((c.tc : Thread Cert.FinishIdeal.nD Cert.FinishIdeal.τ).loc Cert.FinishIdeal.main_arg12))) = (fun _ => 1#1)

def Pre_FinishReferenceIdeal (m : (ℓ : Loc Cert.FinishReferenceIdeal.nD Cert.FinishReferenceIdeal.τ Cert.FinishReferenceIdeal.sig) → Buf (Elt Ideal) ℓ) : Prop :=
  True

def Pre_FinishReferenceIdeal_counted [hPre_counted : Cert.Pre_counted.Facts] (m : (ℓ : Loc Cert.FinishReferenceIdeal.nD Cert.FinishReferenceIdeal.τ Cert.FinishReferenceIdeal.sig) → Buf (Elt Ideal) ℓ) : Prop :=
  ∀ c : Dev Cert.FinishReferenceIdeal.nD,
    (Cert.Pre_counted.fn (F := Ideal) (m ((c.tc : Thread Cert.FinishReferenceIdeal.nD Cert.FinishReferenceIdeal.τ).loc Cert.FinishReferenceIdeal.main_arg0)) (m ((c.tc : Thread Cert.FinishReferenceIdeal.nD Cert.FinishReferenceIdeal.τ).loc Cert.FinishReferenceIdeal.main_arg1)) (m ((c.tc : Thread Cert.FinishReferenceIdeal.nD Cert.FinishReferenceIdeal.τ).loc Cert.FinishReferenceIdeal.main_arg2)) (m ((c.tc : Thread Cert.FinishReferenceIdeal.nD Cert.FinishReferenceIdeal.τ).loc Cert.FinishReferenceIdeal.main_arg3)) (m ((c.tc : Thread Cert.FinishReferenceIdeal.nD Cert.FinishReferenceIdeal.τ).loc Cert.FinishReferenceIdeal.main_arg4)) (m ((c.tc : Thread Cert.FinishReferenceIdeal.nD Cert.FinishReferenceIdeal.τ).loc Cert.FinishReferenceIdeal.main_arg5)) (m ((c.tc : Thread Cert.FinishReferenceIdeal.nD Cert.FinishReferenceIdeal.τ).loc Cert.FinishReferenceIdeal.main_arg6)) (m ((c.tc : Thread Cert.FinishReferenceIdeal.nD Cert.FinishReferenceIdeal.τ).loc Cert.FinishReferenceIdeal.main_arg7)) (m ((c.tc : Thread Cert.FinishReferenceIdeal.nD Cert.FinishReferenceIdeal.τ).loc Cert.FinishReferenceIdeal.main_arg8)) (m ((c.tc : Thread Cert.FinishReferenceIdeal.nD Cert.FinishReferenceIdeal.τ).loc Cert.FinishReferenceIdeal.main_arg9)) (m ((c.tc : Thread Cert.FinishReferenceIdeal.nD Cert.FinishReferenceIdeal.τ).loc Cert.FinishReferenceIdeal.main_arg10)) (m ((c.tc : Thread Cert.FinishReferenceIdeal.nD Cert.FinishReferenceIdeal.τ).loc Cert.FinishReferenceIdeal.main_arg11)) (m ((c.tc : Thread Cert.FinishReferenceIdeal.nD Cert.FinishReferenceIdeal.τ).loc Cert.FinishReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_alike [hKernelIdeal : Cert.KernelIdeal.Facts] [hPre_alike : Cert.Pre_alike.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_alike m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_alike [hReferenceIdeal : Cert.ReferenceIdeal.Facts] [hPre_alike : Cert.Pre_alike.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_alike m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9)
      ∧ r.2.mem ((c.tc : Thread Cert.Finish.nD Cert.Finish.τ).loc Cert.Finish.main_arg10) = m ((c.tc : Thread Cert.Finish.nD Cert.Finish.τ).loc Cert.Finish.main_arg10)
      ∧ r.2.mem ((c.tc : Thread Cert.Finish.nD Cert.Finish.τ).loc Cert.Finish.main_arg11) = m ((c.tc : Thread Cert.Finish.nD Cert.Finish.τ).loc Cert.Finish.main_arg11)
      ∧ r.2.mem ((c.tc : Thread Cert.Finish.nD Cert.Finish.τ).loc Cert.Finish.main_arg12) = m ((c.tc : Thread Cert.Finish.nD Cert.Finish.τ).loc Cert.Finish.main_arg12))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
      ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11)
      ∧ r.2.mem ((c.tc : Thread Cert.FinishIdeal.nD Cert.FinishIdeal.τ).loc Cert.FinishIdeal.main_arg12) = m ((c.tc : Thread Cert.FinishIdeal.nD Cert.FinishIdeal.τ).loc Cert.FinishIdeal.main_arg12))
      ∧ r.2.sem = fun _ => 0)

def quiescent_FinishIdeal_pre_counted [hFinishIdeal : Cert.FinishIdeal.Facts] [hPre_counted : Cert.Pre_counted.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal_counted m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
      ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11)
      ∧ r.2.mem ((c.tc : Thread Cert.FinishIdeal.nD Cert.FinishIdeal.τ).loc Cert.FinishIdeal.main_arg12) = m ((c.tc : Thread Cert.FinishIdeal.nD Cert.FinishIdeal.τ).loc Cert.FinishIdeal.main_arg12))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7)
      ∧ r.2.mem ((c.tc : Thread Cert.FinishReferenceIdeal.nD Cert.FinishReferenceIdeal.τ).loc Cert.FinishReferenceIdeal.main_arg8) = m ((c.tc : Thread Cert.FinishReferenceIdeal.nD Cert.FinishReferenceIdeal.τ).loc Cert.FinishReferenceIdeal.main_arg8)
      ∧ r.2.mem ((c.tc : Thread Cert.FinishReferenceIdeal.nD Cert.FinishReferenceIdeal.τ).loc Cert.FinishReferenceIdeal.main_arg9) = m ((c.tc : Thread Cert.FinishReferenceIdeal.nD Cert.FinishReferenceIdeal.τ).loc Cert.FinishReferenceIdeal.main_arg9)
      ∧ r.2.mem ((c.tc : Thread Cert.FinishReferenceIdeal.nD Cert.FinishReferenceIdeal.τ).loc Cert.FinishReferenceIdeal.main_arg10) = m ((c.tc : Thread Cert.FinishReferenceIdeal.nD Cert.FinishReferenceIdeal.τ).loc Cert.FinishReferenceIdeal.main_arg10)
      ∧ r.2.mem ((c.tc : Thread Cert.FinishReferenceIdeal.nD Cert.FinishReferenceIdeal.τ).loc Cert.FinishReferenceIdeal.main_arg11) = m ((c.tc : Thread Cert.FinishReferenceIdeal.nD Cert.FinishReferenceIdeal.τ).loc Cert.FinishReferenceIdeal.main_arg11)
      ∧ r.2.mem ((c.tc : Thread Cert.FinishReferenceIdeal.nD Cert.FinishReferenceIdeal.τ).loc Cert.FinishReferenceIdeal.main_arg12) = m ((c.tc : Thread Cert.FinishReferenceIdeal.nD Cert.FinishReferenceIdeal.τ).loc Cert.FinishReferenceIdeal.main_arg12))
      ∧ r.2.sem = fun _ => 0)

def quiescent_FinishReferenceIdeal_pre_counted [hFinishReferenceIdeal : Cert.FinishReferenceIdeal.Facts] [hPre_counted : Cert.Pre_counted.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal_counted m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7)
      ∧ r.2.mem ((c.tc : Thread Cert.FinishReferenceIdeal.nD Cert.FinishReferenceIdeal.τ).loc Cert.FinishReferenceIdeal.main_arg8) = m ((c.tc : Thread Cert.FinishReferenceIdeal.nD Cert.FinishReferenceIdeal.τ).loc Cert.FinishReferenceIdeal.main_arg8)
      ∧ r.2.mem ((c.tc : Thread Cert.FinishReferenceIdeal.nD Cert.FinishReferenceIdeal.τ).loc Cert.FinishReferenceIdeal.main_arg9) = m ((c.tc : Thread Cert.FinishReferenceIdeal.nD Cert.FinishReferenceIdeal.τ).loc Cert.FinishReferenceIdeal.main_arg9)
      ∧ r.2.mem ((c.tc : Thread Cert.FinishReferenceIdeal.nD Cert.FinishReferenceIdeal.τ).loc Cert.FinishReferenceIdeal.main_arg10) = m ((c.tc : Thread Cert.FinishReferenceIdeal.nD Cert.FinishReferenceIdeal.τ).loc Cert.FinishReferenceIdeal.main_arg10)
      ∧ r.2.mem ((c.tc : Thread Cert.FinishReferenceIdeal.nD Cert.FinishReferenceIdeal.τ).loc Cert.FinishReferenceIdeal.main_arg11) = m ((c.tc : Thread Cert.FinishReferenceIdeal.nD Cert.FinishReferenceIdeal.τ).loc Cert.FinishReferenceIdeal.main_arg11)
      ∧ r.2.mem ((c.tc : Thread Cert.FinishReferenceIdeal.nD Cert.FinishReferenceIdeal.τ).loc Cert.FinishReferenceIdeal.main_arg12) = m ((c.tc : Thread Cert.FinishReferenceIdeal.nD Cert.FinishReferenceIdeal.τ).loc Cert.FinishReferenceIdeal.main_arg12))
      ∧ r.2.sem = fun _ => 0)

def preserves_Kernel_KernelIdeal : Prop :=
  IdealRules.named_const.Statement Cert.KernelIdeal.κ "k" .f32 0x3B203C17#32 ((409⁻¹ : ℝ) : EReal)

def algebraic_KernelIdeal_ReferenceIdeal_pre_alike [hKernelIdeal : Cert.KernelIdeal.Facts] [hReferenceIdeal : Cert.ReferenceIdeal.Facts] [hPre_alike : Cert.Pre_alike.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_alike m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Finish_FinishIdeal : Prop :=
  IdealRules.named_const.Statement Cert.FinishIdeal.κ "k" .f32 0x3B203C17#32 ((409⁻¹ : ℝ) : EReal)

def algebraic_FinishIdeal_FinishReferenceIdeal_pre_counted [hFinishIdeal : Cert.FinishIdeal.Facts] [hFinishReferenceIdeal : Cert.FinishReferenceIdeal.Facts] [hPre_counted : Cert.Pre_counted.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal_counted m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)
      ∧ m' ((c.tc : Thread Cert.FinishReferenceIdeal.nD Cert.FinishReferenceIdeal.τ).loc Cert.FinishReferenceIdeal.main_arg5) = m ((c.tc : Thread Cert.FinishIdeal.nD Cert.FinishIdeal.τ).loc Cert.FinishIdeal.main_arg5)
      ∧ m' ((c.tc : Thread Cert.FinishReferenceIdeal.nD Cert.FinishReferenceIdeal.τ).loc Cert.FinishReferenceIdeal.main_arg6) = m ((c.tc : Thread Cert.FinishIdeal.nD Cert.FinishIdeal.τ).loc Cert.FinishIdeal.main_arg6)
      ∧ m' ((c.tc : Thread Cert.FinishReferenceIdeal.nD Cert.FinishReferenceIdeal.τ).loc Cert.FinishReferenceIdeal.main_arg7) = m ((c.tc : Thread Cert.FinishIdeal.nD Cert.FinishIdeal.τ).loc Cert.FinishIdeal.main_arg7)
      ∧ m' ((c.tc : Thread Cert.FinishReferenceIdeal.nD Cert.FinishReferenceIdeal.τ).loc Cert.FinishReferenceIdeal.main_arg8) = m ((c.tc : Thread Cert.FinishIdeal.nD Cert.FinishIdeal.τ).loc Cert.FinishIdeal.main_arg8)
      ∧ m' ((c.tc : Thread Cert.FinishReferenceIdeal.nD Cert.FinishReferenceIdeal.τ).loc Cert.FinishReferenceIdeal.main_arg9) = m ((c.tc : Thread Cert.FinishIdeal.nD Cert.FinishIdeal.τ).loc Cert.FinishIdeal.main_arg9)
      ∧ m' ((c.tc : Thread Cert.FinishReferenceIdeal.nD Cert.FinishReferenceIdeal.τ).loc Cert.FinishReferenceIdeal.main_arg10) = m ((c.tc : Thread Cert.FinishIdeal.nD Cert.FinishIdeal.τ).loc Cert.FinishIdeal.main_arg10)
      ∧ m' ((c.tc : Thread Cert.FinishReferenceIdeal.nD Cert.FinishReferenceIdeal.τ).loc Cert.FinishReferenceIdeal.main_arg11) = m ((c.tc : Thread Cert.FinishIdeal.nD Cert.FinishIdeal.τ).loc Cert.FinishIdeal.main_arg11)
      ∧ m' ((c.tc : Thread Cert.FinishReferenceIdeal.nD Cert.FinishReferenceIdeal.τ).loc Cert.FinishReferenceIdeal.main_arg12) = m ((c.tc : Thread Cert.FinishIdeal.nD Cert.FinishIdeal.τ).loc Cert.FinishIdeal.main_arg12)) →
    ∃ (v0 : (c : Dev Cert.FinishIdeal.nD) → Buf (Elt Ideal) ((c.tc : Thread Cert.FinishIdeal.nD Cert.FinishIdeal.τ).loc Cert.FinishIdeal.main_v0)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
          ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
          ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11)
          ∧ r.2.mem ((c.tc : Thread Cert.FinishIdeal.nD Cert.FinishIdeal.τ).loc Cert.FinishIdeal.main_arg12) = m ((c.tc : Thread Cert.FinishIdeal.nD Cert.FinishIdeal.τ).loc Cert.FinishIdeal.main_arg12))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v95) = v0 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4)
          ∧ r.2.mem ((c.tc : Thread Cert.FinishReferenceIdeal.nD Cert.FinishReferenceIdeal.τ).loc Cert.FinishReferenceIdeal.main_arg5) = m' ((c.tc : Thread Cert.FinishReferenceIdeal.nD Cert.FinishReferenceIdeal.τ).loc Cert.FinishReferenceIdeal.main_arg5)
          ∧ r.2.mem ((c.tc : Thread Cert.FinishReferenceIdeal.nD Cert.FinishReferenceIdeal.τ).loc Cert.FinishReferenceIdeal.main_arg6) = m' ((c.tc : Thread Cert.FinishReferenceIdeal.nD Cert.FinishReferenceIdeal.τ).loc Cert.FinishReferenceIdeal.main_arg6)
          ∧ r.2.mem ((c.tc : Thread Cert.FinishReferenceIdeal.nD Cert.FinishReferenceIdeal.τ).loc Cert.FinishReferenceIdeal.main_arg7) = m' ((c.tc : Thread Cert.FinishReferenceIdeal.nD Cert.FinishReferenceIdeal.τ).loc Cert.FinishReferenceIdeal.main_arg7)
          ∧ r.2.mem ((c.tc : Thread Cert.FinishReferenceIdeal.nD Cert.FinishReferenceIdeal.τ).loc Cert.FinishReferenceIdeal.main_arg8) = m' ((c.tc : Thread Cert.FinishReferenceIdeal.nD Cert.FinishReferenceIdeal.τ).loc Cert.FinishReferenceIdeal.main_arg8)
          ∧ r.2.mem ((c.tc : Thread Cert.FinishReferenceIdeal.nD Cert.FinishReferenceIdeal.τ).loc Cert.FinishReferenceIdeal.main_arg9) = m' ((c.tc : Thread Cert.FinishReferenceIdeal.nD Cert.FinishReferenceIdeal.τ).loc Cert.FinishReferenceIdeal.main_arg9)
          ∧ r.2.mem ((c.tc : Thread Cert.FinishReferenceIdeal.nD Cert.FinishReferenceIdeal.τ).loc Cert.FinishReferenceIdeal.main_arg10) = m' ((c.tc : Thread Cert.FinishReferenceIdeal.nD Cert.FinishReferenceIdeal.τ).loc Cert.FinishReferenceIdeal.main_arg10)
          ∧ r.2.mem ((c.tc : Thread Cert.FinishReferenceIdeal.nD Cert.FinishReferenceIdeal.τ).loc Cert.FinishReferenceIdeal.main_arg11) = m' ((c.tc : Thread Cert.FinishReferenceIdeal.nD Cert.FinishReferenceIdeal.τ).loc Cert.FinishReferenceIdeal.main_arg11)
          ∧ r.2.mem ((c.tc : Thread Cert.FinishReferenceIdeal.nD Cert.FinishReferenceIdeal.τ).loc Cert.FinishReferenceIdeal.main_arg12) = m' ((c.tc : Thread Cert.FinishReferenceIdeal.nD Cert.FinishReferenceIdeal.τ).loc Cert.FinishReferenceIdeal.main_arg12))

def Claim : Prop :=
  ∃ (hKernel : Cert.Kernel.Facts) (hKernelIdeal : Cert.KernelIdeal.Facts) (hReferenceIdeal : Cert.ReferenceIdeal.Facts) (hFinish : Cert.Finish.Facts) (hFinishIdeal : Cert.FinishIdeal.Facts) (hFinishReferenceIdeal : Cert.FinishReferenceIdeal.Facts) (hPre_in_range : Cert.Pre_in_range.Facts) (hPre_alike : Cert.Pre_alike.Facts) (hPre_counted : Cert.Pre_counted.Facts),
    quiescent_Kernel (hKernel := hKernel) (hPre_in_range := hPre_in_range)
    ∧ quiescent_KernelIdeal (hKernelIdeal := hKernelIdeal) (hPre_in_range := hPre_in_range)
    ∧ quiescent_KernelIdeal_pre_alike (hKernelIdeal := hKernelIdeal) (hPre_alike := hPre_alike)
    ∧ quiescent_ReferenceIdeal (hReferenceIdeal := hReferenceIdeal) (hPre_in_range := hPre_in_range)
    ∧ quiescent_ReferenceIdeal_pre_alike (hReferenceIdeal := hReferenceIdeal) (hPre_alike := hPre_alike)
    ∧ quiescent_Finish (hFinish := hFinish)
    ∧ quiescent_FinishIdeal (hFinishIdeal := hFinishIdeal)
    ∧ quiescent_FinishIdeal_pre_counted (hFinishIdeal := hFinishIdeal) (hPre_counted := hPre_counted)
    ∧ quiescent_FinishReferenceIdeal (hFinishReferenceIdeal := hFinishReferenceIdeal)
    ∧ quiescent_FinishReferenceIdeal_pre_counted (hFinishReferenceIdeal := hFinishReferenceIdeal) (hPre_counted := hPre_counted)
    ∧ preserves_Kernel_KernelIdeal
    ∧ algebraic_KernelIdeal_ReferenceIdeal_pre_alike (hKernelIdeal := hKernelIdeal) (hReferenceIdeal := hReferenceIdeal) (hPre_alike := hPre_alike)
    ∧ preserves_Finish_FinishIdeal
    ∧ algebraic_FinishIdeal_FinishReferenceIdeal_pre_counted (hFinishIdeal := hFinishIdeal) (hFinishReferenceIdeal := hFinishReferenceIdeal) (hPre_counted := hPre_counted)
-- ==== Pre_alike.lean ====
abbrev S64x4096 : Shape := ⟨2, ![64, 4096]⟩
abbrev S6x256 : Shape := ⟨2, ![6, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x768 : Shape := ⟨2, ![8, 768]⟩
abbrev S8 : Shape := ⟨1, ![8]⟩
abbrev S8x8 : Shape := ⟨2, ![8, 8]⟩
abbrev S256x8 : Shape := ⟨2, ![256, 8]⟩
abbrev S256 : Shape := ⟨1, ![256]⟩
abbrev S256x128 : Shape := ⟨2, ![256, 128]⟩
abbrev S6x128 : Shape := ⟨2, ![6, 128]⟩
abbrev S_ : Shape := ⟨0, ![]⟩
abbrev S128x1 : Shape := ⟨2, ![128, 1]⟩
abbrev S6x1 : Shape := ⟨2, ![6, 1]⟩
abbrev S1x1 : Shape := ⟨2, ![1, 1]⟩
abbrev S6 : Shape := ⟨1, ![6]⟩
abbrev S1x6 : Shape := ⟨2, ![1, 6]⟩
abbrev S6x6 : Shape := ⟨2, ![6, 6]⟩
abbrev S6x1x256 : Shape := ⟨3, ![6, 1, 256]⟩
abbrev S1x6x256 : Shape := ⟨3, ![1, 6, 256]⟩
abbrev S6x6x256 : Shape := ⟨3, ![6, 6, 256]⟩

class Facts : Prop where
  transposes_S128x256_S256x128_1_0 : S128x256.Transposes [1, 0] S256x128
  bcast_S128_S1x128_1 : S128.BroadcastsInDim S1x128 (![1] : Fin 1 → Fin S1x128.rank)
  bcast_S1x128_S6x128_0_1 : S1x128.BroadcastsInDim S6x128 (![0, 1] : Fin 2 → Fin S6x128.rank)
  bcast_S_S6x128 : S_.BroadcastsInDim S6x128 (![] : Fin 0 → Fin S6x128.rank)
  transposes_S1x128_S128x1_1_0 : S1x128.Transposes [1, 0] S128x1
  bcast_S1_S1x1_1 : S1.BroadcastsInDim S1x1 (![1] : Fin 1 → Fin S1x1.rank)
  bcast_S1x1_S6x1_0_1 : S1x1.BroadcastsInDim S6x1 (![0, 1] : Fin 2 → Fin S6x1.rank)
  bcast_S_S6x1 : S_.BroadcastsInDim S6x1 (![] : Fin 0 → Fin S6x1.rank)
  shapeCasts_S6x1_S6 : S6x1.ShapeCasts S6
  bcast_S6_S6x1_0 : S6.BroadcastsInDim S6x1 (![0] : Fin 1 → Fin S6x1.rank)
  bcast_S6_S1x6_1 : S6.BroadcastsInDim S1x6 (![1] : Fin 1 → Fin S1x6.rank)
  bcast_S6x1_S6x6_0_1 : S6x1.BroadcastsInDim S6x6 (![0, 1] : Fin 2 → Fin S6x6.rank)
  bcast_S1x6_S6x6_0_1 : S1x6.BroadcastsInDim S6x6 (![0, 1] : Fin 2 → Fin S6x6.rank)
  bcast_S6x256_S6x1x256_0_2 : S6x256.BroadcastsInDim S6x1x256 (![0, 2] : Fin 2 → Fin S6x1x256.rank)
  bcast_S6x256_S1x6x256_1_2 : S6x256.BroadcastsInDim S1x6x256 (![1, 2] : Fin 2 → Fin S1x6x256.rank)
  bcast_S6x1x256_S6x6x256_0_1_2 : S6x1x256.BroadcastsInDim S6x6x256 (![0, 1, 2] : Fin 3 → Fin S6x6x256.rank)
  bcast_S1x6x256_S6x6x256_0_1_2 : S1x6x256.BroadcastsInDim S6x6x256 (![0, 1, 2] : Fin 3 → Fin S6x6x256.rank)
  reducesTo_S6x6x256_S6x6_d2 : S6x6x256.ReducesTo [2] S6x6
  h_S_ : 0 < S_.numel
  bcast_S_S64x4096 : S_.BroadcastsInDim S64x4096 (![] : Fin 0 → Fin S64x4096.rank)
  reducesTo_S64x4096_S_d0_1 : S64x4096.ReducesTo [0, 1] S_
  bcast_S_S6x256 : S_.BroadcastsInDim S6x256 (![] : Fin 0 → Fin S6x256.rank)
  reducesTo_S6x256_S_d0_1 : S6x256.ReducesTo [0, 1] S_
  bcast_S_S8x768 : S_.BroadcastsInDim S8x768 (![] : Fin 0 → Fin S8x768.rank)
  reducesTo_S8x768_S_d0_1 : S8x768.ReducesTo [0, 1] S_
  reducesTo_S6x6_S_d0_1 : S6x6.ReducesTo [0, 1] S_
  dot_S6x256_S256x128_S6x128_1_0_0_1_n_n_wf : DotDims.WF S6x256 S256x128 S6x128 [1] [0] [0] [1] [] []
  dot_S6x128_S128x1_S6x1_1_0_0_1_n_n_wf : DotDims.WF S6x128 S128x1 S6x1 [1] [0] [0] [1] [] []

variable [Facts]

def dot_S6x256_S256x128_S6x128_1_0_0_1_n_n : DotDims S6x256 S256x128 S6x128 where
  lhsContracting := [1]
  rhsContracting := [0]
  lhsNonContracting := [0]
  rhsNonContracting := [1]
  lhsBatch := []
  rhsBatch := []
  wf := dot_S6x256_S256x128_S6x128_1_0_0_1_n_n_wf
def dot_S6x128_S128x1_S6x1_1_0_0_1_n_n : DotDims S6x128 S128x1 S6x1 where
  lhsContracting := [1]
  rhsContracting := [0]
  lhsNonContracting := [0]
  rhsNonContracting := [1]
  lhsBatch := []
  rhsBatch := []
  wf := dot_S6x128_S128x1_S6x1_1_0_0_1_n_n_wf
def fn_relu {F : FTy → Type} [FloatOps F] (arg0 : FVec F S6x128 .f32) : FVec F S6x128 .f32 :=
  let cst : FVec F S_ .f32 := constant S_ .f32 0x00000000#32
  let v0 : FVec F S6x128 .f32 := broadcastInDim S6x128 ![] bcast_S_S6x128 cst
  let v1 : FVec F S6x128 .f32 := maximumf arg0 v0
  v1

def fn_part2 {F : FTy → Type} [FloatOps F] (main_arg6 : FVec F S8x768 .f32) (main_v22 : IVec S6x6 1) (main_v28 : IVec S6x6 1) (main_v39 : IVec S_ 1) : IVec S_ 1 :=
  let main_v40 : FVec F S8x768 .f32 := Host.absf main_arg6
  let main_cst_6 : FVec F S_ .f32 := constant S_ .f32 0x7F800000#32
  let main_v41 : FVec F S8x768 .f32 := broadcastInDim S8x768 ![] bcast_S_S8x768 main_cst_6
  let main_v42 : IVec S8x768 1 := cmpf .olt main_v40 main_v41
  let main_c_7 : IVec S_ 1 := constantI S_ 1 1#1
  let main_v43 : IVec S_ 1 := (fun x v => Host.reduce IntOp.andi x v reducesTo_S8x768_S_d0_1 h_S_) main_v42 main_c_7
  let main_v44 : IVec S_ 1 := andi main_v39 main_v43
  let main_v45 : IVec S6x6 1 := ori main_v22 main_v28
  let main_c_8 : IVec S_ 1 := constantI S_ 1 1#1
  let main_v46 : IVec S_ 1 := (fun x v => Host.reduce IntOp.andi x v reducesTo_S6x6_S_d0_1 h_S_) main_v45 main_c_8
  let main_v47 : IVec S_ 1 := andi main_v44 main_v46
  main_v47

def fn_part1 {F : FTy → Type} [FloatOps F] (main_arg0 : IVec S64x4096 32) (main_arg1 : FVec F S6x256 .f32) (main_arg6 : FVec F S8x768 .f32) (main_v20 : FVec F S6x6 .f32) (main_v21 : FVec F S6x6 .f32) : IVec S_ 1 :=
  let main_v22 : IVec S6x6 1 := cmpf .une main_v20 main_v21
  let main_v23 : FVec F S6x1x256 .f32 := broadcastInDim S6x1x256 ![0, 2] bcast_S6x256_S6x1x256_0_2 main_arg1
  let main_v24 : FVec F S1x6x256 .f32 := broadcastInDim S1x6x256 ![1, 2] bcast_S6x256_S1x6x256_1_2 main_arg1
  let main_v25 : FVec F S6x6x256 .f32 := broadcastInDim S6x6x256 ![0, 1, 2] bcast_S6x1x256_S6x6x256_0_1_2 main_v23
  let main_v26 : FVec F S6x6x256 .f32 := broadcastInDim S6x6x256 ![0, 1, 2] bcast_S1x6x256_S6x6x256_0_1_2 main_v24
  let main_v27 : IVec S6x6x256 1 := cmpf .oeq main_v25 main_v26
  let main_c : IVec S_ 1 := constantI S_ 1 1#1
  let main_v28 : IVec S6x6 1 := (fun x v => Host.reduce IntOp.andi x v reducesTo_S6x6x256_S6x6_d2 h_S_) main_v27 main_c
  let main_c_1 : IVec S_ 32 := constantI S_ 32 0#32
  let main_v29 : IVec S64x4096 32 := broadcastInDim S64x4096 ![] bcast_S_S64x4096 main_c_1
  let main_v30 : IVec S64x4096 1 := cmpi .sge main_arg0 main_v29
  let main_c_2 : IVec S_ 32 := constantI S_ 32 6#32
  let main_v31 : IVec S64x4096 32 := broadcastInDim S64x4096 ![] bcast_S_S64x4096 main_c_2
  let main_v32 : IVec S64x4096 1 := cmpi .slt main_arg0 main_v31
  let main_v33 : IVec S64x4096 1 := andi main_v30 main_v32
  let main_c_3 : IVec S_ 1 := constantI S_ 1 1#1
  let main_v34 : IVec S_ 1 := (fun x v => Host.reduce IntOp.andi x v reducesTo_S64x4096_S_d0_1 h_S_) main_v33 main_c_3
  let main_v35 : FVec F S6x256 .f32 := Host.absf main_arg1
  let main_cst_4 : FVec F S_ .f32 := constant S_ .f32 0x7F800000#32
  let main_v36 : FVec F S6x256 .f32 := broadcastInDim S6x256 ![] bcast_S_S6x256 main_cst_4
  let main_v37 : IVec S6x256 1 := cmpf .olt main_v35 main_v36
  let main_c_5 : IVec S_ 1 := constantI S_ 1 1#1
  let main_v38 : IVec S_ 1 := (fun x v => Host.reduce IntOp.andi x v reducesTo_S6x256_S_d0_1 h_S_) main_v37 main_c_5
  let main_v39 : IVec S_ 1 := andi main_v34 main_v38
  fn_part2 (F := F) main_arg6 main_v22 main_v28 main_v39

def fn {F : FTy → Type} [FloatOps F] (main_arg0 : IVec S64x4096 32) (main_arg1 : FVec F S6x256 .f32) (main_arg2 : FVec F S128x256 .f32) (main_arg3 : FVec F S128 .f32) (main_arg4 : FVec F S1x128 .f32) (main_arg5 : FVec F S1 .f32) (main_arg6 : FVec F S8x768 .f32) (main_arg7 : FVec F S8 .f32) (main_arg8 : FVec F S8x8 .f32) (main_arg9 : FVec F S8 .f32) (main_arg10 : FVec F S256x8 .f32) (main_arg11 : FVec F S256 .f32) (main_arg12 : FVec F S128x256 .f32) (main_arg13 : FVec F S128 .f32) (main_arg14 : FVec F S1x128 .f32) (main_arg15 : FVec F S1 .f32) : IVec S_ 1 :=
  let main_v0 : FVec F S256x128 .f32 := (transpose S256x128 [1, 0] · transposes_S128x256_S256x128_1_0) main_arg2
  let main_v1 : FVec F S6x128 .f32 := (fun l r => Host.dotGeneral dot_S6x256_S256x128_S6x128_1_0_0_1_n_n none l r) main_arg1 main_v0
  let main_v2 : FVec F S1x128 .f32 := broadcastInDim S1x128 ![1] bcast_S128_S1x128_1 main_arg3
  let main_v3 : FVec F S6x128 .f32 := broadcastInDim S6x128 ![0, 1] bcast_S1x128_S6x128_0_1 main_v2
  let main_v4 : FVec F S6x128 .f32 := addf main_v1 main_v3
  let main_v5 : FVec F S6x128 .f32 := fn_relu (F := F) main_v4
  let main_v6 : FVec F S128x1 .f32 := (transpose S128x1 [1, 0] · transposes_S1x128_S128x1_1_0) main_arg4
  let main_v7 : FVec F S6x1 .f32 := (fun l r => Host.dotGeneral dot_S6x128_S128x1_S6x1_1_0_0_1_n_n none l r) main_v5 main_v6
  let main_v8 : FVec F S1x1 .f32 := broadcastInDim S1x1 ![1] bcast_S1_S1x1_1 main_arg5
  let main_v9 : FVec F S6x1 .f32 := broadcastInDim S6x1 ![0, 1] bcast_S1x1_S6x1_0_1 main_v8
  let main_v10 : FVec F S6x1 .f32 := addf main_v7 main_v9
  let main_v11 : FVec F S6x1 .f32 := Host.negf main_v10
  let main_v12 : FVec F S6x1 .f32 := Host.exp main_v11
  let main_cst : FVec F S_ .f32 := constant S_ .f32 0x3F800000#32
  let main_v13 : FVec F S6x1 .f32 := broadcastInDim S6x1 ![] bcast_S_S6x1 main_cst
  let main_v14 : FVec F S6x1 .f32 := addf main_v13 main_v12
  let main_cst_0 : FVec F S_ .f32 := constant S_ .f32 0x3F800000#32
  let main_v15 : FVec F S6x1 .f32 := broadcastInDim S6x1 ![] bcast_S_S6x1 main_cst_0
  let main_v16 : FVec F S6x1 .f32 := Host.divf main_v15 main_v14
  let main_v17 : FVec F S6 .f32 := shapeCast S6 main_v16 shapeCasts_S6x1_S6
  let main_v18 : FVec F S6x1 .f32 := broadcastInDim S6x1 ![0] bcast_S6_S6x1_0 main_v17
  let main_v19 : FVec F S1x6 .f32 := broadcastInDim S1x6 ![1] bcast_S6_S1x6_1 main_v17
  let main_v20 : FVec F S6x6 .f32 := broadcastInDim S6x6 ![0, 1] bcast_S6x1_S6x6_0_1 main_v18
  let main_v21 : FVec F S6x6 .f32 := broadcastInDim S6x6 ![0, 1] bcast_S1x6_S6x6_0_1 main_v19
  fn_part1 (F := F) main_arg0 main_arg1 main_arg6 main_v20 main_v21
-- ==== Pre_counted.lean ====
abbrev S64x16 : Shape := ⟨2, ![64, 16]⟩
abbrev S8x8 : Shape := ⟨2, ![8, 8]⟩
abbrev S6x256 : Shape := ⟨2, ![6, 256]⟩
abbrev S8x768 : Shape := ⟨2, ![8, 768]⟩
abbrev S8 : Shape := ⟨1, ![8]⟩
abbrev S256x8 : Shape := ⟨2, ![256, 8]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S64x1 : Shape := ⟨2, ![64, 1]⟩
abbrev S64 : Shape := ⟨1, ![64]⟩
abbrev S64x8 : Shape := ⟨2, ![64, 8]⟩
abbrev S_ : Shape := ⟨0, ![]⟩

class Facts : Prop where
  slices_S64x16_S64x1_0_0 : S64x16.Slices ![0, 0] S64x1
  shapeCasts_S64x1_S64 : S64x1.ShapeCasts S64
  slices_S64x16_S64x1_0_1 : S64x16.Slices ![0, 1] S64x1
  slices_S64x16_S64x1_0_2 : S64x16.Slices ![0, 2] S64x1
  slices_S64x16_S64x1_0_3 : S64x16.Slices ![0, 3] S64x1
  slices_S64x16_S64x1_0_4 : S64x16.Slices ![0, 4] S64x1
  slices_S64x16_S64x1_0_5 : S64x16.Slices ![0, 5] S64x1
  slices_S64x16_S64x1_0_6 : S64x16.Slices ![0, 6] S64x1
  slices_S64x16_S64x1_0_7 : S64x16.Slices ![0, 7] S64x1
  slices_S64x16_S64x8_0_0 : S64x16.Slices ![0, 0] S64x8
  bcast_S_S64x8 : S_.BroadcastsInDim S64x8 (![] : Fin 0 → Fin S64x8.rank)
  reducesTo_S64x8_S_d0_1 : S64x8.ReducesTo [0, 1] S_
  h_S_ : 0 < S_.numel
  bcast_S_S64 : S_.BroadcastsInDim S64 (![] : Fin 0 → Fin S64.rank)
  reducesTo_S64_S_d0 : S64.ReducesTo [0] S_
  bcast_S_S8x8 : S_.BroadcastsInDim S8x8 (![] : Fin 0 → Fin S8x8.rank)
  reducesTo_S8x8_S_d0_1 : S8x8.ReducesTo [0, 1] S_
  bcast_S_S6x256 : S_.BroadcastsInDim S6x256 (![] : Fin 0 → Fin S6x256.rank)
  reducesTo_S6x256_S_d0_1 : S6x256.ReducesTo [0, 1] S_
  bcast_S_S8x768 : S_.BroadcastsInDim S8x768 (![] : Fin 0 → Fin S8x768.rank)
  reducesTo_S8x768_S_d0_1 : S8x768.ReducesTo [0, 1] S_

variable [Facts]

def fn_part2 {F : FTy → Type} [FloatOps F] (main_arg3 : FVec F S8x768 .f32) (main_v38 : IVec S_ 1) (main_v39 : FVec F S6x256 .f32) (main_cst_5 : FVec F S_ .f32) : IVec S_ 1 :=
  let main_v40 : FVec F S6x256 .f32 := broadcastInDim S6x256 ![] bcast_S_S6x256 main_cst_5
  let main_v41 : IVec S6x256 1 := cmpf .olt main_v39 main_v40
  let main_c_6 : IVec S_ 1 := constantI S_ 1 1#1
  let main_v42 : IVec S_ 1 := (fun x v => Host.reduce IntOp.andi x v reducesTo_S6x256_S_d0_1 h_S_) main_v41 main_c_6
  let main_v43 : IVec S_ 1 := andi main_v38 main_v42
  let main_v44 : FVec F S8x768 .f32 := Host.absf main_arg3
  let main_cst_7 : FVec F S_ .f32 := constant S_ .f32 0x7F800000#32
  let main_v45 : FVec F S8x768 .f32 := broadcastInDim S8x768 ![] bcast_S_S8x768 main_cst_7
  let main_v46 : IVec S8x768 1 := cmpf .olt main_v44 main_v45
  let main_c_8 : IVec S_ 1 := constantI S_ 1 1#1
  let main_v47 : IVec S_ 1 := (fun x v => Host.reduce IntOp.andi x v reducesTo_S8x768_S_d0_1 h_S_) main_v46 main_c_8
  let main_v48 : IVec S_ 1 := andi main_v43 main_v47
  main_v48

def fn_part1 {F : FTy → Type} [FloatOps F] (main_arg1 : FVec F S8x8 .f32) (main_arg2 : FVec F S6x256 .f32) (main_arg3 : FVec F S8x768 .f32) (main_v22 : IVec S64 32) (main_v23 : IVec S64x8 32) : IVec S_ 1 :=
  let main_c : IVec S_ 32 := constantI S_ 32 0#32
  let main_v24 : IVec S64x8 32 := broadcastInDim S64x8 ![] bcast_S_S64x8 main_c
  let main_v25 : IVec S64x8 1 := cmpi .sge main_v23 main_v24
  let main_c_0 : IVec S_ 32 := constantI S_ 32 4096#32
  let main_v26 : IVec S64x8 32 := broadcastInDim S64x8 ![] bcast_S_S64x8 main_c_0
  let main_v27 : IVec S64x8 1 := cmpi .sle main_v23 main_v26
  let main_v28 : IVec S64x8 1 := andi main_v25 main_v27
  let main_c_1 : IVec S_ 1 := constantI S_ 1 1#1
  let main_v29 : IVec S_ 1 := (fun x v => Host.reduce IntOp.andi x v reducesTo_S64x8_S_d0_1 h_S_) main_v28 main_c_1
  let main_c_2 : IVec S_ 32 := constantI S_ 32 4096#32
  let main_v30 : IVec S64 32 := broadcastInDim S64 ![] bcast_S_S64 main_c_2
  let main_v31 : IVec S64 1 := cmpi .eq main_v22 main_v30
  let main_c_3 : IVec S_ 1 := constantI S_ 1 1#1
  let main_v32 : IVec S_ 1 := (fun x v => Host.reduce IntOp.andi x v reducesTo_S64_S_d0 h_S_) main_v31 main_c_3
  let main_v33 : IVec S_ 1 := andi main_v29 main_v32
  let main_v34 : FVec F S8x8 .f32 := Host.absf main_arg1
  let main_cst : FVec F S_ .f32 := constant S_ .f32 0x7F800000#32
  let main_v35 : FVec F S8x8 .f32 := broadcastInDim S8x8 ![] bcast_S_S8x8 main_cst
  let main_v36 : IVec S8x8 1 := cmpf .olt main_v34 main_v35
  let main_c_4 : IVec S_ 1 := constantI S_ 1 1#1
  let main_v37 : IVec S_ 1 := (fun x v => Host.reduce IntOp.andi x v reducesTo_S8x8_S_d0_1 h_S_) main_v36 main_c_4
  let main_v38 : IVec S_ 1 := andi main_v33 main_v37
  let main_v39 : FVec F S6x256 .f32 := Host.absf main_arg2
  let main_cst_5 : FVec F S_ .f32 := constant S_ .f32 0x7F800000#32
  fn_part2 (F := F) main_arg3 main_v38 main_v39 main_cst_5

def fn {F : FTy → Type} [FloatOps F] (main_arg0 : IVec S64x16 32) (main_arg1 : FVec F S8x8 .f32) (main_arg2 : FVec F S6x256 .f32) (main_arg3 : FVec F S8x768 .f32) (main_arg4 : FVec F S8 .f32) (main_arg5 : FVec F S8x8 .f32) (main_arg6 : FVec F S8 .f32) (main_arg7 : FVec F S256x8 .f32) (main_arg8 : FVec F S256 .f32) (main_arg9 : FVec F S128x256 .f32) (main_arg10 : FVec F S128 .f32) (main_arg11 : FVec F S1x128 .f32) (main_arg12 : FVec F S1 .f32) : IVec S_ 1 :=
  let main_v0 : IVec S64x1 32 := (extractStridedSlice S64x1 ![0, 0] · slices_S64x16_S64x1_0_0) main_arg0
  let main_v1 : IVec S64 32 := shapeCast S64 main_v0 shapeCasts_S64x1_S64
  let main_v2 : IVec S64x1 32 := (extractStridedSlice S64x1 ![0, 1] · slices_S64x16_S64x1_0_1) main_arg0
  let main_v3 : IVec S64 32 := shapeCast S64 main_v2 shapeCasts_S64x1_S64
  let main_v4 : IVec S64 32 := addi main_v1 main_v3
  let main_v5 : IVec S64x1 32 := (extractStridedSlice S64x1 ![0, 2] · slices_S64x16_S64x1_0_2) main_arg0
  let main_v6 : IVec S64 32 := shapeCast S64 main_v5 shapeCasts_S64x1_S64
  let main_v7 : IVec S64 32 := addi main_v4 main_v6
  let main_v8 : IVec S64x1 32 := (extractStridedSlice S64x1 ![0, 3] · slices_S64x16_S64x1_0_3) main_arg0
  let main_v9 : IVec S64 32 := shapeCast S64 main_v8 shapeCasts_S64x1_S64
  let main_v10 : IVec S64 32 := addi main_v7 main_v9
  let main_v11 : IVec S64x1 32 := (extractStridedSlice S64x1 ![0, 4] · slices_S64x16_S64x1_0_4) main_arg0
  let main_v12 : IVec S64 32 := shapeCast S64 main_v11 shapeCasts_S64x1_S64
  let main_v13 : IVec S64 32 := addi main_v10 main_v12
  let main_v14 : IVec S64x1 32 := (extractStridedSlice S64x1 ![0, 5] · slices_S64x16_S64x1_0_5) main_arg0
  let main_v15 : IVec S64 32 := shapeCast S64 main_v14 shapeCasts_S64x1_S64
  let main_v16 : IVec S64 32 := addi main_v13 main_v15
  let main_v17 : IVec S64x1 32 := (extractStridedSlice S64x1 ![0, 6] · slices_S64x16_S64x1_0_6) main_arg0
  let main_v18 : IVec S64 32 := shapeCast S64 main_v17 shapeCasts_S64x1_S64
  let main_v19 : IVec S64 32 := addi main_v16 main_v18
  let main_v20 : IVec S64x1 32 := (extractStridedSlice S64x1 ![0, 7] · slices_S64x16_S64x1_0_7) main_arg0
  let main_v21 : IVec S64 32 := shapeCast S64 main_v20 shapeCasts_S64x1_S64
  let main_v22 : IVec S64 32 := addi main_v19 main_v21
  let main_v23 : IVec S64x8 32 := (extractStridedSlice S64x8 ![0, 0] · slices_S64x16_S64x8_0_0) main_arg0
  fn_part1 (F := F) main_arg1 main_arg2 main_arg3 main_v22 main_v23
-- ==== Pre_in_range.lean ====
abbrev S64x4096 : Shape := ⟨2, ![64, 4096]⟩
abbrev S6x256 : Shape := ⟨2, ![6, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x768 : Shape := ⟨2, ![8, 768]⟩
abbrev S8 : Shape := ⟨1, ![8]⟩
abbrev S8x8 : Shape := ⟨2, ![8, 8]⟩
abbrev S256x8 : Shape := ⟨2, ![256, 8]⟩
abbrev S256 : Shape := ⟨1, ![256]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel

variable [Facts]

def fn {F : FTy → Type} [FloatOps F] (main_arg0 : IVec S64x4096 32) (main_arg1 : FVec F S6x256 .f32) (main_arg2 : FVec F S128x256 .f32) (main_arg3 : FVec F S128 .f32) (main_arg4 : FVec F S1x128 .f32) (main_arg5 : FVec F S1 .f32) (main_arg6 : FVec F S8x768 .f32) (main_arg7 : FVec F S8 .f32) (main_arg8 : FVec F S8x8 .f32) (main_arg9 : FVec F S8 .f32) (main_arg10 : FVec F S256x8 .f32) (main_arg11 : FVec F S256 .f32) (main_arg12 : FVec F S128x256 .f32) (main_arg13 : FVec F S128 .f32) (main_arg14 : FVec F S1x128 .f32) (main_arg15 : FVec F S1 .f32) : IVec S_ 1 :=
  let main_c : IVec S_ 32 := constantI S_ 32 0#32
  let main_v0 : IVec S64x4096 32 := broadcastInDim S64x4096 ![] bcast_S_S64x4096 main_c
  let main_v1 : IVec S64x4096 1 := cmpi .sge main_arg0 main_v0
  let main_c_0 : IVec S_ 32 := constantI S_ 32 6#32
  let main_v2 : IVec S64x4096 32 := broadcastInDim S64x4096 ![] bcast_S_S64x4096 main_c_0
  let main_v3 : IVec S64x4096 1 := cmpi .slt main_arg0 main_v2
  let main_v4 : IVec S64x4096 1 := andi main_v1 main_v3
  let main_c_1 : IVec S_ 1 := constantI S_ 1 1#1
  let main_v5 : IVec S_ 1 := (fun x v => Host.reduce IntOp.andi x v reducesTo_S64x4096_S_d0_1 h_S_) main_v4 main_c_1
  main_v5
-- ==== Kernel.lean ====
abbrev S64x4096 : Shape := ⟨2, ![64, 4096]⟩
abbrev S6x256 : Shape := ⟨2, ![6, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x768 : Shape := ⟨2, ![8, 768]⟩
abbrev S8 : Shape := ⟨1, ![8]⟩
abbrev S8x8 : Shape := ⟨2, ![8, 8]⟩
abbrev S256x8 : Shape := ⟨2, ![256, 8]⟩
abbrev S256 : Shape := ⟨1, ![256]⟩
abbrev S1x16 : Shape := ⟨2, ![1, 16]⟩
abbrev S6x128 : Shape := ⟨2, ![6, 128]⟩
abbrev S6 : Shape := ⟨1, ![6]⟩
abbrev S6x1 : Shape := ⟨2, ![6, 1]⟩
abbrev S1x1 : Shape := ⟨2, ![1, 1]⟩
abbrev S2x1 : Shape := ⟨2, ![2, 1]⟩
abbrev S8x1 : Shape := ⟨2, ![8, 1]⟩
abbrev S1x8 : Shape := ⟨2, ![1, 8]⟩
abbrev S64x416 : Shape := ⟨2, ![64, 416]⟩
abbrev S64x16 : Shape := ⟨2, ![64, 16]⟩
abbrev S4096 : Shape := ⟨1, ![4096]⟩
abbrev S416 : Shape := ⟨1, ![416]⟩
abbrev S16 : Shape := ⟨1, ![16]⟩
abbrev S_ : Shape := ⟨0, ![]⟩
abbrev S1x4096 : Shape := ⟨2, ![1, 4096]⟩
abbrev S1x416 : Shape := ⟨2, ![1, 416]⟩
abbrev S64x409 : Shape := ⟨2, ![64, 409]⟩
abbrev S64x1 : Shape := ⟨2, ![64, 1]⟩
abbrev S8x256 : Shape := ⟨2, ![8, 256]⟩
abbrev S64x8 : Shape := ⟨2, ![64, 8]⟩
abbrev S8x6 : Shape := ⟨2, ![8, 6]⟩
abbrev S64x256 : Shape := ⟨2, ![64, 256]⟩
abbrev S64x1x8 : Shape := ⟨3, ![64, 1, 8]⟩
abbrev S1x8x8 : Shape := ⟨3, ![1, 8, 8]⟩
abbrev S64x8x8 : Shape := ⟨3, ![64, 8, 8]⟩
abbrev S1x1x8 : Shape := ⟨3, ![1, 1, 8]⟩
abbrev S512x8 : Shape := ⟨2, ![512, 8]⟩
abbrev S512x256 : Shape := ⟨2, ![512, 256]⟩
abbrev S1x256 : Shape := ⟨2, ![1, 256]⟩
abbrev S64x8x256 : Shape := ⟨3, ![64, 8, 256]⟩
abbrev S64x8x1 : Shape := ⟨3, ![64, 8, 1]⟩
abbrev S64x128 : Shape := ⟨2, ![64, 128]⟩
abbrev S64 : Shape := ⟨1, ![64]⟩

abbrev nBuf : Table → Nat
  | .hbm => 25
  | .local .tc .vmem => 22
  | .local .scVector .vmem => 8
  | _ => 0

abbrev bufTy : (tb : Table) → Fin (nBuf tb) → BufTy
  | .hbm, ⟨0, _⟩ => ⟨S64x4096, .i32⟩
  | .hbm, ⟨1, _⟩ => ⟨S6x256, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S8x768, .f32⟩
  | .hbm, ⟨7, _⟩ => ⟨S8, .f32⟩
  | .hbm, ⟨8, _⟩ => ⟨S8x8, .f32⟩
  | .hbm, ⟨9, _⟩ => ⟨S8, .f32⟩
  | .hbm, ⟨10, _⟩ => ⟨S256x8, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S1x128, .f32⟩
  | .hbm, ⟨15, _⟩ => ⟨S1, .f32⟩
  | .hbm, ⟨16, _⟩ => ⟨S1x16, .f32⟩
  | .hbm, ⟨17, _⟩ => ⟨S1x16, .i32⟩
  | .hbm, ⟨18, _⟩ => ⟨S8x8, .f32⟩
  | .hbm, ⟨19, _⟩ => ⟨S64x4096, .f32⟩
  | .hbm, ⟨20, _⟩ => ⟨S64x416, .i32⟩
  | .hbm, ⟨21, _⟩ => ⟨S64x16, .i32⟩
  | .hbm, ⟨22, _⟩ => ⟨S64x409, .i32⟩
  | .hbm, ⟨23, _⟩ => ⟨S64x1, .f32⟩
  | .hbm, ⟨24, _⟩ => ⟨S64, .f32⟩
  | .local .tc .vmem, ⟨0, _⟩ => ⟨S6x256, .f32⟩
  | .local .tc .vmem, ⟨1, _⟩ => ⟨S128x256, .f32⟩
  | .local .tc .vmem, ⟨2, _⟩ => ⟨S128, .f32⟩
  | .local .tc .vmem, ⟨3, _⟩ => ⟨S1x128, .f32⟩
  | .local .tc .vmem, ⟨4, _⟩ => ⟨S1, .f32⟩
  | .local .tc .vmem, ⟨5, _⟩ => ⟨S1x16, .f32⟩
  | .local .tc .vmem, ⟨6, _⟩ => ⟨S1x16, .i32⟩
  | .local .tc .vmem, ⟨7, _⟩ => ⟨S8x8, .f32⟩
  | .local .tc .vmem, ⟨8, _⟩ => ⟨S64x16, .i32⟩
  | .local .tc .vmem, ⟨9, _⟩ => ⟨S8x8, .f32⟩
  | .local .tc .vmem, ⟨10, _⟩ => ⟨S6x256, .f32⟩
  | .local .tc .vmem, ⟨11, _⟩ => ⟨S8x768, .f32⟩
  | .local .tc .vmem, ⟨12, _⟩ => ⟨S8, .f32⟩
  | .local .tc .vmem, ⟨13, _⟩ => ⟨S8x8, .f32⟩
  | .local .tc .vmem, ⟨14, _⟩ => ⟨S8, .f32⟩
  | .local .tc .vmem, ⟨15, _⟩ => ⟨S256x8, .f32⟩
  | .local .tc .vmem, ⟨16, _⟩ => ⟨S256, .f32⟩
  | .local .tc .vmem, ⟨17, _⟩ => ⟨S128x256, .f32⟩
  | .local .tc .vmem, ⟨18, _⟩ => ⟨S128, .f32⟩
  | .local .tc .vmem, ⟨19, _⟩ => ⟨S1x128, .f32⟩
  | .local .tc .vmem, ⟨20, _⟩ => ⟨S1, .f32⟩
  | .local .tc .vmem, ⟨21, _⟩ => ⟨S64x1, .f32⟩
  | .local .scVector .vmem, ⟨0, _⟩ => ⟨S4096, .i32⟩
  | .local .scVector .vmem, ⟨1, _⟩ => ⟨S4096, .f32⟩
  | .local .scVector .vmem, ⟨2, _⟩ => ⟨S4096, .i32⟩
  | .local .scVector .vmem, ⟨3, _⟩ => ⟨S416, .i32⟩
  | .local .scVector .vmem, ⟨4, _⟩ => ⟨S4096, .i32⟩
  | .local .scVector .vmem, ⟨5, _⟩ => ⟨S16, .f32⟩
  | .local .scVector .vmem, ⟨6, _⟩ => ⟨S16, .i32⟩
  | .local .scVector .vmem, ⟨7, _⟩ => ⟨S16, .i32⟩
  | _, _ => ⟨S64x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v1_0 : Ref sig .tc := ⟨.hbm, 19, rfl⟩
abbrev main_v1_1 : Ref sig .tc := ⟨.hbm, 20, rfl⟩
abbrev main_v1_2 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_arg0_scv : Ref sig .scVector := ⟨.hbm, 0, rfl⟩
abbrev main_v0_0_scv : Ref sig .scVector := ⟨.hbm, 16, rfl⟩
abbrev main_v0_1_scv : Ref sig .scVector := ⟨.hbm, 17, rfl⟩
abbrev main_v1_0_scv : Ref sig .scVector := ⟨.hbm, 19, rfl⟩
abbrev main_v1_1_scv : Ref sig .scVector := ⟨.hbm, 20, rfl⟩
abbrev main_v1_2_scv : Ref sig .scVector := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg9_0 : Ref sig .tc := ⟨.vmem, 17, rfl⟩
abbrev cc2_stg10_0 : Ref sig .tc := ⟨.vmem, 18, rfl⟩
abbrev cc2_stg11_0 : Ref sig .tc := ⟨.vmem, 19, rfl⟩
abbrev cc2_stg12_0 : Ref sig .tc := ⟨.vmem, 20, rfl⟩
abbrev cc2_stg13_0 : Ref sig .tc := ⟨.vmem, 21, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def k1_off1 (i : grid1.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v4 : BitVec 32 := Scalar.muli v1 c2_i32_2
  let v5 : BitVec 32 := Scalar.addi v4 c0_i32_3
  let c0_i32_44_r2 : BitVec 32 := 0#32
  ![v5.toNat, 0]
@[reducible] def k1_t1_loop : Scf.Loop 32 :=
  let c0_i32_5 : BitVec 32 := 0#32
  let c32_i32 : BitVec 32 := 32#32
  let v6 : BitVec 32 := Scalar.addi c0_i32_5 c32_i32
  let c1_i32 : BitVec 32 := 1#32
  ⟨c0_i32_5, v6, c1_i32⟩
def k1_off2 (k1_t1 : Fin k1_t1_loop.trips) (c0_i32_44 : BitVec 32) : Fin 1 → Nat :=
  let c0_i32_5 : BitVec 32 := 0#32
  let c1_i32 : BitVec 32 := 1#32
  let arg16 : BitVec 32 := Scf.iv c0_i32_5 c1_i32 k1_t1
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v50 : Index := Scalar.indexCast v28
  ![v50.toNat]

def k1_chk1 (v67 : IVec S16 32) : Prop :=
  (∀ a x, ((![v67] : Fin 1 → IVec S16 32) a x).toNat < S16.size a) ∧
  (∀ a x, ((![v67] : Fin 1 → IVec S16 32) a x).toNat < S16.size a)
theorem k1_idx1_inb : ∀ (v67 : IVec S16 32) (k1_hw1 : k1_chk1 v67), ∀ a x, ((![v67] : Fin 1 → IVec S16 32) a x).toNat < S16.size a := fun v67 k1_hw1 => k1_hw1.1
theorem k1_idx9_inb : ∀ (v67 : IVec S16 32) (k1_hw1 : k1_chk1 v67), ∀ a x, ((![v67] : Fin 1 → IVec S16 32) a x).toNat < S16.size a := fun v67 k1_hw1 => k1_hw1.2

def k1_chk2 (v69 : IVec S16 32) : Prop :=
  (∀ a x, ((![v69] : Fin 1 → IVec S16 32) a x).toNat < S16.size a) ∧
  (∀ a x, ((![v69] : Fin 1 → IVec S16 32) a x).toNat < S16.size a)
theorem k1_idx2_inb : ∀ (v69 : IVec S16 32) (k1_hw2 : k1_chk2 v69), ∀ a x, ((![v69] : Fin 1 → IVec S16 32) a x).toNat < S16.size a := fun v69 k1_hw2 => k1_hw2.1
theorem k1_idx10_inb : ∀ (v69 : IVec S16 32) (k1_hw2 : k1_chk2 v69), ∀ a x, ((![v69] : Fin 1 → IVec S16 32) a x).toNat < S16.size a := fun v69 k1_hw2 => k1_hw2.2

def k1_chk3 (v71 : IVec S16 32) : Prop :=
  (∀ a x, ((![v71] : Fin 1 → IVec S16 32) a x).toNat < S16.size a) ∧
  (∀ a x, ((![v71] : Fin 1 → IVec S16 32) a x).toNat < S16.size a)
theorem k1_idx3_inb : ∀ (v71 : IVec S16 32) (k1_hw3 : k1_chk3 v71), ∀ a x, ((![v71] : Fin 1 → IVec S16 32) a x).toNat < S16.size a := fun v71 k1_hw3 => k1_hw3.1
theorem k1_idx11_inb : ∀ (v71 : IVec S16 32) (k1_hw3 : k1_chk3 v71), ∀ a x, ((![v71] : Fin 1 → IVec S16 32) a x).toNat < S16.size a := fun v71 k1_hw3 => k1_hw3.2

def k1_chk4 (v73 : IVec S16 32) : Prop :=
  (∀ a x, ((![v73] : Fin 1 → IVec S16 32) a x).toNat < S16.size a) ∧
  (∀ a x, ((![v73] : Fin 1 → IVec S16 32) a x).toNat < S16.size a)
theorem k1_idx4_inb : ∀ (v73 : IVec S16 32) (k1_hw4 : k1_chk4 v73), ∀ a x, ((![v73] : Fin 1 → IVec S16 32) a x).toNat < S16.size a := fun v73 k1_hw4 => k1_hw4.1
theorem k1_idx12_inb : ∀ (v73 : IVec S16 32) (k1_hw4 : k1_chk4 v73), ∀ a x, ((![v73] : Fin 1 → IVec S16 32) a x).toNat < S16.size a := fun v73 k1_hw4 => k1_hw4.2

def k1_chk5 (v75 : IVec S16 32) : Prop :=
  (∀ a x, ((![v75] : Fin 1 → IVec S16 32) a x).toNat < S16.size a) ∧
  (∀ a x, ((![v75] : Fin 1 → IVec S16 32) a x).toNat < S16.size a)
theorem k1_idx5_inb : ∀ (v75 : IVec S16 32) (k1_hw5 : k1_chk5 v75), ∀ a x, ((![v75] : Fin 1 → IVec S16 32) a x).toNat < S16.size a := fun v75 k1_hw5 => k1_hw5.1
theorem k1_idx13_inb : ∀ (v75 : IVec S16 32) (k1_hw5 : k1_chk5 v75), ∀ a x, ((![v75] : Fin 1 → IVec S16 32) a x).toNat < S16.size a := fun v75 k1_hw5 => k1_hw5.2

def k1_chk6 (v77 : IVec S16 32) : Prop :=
  (∀ a x, ((![v77] : Fin 1 → IVec S16 32) a x).toNat < S16.size a) ∧
  (∀ a x, ((![v77] : Fin 1 → IVec S16 32) a x).toNat < S16.size a)
theorem k1_idx6_inb : ∀ (v77 : IVec S16 32) (k1_hw6 : k1_chk6 v77), ∀ a x, ((![v77] : Fin 1 → IVec S16 32) a x).toNat < S16.size a := fun v77 k1_hw6 => k1_hw6.1
theorem k1_idx14_inb : ∀ (v77 : IVec S16 32) (k1_hw6 : k1_chk6 v77), ∀ a x, ((![v77] : Fin 1 → IVec S16 32) a x).toNat < S16.size a := fun v77 k1_hw6 => k1_hw6.2

def k1_chk7 (v79 : IVec S16 32) : Prop :=
  (∀ a x, ((![v79] : Fin 1 → IVec S16 32) a x).toNat < S16.size a) ∧
  (∀ a x, ((![v79] : Fin 1 → IVec S16 32) a x).toNat < S16.size a)
theorem k1_idx7_inb : ∀ (v79 : IVec S16 32) (k1_hw7 : k1_chk7 v79), ∀ a x, ((![v79] : Fin 1 → IVec S16 32) a x).toNat < S16.size a := fun v79 k1_hw7 => k1_hw7.1
theorem k1_idx15_inb : ∀ (v79 : IVec S16 32) (k1_hw7 : k1_chk7 v79), ∀ a x, ((![v79] : Fin 1 → IVec S16 32) a x).toNat < S16.size a := fun v79 k1_hw7 => k1_hw7.2

def k1_chk8 (v81 : IVec S16 32) : Prop :=
  (∀ a x, ((![v81] : Fin 1 → IVec S16 32) a x).toNat < S16.size a) ∧
  (∀ a x, ((![v81] : Fin 1 → IVec S16 32) a x).toNat < S16.size a)
theorem k1_idx8_inb : ∀ (v81 : IVec S16 32) (k1_hw8 : k1_chk8 v81), ∀ a x, ((![v81] : Fin 1 → IVec S16 32) a x).toNat < S16.size a := fun v81 k1_hw8 => k1_hw8.1
theorem k1_idx16_inb : ∀ (v81 : IVec S16 32) (k1_hw8 : k1_chk8 v81), ∀ a x, ((![v81] : Fin 1 → IVec S16 32) a x).toNat < S16.size a := fun v81 k1_hw8 => k1_hw8.2
def k1_off3 (k1_t1 : Fin k1_t1_loop.trips) (c0_i32_44 : BitVec 32) : Fin 1 → Nat :=
  let c0_i32_5 : BitVec 32 := 0#32
  let c1_i32 : BitVec 32 := 1#32
  let arg16 : BitVec 32 := Scf.iv c0_i32_5 c1_i32 k1_t1
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v98 : Index := Scalar.indexCast v28
  ![v98.toNat]

def k1_chk9 (v139 : IVec S16 32) : Prop :=
  (∀ a x, ((![v139] : Fin 1 → IVec S16 32) a x).toNat < S4096.size a)
theorem k1_idx17_inb : ∀ (v139 : IVec S16 32) (k1_hw9 : k1_chk9 v139), ∀ a x, ((![v139] : Fin 1 → IVec S16 32) a x).toNat < S4096.size a := fun v139 k1_hw9 => k1_hw9

def k1_chk10 (v141 : IVec S16 32) : Prop :=
  (∀ a x, ((![v141] : Fin 1 → IVec S16 32) a x).toNat < S4096.size a)
theorem k1_idx18_inb : ∀ (v141 : IVec S16 32) (k1_hw10 : k1_chk10 v141), ∀ a x, ((![v141] : Fin 1 → IVec S16 32) a x).toNat < S4096.size a := fun v141 k1_hw10 => k1_hw10

def k1_chk11 (v143 : IVec S16 32) : Prop :=
  (∀ a x, ((![v143] : Fin 1 → IVec S16 32) a x).toNat < S4096.size a)
theorem k1_idx19_inb : ∀ (v143 : IVec S16 32) (k1_hw11 : k1_chk11 v143), ∀ a x, ((![v143] : Fin 1 → IVec S16 32) a x).toNat < S4096.size a := fun v143 k1_hw11 => k1_hw11

def k1_chk12 (v145 : IVec S16 32) : Prop :=
  (∀ a x, ((![v145] : Fin 1 → IVec S16 32) a x).toNat < S4096.size a)
theorem k1_idx20_inb : ∀ (v145 : IVec S16 32) (k1_hw12 : k1_chk12 v145), ∀ a x, ((![v145] : Fin 1 → IVec S16 32) a x).toNat < S4096.size a := fun v145 k1_hw12 => k1_hw12

def k1_chk13 (v147 : IVec S16 32) : Prop :=
  (∀ a x, ((![v147] : Fin 1 → IVec S16 32) a x).toNat < S4096.size a)
theorem k1_idx21_inb : ∀ (v147 : IVec S16 32) (k1_hw13 : k1_chk13 v147), ∀ a x, ((![v147] : Fin 1 → IVec S16 32) a x).toNat < S4096.size a := fun v147 k1_hw13 => k1_hw13

def k1_chk14 (v149 : IVec S16 32) : Prop :=
  (∀ a x, ((![v149] : Fin 1 → IVec S16 32) a x).toNat < S4096.size a)
theorem k1_idx22_inb : ∀ (v149 : IVec S16 32) (k1_hw14 : k1_chk14 v149), ∀ a x, ((![v149] : Fin 1 → IVec S16 32) a x).toNat < S4096.size a := fun v149 k1_hw14 => k1_hw14

def k1_chk15 (v151 : IVec S16 32) : Prop :=
  (∀ a x, ((![v151] : Fin 1 → IVec S16 32) a x).toNat < S4096.size a)
theorem k1_idx23_inb : ∀ (v151 : IVec S16 32) (k1_hw15 : k1_chk15 v151), ∀ a x, ((![v151] : Fin 1 → IVec S16 32) a x).toNat < S4096.size a := fun v151 k1_hw15 => k1_hw15

def k1_chk16 (v153 : IVec S16 32) : Prop :=
  (∀ a x, ((![v153] : Fin 1 → IVec S16 32) a x).toNat < S4096.size a)
theorem k1_idx24_inb : ∀ (v153 : IVec S16 32) (k1_hw16 : k1_chk16 v153), ∀ a x, ((![v153] : Fin 1 → IVec S16 32) a x).toNat < S4096.size a := fun v153 k1_hw16 => k1_hw16
@[reducible] def k1_t2_loop : Scf.Loop 32 :=
  let c0_i32_7 : BitVec 32 := 0#32
  let c32_i32_8 : BitVec 32 := 32#32
  let v7 : BitVec 32 := Scalar.addi c0_i32_7 c32_i32_8
  let c1_i32_9 : BitVec 32 := 1#32
  ⟨c0_i32_7, v7, c1_i32_9⟩
def k1_off4 (k1_t2 : Fin k1_t2_loop.trips) (c0_i32_44 : BitVec 32) : Fin 1 → Nat :=
  let c0_i32_7 : BitVec 32 := 0#32
  let c1_i32_9 : BitVec 32 := 1#32
  let arg16 : BitVec 32 := Scf.iv c0_i32_7 c1_i32_9 k1_t2
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v50 : Index := Scalar.indexCast v28
  ![v50.toNat]
@[reducible] def k1_t3_loop : Scf.Loop 32 :=
  let c0_i32_12 : BitVec 32 := 0#32
  let c32_i32_13 : BitVec 32 := 32#32
  let v12 : BitVec 32 := Scalar.addi c0_i32_12 c32_i32_13
  let c1_i32_14 : BitVec 32 := 1#32
  ⟨c0_i32_12, v12, c1_i32_14⟩
def k1_off5 (k1_t3 : Fin k1_t3_loop.trips) (c0_i32_44 : BitVec 32) : Fin 1 → Nat :=
  let c0_i32_12 : BitVec 32 := 0#32
  let c1_i32_14 : BitVec 32 := 1#32
  let arg16 : BitVec 32 := Scf.iv c0_i32_12 c1_i32_14 k1_t3
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v50 : Index := Scalar.indexCast v28
  ![v50.toNat]
@[reducible] def k1_t4_loop : Scf.Loop 32 :=
  let c0_i32_17 : BitVec 32 := 0#32
  let c32_i32_18 : BitVec 32 := 32#32
  let v13 : BitVec 32 := Scalar.addi c0_i32_17 c32_i32_18
  let c1_i32_19 : BitVec 32 := 1#32
  ⟨c0_i32_17, v13, c1_i32_19⟩
def k1_off6 (k1_t4 : Fin k1_t4_loop.trips) (c0_i32_44 : BitVec 32) : Fin 1 → Nat :=
  let c0_i32_17 : BitVec 32 := 0#32
  let c1_i32_19 : BitVec 32 := 1#32
  let arg16 : BitVec 32 := Scf.iv c0_i32_17 c1_i32_19 k1_t4
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v50 : Index := Scalar.indexCast v28
  ![v50.toNat]

def k1_chk17 (v75 : IVec S16 32) : Prop :=
  (∀ a x, ((![v75] : Fin 1 → IVec S16 32) a x).toNat < S4096.size a)
theorem k1_idx25_inb : ∀ (v75 : IVec S16 32) (k1_hw17 : k1_chk17 v75), ∀ a x, ((![v75] : Fin 1 → IVec S16 32) a x).toNat < S4096.size a := fun v75 k1_hw17 => k1_hw17

def k1_chk18 (v78 : IVec S16 32) : Prop :=
  (∀ a x, ((![v78] : Fin 1 → IVec S16 32) a x).toNat < S4096.size a)
theorem k1_idx26_inb : ∀ (v78 : IVec S16 32) (k1_hw18 : k1_chk18 v78), ∀ a x, ((![v78] : Fin 1 → IVec S16 32) a x).toNat < S4096.size a := fun v78 k1_hw18 => k1_hw18

def k1_chk19 (v81 : IVec S16 32) : Prop :=
  (∀ a x, ((![v81] : Fin 1 → IVec S16 32) a x).toNat < S4096.size a)
theorem k1_idx27_inb : ∀ (v81 : IVec S16 32) (k1_hw19 : k1_chk19 v81), ∀ a x, ((![v81] : Fin 1 → IVec S16 32) a x).toNat < S4096.size a := fun v81 k1_hw19 => k1_hw19

def k1_chk20 (v84 : IVec S16 32) : Prop :=
  (∀ a x, ((![v84] : Fin 1 → IVec S16 32) a x).toNat < S4096.size a)
theorem k1_idx28_inb : ∀ (v84 : IVec S16 32) (k1_hw20 : k1_chk20 v84), ∀ a x, ((![v84] : Fin 1 → IVec S16 32) a x).toNat < S4096.size a := fun v84 k1_hw20 => k1_hw20

def k1_chk21 (v87 : IVec S16 32) : Prop :=
  (∀ a x, ((![v87] : Fin 1 → IVec S16 32) a x).toNat < S4096.size a)
theorem k1_idx29_inb : ∀ (v87 : IVec S16 32) (k1_hw21 : k1_chk21 v87), ∀ a x, ((![v87] : Fin 1 → IVec S16 32) a x).toNat < S4096.size a := fun v87 k1_hw21 => k1_hw21

def k1_chk22 (v90 : IVec S16 32) : Prop :=
  (∀ a x, ((![v90] : Fin 1 → IVec S16 32) a x).toNat < S4096.size a)
theorem k1_idx30_inb : ∀ (v90 : IVec S16 32) (k1_hw22 : k1_chk22 v90), ∀ a x, ((![v90] : Fin 1 → IVec S16 32) a x).toNat < S4096.size a := fun v90 k1_hw22 => k1_hw22

def k1_chk23 (v93 : IVec S16 32) : Prop :=
  (∀ a x, ((![v93] : Fin 1 → IVec S16 32) a x).toNat < S4096.size a)
theorem k1_idx31_inb : ∀ (v93 : IVec S16 32) (k1_hw23 : k1_chk23 v93), ∀ a x, ((![v93] : Fin 1 → IVec S16 32) a x).toNat < S4096.size a := fun v93 k1_hw23 => k1_hw23

def k1_chk24 (v96 : IVec S16 32) : Prop :=
  (∀ a x, ((![v96] : Fin 1 → IVec S16 32) a x).toNat < S4096.size a)
theorem k1_idx32_inb : ∀ (v96 : IVec S16 32) (k1_hw24 : k1_chk24 v96), ∀ a x, ((![v96] : Fin 1 → IVec S16 32) a x).toNat < S4096.size a := fun v96 k1_hw24 => k1_hw24

def k1_chk25 (v104 : IVec S16 32) : Prop :=
  (∀ a x, ((![v104] : Fin 1 → IVec S16 32) a x).toNat < S416.size a)
theorem k1_idx33_inb : ∀ (v104 : IVec S16 32) (k1_hw25 : k1_chk25 v104), ∀ a x, ((![v104] : Fin 1 → IVec S16 32) a x).toNat < S416.size a := fun v104 k1_hw25 => k1_hw25

def k1_chk26 (v113 : IVec S16 32) : Prop :=
  (∀ a x, ((![v113] : Fin 1 → IVec S16 32) a x).toNat < S416.size a)
theorem k1_idx34_inb : ∀ (v113 : IVec S16 32) (k1_hw26 : k1_chk26 v113), ∀ a x, ((![v113] : Fin 1 → IVec S16 32) a x).toNat < S416.size a := fun v113 k1_hw26 => k1_hw26

def k1_chk27 (v122 : IVec S16 32) : Prop :=
  (∀ a x, ((![v122] : Fin 1 → IVec S16 32) a x).toNat < S416.size a)
theorem k1_idx35_inb : ∀ (v122 : IVec S16 32) (k1_hw27 : k1_chk27 v122), ∀ a x, ((![v122] : Fin 1 → IVec S16 32) a x).toNat < S416.size a := fun v122 k1_hw27 => k1_hw27

def k1_chk28 (v131 : IVec S16 32) : Prop :=
  (∀ a x, ((![v131] : Fin 1 → IVec S16 32) a x).toNat < S416.size a)
theorem k1_idx36_inb : ∀ (v131 : IVec S16 32) (k1_hw28 : k1_chk28 v131), ∀ a x, ((![v131] : Fin 1 → IVec S16 32) a x).toNat < S416.size a := fun v131 k1_hw28 => k1_hw28

def k1_chk29 (v140 : IVec S16 32) : Prop :=
  (∀ a x, ((![v140] : Fin 1 → IVec S16 32) a x).toNat < S416.size a)
theorem k1_idx37_inb : ∀ (v140 : IVec S16 32) (k1_hw29 : k1_chk29 v140), ∀ a x, ((![v140] : Fin 1 → IVec S16 32) a x).toNat < S416.size a := fun v140 k1_hw29 => k1_hw29

def k1_chk30 (v149 : IVec S16 32) : Prop :=
  (∀ a x, ((![v149] : Fin 1 → IVec S16 32) a x).toNat < S416.size a)
theorem k1_idx38_inb : ∀ (v149 : IVec S16 32) (k1_hw30 : k1_chk30 v149), ∀ a x, ((![v149] : Fin 1 → IVec S16 32) a x).toNat < S416.size a := fun v149 k1_hw30 => k1_hw30

def k1_chk31 (v158 : IVec S16 32) : Prop :=
  (∀ a x, ((![v158] : Fin 1 → IVec S16 32) a x).toNat < S416.size a)
theorem k1_idx39_inb : ∀ (v158 : IVec S16 32) (k1_hw31 : k1_chk31 v158), ∀ a x, ((![v158] : Fin 1 → IVec S16 32) a x).toNat < S416.size a := fun v158 k1_hw31 => k1_hw31

def k1_chk32 (v167 : IVec S16 32) : Prop :=
  (∀ a x, ((![v167] : Fin 1 → IVec S16 32) a x).toNat < S416.size a)
theorem k1_idx40_inb : ∀ (v167 : IVec S16 32) (k1_hw32 : k1_chk32 v167), ∀ a x, ((![v167] : Fin 1 → IVec S16 32) a x).toNat < S416.size a := fun v167 k1_hw32 => k1_hw32
def k1_off7 (i : grid1.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v4 : BitVec 32 := Scalar.muli v1 c2_i32_2
  let v5 : BitVec 32 := Scalar.addi v4 c0_i32_3
  let c0_i32_44_r4 : BitVec 32 := 0#32
  ![v5.toNat, 0]
def k1_off8 (i : grid1.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v4 : BitVec 32 := Scalar.muli v1 c2_i32_2
  let v5 : BitVec 32 := Scalar.addi v4 c0_i32_3
  let c0_i32_44_r5 : BitVec 32 := 0#32
  ![v5.toNat, 0]
@[reducible] def k1_t5_loop : Scf.Loop 32 :=
  let c0_i32_24 : BitVec 32 := 0#32
  let c32_i32_25 : BitVec 32 := 32#32
  let v17 : BitVec 32 := Scalar.addi c0_i32_24 c32_i32_25
  let c1_i32_26 : BitVec 32 := 1#32
  ⟨c0_i32_24, v17, c1_i32_26⟩
def k1_off9 (k1_t5 : Fin k1_t5_loop.trips) (c0_i32_44 : BitVec 32) : Fin 1 → Nat :=
  let c0_i32_24 : BitVec 32 := 0#32
  let c1_i32_26 : BitVec 32 := 1#32
  let arg16 : BitVec 32 := Scf.iv c0_i32_24 c1_i32_26 k1_t5
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v50 : Index := Scalar.indexCast v28
  ![v50.toNat]

def k1_chk33 (v67 : IVec S16 32) : Prop :=
  (∀ a x, ((![v67] : Fin 1 → IVec S16 32) a x).toNat < S16.size a) ∧
  (∀ a x, ((![v67] : Fin 1 → IVec S16 32) a x).toNat < S16.size a)
theorem k1_idx41_inb : ∀ (v67 : IVec S16 32) (k1_hw33 : k1_chk33 v67), ∀ a x, ((![v67] : Fin 1 → IVec S16 32) a x).toNat < S16.size a := fun v67 k1_hw33 => k1_hw33.1
theorem k1_idx49_inb : ∀ (v67 : IVec S16 32) (k1_hw33 : k1_chk33 v67), ∀ a x, ((![v67] : Fin 1 → IVec S16 32) a x).toNat < S16.size a := fun v67 k1_hw33 => k1_hw33.2

def k1_chk34 (v69 : IVec S16 32) : Prop :=
  (∀ a x, ((![v69] : Fin 1 → IVec S16 32) a x).toNat < S16.size a) ∧
  (∀ a x, ((![v69] : Fin 1 → IVec S16 32) a x).toNat < S16.size a)
theorem k1_idx42_inb : ∀ (v69 : IVec S16 32) (k1_hw34 : k1_chk34 v69), ∀ a x, ((![v69] : Fin 1 → IVec S16 32) a x).toNat < S16.size a := fun v69 k1_hw34 => k1_hw34.1
theorem k1_idx50_inb : ∀ (v69 : IVec S16 32) (k1_hw34 : k1_chk34 v69), ∀ a x, ((![v69] : Fin 1 → IVec S16 32) a x).toNat < S16.size a := fun v69 k1_hw34 => k1_hw34.2

def k1_chk35 (v71 : IVec S16 32) : Prop :=
  (∀ a x, ((![v71] : Fin 1 → IVec S16 32) a x).toNat < S16.size a) ∧
  (∀ a x, ((![v71] : Fin 1 → IVec S16 32) a x).toNat < S16.size a)
theorem k1_idx43_inb : ∀ (v71 : IVec S16 32) (k1_hw35 : k1_chk35 v71), ∀ a x, ((![v71] : Fin 1 → IVec S16 32) a x).toNat < S16.size a := fun v71 k1_hw35 => k1_hw35.1
theorem k1_idx51_inb : ∀ (v71 : IVec S16 32) (k1_hw35 : k1_chk35 v71), ∀ a x, ((![v71] : Fin 1 → IVec S16 32) a x).toNat < S16.size a := fun v71 k1_hw35 => k1_hw35.2

def k1_chk36 (v73 : IVec S16 32) : Prop :=
  (∀ a x, ((![v73] : Fin 1 → IVec S16 32) a x).toNat < S16.size a) ∧
  (∀ a x, ((![v73] : Fin 1 → IVec S16 32) a x).toNat < S16.size a)
theorem k1_idx44_inb : ∀ (v73 : IVec S16 32) (k1_hw36 : k1_chk36 v73), ∀ a x, ((![v73] : Fin 1 → IVec S16 32) a x).toNat < S16.size a := fun v73 k1_hw36 => k1_hw36.1
theorem k1_idx52_inb : ∀ (v73 : IVec S16 32) (k1_hw36 : k1_chk36 v73), ∀ a x, ((![v73] : Fin 1 → IVec S16 32) a x).toNat < S16.size a := fun v73 k1_hw36 => k1_hw36.2

def k1_chk37 (v75 : IVec S16 32) : Prop :=
  (∀ a x, ((![v75] : Fin 1 → IVec S16 32) a x).toNat < S16.size a) ∧
  (∀ a x, ((![v75] : Fin 1 → IVec S16 32) a x).toNat < S16.size a)
theorem k1_idx45_inb : ∀ (v75 : IVec S16 32) (k1_hw37 : k1_chk37 v75), ∀ a x, ((![v75] : Fin 1 → IVec S16 32) a x).toNat < S16.size a := fun v75 k1_hw37 => k1_hw37.1
theorem k1_idx53_inb : ∀ (v75 : IVec S16 32) (k1_hw37 : k1_chk37 v75), ∀ a x, ((![v75] : Fin 1 → IVec S16 32) a x).toNat < S16.size a := fun v75 k1_hw37 => k1_hw37.2

def k1_chk38 (v77 : IVec S16 32) : Prop :=
  (∀ a x, ((![v77] : Fin 1 → IVec S16 32) a x).toNat < S16.size a) ∧
  (∀ a x, ((![v77] : Fin 1 → IVec S16 32) a x).toNat < S16.size a)
theorem k1_idx46_inb : ∀ (v77 : IVec S16 32) (k1_hw38 : k1_chk38 v77), ∀ a x, ((![v77] : Fin 1 → IVec S16 32) a x).toNat < S16.size a := fun v77 k1_hw38 => k1_hw38.1
theorem k1_idx54_inb : ∀ (v77 : IVec S16 32) (k1_hw38 : k1_chk38 v77), ∀ a x, ((![v77] : Fin 1 → IVec S16 32) a x).toNat < S16.size a := fun v77 k1_hw38 => k1_hw38.2

def k1_chk39 (v79 : IVec S16 32) : Prop :=
  (∀ a x, ((![v79] : Fin 1 → IVec S16 32) a x).toNat < S16.size a) ∧
  (∀ a x, ((![v79] : Fin 1 → IVec S16 32) a x).toNat < S16.size a)
theorem k1_idx47_inb : ∀ (v79 : IVec S16 32) (k1_hw39 : k1_chk39 v79), ∀ a x, ((![v79] : Fin 1 → IVec S16 32) a x).toNat < S16.size a := fun v79 k1_hw39 => k1_hw39.1
theorem k1_idx55_inb : ∀ (v79 : IVec S16 32) (k1_hw39 : k1_chk39 v79), ∀ a x, ((![v79] : Fin 1 → IVec S16 32) a x).toNat < S16.size a := fun v79 k1_hw39 => k1_hw39.2

def k1_chk40 (v81 : IVec S16 32) : Prop :=
  (∀ a x, ((![v81] : Fin 1 → IVec S16 32) a x).toNat < S16.size a) ∧
  (∀ a x, ((![v81] : Fin 1 → IVec S16 32) a x).toNat < S16.size a)
theorem k1_idx48_inb : ∀ (v81 : IVec S16 32) (k1_hw40 : k1_chk40 v81), ∀ a x, ((![v81] : Fin 1 → IVec S16 32) a x).toNat < S16.size a := fun v81 k1_hw40 => k1_hw40.1
theorem k1_idx56_inb : ∀ (v81 : IVec S16 32) (k1_hw40 : k1_chk40 v81), ∀ a x, ((![v81] : Fin 1 → IVec S16 32) a x).toNat < S16.size a := fun v81 k1_hw40 => k1_hw40.2
def k1_off10 (k1_t5 : Fin k1_t5_loop.trips) (c0_i32_44 : BitVec 32) : Fin 1 → Nat :=
  let c0_i32_24 : BitVec 32 := 0#32
  let c1_i32_26 : BitVec 32 := 1#32
  let arg16 : BitVec 32 := Scf.iv c0_i32_24 c1_i32_26 k1_t5
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v98 : Index := Scalar.indexCast v28
  ![v98.toNat]

def k1_chk41 (v139 : IVec S16 32) : Prop :=
  (∀ a x, ((![v139] : Fin 1 → IVec S16 32) a x).toNat < S4096.size a)
theorem k1_idx57_inb : ∀ (v139 : IVec S16 32) (k1_hw41 : k1_chk41 v139), ∀ a x, ((![v139] : Fin 1 → IVec S16 32) a x).toNat < S4096.size a := fun v139 k1_hw41 => k1_hw41

def k1_chk42 (v141 : IVec S16 32) : Prop :=
  (∀ a x, ((![v141] : Fin 1 → IVec S16 32) a x).toNat < S4096.size a)
theorem k1_idx58_inb : ∀ (v141 : IVec S16 32) (k1_hw42 : k1_chk42 v141), ∀ a x, ((![v141] : Fin 1 → IVec S16 32) a x).toNat < S4096.size a := fun v141 k1_hw42 => k1_hw42

def k1_chk43 (v143 : IVec S16 32) : Prop :=
  (∀ a x, ((![v143] : Fin 1 → IVec S16 32) a x).toNat < S4096.size a)
theorem k1_idx59_inb : ∀ (v143 : IVec S16 32) (k1_hw43 : k1_chk43 v143), ∀ a x, ((![v143] : Fin 1 → IVec S16 32) a x).toNat < S4096.size a := fun v143 k1_hw43 => k1_hw43

def k1_chk44 (v145 : IVec S16 32) : Prop :=
  (∀ a x, ((![v145] : Fin 1 → IVec S16 32) a x).toNat < S4096.size a)
theorem k1_idx60_inb : ∀ (v145 : IVec S16 32) (k1_hw44 : k1_chk44 v145), ∀ a x, ((![v145] : Fin 1 → IVec S16 32) a x).toNat < S4096.size a := fun v145 k1_hw44 => k1_hw44

def k1_chk45 (v147 : IVec S16 32) : Prop :=
  (∀ a x, ((![v147] : Fin 1 → IVec S16 32) a x).toNat < S4096.size a)
theorem k1_idx61_inb : ∀ (v147 : IVec S16 32) (k1_hw45 : k1_chk45 v147), ∀ a x, ((![v147] : Fin 1 → IVec S16 32) a x).toNat < S4096.size a := fun v147 k1_hw45 => k1_hw45

def k1_chk46 (v149 : IVec S16 32) : Prop :=
  (∀ a x, ((![v149] : Fin 1 → IVec S16 32) a x).toNat < S4096.size a)
theorem k1_idx62_inb : ∀ (v149 : IVec S16 32) (k1_hw46 : k1_chk46 v149), ∀ a x, ((![v149] : Fin 1 → IVec S16 32) a x).toNat < S4096.size a := fun v149 k1_hw46 => k1_hw46

def k1_chk47 (v151 : IVec S16 32) : Prop :=
  (∀ a x, ((![v151] : Fin 1 → IVec S16 32) a x).toNat < S4096.size a)
theorem k1_idx63_inb : ∀ (v151 : IVec S16 32) (k1_hw47 : k1_chk47 v151), ∀ a x, ((![v151] : Fin 1 → IVec S16 32) a x).toNat < S4096.size a := fun v151 k1_hw47 => k1_hw47

def k1_chk48 (v153 : IVec S16 32) : Prop :=
  (∀ a x, ((![v153] : Fin 1 → IVec S16 32) a x).toNat < S4096.size a)
theorem k1_idx64_inb : ∀ (v153 : IVec S16 32) (k1_hw48 : k1_chk48 v153), ∀ a x, ((![v153] : Fin 1 → IVec S16 32) a x).toNat < S4096.size a := fun v153 k1_hw48 => k1_hw48
@[reducible] def k1_t6_loop : Scf.Loop 32 :=
  let c0_i32_28 : BitVec 32 := 0#32
  let c32_i32_29 : BitVec 32 := 32#32
  let v18 : BitVec 32 := Scalar.addi c0_i32_28 c32_i32_29
  let c1_i32_30 : BitVec 32 := 1#32
  ⟨c0_i32_28, v18, c1_i32_30⟩
def k1_off11 (k1_t6 : Fin k1_t6_loop.trips) (c0_i32_44 : BitVec 32) : Fin 1 → Nat :=
  let c0_i32_28 : BitVec 32 := 0#32
  let c1_i32_30 : BitVec 32 := 1#32
  let arg16 : BitVec 32 := Scf.iv c0_i32_28 c1_i32_30 k1_t6
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v50 : Index := Scalar.indexCast v28
  ![v50.toNat]
@[reducible] def k1_t7_loop : Scf.Loop 32 :=
  let c0_i32_34 : BitVec 32 := 0#32
  let c32_i32_35 : BitVec 32 := 32#32
  let v23 : BitVec 32 := Scalar.addi c0_i32_34 c32_i32_35
  let c1_i32_36 : BitVec 32 := 1#32
  ⟨c0_i32_34, v23, c1_i32_36⟩
def k1_off12 (k1_t7 : Fin k1_t7_loop.trips) (c0_i32_44 : BitVec 32) : Fin 1 → Nat :=
  let c0_i32_34 : BitVec 32 := 0#32
  let c1_i32_36 : BitVec 32 := 1#32
  let arg16 : BitVec 32 := Scf.iv c0_i32_34 c1_i32_36 k1_t7
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v50 : Index := Scalar.indexCast v28
  ![v50.toNat]
@[reducible] def k1_t8_loop : Scf.Loop 32 :=
  let c0_i32_39 : BitVec 32 := 0#32
  let c32_i32_40 : BitVec 32 := 32#32
  let v24 : BitVec 32 := Scalar.addi c0_i32_39 c32_i32_40
  let c1_i32_41 : BitVec 32 := 1#32
  ⟨c0_i32_39, v24, c1_i32_41⟩
def k1_off13 (k1_t8 : Fin k1_t8_loop.trips) (c0_i32_44 : BitVec 32) : Fin 1 → Nat :=
  let c0_i32_39 : BitVec 32 := 0#32
  let c1_i32_41 : BitVec 32 := 1#32
  let arg16 : BitVec 32 := Scf.iv c0_i32_39 c1_i32_41 k1_t8
  let c8_i32 : BitVec 32 := 8#32
  let v26 : BitVec 32 := Scalar.muli arg16 c8_i32
  let v27 : BitVec 32 := Scalar.addi v26 c0_i32_44
  let c16_i32 : BitVec 32 := 16#32
  let v28 : BitVec 32 := Scalar.muli v27 c16_i32
  let v50 : Index := Scalar.indexCast v28
  ![v50.toNat]

def k1_chk49 (v75 : IVec S16 32) : Prop :=
  (∀ a x, ((![v75] : Fin 1 → IVec S16 32) a x).toNat < S4096.size a)
theorem k1_idx65_inb : ∀ (v75 : IVec S16 32) (k1_hw49 : k1_chk49 v75), ∀ a x, ((![v75] : Fin 1 → IVec S16 32) a x).toNat < S4096.size a := fun v75 k1_hw49 => k1_hw49

def k1_chk50 (v78 : IVec S16 32) : Prop :=
  (∀ a x, ((![v78] : Fin 1 → IVec S16 32) a x).toNat < S4096.size a)
theorem k1_idx66_inb : ∀ (v78 : IVec S16 32) (k1_hw50 : k1_chk50 v78), ∀ a x, ((![v78] : Fin 1 → IVec S16 32) a x).toNat < S4096.size a := fun v78 k1_hw50 => k1_hw50

def k1_chk51 (v81 : IVec S16 32) : Prop :=
  (∀ a x, ((![v81] : Fin 1 → IVec S16 32) a x).toNat < S4096.size a)
theorem k1_idx67_inb : ∀ (v81 : IVec S16 32) (k1_hw51 : k1_chk51 v81), ∀ a x, ((![v81] : Fin 1 → IVec S16 32) a x).toNat < S4096.size a := fun v81 k1_hw51 => k1_hw51

def k1_chk52 (v84 : IVec S16 32) : Prop :=
  (∀ a x, ((![v84] : Fin 1 → IVec S16 32) a x).toNat < S4096.size a)
theorem k1_idx68_inb : ∀ (v84 : IVec S16 32) (k1_hw52 : k1_chk52 v84), ∀ a x, ((![v84] : Fin 1 → IVec S16 32) a x).toNat < S4096.size a := fun v84 k1_hw52 => k1_hw52

def k1_chk53 (v87 : IVec S16 32) : Prop :=
  (∀ a x, ((![v87] : Fin 1 → IVec S16 32) a x).toNat < S4096.size a)
theorem k1_idx69_inb : ∀ (v87 : IVec S16 32) (k1_hw53 : k1_chk53 v87), ∀ a x, ((![v87] : Fin 1 → IVec S16 32) a x).toNat < S4096.size a := fun v87 k1_hw53 => k1_hw53

def k1_chk54 (v90 : IVec S16 32) : Prop :=
  (∀ a x, ((![v90] : Fin 1 → IVec S16 32) a x).toNat < S4096.size a)
theorem k1_idx70_inb : ∀ (v90 : IVec S16 32) (k1_hw54 : k1_chk54 v90), ∀ a x, ((![v90] : Fin 1 → IVec S16 32) a x).toNat < S4096.size a := fun v90 k1_hw54 => k1_hw54

def k1_chk55 (v93 : IVec S16 32) : Prop :=
  (∀ a x, ((![v93] : Fin 1 → IVec S16 32) a x).toNat < S4096.size a)
theorem k1_idx71_inb : ∀ (v93 : IVec S16 32) (k1_hw55 : k1_chk55 v93), ∀ a x, ((![v93] : Fin 1 → IVec S16 32) a x).toNat < S4096.size a := fun v93 k1_hw55 => k1_hw55

def k1_chk56 (v96 : IVec S16 32) : Prop :=
  (∀ a x, ((![v96] : Fin 1 → IVec S16 32) a x).toNat < S4096.size a)
theorem k1_idx72_inb : ∀ (v96 : IVec S16 32) (k1_hw56 : k1_chk56 v96), ∀ a x, ((![v96] : Fin 1 → IVec S16 32) a x).toNat < S4096.size a := fun v96 k1_hw56 => k1_hw56

def k1_chk57 (v104 : IVec S16 32) : Prop :=
  (∀ a x, ((![v104] : Fin 1 → IVec S16 32) a x).toNat < S416.size a)
theorem k1_idx73_inb : ∀ (v104 : IVec S16 32) (k1_hw57 : k1_chk57 v104), ∀ a x, ((![v104] : Fin 1 → IVec S16 32) a x).toNat < S416.size a := fun v104 k1_hw57 => k1_hw57

def k1_chk58 (v113 : IVec S16 32) : Prop :=
  (∀ a x, ((![v113] : Fin 1 → IVec S16 32) a x).toNat < S416.size a)
theorem k1_idx74_inb : ∀ (v113 : IVec S16 32) (k1_hw58 : k1_chk58 v113), ∀ a x, ((![v113] : Fin 1 → IVec S16 32) a x).toNat < S416.size a := fun v113 k1_hw58 => k1_hw58

def k1_chk59 (v122 : IVec S16 32) : Prop :=
  (∀ a x, ((![v122] : Fin 1 → IVec S16 32) a x).toNat < S416.size a)
theorem k1_idx75_inb : ∀ (v122 : IVec S16 32) (k1_hw59 : k1_chk59 v122), ∀ a x, ((![v122] : Fin 1 → IVec S16 32) a x).toNat < S416.size a := fun v122 k1_hw59 => k1_hw59

def k1_chk60 (v131 : IVec S16 32) : Prop :=
  (∀ a x, ((![v131] : Fin 1 → IVec S16 32) a x).toNat < S416.size a)
theorem k1_idx76_inb : ∀ (v131 : IVec S16 32) (k1_hw60 : k1_chk60 v131), ∀ a x, ((![v131] : Fin 1 → IVec S16 32) a x).toNat < S416.size a := fun v131 k1_hw60 => k1_hw60

def k1_chk61 (v140 : IVec S16 32) : Prop :=
  (∀ a x, ((![v140] : Fin 1 → IVec S16 32) a x).toNat < S416.size a)
theorem k1_idx77_inb : ∀ (v140 : IVec S16 32) (k1_hw61 : k1_chk61 v140), ∀ a x, ((![v140] : Fin 1 → IVec S16 32) a x).toNat < S416.size a := fun v140 k1_hw61 => k1_hw61

def k1_chk62 (v149 : IVec S16 32) : Prop :=
  (∀ a x, ((![v149] : Fin 1 → IVec S16 32) a x).toNat < S416.size a)
theorem k1_idx78_inb : ∀ (v149 : IVec S16 32) (k1_hw62 : k1_chk62 v149), ∀ a x, ((![v149] : Fin 1 → IVec S16 32) a x).toNat < S416.size a := fun v149 k1_hw62 => k1_hw62

def k1_chk63 (v158 : IVec S16 32) : Prop :=
  (∀ a x, ((![v158] : Fin 1 → IVec S16 32) a x).toNat < S416.size a)
theorem k1_idx79_inb : ∀ (v158 : IVec S16 32) (k1_hw63 : k1_chk63 v158), ∀ a x, ((![v158] : Fin 1 → IVec S16 32) a x).toNat < S416.size a := fun v158 k1_hw63 => k1_hw63

def k1_chk64 (v167 : IVec S16 32) : Prop :=
  (∀ a x, ((![v167] : Fin 1 → IVec S16 32) a x).toNat < S416.size a)
theorem k1_idx80_inb : ∀ (v167 : IVec S16 32) (k1_hw64 : k1_chk64 v167), ∀ a x, ((![v167] : Fin 1 → IVec S16 32) a x).toNat < S416.size a := fun v167 k1_hw64 => k1_hw64
abbrev grid2 : Pipeline.Grid := .none

abbrev stage2_0 : Fin 1 → Memref sig .tc .vmem S64x16 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S6x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S8x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S256x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S128x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .vmem S64x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "k" => some ((409⁻¹ : ℝ) : EReal)
  | _ => none
-- ==== ReferenceIdeal.lean ====
abbrev S64x4096 : Shape := ⟨2, ![64, 4096]⟩
abbrev S6x256 : Shape := ⟨2, ![6, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x768 : Shape := ⟨2, ![8, 768]⟩
abbrev S8 : Shape := ⟨1, ![8]⟩
abbrev S8x8 : Shape := ⟨2, ![8, 8]⟩
abbrev S256x8 : Shape := ⟨2, ![256, 8]⟩
abbrev S256 : Shape := ⟨1, ![256]⟩
abbrev S_ : Shape := ⟨0, ![]⟩
abbrev S64x4096x1 : Shape := ⟨3, ![64, 4096, 1]⟩
abbrev S1x1x1 : Shape := ⟨3, ![1, 1, 1]⟩
abbrev S64x4096x256 : Shape := ⟨3, ![64, 4096, 256]⟩
abbrev S256x128 : Shape := ⟨2, ![256, 128]⟩
abbrev S64x4096x128 : Shape := ⟨3, ![64, 4096, 128]⟩
abbrev S1x1x128 : Shape := ⟨3, ![1, 1, 128]⟩
abbrev S128x1 : Shape := ⟨2, ![128, 1]⟩
abbrev S64x409 : Shape := ⟨2, ![64, 409]⟩
abbrev S64x409x1 : Shape := ⟨3, ![64, 409, 1]⟩
abbrev S64x409x256 : Shape := ⟨3, ![64, 409, 256]⟩
abbrev S64x256 : Shape := ⟨2, ![64, 256]⟩
abbrev S64x1x256 : Shape := ⟨3, ![64, 1, 256]⟩
abbrev S64x409x768 : Shape := ⟨3, ![64, 409, 768]⟩
abbrev S768x8 : Shape := ⟨2, ![768, 8]⟩
abbrev S64x409x8 : Shape := ⟨3, ![64, 409, 8]⟩
abbrev S1x1x8 : Shape := ⟨3, ![1, 1, 8]⟩
abbrev S8x256 : Shape := ⟨2, ![8, 256]⟩
abbrev S1x1x256 : Shape := ⟨3, ![1, 1, 256]⟩
abbrev S64x128 : Shape := ⟨2, ![64, 128]⟩
abbrev S64x1 : Shape := ⟨2, ![64, 1]⟩
abbrev S1x1 : Shape := ⟨2, ![1, 1]⟩
abbrev S64 : Shape := ⟨1, ![64]⟩

abbrev nBuf : Space → Nat
  | .hbm => 142
  | .vmem => 0
  | .smem => 0
  | _ => 0

abbrev hbmTy0_0 (i : Nat) : BufTy := match i % 128 with
  | 0 => ⟨S64x4096, .i32⟩
  | 1 => ⟨S6x256, .f32⟩
  | 2 => ⟨S128x256, .f32⟩
  | 3 => ⟨S128, .f32⟩
  | 4 => ⟨S1x128, .f32⟩
  | 5 => ⟨S1, .f32⟩
  | 6 => ⟨S8x768, .f32⟩
  | 7 => ⟨S8, .f32⟩
  | 8 => ⟨S8x8, .f32⟩
  | 9 => ⟨S8, .f32⟩
  | 10 => ⟨S256x8, .f32⟩
  | 11 => ⟨S256, .f32⟩
  | 12 => ⟨S128x256, .f32⟩
  | 13 => ⟨S128, .f32⟩
  | 14 => ⟨S1x128, .f32⟩
  | 15 => ⟨S1, .f32⟩
  | 16 => ⟨S_, .i32⟩
  | 17 => ⟨S64x4096, .i32⟩
  | 18 => ⟨S64x4096, .i1⟩
  | 19 => ⟨S_, .i32⟩
  | 20 => ⟨S64x4096, .i32⟩
  | 21 => ⟨S64x4096, .i32⟩
  | 22 => ⟨S64x4096, .i32⟩
  | 23 => ⟨S64x4096x1, .i32⟩
  | 24 => ⟨S1, .i32⟩
  | 25 => ⟨S_, .i32⟩
  | 26 => ⟨S64x4096x1, .i32⟩
  | 27 => ⟨S64x4096x1, .i1⟩
  | 28 => ⟨S1x1x1, .i32⟩
  | 29 => ⟨S64x4096x1, .i32⟩
  | 30 => ⟨S64x4096x1, .i1⟩
  | 31 => ⟨S64x4096x1, .i1⟩
  | 32 => ⟨S_, .i1⟩
  | 33 => ⟨S64x4096, .i1⟩
  | 34 => ⟨S64x4096x256, .f32⟩
  | 35 => ⟨S64x4096x256, .i1⟩
  | 36 => ⟨S_, .f32⟩
  | 37 => ⟨S64x4096x256, .f32⟩
  | 38 => ⟨S64x4096x256, .f32⟩
  | 39 => ⟨S256x128, .f32⟩
  | 40 => ⟨S64x4096x128, .f32⟩
  | 41 => ⟨S1x1x128, .f32⟩
  | 42 => ⟨S64x4096x128, .f32⟩
  | 43 => ⟨S64x4096x128, .f32⟩
  | 44 => ⟨S_, .f32⟩
  | 45 => ⟨S64x4096x128, .f32⟩
  | 46 => ⟨S64x4096x128, .f32⟩
  | 47 => ⟨S128x1, .f32⟩
  | 48 => ⟨S64x4096x1, .f32⟩
  | 49 => ⟨S1x1x1, .f32⟩
  | 50 => ⟨S64x4096x1, .f32⟩
  | 51 => ⟨S64x4096x1, .f32⟩
  | 52 => ⟨S64x4096x1, .f32⟩
  | 53 => ⟨S64x4096x1, .f32⟩
  | 54 => ⟨S_, .f32⟩
  | 55 => ⟨S64x4096x1, .f32⟩
  | 56 => ⟨S64x4096x1, .f32⟩
  | 57 => ⟨S_, .f32⟩
  | 58 => ⟨S64x4096x1, .f32⟩
  | 59 => ⟨S64x4096x1, .f32⟩
  | 60 => ⟨S64x4096, .f32⟩
  | 61 => ⟨S64x409, .f32⟩
  | 62 => ⟨S64x409, .i32⟩
  | 63 => ⟨S64x409x1, .i32⟩
  | 64 => ⟨S_, .i32⟩
  | 65 => ⟨S64x409x1, .i32⟩
  | 66 => ⟨S64x409x1, .i1⟩
  | 67 => ⟨S_, .i32⟩
  | 68 => ⟨S64x409x1, .i32⟩
  | 69 => ⟨S64x409x1, .i32⟩
  | 70 => ⟨S64x409x1, .i32⟩
  | 71 => ⟨S1, .i32⟩
  | 72 => ⟨S_, .i32⟩
  | 73 => ⟨S64x409x1, .i32⟩
  | 74 => ⟨S64x409x1, .i1⟩
  | 75 => ⟨S1x1x1, .i32⟩
  | 76 => ⟨S64x409x1, .i32⟩
  | 77 => ⟨S64x409x1, .i1⟩
  | 78 => ⟨S64x409x1, .i1⟩
  | 79 => ⟨S_, .i1⟩
  | 80 => ⟨S64x409, .i1⟩
  | 81 => ⟨S64x409x256, .f32⟩
  | 82 => ⟨S64x409x256, .i1⟩
  | 83 => ⟨S_, .f32⟩
  | 84 => ⟨S64x409x256, .f32⟩
  | 85 => ⟨S64x409x256, .f32⟩
  | 86 => ⟨S_, .f32⟩
  | 87 => ⟨S64x256, .f32⟩
  | 88 => ⟨S_, .f32⟩
  | 89 => ⟨S64x256, .f32⟩
  | 90 => ⟨S64x256, .f32⟩
  | 91 => ⟨S64x1x256, .f32⟩
  | 92 => ⟨S64x409x256, .f32⟩
  | 93 => ⟨S64x409x768, .f32⟩
  | 94 => ⟨S768x8, .f32⟩
  | 95 => ⟨S64x409x8, .f32⟩
  | 96 => ⟨S1x1x8, .f32⟩
  | 97 => ⟨S64x409x8, .f32⟩
  | 98 => ⟨S64x409x8, .f32⟩
  | 99 => ⟨S_, .f32⟩
  | 100 => ⟨S64x409x8, .f32⟩
  | 101 => ⟨S64x409x8, .f32⟩
  | 102 => ⟨S8x8, .f32⟩
  | 103 => ⟨S64x409x8, .f32⟩
  | 104 => ⟨S1x1x8, .f32⟩
  | 105 => ⟨S64x409x8, .f32⟩
  | 106 => ⟨S64x409x8, .f32⟩
  | 107 => ⟨S_, .f32⟩
  | 108 => ⟨S64x409x8, .f32⟩
  | 109 => ⟨S64x409x8, .f32⟩
  | 110 => ⟨S8x256, .f32⟩
  | 111 => ⟨S64x409x256, .f32⟩
  | 112 => ⟨S1x1x256, .f32⟩
  | 113 => ⟨S64x409x256, .f32⟩
  | 114 => ⟨S64x409x256, .f32⟩
  | 115 => ⟨S_, .f32⟩
  | 116 => ⟨S64x256, .f32⟩
  | 117 => ⟨S_, .f32⟩
  | 118 => ⟨S64x256, .f32⟩
  | 119 => ⟨S64x256, .f32⟩
  | 120 => ⟨S256x128, .f32⟩
  | 121 => ⟨S64x128, .f32⟩
  | 122 => ⟨S1x128, .f32⟩
  | 123 => ⟨S64x128, .f32⟩
  | 124 => ⟨S64x128, .f32⟩
  | 125 => ⟨S_, .f32⟩
  | 126 => ⟨S64x128, .f32⟩
  | 127 => ⟨S64x128, .f32⟩
  | _ => ⟨S64x4096, .i32⟩

abbrev hbmTy0_1 (i : Nat) : BufTy := match i % 128 with
  | 0 => ⟨S128x1, .f32⟩
  | 1 => ⟨S64x1, .f32⟩
  | 2 => ⟨S1x1, .f32⟩
  | 3 => ⟨S64x1, .f32⟩
  | 4 => ⟨S64x1, .f32⟩
  | 5 => ⟨S64x1, .f32⟩
  | 6 => ⟨S64x1, .f32⟩
  | 7 => ⟨S_, .f32⟩
  | 8 => ⟨S64x1, .f32⟩
  | 9 => ⟨S64x1, .f32⟩
  | 10 => ⟨S_, .f32⟩
  | 11 => ⟨S64x1, .f32⟩
  | 12 => ⟨S64x1, .f32⟩
  | 13 => ⟨S64, .f32⟩
  | _ => ⟨S64x4096, .i32⟩

abbrev hbmTy (i : Nat) : BufTy := match i / 128 with
  | 0 => hbmTy0_0 i
  | 1 => hbmTy0_1 i
  | _ => ⟨S64x4096, .i32⟩

abbrev bufTy : (tb : Table) → Fin (tcTables nBuf tb) → BufTy
  | .hbm, ⟨i, _⟩ => hbmTy i
  | _, _ => ⟨S64x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_call1_cst : Ref sig .tc := ⟨.hbm, 44, rfl⟩
abbrev main_call1_v0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst : Ref sig .tc := ⟨.hbm, 54, rfl⟩
abbrev main_v14 : Ref sig .tc := ⟨.hbm, 55, rfl⟩
abbrev main_v15 : Ref sig .tc := ⟨.hbm, 56, rfl⟩
abbrev main_cst_0 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_values : Ref sig .tc := ⟨.hbm, 61, rfl⟩
abbrev main_indices : Ref sig .tc := ⟨.hbm, 62, rfl⟩
abbrev main_v19 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v20 : Ref sig .tc := ⟨.hbm, 85, rfl⟩
abbrev main_cst_1 : Ref sig .tc := ⟨.hbm, 86, rfl⟩
abbrev main_v21 : Ref sig .tc := ⟨.hbm, 87, rfl⟩
abbrev main_cst_2 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_call3_cst : Ref sig .tc := ⟨.hbm, 99, rfl⟩
abbrev main_call3_v0 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_call4_cst : Ref sig .tc := ⟨.hbm, 107, rfl⟩
abbrev main_call4_v0 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_cst_3 : Ref sig .tc := ⟨.hbm, 115, rfl⟩
abbrev main_v44 : Ref sig .tc := ⟨.hbm, 116, rfl⟩
abbrev main_cst_4 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_call5_cst : Ref sig .tc := ⟨.hbm, 125, rfl⟩
abbrev main_call5_v0 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_cst_5 : Ref sig .tc := ⟨.hbm, 135, rfl⟩
abbrev main_v60 : Ref sig .tc := ⟨.hbm, 136, rfl⟩
abbrev main_v61 : Ref sig .tc := ⟨.hbm, 137, rfl⟩
abbrev main_cst_6 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩

abbrev nD : Nat := 1
abbrev τ : Topo := Topo.v7x

variable {F : FTy → Type} [FloatOps F]
-- ==== Finish.lean ====
abbrev S64x16 : Shape := ⟨2, ![64, 16]⟩
abbrev S8x8 : Shape := ⟨2, ![8, 8]⟩
abbrev S6x256 : Shape := ⟨2, ![6, 256]⟩
abbrev S8x768 : Shape := ⟨2, ![8, 768]⟩
abbrev S8 : Shape := ⟨1, ![8]⟩
abbrev S256x8 : Shape := ⟨2, ![256, 8]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S64x1 : Shape := ⟨2, ![64, 1]⟩
abbrev S8x256 : Shape := ⟨2, ![8, 256]⟩
abbrev S64x8 : Shape := ⟨2, ![64, 8]⟩
abbrev S8x6 : Shape := ⟨2, ![8, 6]⟩
abbrev S64x256 : Shape := ⟨2, ![64, 256]⟩
abbrev S64x1x8 : Shape := ⟨3, ![64, 1, 8]⟩
abbrev S1x8x8 : Shape := ⟨3, ![1, 8, 8]⟩
abbrev S64x8x8 : Shape := ⟨3, ![64, 8, 8]⟩
abbrev S1x1x8 : Shape := ⟨3, ![1, 1, 8]⟩
abbrev S512x8 : Shape := ⟨2, ![512, 8]⟩
abbrev S1x8 : Shape := ⟨2, ![1, 8]⟩
abbrev S512x256 : Shape := ⟨2, ![512, 256]⟩
abbrev S1x256 : Shape := ⟨2, ![1, 256]⟩
abbrev S64x8x256 : Shape := ⟨3, ![64, 8, 256]⟩
abbrev S64x8x1 : Shape := ⟨3, ![64, 8, 1]⟩
abbrev S64x128 : Shape := ⟨2, ![64, 128]⟩
abbrev S64 : Shape := ⟨1, ![64]⟩
abbrev S1x1 : Shape := ⟨2, ![1, 1]⟩

abbrev nBuf : Space → Nat
  | .hbm => 14
  | .vmem => 14
  | .smem => 0
  | _ => 0

abbrev bufTy : (tb : Table) → Fin (tcTables nBuf tb) → BufTy
  | .hbm, ⟨0, _⟩ => ⟨S64x16, .i32⟩
  | .hbm, ⟨1, _⟩ => ⟨S8x8, .f32⟩
  | .hbm, ⟨2, _⟩ => ⟨S6x256, .f32⟩
  | .hbm, ⟨3, _⟩ => ⟨S8x768, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S256x8, .f32⟩
  | .hbm, ⟨8, _⟩ => ⟨S256, .f32⟩
  | .hbm, ⟨9, _⟩ => ⟨S128x256, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S64x1, .f32⟩
  | .local _ .vmem, ⟨0, _⟩ => ⟨S64x16, .i32⟩
  | .local _ .vmem, ⟨1, _⟩ => ⟨S8x8, .f32⟩
  | .local _ .vmem, ⟨2, _⟩ => ⟨S6x256, .f32⟩
  | .local _ .vmem, ⟨3, _⟩ => ⟨S8x768, .f32⟩
  | .local _ .vmem, ⟨4, _⟩ => ⟨S8, .f32⟩
  | .local _ .vmem, ⟨5, _⟩ => ⟨S8x8, .f32⟩
  | .local _ .vmem, ⟨6, _⟩ => ⟨S8, .f32⟩
  | .local _ .vmem, ⟨7, _⟩ => ⟨S256x8, .f32⟩
  | .local _ .vmem, ⟨8, _⟩ => ⟨S256, .f32⟩
  | .local _ .vmem, ⟨9, _⟩ => ⟨S128x256, .f32⟩
  | .local _ .vmem, ⟨10, _⟩ => ⟨S128, .f32⟩
  | .local _ .vmem, ⟨11, _⟩ => ⟨S1x128, .f32⟩
  | .local _ .vmem, ⟨12, _⟩ => ⟨S1, .f32⟩
  | .local _ .vmem, ⟨13, _⟩ => ⟨S64x1, .f32⟩
  | _, _ => ⟨S64x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== FinishIdeal.lean ====
variable {F : FTy → Type} [FloatOps F] [Named F]
def κ : String → Option EReal := fun
  | "k" => some ((409⁻¹ : ℝ) : EReal)
  | _ => none
-- ==== FinishReferenceIdeal.lean ====
abbrev S64x16 : Shape := ⟨2, ![64, 16]⟩
abbrev S8x8 : Shape := ⟨2, ![8, 8]⟩
abbrev S6x256 : Shape := ⟨2, ![6, 256]⟩
abbrev S8x768 : Shape := ⟨2, ![8, 768]⟩
abbrev S8 : Shape := ⟨1, ![8]⟩
abbrev S256x8 : Shape := ⟨2, ![256, 8]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S8x6 : Shape := ⟨2, ![8, 6]⟩
abbrev S8x256 : Shape := ⟨2, ![8, 256]⟩
abbrev S4096 : Shape := ⟨1, ![4096]⟩
abbrev S1x4096 : Shape := ⟨2, ![1, 4096]⟩
abbrev S64x1 : Shape := ⟨2, ![64, 1]⟩
abbrev S64x4096 : Shape := ⟨2, ![64, 4096]⟩
abbrev S_ : Shape := ⟨0, ![]⟩
abbrev S64x4096x1 : Shape := ⟨3, ![64, 4096, 1]⟩
abbrev S1x1x1 : Shape := ⟨3, ![1, 1, 1]⟩
abbrev S64x4096x256 : Shape := ⟨3, ![64, 4096, 256]⟩
abbrev S64x409x256 : Shape := ⟨3, ![64, 409, 256]⟩
abbrev S64x256 : Shape := ⟨2, ![64, 256]⟩
abbrev S64x1x256 : Shape := ⟨3, ![64, 1, 256]⟩
abbrev S64x409x768 : Shape := ⟨3, ![64, 409, 768]⟩
abbrev S768x8 : Shape := ⟨2, ![768, 8]⟩
abbrev S64x409x8 : Shape := ⟨3, ![64, 409, 8]⟩
abbrev S1x1x8 : Shape := ⟨3, ![1, 1, 8]⟩
abbrev S1x1x256 : Shape := ⟨3, ![1, 1, 256]⟩
abbrev S256x128 : Shape := ⟨2, ![256, 128]⟩
abbrev S64x128 : Shape := ⟨2, ![64, 128]⟩
abbrev S128x1 : Shape := ⟨2, ![128, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S64x16, .i32⟩
  | 1 => ⟨S8x8, .f32⟩
  | 2 => ⟨S6x256, .f32⟩
  | 3 => ⟨S8x768, .f32⟩
  | 4 => ⟨S8, .f32⟩
  | 5 => ⟨S8x8, .f32⟩
  | 6 => ⟨S8, .f32⟩
  | 7 => ⟨S256x8, .f32⟩
  | 8 => ⟨S256, .f32⟩
  | 9 => ⟨S128x256, .f32⟩
  | 10 => ⟨S128, .f32⟩
  | 11 => ⟨S1x128, .f32⟩
  | 12 => ⟨S1, .f32⟩
  | 13 => ⟨S8x6, .f32⟩
  | 14 => ⟨S8x256, .f32⟩
  | 15 => ⟨S4096, .i32⟩
  | 16 => ⟨S1x4096, .i32⟩
  | 17 => ⟨S64x1, .i32⟩
  | 18 => ⟨S64x4096, .i32⟩
  | 19 => ⟨S64x4096, .i32⟩
  | 20 => ⟨S64x4096, .i1⟩
  | 21 => ⟨S64x4096, .i32⟩
  | 22 => ⟨S64x1, .i32⟩
  | 23 => ⟨S64x1, .i32⟩
  | 24 => ⟨S64x4096, .i32⟩
  | 25 => ⟨S64x4096, .i32⟩
  | 26 => ⟨S64x4096, .i1⟩
  | 27 => ⟨S64x4096, .i32⟩
  | 28 => ⟨S64x4096, .i32⟩
  | 29 => ⟨S64x1, .i32⟩
  | 30 => ⟨S64x1, .i32⟩
  | 31 => ⟨S64x4096, .i32⟩
  | 32 => ⟨S64x4096, .i32⟩
  | 33 => ⟨S64x4096, .i1⟩
  | 34 => ⟨S64x4096, .i32⟩
  | 35 => ⟨S64x4096, .i32⟩
  | 36 => ⟨S64x1, .i32⟩
  | 37 => ⟨S64x1, .i32⟩
  | 38 => ⟨S64x4096, .i32⟩
  | 39 => ⟨S64x4096, .i32⟩
  | 40 => ⟨S64x4096, .i1⟩
  | 41 => ⟨S64x4096, .i32⟩
  | 42 => ⟨S64x4096, .i32⟩
  | 43 => ⟨S64x1, .i32⟩
  | 44 => ⟨S64x1, .i32⟩
  | 45 => ⟨S64x4096, .i32⟩
  | 46 => ⟨S64x4096, .i32⟩
  | 47 => ⟨S64x4096, .i1⟩
  | 48 => ⟨S64x4096, .i32⟩
  | 49 => ⟨S64x4096, .i32⟩
  | 50 => ⟨S64x1, .i32⟩
  | 51 => ⟨S64x1, .i32⟩
  | 52 => ⟨S64x4096, .i32⟩
  | 53 => ⟨S64x4096, .i32⟩
  | 54 => ⟨S64x4096, .i1⟩
  | 55 => ⟨S64x4096, .i32⟩
  | 56 => ⟨S64x4096, .i32⟩
  | 57 => ⟨S64x1, .i32⟩
  | 58 => ⟨S64x1, .i32⟩
  | 59 => ⟨S64x4096, .i32⟩
  | 60 => ⟨S64x4096, .i32⟩
  | 61 => ⟨S64x4096, .i1⟩
  | 62 => ⟨S64x4096, .i32⟩
  | 63 => ⟨S64x4096, .i32⟩
  | 64 => ⟨S_, .i32⟩
  | 65 => ⟨S64x4096, .i32⟩
  | 66 => ⟨S64x4096, .i1⟩
  | 67 => ⟨S_, .i32⟩
  | 68 => ⟨S64x4096, .i32⟩
  | 69 => ⟨S64x4096, .i32⟩
  | 70 => ⟨S64x4096, .i32⟩
  | 71 => ⟨S64x4096x1, .i32⟩
  | 72 => ⟨S1, .i32⟩
  | 73 => ⟨S_, .i32⟩
  | 74 => ⟨S64x4096x1, .i32⟩
  | 75 => ⟨S64x4096x1, .i1⟩
  | 76 => ⟨S1x1x1, .i32⟩
  | 77 => ⟨S64x4096x1, .i32⟩
  | 78 => ⟨S64x4096x1, .i1⟩
  | 79 => ⟨S64x4096x1, .i1⟩
  | 80 => ⟨S_, .i1⟩
  | 81 => ⟨S64x4096, .i1⟩
  | 82 => ⟨S64x4096x256, .f32⟩
  | 83 => ⟨S64x4096x256, .i1⟩
  | 84 => ⟨S_, .f32⟩
  | 85 => ⟨S64x4096x256, .f32⟩
  | 86 => ⟨S64x4096x256, .f32⟩
  | 87 => ⟨S64x409x256, .f32⟩
  | 88 => ⟨S_, .f32⟩
  | 89 => ⟨S64x256, .f32⟩
  | 90 => ⟨S_, .f32⟩
  | 91 => ⟨S64x256, .f32⟩
  | 92 => ⟨S64x256, .f32⟩
  | 93 => ⟨S64x1x256, .f32⟩
  | 94 => ⟨S64x409x256, .f32⟩
  | 95 => ⟨S64x409x768, .f32⟩
  | 96 => ⟨S768x8, .f32⟩
  | 97 => ⟨S64x409x8, .f32⟩
  | 98 => ⟨S1x1x8, .f32⟩
  | 99 => ⟨S64x409x8, .f32⟩
  | 100 => ⟨S64x409x8, .f32⟩
  | 101 => ⟨S_, .f32⟩
  | 102 => ⟨S64x409x8, .f32⟩
  | 103 => ⟨S64x409x8, .f32⟩
  | 104 => ⟨S8x8, .f32⟩
  | 105 => ⟨S64x409x8, .f32⟩
  | 106 => ⟨S1x1x8, .f32⟩
  | 107 => ⟨S64x409x8, .f32⟩
  | 108 => ⟨S64x409x8, .f32⟩
  | 109 => ⟨S_, .f32⟩
  | 110 => ⟨S64x409x8, .f32⟩
  | 111 => ⟨S64x409x8, .f32⟩
  | 112 => ⟨S8x256, .f32⟩
  | 113 => ⟨S64x409x256, .f32⟩
  | 114 => ⟨S1x1x256, .f32⟩
  | 115 => ⟨S64x409x256, .f32⟩
  | 116 => ⟨S64x409x256, .f32⟩
  | 117 => ⟨S_, .f32⟩
  | 118 => ⟨S64x256, .f32⟩
  | 119 => ⟨S_, .f32⟩
  | 120 => ⟨S64x256, .f32⟩
  | 121 => ⟨S64x256, .f32⟩
  | 122 => ⟨S256x128, .f32⟩
  | 123 => ⟨S64x128, .f32⟩
  | 124 => ⟨S1x128, .f32⟩
  | 125 => ⟨S64x128, .f32⟩
  | 126 => ⟨S64x128, .f32⟩
  | 127 => ⟨S_, .f32⟩
  | _ => ⟨S64x16, .i32⟩

abbrev hbmTy0_1 (i : Nat) : BufTy := match i % 128 with
  | 0 => ⟨S64x128, .f32⟩
  | 1 => ⟨S64x128, .f32⟩
  | 2 => ⟨S128x1, .f32⟩
  | 3 => ⟨S64x1, .f32⟩
  | 4 => ⟨S1x1, .f32⟩
  | 5 => ⟨S64x1, .f32⟩
  | 6 => ⟨S64x1, .f32⟩
  | 7 => ⟨S64x1, .f32⟩
  | 8 => ⟨S64x1, .f32⟩
  | 9 => ⟨S_, .f32⟩
  | 10 => ⟨S64x1, .f32⟩
  | 11 => ⟨S64x1, .f32⟩
  | 12 => ⟨S_, .f32⟩
  | 13 => ⟨S64x1, .f32⟩
  | 14 => ⟨S64x1, .f32⟩
  | _ => ⟨S64x16, .i32⟩

abbrev hbmTy (i : Nat) : BufTy := match i / 128 with
  | 0 => hbmTy0_0 i
  | 1 => hbmTy0_1 i
  | _ => ⟨S64x16, .i32⟩

abbrev bufTy : (tb : Table) → Fin (tcTables nBuf tb) → BufTy
  | .hbm, ⟨i, _⟩ => hbmTy i
  | _, _ => ⟨S64x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call0_c : Ref sig .tc := ⟨.hbm, 64, rfl⟩
abbrev main_call0_v0 : Ref sig .tc := ⟨.hbm, 65, rfl⟩
abbrev main_call0_v1 : Ref sig .tc := ⟨.hbm, 66, rfl⟩
abbrev main_call0_c_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_c_1 : Ref sig .tc := ⟨.hbm, 72, rfl⟩
abbrev main_call0_c_2 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_3 : Ref sig .tc := ⟨.hbm, 80, rfl⟩
abbrev main_call0_v12 : Ref sig .tc := ⟨.hbm, 81, rfl⟩
abbrev main_call0_v13 : Ref sig .tc := ⟨.hbm, 82, rfl⟩
abbrev main_call0_v14 : Ref sig .tc := ⟨.hbm, 83, rfl⟩
abbrev main_call0_cst : Ref sig .tc := ⟨.hbm, 84, rfl⟩
abbrev main_call0_v15 : Ref sig .tc := ⟨.hbm, 85, rfl⟩
abbrev main_v51 : Ref sig .tc := ⟨.hbm, 86, rfl⟩
abbrev main_v52 : Ref sig .tc := ⟨.hbm, 87, rfl⟩
abbrev main_cst : Ref sig .tc := ⟨.hbm, 88, rfl⟩
abbrev main_v53 : Ref sig .tc := ⟨.hbm, 89, rfl⟩
abbrev main_cst_0 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_call1_cst : Ref sig .tc := ⟨.hbm, 101, rfl⟩
abbrev main_call1_v0 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_call2_cst : Ref sig .tc := ⟨.hbm, 109, rfl⟩
abbrev main_call2_v0 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_1 : Ref sig .tc := ⟨.hbm, 117, rfl⟩
abbrev main_v76 : Ref sig .tc := ⟨.hbm, 118, rfl⟩
abbrev main_cst_2 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_call3_cst : Ref sig .tc := ⟨.hbm, 127, rfl⟩
abbrev main_call3_v0 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_3 : Ref sig .tc := ⟨.hbm, 137, rfl⟩
abbrev main_v92 : Ref sig .tc := ⟨.hbm, 138, rfl⟩
abbrev main_v93 : Ref sig .tc := ⟨.hbm, 139, rfl⟩
abbrev main_cst_4 : Ref sig .tc := ⟨.hbm, 140, rfl⟩
abbrev main_v94 : Ref sig .tc := ⟨.hbm, 141, rfl⟩
abbrev main_v95 : Ref sig .tc := ⟨.hbm, 142, rfl⟩

abbrev nD : Nat := 1
abbrev τ : Topo := Topo.v7x

variable {F : FTy → Type} [FloatOps F]
-- ==== Proof.Setup.lean ====
/-
  What every module of this proof names: the launch configuration, the resource algebra (the handshakes' rounds, the
  scorer pipeline's rounds, the transfers' counters), and the buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionsLoop
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] [Named F] : Labels := Pipeline.Sig Λ₀ (Fin 2) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The machine's algebra at this proof's choices. -/
abbrev MM (F : FTy → Type) : Type := MT nD τ sig (HIx 1) (Elt F) ℕ UU ℕ

abbrev EH : Emb UH (MM F) := embL
abbrev EP : Emb UP (MM F) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP (MM F)).LandsIn (upEmb : UEmb _ (MM F)) := by unfold EP; infer_instance

/-- The scorer pipeline's variant data: it takes none. -/
def adm [FloatOps F] [Named F] : (p : Fin 2) → (pcfgs (F := F) p).Adm := fun p => (cfgs p).toPCfg_adm

/-! ## The buffers of the TensorCore's thread -/

/-- Its unscoped references. -/
def ucRefs : Finset (DevRef τ sig) := (StableHlo.tcRefs τ sig).filter fun b => ¬ b.isScoped

theorem unscopedBufs_held (d : Dev nD) (W : Valuation τ sig (Elt F)) :
    (unscopedBufs d (fun b => W b) : sProp (MM F)) = StableHlo.held (T d) ucRefs W := by
  unfold unscopedBufs StableHlo.held ucRefs StableHlo.tcRefs
  rw [Finset.filter_map, bigSep_map]
  rfl

end Cert.Proof.Sparsity

end
-- ==== Proof.Counting.lean ====
module

public import Mathlib.Data.Finset.Card
public import Mathlib.Algebra.BigOperators.Group.Finset.Basic
public import Mathlib.Data.Fintype.Card
public import Mathlib.Data.Fintype.BigOperators
public import Mathlib.Algebra.Order.BigOperators.Group.Finset

@[expose] public section

namespace Cert.Proof.Sparsity

/-! # Counting sort on the natural numbers

A sequence `w` gives every position a slot. A counting sort puts position `p` behind every position of
a smaller slot and behind the earlier positions of its own slot: `rank w N p` says where that is. -/

/-- How many of the first `n` positions lie in slot `l`. -/
def pre (w : ℕ → ℕ) (n l : ℕ) : ℕ := ((Finset.range n).filter fun q => w q = l).card

/-- How many of the `N` positions lie in a slot below `l`. -/
def base (w : ℕ → ℕ) (N l : ℕ) : ℕ := ∑ l' ∈ Finset.range l, pre w N l'

/-- The place of position `p` among the `N`. -/
def rank (w : ℕ → ℕ) (N p : ℕ) : ℕ := base w N (w p) + pre w p (w p)

/-- How many of the sixteen positions of group `c` lie in slot `l`. -/
def grp (w : ℕ → ℕ) (c l : ℕ) : ℕ := (Finset.univ.filter fun j : Fin 16 => w (16 * c + j.val) = l).card

theorem pre_zero (w : ℕ → ℕ) (l : ℕ) : pre w 0 l = 0 := by simp [pre]

theorem pre_succ (w : ℕ → ℕ) (n l : ℕ) : pre w (n + 1) l = pre w n l + if w n = l then 1 else 0 := by
  unfold pre
  rw [Finset.range_add_one, Finset.filter_insert]
  split <;> simp

theorem pre_le (w : ℕ → ℕ) (n l : ℕ) : pre w n l ≤ n :=
  (Finset.card_filter_le _ _).trans (by simp)

theorem base_le (w : ℕ → ℕ) (N l : ℕ) : base w N l = ((Finset.range N).filter fun q => w q < l).card := by
  induction l with
  | zero => simp [base]
  | succ l ih =>
    unfold base at *
    rw [Finset.sum_range_succ, ih, pre, ← Finset.card_union_of_disjoint]
    · congr 1
      ext q
      simp only [Finset.mem_union, Finset.mem_filter, Finset.mem_range]
      omega
    · rw [Finset.disjoint_left]
      intro q
      simp only [Finset.mem_filter, Finset.mem_range]
      omega

/-- The first `m` positions of a group, counted by slot. -/
theorem pre_add (w : ℕ → ℕ) (c l : ℕ) : ∀ m ≤ 16, pre w (16 * c + m) l
    = pre w (16 * c) l + (Finset.univ.filter fun j : Fin 16 => j.val < m ∧ w (16 * c + j.val) = l).card := by
  intro m
  induction m with
  | zero => intro _; simp
  | succ m ih =>
    intro hm
    rw [← Nat.add_assoc, pre_succ, ih (by omega), Nat.add_assoc]
    congr 1
    by_cases h : w (16 * c + m) = l
    · rw [if_pos h]
      have : (Finset.univ.filter fun j : Fin 16 => j.val < m + 1 ∧ w (16 * c + j.val) = l)
          = insert ⟨m, by omega⟩ (Finset.univ.filter fun j : Fin 16 => j.val < m ∧ w (16 * c + j.val) = l) := by
        ext j
        simp only [Finset.mem_filter, Finset.mem_univ, true_and, Finset.mem_insert, Fin.ext_iff]
        constructor
        · rintro ⟨h1, h2⟩
          by_cases hj : j.val = m
          · exact Or.inl hj
          · exact Or.inr ⟨by omega, h2⟩
        · rintro (h1 | ⟨h1, h2⟩)
          · rw [h1]; exact ⟨by omega, h⟩
          · exact ⟨by omega, h2⟩
      rw [this, Finset.card_insert_of_notMem (by simp)]
    · rw [if_neg h, Nat.add_zero]
      congr 1
      ext j
      simp only [Finset.mem_filter, Finset.mem_univ, true_and]
      constructor
      · rintro ⟨h1, h2⟩; exact ⟨by omega, h2⟩
      · rintro ⟨h1, h2⟩
        refine ⟨?_, h2⟩
        by_contra hj
        have : j.val = m := by omega
        rw [this] at h2; exact h h2

theorem pre_grp (w : ℕ → ℕ) (c l : ℕ) : pre w (16 * (c + 1)) l = pre w (16 * c) l + grp w c l := by
  rw [show 16 * (c + 1) = 16 * c + 16 by omega, pre_add w c l 16 le_rfl, grp]
  congr 2
  ext j
  simp [j.isLt]

/-- A lane's count of its own value at or below it, against the earlier positions of its slot. -/
theorem pre_lane (w : ℕ → ℕ) (c : ℕ) (i : Fin 16) :
    pre w (16 * c) (w (16 * c + i.val)) + (Finset.univ.filter fun j : Fin 16 => j.val ≤ i.val ∧ w (16 * c + j.val) = w (16 * c + i.val)).card
      = pre w (16 * c + i.val) (w (16 * c + i.val)) + 1 := by
  have h := pre_succ w (16 * c + i.val) (w (16 * c + i.val))
  rw [if_pos rfl, Nat.add_assoc, pre_add w c _ (i.val + 1) (by omega)] at h
  rw [← h]
  congr 2
  ext j
  simp only [Finset.mem_filter, Finset.mem_univ, true_and, Nat.lt_succ_iff]

/-- The positions before `p`: of a smaller slot, or earlier in its own. -/
theorem rank_card (w : ℕ → ℕ) (N p : ℕ) (hp : p ≤ N) :
    rank w N p = ((Finset.range N).filter fun q => w q < w p ∨ (w q = w p ∧ q < p)).card := by
  rw [rank, base_le, pre, ← Finset.card_union_of_disjoint]
  · congr 1
    ext q
    simp only [Finset.mem_union, Finset.mem_filter, Finset.mem_range]
    omega
  · rw [Finset.disjoint_left]
    intro q
    simp only [Finset.mem_filter, Finset.mem_range]
    omega

theorem rank_lt (w : ℕ → ℕ) (N p : ℕ) (hp : p < N) : rank w N p < N := by
  rw [rank_card w N p hp.le]
  calc _ < (Finset.range N).card := Finset.card_lt_card (by
          rw [Finset.ssubset_iff_of_subset (Finset.filter_subset _ _)]
          exact ⟨p, Finset.mem_range.mpr hp, by simp⟩)
    _ = N := Finset.card_range N

theorem rank_lt_of (w : ℕ → ℕ) (N p p' : ℕ) (hp : p < N) (hp' : p' < N) (h : w p < w p' ∨ (w p = w p' ∧ p < p')) :
    rank w N p < rank w N p' := by
  rw [rank_card w N p hp.le, rank_card w N p' hp'.le]
  refine Finset.card_lt_card ((Finset.ssubset_iff_of_subset fun q => ?_).mpr ⟨p, ?_, ?_⟩)
  · simp only [Finset.mem_filter, Finset.mem_range]
    omega
  · simp only [Finset.mem_filter, Finset.mem_range]
    exact ⟨hp, h⟩
  · simp

theorem rank_inj (w : ℕ → ℕ) (N p p' : ℕ) (hp : p < N) (hp' : p' < N) (h : rank w N p = rank w N p') : p = p' := by
  by_contra hne
  rcases Nat.lt_trichotomy (w p) (w p') with h1 | h1 | h1
  · have := rank_lt_of w N p p' hp hp' (Or.inl h1); omega
  · rcases Nat.lt_or_gt_of_ne hne with h2 | h2
    · have := rank_lt_of w N p p' hp hp' (Or.inr ⟨h1, h2⟩); omega
    · have := rank_lt_of w N p' p hp' hp (Or.inr ⟨h1.symm, h2⟩); omega
  · have := rank_lt_of w N p' p hp' hp (Or.inl h1); omega

theorem rank_surj (w : ℕ → ℕ) (N r : ℕ) (hr : r < N) : ∃ p, p < N ∧ rank w N p = r := by
  have him : (Finset.range N).image (rank w N) = Finset.range N := by
    apply Finset.eq_of_subset_of_card_le
    · intro x hx
      obtain ⟨p, hp, rfl⟩ := Finset.mem_image.mp hx
      exact Finset.mem_range.mpr (rank_lt w N p (Finset.mem_range.mp hp))
    · rw [Finset.card_image_of_injOn fun a ha b hb hab =>
        rank_inj w N a b (Finset.mem_range.mp ha) (Finset.mem_range.mp hb) hab]
  have : r ∈ (Finset.range N).image (rank w N) := by rw [him]; exact Finset.mem_range.mpr hr
  obtain ⟨p, hp, h⟩ := Finset.mem_image.mp this
  exact ⟨p, Finset.mem_range.mp hp, h⟩

theorem base_pre_le (w : ℕ → ℕ) (N n l : ℕ) (hn : n ≤ N) : base w N l + pre w n l ≤ N := by
  rw [base_le, pre, ← Finset.card_union_of_disjoint]
  · calc _ ≤ (Finset.range N).card := Finset.card_le_card fun q => by
            simp only [Finset.mem_union, Finset.mem_filter, Finset.mem_range]
            omega
      _ = N := Finset.card_range N
  · rw [Finset.disjoint_left]
    intro q
    simp only [Finset.mem_filter, Finset.mem_range]
    omega

end Cert.Proof.Sparsity

end
-- ==== Proof.Lanes.lean ====
module

public import proofs.«01_k».proof.Proof.Setup
public import proofs.«01_k».proof.Proof.Counting

@[expose] public section

noncomputable section

namespace Cert.Proof.Sparsity

open Cert.KernelIdeal Cert.KernelIdeal.Gen
open Idealize.ShloMosaic

variable {F : FTy → Type} [FloatOps F] [Named F]

/-! # Sixteen lanes at a time

What the vector operations of the tile's loops do to words that hold small natural numbers. -/

/-- Lane `i` of a sixteen-lane vector. -/
abbrev ln (i : Fin 16) : S16.Idx := Shape.ofLane (d := ![16]) i

/-- Entry `n` of a table of sixteen. -/
abbrev ent (n : ℕ) : S16.Idx := ln ⟨n % 16, Nat.mod_lt _ (by decide)⟩

/-- Position `n` of a row. -/
abbrev pos (n : ℕ) : S4096.Idx := Shape.ofLane (d := ![4096]) ⟨n % 4096, Nat.mod_lt _ (by decide)⟩

/-- Place `n` of the sorted list. -/
abbrev plc (n : ℕ) : S416.Idx := Shape.ofLane (d := ![416]) ⟨n % 416, Nat.mod_lt _ (by decide)⟩

/-- The lane an index of a sixteen-lane vector names. -/
abbrev lane (x : S16.Idx) : Fin 16 := ⟨(x 0).val, (x 0).isLt⟩

theorem ln_eta (x : S16.Idx) : ln (lane x) = x := by
  funext a; obtain rfl : a = 0 := Subsingleton.elim _ _; rfl

theorem pos_val (n : ℕ) (h : n < 4096) (a : Fin 1) : (pos n a).val = n := by
  obtain rfl : a = 0 := Subsingleton.elim _ _
  exact Nat.mod_eq_of_lt h

theorem plc_val (n : ℕ) (h : n < 416) (a : Fin 1) : (plc n a).val = n := by
  obtain rfl : a = 0 := Subsingleton.elim _ _
  exact Nat.mod_eq_of_lt h

theorem pos_eta (x : S4096.Idx) : pos (x 0).val = x := by
  funext a
  obtain rfl : a = 0 := Subsingleton.elim _ _
  exact Fin.ext (Nat.mod_eq_of_lt (x 0).isLt)

theorem pos_eq (x : S4096.Idx) (n : ℕ) (h : (x 0).val = n) : x = pos n := by
  rw [← h, pos_eta]

theorem plc_eq (x : S416.Idx) (n : ℕ) (h : (x 0).val = n) : x = plc n := by
  funext a
  obtain rfl : a = 0 := Subsingleton.elim _ _
  exact Fin.ext (h.trans (Nat.mod_eq_of_lt (h ▸ (x 0).isLt)).symm)

theorem ent_eq (x : S16.Idx) (n : ℕ) (h : (x 0).val = n) : x = ent n := by
  funext a
  obtain rfl : a = 0 := Subsingleton.elim _ _
  exact Fin.ext (h.trans (Nat.mod_eq_of_lt (h ▸ (x 0).isLt)).symm)

theorem lane_pos : ∀ i : Fin 16, (S16.rowMajor (ln i)).val = i.val := by decide +kernel

/-! ## Scatters -/

theorem foldl_miss {α β : Type} (p : α → Prop) [DecidablePred p] (y : α → β) :
    ∀ (l : List α) (b : β), (∀ k ∈ l, ¬ p k) → l.foldl (fun b k => if p k then y k else b) b = b
  | [], _, _ => rfl
  | k :: l, b, h => by
    rw [List.foldl_cons, if_neg (h k List.mem_cons_self)]
    exact foldl_miss p y l b fun k' hk' => h k' (List.mem_cons_of_mem _ hk')

theorem foldl_hit {α β : Type} (p : α → Prop) [DecidablePred p] (y : α → β) (k : α) (hp : p k) :
    ∀ (l : List α) (b : β), k ∈ l → (∀ k' ∈ l, p k' → k' = k) → l.foldl (fun b k => if p k then y k else b) b = y k
  | k' :: l, b, hk, h => by
    rw [List.foldl_cons]
    by_cases hl : k ∈ l
    · exact foldl_hit p y k hp l _ hl fun q hq => h q (List.mem_cons_of_mem _ hq)
    · have hkk : k = k' := (List.mem_cons.mp hk).resolve_right hl
      subst hkk
      rw [if_pos hp]
      exact foldl_miss p y l _ fun q hq hpq => hl (h q (List.mem_cons_of_mem _ hq) hpq ▸ hq)

theorem foldl_fun {α β γ : Type} (p : α → Prop) [DecidablePred p] (q : α → γ → Prop) [∀ k j, Decidable (q k j)] (y : α → β) :
    ∀ (l : List α) (f : γ → β) (j : γ), (l.foldl (fun g k => if p k then (fun j => if q k j then y k else g j) else g) f) j
      = l.foldl (fun b k => if p k ∧ q k j then y k else b) (f j)
  | [], _, _ => rfl
  | k :: l, f, j => by
    rw [List.foldl_cons, List.foldl_cons, foldl_fun p q y l]
    congr 1
    by_cases hm : p k
    · simp only [hm, true_and, if_true]
    · simp only [hm, false_and, if_false]

section AnyLanes

variable {s : Shape} {e : EltTy} {d : Fin 1 → ℕ} (f : Vec F s e) (idxs : Fin s.rank → IVec ⟨1, d⟩ 32) (v : Vec F ⟨1, d⟩ e) (mask : IVec ⟨1, d⟩ 1)
  (h : ∀ a x, (idxs a x).toNat < s.size a) (j : s.Idx)

theorem storeIdx_fold : storeIdx f idxs v mask false h j = (List.finRange (d 0)).foldl
      (fun b k => if mask (Shape.ofLane k) = 1 ∧ (∀ a, (j a).val = (idxAt idxs h (Shape.ofLane k) a).val) then v (Shape.ofLane k) else b) (f j) := by
  unfold storeIdx
  simp only [Bool.false_eq_true, if_false]
  exact foldl_fun (fun k : Fin (d 0) => mask (Shape.ofLane k) = 1)
    (fun (k : Fin (d 0)) (j : s.Idx) => ∀ a, (j a).val = (idxAt idxs h (Shape.ofLane k) a).val) (fun k => v (Shape.ofLane k)) _ f j

/-- The lane a masked scatter's element comes from, where exactly one set lane names it. -/
theorem storeIdx_hit (k : Fin (d 0)) (hm : mask (Shape.ofLane k) = 1) (hk : ∀ a, (j a).val = (idxs a (Shape.ofLane k)).toNat)
    (hu : ∀ k', mask (Shape.ofLane k') = 1 → (∀ a, (j a).val = (idxs a (Shape.ofLane k')).toNat) → k' = k) :
    storeIdx f idxs v mask false h j = v (Shape.ofLane k) := by
  rw [storeIdx_fold]
  exact foldl_hit (fun k => mask (Shape.ofLane k) = 1 ∧ ∀ a, (j a).val = (idxAt idxs h (Shape.ofLane k) a).val) (fun k => v (Shape.ofLane k)) k ⟨hm, hk⟩ _ _
    (List.mem_finRange k) fun k' _ hk' => hu k' hk'.1 hk'.2

/-- An element no set lane names keeps what it held. -/
theorem storeIdx_miss (hu : ∀ k, mask (Shape.ofLane k) = 1 → ¬ ∀ a, (j a).val = (idxs a (Shape.ofLane k)).toNat) :
    storeIdx f idxs v mask false h j = f j := by
  rw [storeIdx_fold]
  exact foldl_miss (fun k => mask (Shape.ofLane k) = 1 ∧ ∀ a, (j a).val = (idxAt idxs h (Shape.ofLane k) a).val) (fun k => v (Shape.ofLane k)) _ _
    fun k _ hk => hu k hk.1 hk.2

end AnyLanes

/-! ## The running count of equal lanes -/

/-- All sixteen lanes set. -/
abbrev allOn : IVec S16 1 := broadcast S16 1#1

theorem scanCount_snd {s : Shape} {w : ℕ} (mask : IVec s 1) (v : IVec s w) (i : s.Idx) : (scanCount mask v).2 i
    = if mask i = 1 then BitVec.ofNat 32 (Finset.univ.filter fun j => (s.rowMajor j).val ≤ (s.rowMajor i).val ∧ mask j = 1 ∧ v j = v i).card else 1 := rfl

theorem scanCount_fst {s : Shape} {w : ℕ} (mask : IVec s 1) (v : IVec s w) (i : s.Idx) : (scanCount mask v).1 i = 1
    ↔ (mask i = 1 ∧ ∀ j, (s.rowMajor i).val < (s.rowMajor j).val → ¬ (mask j = 1 ∧ v j = v i)) := by
  unfold scanCount
  dsimp only
  split
  case isTrue h => exact ⟨fun _ => h, fun _ => rfl⟩
  case isFalse h => exact ⟨fun h0 => absurd h0 (by decide), fun h1 => absurd h1 h⟩

theorem counts_at (g : IVec S16 32) (i : Fin 16) : (scanCount allOn g).2 (ln i)
    = BitVec.ofNat 32 (Finset.univ.filter fun j : Fin 16 => j.val ≤ i.val ∧ g (ln j) = g (ln i)).card := by
  rw [scanCount_snd, if_pos (show allOn (ln i) = 1 from rfl)]
  congr 1
  refine Finset.card_bij' (fun x _ => lane x) (fun j _ => ln j) ?_ ?_ ?_ ?_
  · intro x hx
    simp only [Finset.mem_filter, Finset.mem_univ, true_and] at hx ⊢
    obtain ⟨h1, _, h2⟩ := hx
    rw [← ln_eta x] at h1
    rw [lane_pos, lane_pos] at h1
    exact ⟨h1, by rw [ln_eta]; exact h2⟩
  · intro j hj
    simp only [Finset.mem_filter, Finset.mem_univ, true_and] at hj ⊢
    rw [lane_pos, lane_pos]
    exact ⟨hj.1, rfl, hj.2⟩
  · intro x _; exact ln_eta x
  · intro j _; rfl

theorem last_at (g : IVec S16 32) (i : Fin 16) : (scanCount allOn g).1 (ln i) = 1
    ↔ ∀ j : Fin 16, i.val < j.val → g (ln j) ≠ g (ln i) := by
  have hall : ((allOn (ln i) = 1 ∧ ∀ x : S16.Idx, (S16.rowMajor (ln i)).val < (S16.rowMajor x).val → ¬ (allOn x = 1 ∧ g x = g (ln i))))
      ↔ ∀ j : Fin 16, i.val < j.val → g (ln j) ≠ g (ln i) := by
    constructor
    · intro hc j hij hg
      exact hc.2 (ln j) (by rw [lane_pos, lane_pos]; exact hij) ⟨rfl, hg⟩
    · intro h
      refine ⟨rfl, fun x hx hc => ?_⟩
      rw [← ln_eta x, lane_pos, lane_pos] at hx
      exact h _ hx (by rw [ln_eta]; exact hc.2)
  rw [← hall]
  exact scanCount_fst _ _ _

/-- The histogram step: the last lane of each value writes the value's number of lanes into the value's
place of the sixteen from `o` on; a place of zero stays zero where no lane has the value. -/
theorem hist_in (f : Vec F S4096 .i32) (o : ℕ) (g idx : IVec S16 32) (ho : o + 16 ≤ 4096)
    (hidx : ∀ i, (idx (ln i)).toNat = o + (g (ln i)).toNat)
    (h : ∀ a x, ((![idx] : Fin 1 → IVec S16 32) a x).toNat < S4096.size a) (l : ℕ) (hl : l < 16) (hf : f (pos (o + l)) = 0#32) :
    storeIdx f ![idx] (scanCount allOn g).2 (scanCount allOn g).1 false h (pos (o + l))
      = BitVec.ofNat 32 (Finset.univ.filter fun j : Fin 16 => (g (ln j)).toNat = l).card := by
  by_cases hex : ∃ j : Fin 16, (g (ln j)).toNat = l
  · obtain ⟨i, hi, hmax⟩ : ∃ i : Fin 16, (g (ln i)).toNat = l ∧ ∀ j : Fin 16, (g (ln j)).toNat = l → j ≤ i := by
      have hne : (Finset.univ.filter fun j : Fin 16 => (g (ln j)).toNat = l).Nonempty := by
        obtain ⟨j, hj⟩ := hex
        exact ⟨j, by simp [hj]⟩
      refine ⟨_, (Finset.mem_filter.mp (Finset.max'_mem _ hne)).2, fun j hj => Finset.le_max' _ _ (by simp [hj])⟩
    have hlast : (scanCount allOn g).1 (ln i) = 1 := by
      rw [last_at]
      intro j hij hg
      exact absurd (hmax j (by rw [hg, hi])) (by simpa using hij)
    rw [storeIdx_hit f ![idx] _ _ h (pos (o + l)) i hlast]
    · rw [counts_at]
      congr 2
      ext j
      simp only [Finset.mem_filter, Finset.mem_univ, true_and]
      constructor
      · rintro ⟨_, hg⟩; rw [hg, hi]
      · intro hj; exact ⟨hmax j hj, BitVec.eq_of_toNat_eq (by rw [hj, hi])⟩
    · intro a
      obtain rfl : a = 0 := Subsingleton.elim _ _
      rw [pos_val _ (by omega)]
      show _ = (idx (ln i)).toNat
      rw [hidx, hi]
    · intro (k : Fin 16) hk hkk
      have h0 := hkk 0
      rw [pos_val _ (by omega)] at h0
      have h1 : o + l = (idx (ln k)).toNat := h0
      rw [hidx] at h1
      rw [last_at] at hk
      have hki := hmax k (by omega)
      by_contra hne
      exact hk i (lt_of_le_of_ne hki (fun hv => hne (Fin.ext hv))) (BitVec.eq_of_toNat_eq (by omega))
  · have hcard : (Finset.univ.filter fun j : Fin 16 => (g (ln j)).toNat = l).card = 0 := by
      rw [Finset.card_eq_zero, Finset.filter_eq_empty_iff]
      intro j _ hj; exact hex ⟨j, hj⟩
    rw [hcard, storeIdx_miss, hf]
    intro (k : Fin 16) _ hkk
    have h0 := hkk 0
    rw [pos_val _ (by omega)] at h0
    have h1 : o + l = (idx (ln k)).toNat := h0
    rw [hidx] at h1
    exact hex ⟨k, by omega⟩

theorem hist_out (f : Vec F S4096 .i32) (o : ℕ) (g idx : IVec S16 32) (hg : ∀ i, (g (ln i)).toNat < 16)
    (hidx : ∀ i, (idx (ln i)).toNat = o + (g (ln i)).toNat) (v : IVec S16 32) (mask : IVec S16 1)
    (h : ∀ a x, ((![idx] : Fin 1 → IVec S16 32) a x).toNat < S4096.size a) (n : ℕ) (hn : n < 4096) (ho : n < o ∨ o + 16 ≤ n) :
    storeIdx (F := F) (e := .i32) f ![idx] v mask false h (pos n) = f (pos n) := by
  apply storeIdx_miss
  intro (k : Fin 16) _ hkk
  have h0 := hkk 0
  rw [pos_val _ hn] at h0
  have h1 : n = (idx (ln k)).toNat := h0
  rw [hidx] at h1
  have := hg k
  omega

/-! ## Words of small numbers -/

theorem addi_ofNat (a b : ℕ) : IntOp.addi (BitVec.ofNat 32 a) (BitVec.ofNat 32 b) = BitVec.ofNat 32 (a + b) :=
  (BitVec.ofNat_add a b).symm

theorem foldl_addi (t : Fin 16 → ℕ) : ∀ (L : List (Fin 16)) (a : ℕ),
    L.foldl (fun r k => IntOp.addi r (BitVec.ofNat 32 (t k))) (BitVec.ofNat 32 a) = BitVec.ofNat 32 (a + (L.map t).sum)
  | [], a => by simp
  | k :: L, a => by rw [List.foldl_cons, addi_ofNat, foldl_addi t L, List.map_cons, List.sum_cons, Nat.add_assoc]

theorem sum_upto (t : ℕ → ℕ) : ∀ i : Fin 16, t 0 + (((List.finRange 16).filter fun k => decide (0 < k.val ∧ k.val ≤ i.val)).map fun k => t k.val).sum
    = ∑ l ∈ Finset.range (i.val + 1), t l := by
  intro i
  have h : ∀ i : Fin 16, ((List.finRange 16).filter fun k => decide (0 < k.val ∧ k.val ≤ i.val)).map (fun k => k.val) = (List.range i.val).map (· + 1) := by
    decide +kernel
  have h2 : (((List.finRange 16).filter fun k => decide (0 < k.val ∧ k.val ≤ i.val)).map fun k => t k.val).sum = ∑ l ∈ Finset.range i.val, t (l + 1) := by
    have := congrArg (fun L => (L.map t).sum) (h i)
    simp only [List.map_map] at this
    refine Eq.trans this ?_
    rfl
  rw [h2, Finset.sum_range_succ', Nat.add_comm]

/-- The prefix sum less the lane itself: the sum over the lanes below. -/
theorem below_at (t : ℕ → ℕ) (v : IVec S16 32) (hv : ∀ i : Fin 16, v (ln i) = BitVec.ofNat 32 (t i.val)) (i : Fin 16) :
    IntOp.subi (scan .sum v (ln i)) (v (ln i)) = BitVec.ofNat 32 (∑ l ∈ Finset.range i.val, t l) := by
  have h : scan .sum v (ln i) = BitVec.ofNat 32 (∑ l ∈ Finset.range (i.val + 1), t l) := by
    rw [← sum_upto, ← foldl_addi]
    show List.foldl (fun r k => IntOp.addi r (v (ln k))) (v (ln 0)) _ = _
    simp only [hv]
    rfl
  rw [h, hv, Finset.sum_range_succ, BitVec.ofNat_add]
  show BitVec.ofNat 32 _ + BitVec.ofNat 32 _ - BitVec.ofNat 32 _ = _
  exact BitVec.add_sub_cancel _ _

end Cert.Proof.Sparsity

end
-- ==== Proof.Chunks.lean ====
module

public import proofs.«01_k».proof.Proof.Lanes
public import Idealize.ShloMosaic.Lib.WritesUnit

@[expose] public section

noncomputable section

namespace Cert.Proof.Sparsity

open Cert.KernelIdeal Cert.KernelIdeal.Gen
open Idealize.ShloMosaic

/-! # A row of 4096, sixteen positions at a time -/

/-- The first `n` positions of a row hold what `T` says. -/
def UpTo {α : Type} (n : ℕ) (T : ℕ → α) (f : S4096.Idx → α) : Prop := ∀ p, p < n → f (pos p) = T p

/-- From position `n` on, `g` is what `f` was. -/
def Keep {α : Type} (n : ℕ) (f g : S4096.Idx → α) : Prop := ∀ p, n ≤ p → p < 4096 → g (pos p) = f (pos p)

section Views

variable {sig : RefSig} {κ : Kind} {sp : Space} {e : EltTy} {Val : EltTy → Type} (v : View sig κ sp S4096 e) (f : v.ty.Contents Val)

/-- Sixteen positions loaded. -/
theorem chunk_load (off : Fin 1 → ℕ) (h : ∀ a, off a + S16.size a ≤ S4096.size a) (n : ℕ) (hoff : off = ![n]) (i : Fin 16) :
    v.readAt Val (Rect.unit (s := S4096) off S16.size h).toLoadRect f (ln i) = v.read Val f (pos (n + i.val)) := by
  subst hoff
  have hn : n + 16 ≤ 4096 := h 0
  rw [View.readAt_apply]
  congr 1
  funext a
  obtain rfl : a = 0 := Subsingleton.elim _ _
  refine Fin.ext ?_
  rw [pos_val _ (by omega)]
  show n + 1 * i.val = n + i.val
  omega

theorem chunk_in (off : Fin 1 → ℕ) (h : ∀ a, off a + S16.size a ≤ S4096.size a) (w : (Rect.unit (s := S4096) off S16.size h).shape.Idx → Val e)
    (L : List (View.Piece Val S4096 e)) (n : ℕ) (hoff : off = ![n]) (i : Fin 16) :
    v.read Val (v.writes Val f (⟨Rect.unit off S16.size h, w⟩ :: L)) (pos (n + i.val)) = w (ln i) := by
  have hn : n + 16 ≤ 4096 := by subst hoff; exact h 0
  refine View.read_writes_cons_unit_of_mem v f h w L _ (ln i) hoff fun a => ?_
  obtain rfl : a = 0 := Subsingleton.elim _ _
  rw [pos_val _ (by omega)]
  rfl

theorem chunk_out (off : Fin 1 → ℕ) (h : ∀ a, off a + S16.size a ≤ S4096.size a) (w : (Rect.unit (s := S4096) off S16.size h).shape.Idx → Val e)
    (L : List (View.Piece Val S4096 e)) (n : ℕ) (hoff : off = ![n]) (p : ℕ) (hp : p < 4096) (ho : p < n ∨ n + 16 ≤ p) :
    v.read Val (v.writes Val f (⟨Rect.unit off S16.size h, w⟩ :: L)) (pos p) = v.read Val (v.writes Val f L) (pos p) := by
  refine View.read_writes_cons_unit_of_not_mem v f h w L _ hoff (0 : Fin 1) ?_
  rw [pos_val _ hp]
  exact ho

theorem UpTo.step {T : ℕ → Val e} {n : ℕ} {L : List (View.Piece Val S4096 e)} (hu : UpTo n T (v.read Val (v.writes Val f L)))
    (off : Fin 1 → ℕ) (h : ∀ a, off a + S16.size a ≤ S4096.size a) (w : (Rect.unit (s := S4096) off S16.size h).shape.Idx → Val e)
    (hoff : off = ![n]) (hw : ∀ i : Fin 16, w (ln i) = T (n + i.val)) :
    UpTo (n + 16) T (v.read Val (v.writes Val f (⟨Rect.unit off S16.size h, w⟩ :: L))) := by
  have hn : n + 16 ≤ 4096 := by subst hoff; exact h 0
  intro p hp
  by_cases hpn : p < n
  · rw [chunk_out v f off h w L n hoff p (by omega) (Or.inl hpn)]
    exact hu p hpn
  · obtain ⟨i, rfl⟩ : ∃ i : Fin 16, p = n + i.val := ⟨⟨p - n, by omega⟩, by simp; omega⟩
    rw [chunk_in v f off h w L n hoff i, hw]

theorem Keep.step {g : S4096.Idx → Val e} {N n : ℕ} {L : List (View.Piece Val S4096 e)} (hk : Keep N g (v.read Val (v.writes Val f L)))
    (off : Fin 1 → ℕ) (h : ∀ a, off a + S16.size a ≤ S4096.size a) (w : (Rect.unit (s := S4096) off S16.size h).shape.Idx → Val e)
    (hoff : off = ![n]) (hn : n + 16 ≤ N) :
    Keep N g (v.read Val (v.writes Val f (⟨Rect.unit off S16.size h, w⟩ :: L))) := by
  intro p hp hp'
  rw [chunk_out v f off h w L n hoff p hp' (Or.inr (by omega))]
  exact hk p hp hp'

/-- Eight chunks written one after another: the row holds `T` 128 positions further, and no position past them has changed. -/
theorem upTo_eight {T : ℕ → Val e} {n : ℕ} (o : Fin 8 → Fin 1 → ℕ) (ho : ∀ u, o u = ![n + 16 * u.val]) (h : ∀ u a, o u a + S16.size a ≤ S4096.size a)
    (w0 w1 w2 w3 w4 w5 w6 w7 : S16.Idx → Val e) (hu : UpTo n T (v.read Val f))
    (hw0 : ∀ i : Fin 16, w0 (ln i) = T (n + 0 + i.val)) (hw1 : ∀ i : Fin 16, w1 (ln i) = T (n + 16 + i.val)) (hw2 : ∀ i : Fin 16, w2 (ln i) = T (n + 32 + i.val)) (hw3 : ∀ i : Fin 16, w3 (ln i) = T (n + 48 + i.val)) (hw4 : ∀ i : Fin 16, w4 (ln i) = T (n + 64 + i.val)) (hw5 : ∀ i : Fin 16, w5 (ln i) = T (n + 80 + i.val)) (hw6 : ∀ i : Fin 16, w6 (ln i) = T (n + 96 + i.val)) (hw7 : ∀ i : Fin 16, w7 (ln i) = T (n + 112 + i.val)) :
    UpTo (n + 128) T (v.read Val (v.writes Val f [⟨Rect.unit (s := S4096) (o 7) S16.size (h 7), w7⟩, ⟨Rect.unit (s := S4096) (o 6) S16.size (h 6), w6⟩, ⟨Rect.unit (s := S4096) (o 5) S16.size (h 5), w5⟩, ⟨Rect.unit (s := S4096) (o 4) S16.size (h 4), w4⟩, ⟨Rect.unit (s := S4096) (o 3) S16.size (h 3), w3⟩, ⟨Rect.unit (s := S4096) (o 2) S16.size (h 2), w2⟩, ⟨Rect.unit (s := S4096) (o 1) S16.size (h 1), w1⟩, ⟨Rect.unit (s := S4096) (o 0) S16.size (h 0), w0⟩])) ∧
      Keep (n + 128) (v.read Val f) (v.read Val (v.writes Val f [⟨Rect.unit (s := S4096) (o 7) S16.size (h 7), w7⟩, ⟨Rect.unit (s := S4096) (o 6) S16.size (h 6), w6⟩, ⟨Rect.unit (s := S4096) (o 5) S16.size (h 5), w5⟩, ⟨Rect.unit (s := S4096) (o 4) S16.size (h 4), w4⟩, ⟨Rect.unit (s := S4096) (o 3) S16.size (h 3), w3⟩, ⟨Rect.unit (s := S4096) (o 2) S16.size (h 2), w2⟩, ⟨Rect.unit (s := S4096) (o 1) S16.size (h 1), w1⟩, ⟨Rect.unit (s := S4096) (o 0) S16.size (h 0), w0⟩])) := by
  have hk : Keep (n + 128) (v.read Val f) (v.read Val (v.writes Val f [])) := fun p _ _ => rfl
  have hu' : UpTo n T (v.read Val (v.writes Val f [])) := hu
  have u0 := UpTo.step v f hu' (o 0) (h 0) w0 (by rw [ho 0]; simp) hw0
  have k0 := Keep.step v f hk (o 0) (h 0) w0 (ho 0) (by simp)
  have u1 := UpTo.step v f u0 (o 1) (h 1) w1 (by rw [ho 1]; simp) (fun i => by rw [hw1 i])
  have k1 := Keep.step v f k0 (o 1) (h 1) w1 (ho 1) (by simp)
  have u2 := UpTo.step v f u1 (o 2) (h 2) w2 (by rw [ho 2]; simp) (fun i => by rw [hw2 i])
  have k2 := Keep.step v f k1 (o 2) (h 2) w2 (ho 2) (by simp)
  have u3 := UpTo.step v f u2 (o 3) (h 3) w3 (by rw [ho 3]; simp) (fun i => by rw [hw3 i])
  have k3 := Keep.step v f k2 (o 3) (h 3) w3 (ho 3) (by simp)
  have u4 := UpTo.step v f u3 (o 4) (h 4) w4 (by rw [ho 4]; simp) (fun i => by rw [hw4 i])
  have k4 := Keep.step v f k3 (o 4) (h 4) w4 (ho 4) (by simp)
  have u5 := UpTo.step v f u4 (o 5) (h 5) w5 (by rw [ho 5]; simp) (fun i => by rw [hw5 i])
  have k5 := Keep.step v f k4 (o 5) (h 5) w5 (ho 5) (by simp)
  have u6 := UpTo.step v f u5 (o 6) (h 6) w6 (by rw [ho 6]; simp) (fun i => by rw [hw6 i])
  have k6 := Keep.step v f k5 (o 6) (h 6) w6 (ho 6) (by simp)
  have u7 := UpTo.step v f u6 (o 7) (h 7) w7 (by rw [ho 7]; simp) (fun i => by rw [hw7 i])
  have k7 := Keep.step v f k6 (o 7) (h 7) w7 (ho 7) (by simp)
  exact ⟨u7, k7⟩

end Views

theorem read_whole {sig : RefSig} {κ : Kind} {Val : EltTy → Type} (b : Ref sig κ) (f : b.ty.Contents Val) :
    (Memref.whole b).view.read Val f = f := rfl

end Cert.Proof.Sparsity

end
-- ==== Proof.Tile.lean ====
module

public import proofs.«01_k».proof.Proof.Setup
public import proofs.«01_k».proof.Proof.Chunks

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev cV (L : grid1.Coords) : Fin τ.nSC := (L 0).castLE hcore1
abbrev jV (L : grid1.Coords) : Fin τ.nSub := (L 1).castLE hsub1

abbrev gX : Memref sig .scVector .hbm S64x4096 .i32 := Memref.whole main_arg0_scv
abbrev gStab : Memref sig .scVector .hbm S1x16 .f32 := Memref.whole main_v0_0_scv
abbrev gSlot : Memref sig .scVector .hbm S1x16 .i32 := Memref.whole main_v0_1_scv
abbrev gSc : Memref sig .scVector .hbm S64x4096 .f32 := Memref.whole main_v1_0_scv
abbrev gIdx : Memref sig .scVector .hbm S64x416 .i32 := Memref.whole main_v1_1_scv
abbrev gCnt : Memref sig .scVector .hbm S64x16 .i32 := Memref.whole main_v1_2_scv
abbrev sX : Memref sig .scVector .vmem S4096 .i32 := Memref.whole cc1_scratch0
abbrev sSc : Memref sig .scVector .vmem S4096 .f32 := Memref.whole cc1_scratch1
abbrev sG : Memref sig .scVector .vmem S4096 .i32 := Memref.whole cc1_scratch2
abbrev sI : Memref sig .scVector .vmem S416 .i32 := Memref.whole cc1_scratch3
abbrev sH : Memref sig .scVector .vmem S4096 .i32 := Memref.whole cc1_scratch4
abbrev sStab : Memref sig .scVector .vmem S16 .f32 := Memref.whole cc1_scratch5
abbrev sSlot : Memref sig .scVector .vmem S16 .i32 := Memref.whole cc1_scratch6
abbrev sCnt : Memref sig .scVector .vmem S16 .i32 := Memref.whole cc1_scratch7

/-- A tile buffer held whole. -/
abbrev tpt (d : Dev nD) (L : grid1.Coords) {sp : Space} {S : Shape} {e : EltTy} (M : Memref sig .scVector sp S e) (f : Buf (Elt F) (M.view.loc (V d (cV L) (jV L)))) : sProp (MM F) :=
  M.view.loc (V d (cV L) (jV L)) ↦{fullShare} f

abbrev WP (d : Dev nD) (L : grid1.Coords) {α : Type} (p : Prog (TpuEff nD τ sig (Elt F) Λ₀ (.scVector (cV L) (jV L))) α) (Q : α → sProp (MM F)) : sProp (MM F) :=
  wp frame (wpE (defs₀ (F := F)) 𝒱₀ (V d (cV L) (jV L)) none) Set.univ p Q

/-- The text of a tile's loop 1, at the buffers it runs on. -/
abbrev B1 (L : grid1.Coords) (v2 v3 : IVec S16 32) := k1_t1_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v2 v3 0#32

/-- The text of a tile's loop 2, at the buffers it runs on. -/
abbrev B2 (L : grid1.Coords) (v2 v3 : IVec S16 32) := k1_t2_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v2 v3 0#32

/-- The text of a tile's loop 3, at the buffers it runs on. -/
abbrev B3 (L : grid1.Coords) (v2 v3 : IVec S16 32) (v8 : IVec S16 32) := k1_t3_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v2 v3 0#32 v8

/-- The text of a tile's loop 4, at the buffers it runs on. -/
abbrev B4 (L : grid1.Coords) (v2 v3 : IVec S16 32) := k1_t4_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v2 v3 0#32

/-! The second row's loops are the first row's. -/

set_option maxHeartbeats 4000000

theorem loop5_eq (L : grid1.Coords) (v1 : BitVec 32) (v2 v3 : IVec S16 32) : k1_t5_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v1 v2 v3 = B1 (F := F) L v2 v3 := rfl

theorem loop6_eq (L : grid1.Coords) (v1 : BitVec 32) (v2 v3 : IVec S16 32) : k1_t6_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v1 v2 v3 = B2 (F := F) L v2 v3 := rfl

theorem loop7_eq (L : grid1.Coords) (v1 : BitVec 32) (v2 v3 v8 : IVec S16 32) : k1_t7_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v1 v2 v3 v8 = B3 (F := F) L v2 v3 v8 := rfl

theorem loop8_eq (L : grid1.Coords) (v1 : BitVec 32) (v2 v3 : IVec S16 32) : k1_t8_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v1 v2 v3 = B4 (F := F) L v2 v3 := rfl

end Cert.Proof.Sparsity

end
-- ==== Proof.Prefix.lean ====
module

public import proofs.«01_k».proof.Proof.Tile

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid1.Coords)

/-! # The running counts of a row

A row's words `w p` lie below sixteen; after loop 1 the count buffer holds, for every chunk of sixteen positions, how many of them bear each word. -/

/-- How many of chunk `p / 16` bear the word `p % 16`. -/
def grpT (w : ℕ → ℕ) (p : ℕ) : BitVec 32 := BitVec.ofNat 32 (grp w (p / 16) (p % 16))

/-- How many positions before chunk `p / 16` bear the word `p % 16`. -/
def preT (w : ℕ → ℕ) (p : ℕ) : BitVec 32 := BitVec.ofNat 32 (pre w (16 * (p / 16)) (p % 16))

/-- Where the positions of chunk `p / 16` bearing `p % 16` start in the sorted order. -/
def plcT (w : ℕ → ℕ) (p : ℕ) : BitVec 32 := BitVec.ofNat 32 (base w 4096 (p % 16) + pre w (16 * (p / 16)) (p % 16))

theorem at_chunk (k u : ℕ) (i : Fin 16) (g : ℕ → ℕ → BitVec 32) : (fun p => g (p / 16) (p % 16)) (128 * k + 16 * u + i.val) = g (8 * k + u) i.val := by
  have h1 : (128 * k + 16 * u + i.val) / 16 = 8 * k + u := by omega
  have h2 : (128 * k + 16 * u + i.val) % 16 = i.val := by omega
  simp only [h1, h2]

/-- One more chunk on the running count. -/
theorem count_step (w : ℕ → ℕ) (c : ℕ) {a v : IVec S16 32} (ha : ∀ i : Fin 16, a (ln i) = BitVec.ofNat 32 (pre w (16 * c) i.val))
    (hv : ∀ i : Fin 16, v (ln i) = BitVec.ofNat 32 (grp w c i.val)) (i : Fin 16) : addi a v (ln i) = BitVec.ofNat 32 (pre w (16 * (c + 1)) i.val) := by
  rw [pre_grp]
  show IntOp.addi (a (ln i)) (v (ln i)) = _
  rw [ha, hv]
  exact addi_ofNat _ _

/-- The count buffer and the running count after `k` trips of loop 2. -/
def S2 (w : ℕ → ℕ) (k : ℕ) (f : S4096.Idx → BitVec 32) (a : IVec S16 32) : Prop :=
  UpTo (128 * k) (preT w) f ∧ (∀ p, 128 * k ≤ p → p < 4096 → f (pos p) = grpT w p) ∧ ∀ i : Fin 16, a (ln i) = BitVec.ofNat 32 (pre w (128 * k) i.val)

def inv2 (w : ℕ → ℕ) (k : ℕ) (a : IVec S16 32) : sProp (MM F) := iprop(∃ f, ⌜S2 w k f a⌝ ∗ tpt (F := F) d L sH f)

theorem trip2 (w : ℕ → ℕ) (v2 v3 : IVec S16 32) (k : Fin k1_t2_loop.trips) (a : IVec S16 32) (Q : IVec S16 32 → sProp (MM F)) :
    iprop(inv2 d L w k.val a ∗ (∀ r, inv2 d L w (k.val + 1) r -∗ Q r)) ⊢ WP d L (B2 (F := F) L v2 v3 k a) Q := by
  unfold WP B2 k1_t2_body inv2
  iintro ⟨⟨%f, %hf, H⟩, Hk⟩
  rw [k1_part4_eq_skeleton]; unfold k1_part4_skel
  sl_exec
  sl_step
  ispecialize Hk $$ %_
  iapply Hk
  iexists _
  isplitr
  swap
  · iexact H
  ipureintro
  obtain ⟨hu, hg, ha⟩ := hf
  have hk : k.val < 32 := k.isLt
  have g0 : ∀ i : Fin 16, (View.readAt (Elt F) sH.view (Rect.unit (s := S4096) (k1_off4 k 0#32) S16.size (k1_off4_inb k 0)).toLoadRect f) (ln i) = BitVec.ofNat 32 (grp w (8 * k.val + 0) i.val) := fun i => by
    refine (chunk_load (Val := Elt F) sH.view f _ (k1_off4_inb k 0) (128 * k.val + 16 * 0) (k1_off4_eq k 0) i).trans ((hg (128 * k.val + 16 * 0 + i.val) (by omega) (by omega)).trans ?_)
    exact at_chunk k.val 0 i (fun c l => BitVec.ofNat 32 (grp w c l))
  have g1 : ∀ i : Fin 16, (View.readAt (Elt F) sH.view (Rect.unit (s := S4096) (k1_off4 k 1#32) S16.size (k1_off4_inb k 1)).toLoadRect f) (ln i) = BitVec.ofNat 32 (grp w (8 * k.val + 1) i.val) := fun i => by
    refine (chunk_load (Val := Elt F) sH.view f _ (k1_off4_inb k 1) (128 * k.val + 16 * 1) (k1_off4_eq k 1) i).trans ((hg (128 * k.val + 16 * 1 + i.val) (by omega) (by omega)).trans ?_)
    exact at_chunk k.val 1 i (fun c l => BitVec.ofNat 32 (grp w c l))
  have g2 : ∀ i : Fin 16, (View.readAt (Elt F) sH.view (Rect.unit (s := S4096) (k1_off4 k 2#32) S16.size (k1_off4_inb k 2)).toLoadRect f) (ln i) = BitVec.ofNat 32 (grp w (8 * k.val + 2) i.val) := fun i => by
    refine (chunk_load (Val := Elt F) sH.view f _ (k1_off4_inb k 2) (128 * k.val + 16 * 2) (k1_off4_eq k 2) i).trans ((hg (128 * k.val + 16 * 2 + i.val) (by omega) (by omega)).trans ?_)
    exact at_chunk k.val 2 i (fun c l => BitVec.ofNat 32 (grp w c l))
  have g3 : ∀ i : Fin 16, (View.readAt (Elt F) sH.view (Rect.unit (s := S4096) (k1_off4 k 3#32) S16.size (k1_off4_inb k 3)).toLoadRect f) (ln i) = BitVec.ofNat 32 (grp w (8 * k.val + 3) i.val) := fun i => by
    refine (chunk_load (Val := Elt F) sH.view f _ (k1_off4_inb k 3) (128 * k.val + 16 * 3) (k1_off4_eq k 3) i).trans ((hg (128 * k.val + 16 * 3 + i.val) (by omega) (by omega)).trans ?_)
    exact at_chunk k.val 3 i (fun c l => BitVec.ofNat 32 (grp w c l))
  have g4 : ∀ i : Fin 16, (View.readAt (Elt F) sH.view (Rect.unit (s := S4096) (k1_off4 k 4#32) S16.size (k1_off4_inb k 4)).toLoadRect f) (ln i) = BitVec.ofNat 32 (grp w (8 * k.val + 4) i.val) := fun i => by
    refine (chunk_load (Val := Elt F) sH.view f _ (k1_off4_inb k 4) (128 * k.val + 16 * 4) (k1_off4_eq k 4) i).trans ((hg (128 * k.val + 16 * 4 + i.val) (by omega) (by omega)).trans ?_)
    exact at_chunk k.val 4 i (fun c l => BitVec.ofNat 32 (grp w c l))
  have g5 : ∀ i : Fin 16, (View.readAt (Elt F) sH.view (Rect.unit (s := S4096) (k1_off4 k 5#32) S16.size (k1_off4_inb k 5)).toLoadRect f) (ln i) = BitVec.ofNat 32 (grp w (8 * k.val + 5) i.val) := fun i => by
    refine (chunk_load (Val := Elt F) sH.view f _ (k1_off4_inb k 5) (128 * k.val + 16 * 5) (k1_off4_eq k 5) i).trans ((hg (128 * k.val + 16 * 5 + i.val) (by omega) (by omega)).trans ?_)
    exact at_chunk k.val 5 i (fun c l => BitVec.ofNat 32 (grp w c l))
  have g6 : ∀ i : Fin 16, (View.readAt (Elt F) sH.view (Rect.unit (s := S4096) (k1_off4 k 6#32) S16.size (k1_off4_inb k 6)).toLoadRect f) (ln i) = BitVec.ofNat 32 (grp w (8 * k.val + 6) i.val) := fun i => by
    refine (chunk_load (Val := Elt F) sH.view f _ (k1_off4_inb k 6) (128 * k.val + 16 * 6) (k1_off4_eq k 6) i).trans ((hg (128 * k.val + 16 * 6 + i.val) (by omega) (by omega)).trans ?_)
    exact at_chunk k.val 6 i (fun c l => BitVec.ofNat 32 (grp w c l))
  have g7 : ∀ i : Fin 16, (View.readAt (Elt F) sH.view (Rect.unit (s := S4096) (k1_off4 k 7#32) S16.size (k1_off4_inb k 7)).toLoadRect f) (ln i) = BitVec.ofNat 32 (grp w (8 * k.val + 7) i.val) := fun i => by
    refine (chunk_load (Val := Elt F) sH.view f _ (k1_off4_inb k 7) (128 * k.val + 16 * 7) (k1_off4_eq k 7) i).trans ((hg (128 * k.val + 16 * 7 + i.val) (by omega) (by omega)).trans ?_)
    exact at_chunk k.val 7 i (fun c l => BitVec.ofNat 32 (grp w c l))
  have a0 : ∀ i : Fin 16, a (ln i) = BitVec.ofNat 32 (pre w (16 * (8 * k.val)) i.val) := fun i => by rw [ha i, show 16 * (8 * k.val) = 128 * k.val by omega]
  have a1 := count_step w (8 * k.val + 0) a0 g0
  have a2 := count_step w (8 * k.val + 1) a1 g1
  have a3 := count_step w (8 * k.val + 2) a2 g2
  have a4 := count_step w (8 * k.val + 3) a3 g3
  have a5 := count_step w (8 * k.val + 4) a4 g4
  have a6 := count_step w (8 * k.val + 5) a5 g5
  have a7 := count_step w (8 * k.val + 6) a6 g6
  have a8 := count_step w (8 * k.val + 7) a7 g7
  obtain ⟨r1, r2⟩ := upTo_eight (Val := Elt F) sH.view f (T := preT w) (n := 128 * k.val) (fun u => k1_off4 k (BitVec.ofNat 32 u.val)) (k1_off4_eq k) (fun u => k1_off4_inb k u) _ _ _ _ _ _ _ _ hu
    (fun i => (a0 i).trans (at_chunk k.val 0 i (fun c l => BitVec.ofNat 32 (pre w (16 * c) l))).symm)
    (fun i => (a1 i).trans (at_chunk k.val 1 i (fun c l => BitVec.ofNat 32 (pre w (16 * c) l))).symm)
    (fun i => (a2 i).trans (at_chunk k.val 2 i (fun c l => BitVec.ofNat 32 (pre w (16 * c) l))).symm)
    (fun i => (a3 i).trans (at_chunk k.val 3 i (fun c l => BitVec.ofNat 32 (pre w (16 * c) l))).symm)
    (fun i => (a4 i).trans (at_chunk k.val 4 i (fun c l => BitVec.ofNat 32 (pre w (16 * c) l))).symm)
    (fun i => (a5 i).trans (at_chunk k.val 5 i (fun c l => BitVec.ofNat 32 (pre w (16 * c) l))).symm)
    (fun i => (a6 i).trans (at_chunk k.val 6 i (fun c l => BitVec.ofNat 32 (pre w (16 * c) l))).symm)
    (fun i => (a7 i).trans (at_chunk k.val 7 i (fun c l => BitVec.ofNat 32 (pre w (16 * c) l))).symm)
  refine ⟨r1, fun p hp hp' => (r2 p (by omega) hp').trans (hg p (by omega) hp'), fun i => (a8 i).trans ?_⟩
  rw [show 16 * (8 * k.val + 7 + 1) = 128 * (k.val + 1) by omega]

/-- The count buffer after `k` trips of loop 3. -/
def S3 (w : ℕ → ℕ) (k : ℕ) (f : S4096.Idx → BitVec 32) : Prop :=
  UpTo (128 * k) (plcT w) f ∧ ∀ p, 128 * k ≤ p → p < 4096 → f (pos p) = preT w p

def inv3 (w : ℕ → ℕ) (k : ℕ) : sProp (MM F) := iprop(∃ f, ⌜S3 w k f⌝ ∗ tpt (F := F) d L sH f)

theorem start_step (w : ℕ → ℕ) (c : ℕ) {t v : IVec S16 32} (ht : ∀ i : Fin 16, t (ln i) = BitVec.ofNat 32 (pre w 4096 i.val))
    (hv : ∀ i : Fin 16, v (ln i) = BitVec.ofNat 32 (pre w (16 * c) i.val)) (i : Fin 16) :
    addi v (k1_pay152 t) (ln i) = BitVec.ofNat 32 (base w 4096 i.val + pre w (16 * c) i.val) := by
  show IntOp.addi (v (ln i)) (IntOp.subi (scan .sum t (ln i)) (t (ln i))) = _
  rw [hv, below_at (pre w 4096) t ht i, add_comm]
  exact addi_ofNat _ _

theorem trip3 (w : ℕ → ℕ) (v2 v3 t : IVec S16 32) (ht : ∀ i : Fin 16, t (ln i) = BitVec.ofNat 32 (pre w 4096 i.val)) (k : Fin k1_t3_loop.trips) (Q : Unit → sProp (MM F)) :
    iprop(inv3 d L w k.val ∗ (∀ r, inv3 d L w (k.val + 1) -∗ Q r)) ⊢ WP d L (B3 (F := F) L v2 v3 t k ()) Q := by
  unfold WP B3 k1_t3_body inv3
  iintro ⟨⟨%f, %hf, H⟩, Hk⟩
  rw [k1_part5_eq_skeleton]; unfold k1_part5_skel
  sl_exec
  sl_step
  ispecialize Hk $$ %_
  iapply Hk
  iexists _
  isplitr
  swap
  · iexact H
  ipureintro
  obtain ⟨hu, hg⟩ := hf
  have hk : k.val < 32 := k.isLt
  have g0 : ∀ i : Fin 16, (View.readAt (Elt F) sH.view (Rect.unit (s := S4096) (k1_off5 k 0#32) S16.size (k1_off5_inb k 0)).toLoadRect f) (ln i) = BitVec.ofNat 32 (pre w (16 * (8 * k.val + 0)) i.val) := fun i => by
    refine (chunk_load (Val := Elt F) sH.view f _ (k1_off5_inb k 0) (128 * k.val + 16 * 0) (k1_off5_eq k 0) i).trans ((hg (128 * k.val + 16 * 0 + i.val) (by omega) (by omega)).trans ?_)
    exact at_chunk k.val 0 i (fun c l => BitVec.ofNat 32 (pre w (16 * c) l))
  have g1 : ∀ i : Fin 16, (View.readAt (Elt F) sH.view (Rect.unit (s := S4096) (k1_off5 k 1#32) S16.size (k1_off5_inb k 1)).toLoadRect f) (ln i) = BitVec.ofNat 32 (pre w (16 * (8 * k.val + 1)) i.val) := fun i => by
    refine (chunk_load (Val := Elt F) sH.view f _ (k1_off5_inb k 1) (128 * k.val + 16 * 1) (k1_off5_eq k 1) i).trans ((hg (128 * k.val + 16 * 1 + i.val) (by omega) (by omega)).trans ?_)
    exact at_chunk k.val 1 i (fun c l => BitVec.ofNat 32 (pre w (16 * c) l))
  have g2 : ∀ i : Fin 16, (View.readAt (Elt F) sH.view (Rect.unit (s := S4096) (k1_off5 k 2#32) S16.size (k1_off5_inb k 2)).toLoadRect f) (ln i) = BitVec.ofNat 32 (pre w (16 * (8 * k.val + 2)) i.val) := fun i => by
    refine (chunk_load (Val := Elt F) sH.view f _ (k1_off5_inb k 2) (128 * k.val + 16 * 2) (k1_off5_eq k 2) i).trans ((hg (128 * k.val + 16 * 2 + i.val) (by omega) (by omega)).trans ?_)
    exact at_chunk k.val 2 i (fun c l => BitVec.ofNat 32 (pre w (16 * c) l))
  have g3 : ∀ i : Fin 16, (View.readAt (Elt F) sH.view (Rect.unit (s := S4096) (k1_off5 k 3#32) S16.size (k1_off5_inb k 3)).toLoadRect f) (ln i) = BitVec.ofNat 32 (pre w (16 * (8 * k.val + 3)) i.val) := fun i => by
    refine (chunk_load (Val := Elt F) sH.view f _ (k1_off5_inb k 3) (128 * k.val + 16 * 3) (k1_off5_eq k 3) i).trans ((hg (128 * k.val + 16 * 3 + i.val) (by omega) (by omega)).trans ?_)
    exact at_chunk k.val 3 i (fun c l => BitVec.ofNat 32 (pre w (16 * c) l))
  have g4 : ∀ i : Fin 16, (View.readAt (Elt F) sH.view (Rect.unit (s := S4096) (k1_off5 k 4#32) S16.size (k1_off5_inb k 4)).toLoadRect f) (ln i) = BitVec.ofNat 32 (pre w (16 * (8 * k.val + 4)) i.val) := fun i => by
    refine (chunk_load (Val := Elt F) sH.view f _ (k1_off5_inb k 4) (128 * k.val + 16 * 4) (k1_off5_eq k 4) i).trans ((hg (128 * k.val + 16 * 4 + i.val) (by omega) (by omega)).trans ?_)
    exact at_chunk k.val 4 i (fun c l => BitVec.ofNat 32 (pre w (16 * c) l))
  have g5 : ∀ i : Fin 16, (View.readAt (Elt F) sH.view (Rect.unit (s := S4096) (k1_off5 k 5#32) S16.size (k1_off5_inb k 5)).toLoadRect f) (ln i) = BitVec.ofNat 32 (pre w (16 * (8 * k.val + 5)) i.val) := fun i => by
    refine (chunk_load (Val := Elt F) sH.view f _ (k1_off5_inb k 5) (128 * k.val + 16 * 5) (k1_off5_eq k 5) i).trans ((hg (128 * k.val + 16 * 5 + i.val) (by omega) (by omega)).trans ?_)
    exact at_chunk k.val 5 i (fun c l => BitVec.ofNat 32 (pre w (16 * c) l))
  have g6 : ∀ i : Fin 16, (View.readAt (Elt F) sH.view (Rect.unit (s := S4096) (k1_off5 k 6#32) S16.size (k1_off5_inb k 6)).toLoadRect f) (ln i) = BitVec.ofNat 32 (pre w (16 * (8 * k.val + 6)) i.val) := fun i => by
    refine (chunk_load (Val := Elt F) sH.view f _ (k1_off5_inb k 6) (128 * k.val + 16 * 6) (k1_off5_eq k 6) i).trans ((hg (128 * k.val + 16 * 6 + i.val) (by omega) (by omega)).trans ?_)
    exact at_chunk k.val 6 i (fun c l => BitVec.ofNat 32 (pre w (16 * c) l))
  have g7 : ∀ i : Fin 16, (View.readAt (Elt F) sH.view (Rect.unit (s := S4096) (k1_off5 k 7#32) S16.size (k1_off5_inb k 7)).toLoadRect f) (ln i) = BitVec.ofNat 32 (pre w (16 * (8 * k.val + 7)) i.val) := fun i => by
    refine (chunk_load (Val := Elt F) sH.view f _ (k1_off5_inb k 7) (128 * k.val + 16 * 7) (k1_off5_eq k 7) i).trans ((hg (128 * k.val + 16 * 7 + i.val) (by omega) (by omega)).trans ?_)
    exact at_chunk k.val 7 i (fun c l => BitVec.ofNat 32 (pre w (16 * c) l))
  obtain ⟨r1, r2⟩ := upTo_eight (Val := Elt F) sH.view f (T := plcT w) (n := 128 * k.val) (fun u => k1_off5 k (BitVec.ofNat 32 u.val)) (k1_off5_eq k) (fun u => k1_off5_inb k u) _ _ _ _ _ _ _ _ hu
    (fun i => (start_step w (8 * k.val + 0) ht g0 i).trans (at_chunk k.val 0 i (fun c l => BitVec.ofNat 32 (base w 4096 l + pre w (16 * c) l))).symm)
    (fun i => (start_step w (8 * k.val + 1) ht g1 i).trans (at_chunk k.val 1 i (fun c l => BitVec.ofNat 32 (base w 4096 l + pre w (16 * c) l))).symm)
    (fun i => (start_step w (8 * k.val + 2) ht g2 i).trans (at_chunk k.val 2 i (fun c l => BitVec.ofNat 32 (base w 4096 l + pre w (16 * c) l))).symm)
    (fun i => (start_step w (8 * k.val + 3) ht g3 i).trans (at_chunk k.val 3 i (fun c l => BitVec.ofNat 32 (base w 4096 l + pre w (16 * c) l))).symm)
    (fun i => (start_step w (8 * k.val + 4) ht g4 i).trans (at_chunk k.val 4 i (fun c l => BitVec.ofNat 32 (base w 4096 l + pre w (16 * c) l))).symm)
    (fun i => (start_step w (8 * k.val + 5) ht g5 i).trans (at_chunk k.val 5 i (fun c l => BitVec.ofNat 32 (base w 4096 l + pre w (16 * c) l))).symm)
    (fun i => (start_step w (8 * k.val + 6) ht g6 i).trans (at_chunk k.val 6 i (fun c l => BitVec.ofNat 32 (base w 4096 l + pre w (16 * c) l))).symm)
    (fun i => (start_step w (8 * k.val + 7) ht g7 i).trans (at_chunk k.val 7 i (fun c l => BitVec.ofNat 32 (base w 4096 l + pre w (16 * c) l))).symm)
  exact ⟨r1, fun p hp hp' => (r2 p (by omega) hp').trans (hg p (by omega) hp')⟩

end Cert.Proof.Sparsity

end
-- ==== Proof.Hist.lean ====
module

public import proofs.«01_k».proof.Proof.Prefix

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid1.Coords)

/-! # One chunk counted, one chunk placed -/

/-- A chunk's first position, as the word the kernel computes for it. -/
theorem chunk_word : ∀ (k : Fin 32) (u : Fin 8), Scalar.muli (Scalar.addi (Scalar.muli (Scf.iv 0#32 1#32 k.val) 8#32) (BitVec.ofNat 32 u.val)) 16#32
    = BitVec.ofNat 32 (16 * (8 * k.val + u.val)) := by decide +kernel

theorem slotAt_val (o : ℕ) (ho : o + 16 ≤ 4096) (g : IVec S16 32) (hg : ∀ i : Fin 16, (g (ln i)).toNat < 16) (i : Fin 16) :
    (addi (broadcast S16 (BitVec.ofNat 32 o)) g (ln i)).toNat = o + (g (ln i)).toNat := by
  show (IntOp.addi (BitVec.ofNat 32 o) (g (ln i))).toNat = _
  have h := hg i
  show (BitVec.ofNat 32 o + g (ln i)).toNat = _
  rw [BitVec.toNat_add, BitVec.toNat_ofNat]
  omega

theorem slotAt_lt (o : ℕ) (ho : o + 16 ≤ 4096) (g : IVec S16 32) (hg : ∀ i : Fin 16, (g (ln i)).toNat < 16) :
    ∀ a x, ((![addi (broadcast S16 (BitVec.ofNat 32 o)) g] : Fin 1 → IVec S16 32) a x).toNat < S4096.size a := by
  intro a x
  obtain rfl : a = 0 := Subsingleton.elim _ _
  show (addi (broadcast S16 (BitVec.ofNat 32 o)) g x).toNat < 4096
  rw [← ln_eta x, slotAt_val o ho g hg]
  have := hg (lane x)
  omega

theorem slotAt_lt' (o : ℕ) (ho : o + 16 ≤ 4096) (b : BitVec 32) (hb : b = BitVec.ofNat 32 o) (g : IVec S16 32) (hg : ∀ i : Fin 16, (g (ln i)).toNat < 16) :
    ∀ a x, ((![addi (broadcast S16 b) g] : Fin 1 → IVec S16 32) a x).toNat < S4096.size a := by
  subst hb
  exact slotAt_lt o ho g hg

/-- Chunks before `c` counted, the rest of the trip's chunks (up to position `e`) zero. -/
def Hist (w : ℕ → ℕ) (e c : ℕ) (f : S4096.Idx → BitVec 32) : Prop :=
  UpTo (16 * c) (grpT w) f ∧ ∀ p, 16 * c ≤ p → p < e → f (pos p) = 0#32

theorem hist_step {w : ℕ → ℕ} {e c : ℕ} (hc : 16 * (c + 1) ≤ e) (he : e ≤ 4096) {f : S4096.Idx → BitVec 32} (hf : Hist w e c f) (g : IVec S16 32)
    (hw : ∀ p, w p < 16) (hg : ∀ i : Fin 16, (g (ln i)).toNat = w (16 * c + i.val)) (h) :
    Hist w e (c + 1) (storeIdx (F := F) (e := .i32) f ![addi (broadcast S16 (BitVec.ofNat 32 (16 * c))) g] (scanCount allOn g).2 (scanCount allOn g).1 false h) := by
  have hg' : ∀ i : Fin 16, (g (ln i)).toNat < 16 := fun i => by rw [hg]; exact hw _
  have hv := slotAt_val (16 * c) (by omega) g hg'
  refine ⟨fun p hp => ?_, fun p hp hp' => ?_⟩
  · by_cases hpc : p < 16 * c
    · rw [hist_out f (16 * c) g _ hg' hv _ _ h p (by omega) (Or.inl hpc)]
      exact hf.1 p hpc
    · obtain ⟨l, rfl⟩ : ∃ l, p = 16 * c + l := ⟨p - 16 * c, by omega⟩
      rw [hist_in f (16 * c) g _ (by omega) hv h l (by omega) (hf.2 _ (by omega) (by omega))]
      simp only [hg]
      unfold grpT grp
      rw [show (16 * c + l) / 16 = c by omega, show (16 * c + l) % 16 = l by omega]
  · rw [hist_out f (16 * c) g _ hg' hv _ _ h p (by omega) (Or.inr (by omega))]
    exact hf.2 p (by omega) hp'

/-- The positions before `n` that rank below 409 stand at their ranks. -/
def Placed (w : ℕ → ℕ) (n : ℕ) (f : S416.Idx → BitVec 32) : Prop :=
  ∀ p, p < n → rank w 4096 p < 409 → f (plc (rank w 4096 p)) = BitVec.ofNat 32 p

theorem place_step {w : ℕ → ℕ} {c : ℕ} (hc : 16 * (c + 1) ≤ 4096) {f : S416.Idx → BitVec 32} (hf : Placed w (16 * c) f) (idx v : IVec S16 32) (mask : IVec S16 1)
    (hidx : ∀ i : Fin 16, (idx (ln i)).toNat = min (rank w 4096 (16 * c + i.val)) 415)
    (hm : ∀ i : Fin 16, mask (ln i) = 1 ↔ rank w 4096 (16 * c + i.val) < 409)
    (hv : ∀ i : Fin 16, v (ln i) = BitVec.ofNat 32 (16 * c + i.val)) (h) :
    Placed w (16 * (c + 1)) (storeIdx (F := F) (e := .i32) f ![idx] v mask false h) := by
  intro p hp hr
  by_cases hpc : p < 16 * c
  · rw [storeIdx_miss (h := h)]
    · exact hf p hpc hr
    · intro (k : Fin 16) hk hkk
      have h1 := hkk 0
      have h2 : (idx (ln k)).toNat = _ := hidx k
      have h3 := (hm k).1 hk
      rw [plc_val _ (by omega)] at h1
      have h4 : rank w 4096 p = (idx (ln k)).toNat := h1
      have := rank_inj w 4096 p (16 * c + k.val) (by omega) (by omega) (by omega)
      omega
  · obtain ⟨i, rfl⟩ : ∃ i : Fin 16, p = 16 * c + i.val := ⟨⟨p - 16 * c, by omega⟩, by simp; omega⟩
    refine (storeIdx_hit (F := F) (e := .i32) f ![idx] v mask h (plc (rank w 4096 (16 * c + i.val))) (i : Fin 16) ((hm i).2 hr) (fun a => ?_) ?_).trans (hv i)
    · obtain rfl : a = 0 := Subsingleton.elim _ _
      rw [plc_val _ (by omega)]
      show rank w 4096 (16 * c + i.val) = (idx (ln i)).toNat
      rw [hidx]; omega
    · intro (k : Fin 16) hk hkk
      have h1 := hkk 0
      have h2 : (idx (ln k)).toNat = _ := hidx k
      have h3 := (hm k).1 hk
      rw [plc_val _ (by omega)] at h1
      have h4 : rank w 4096 (16 * c + i.val) = (idx (ln k)).toNat := h1
      have := rank_inj w 4096 (16 * c + i.val) (16 * c + k.val) (by omega) (by omega) (by omega)
      exact Fin.ext (by omega)

theorem rank_word (w : ℕ → ℕ) {c : ℕ} (g v : IVec S16 32) (hg : ∀ i : Fin 16, (g (ln i)).toNat = w (16 * c + i.val))
    (hv : ∀ i : Fin 16, v (ln i) = BitVec.ofNat 32 (base w 4096 (w (16 * c + i.val)) + pre w (16 * c) (w (16 * c + i.val)))) (i : Fin 16) :
    subi (addi v (scanCount allOn g).2) (broadcast S16 1#32) (ln i) = BitVec.ofNat 32 (rank w 4096 (16 * c + i.val)) := by
  show IntOp.subi (IntOp.addi (v (ln i)) ((scanCount allOn g).2 (ln i))) 1#32 = _
  rw [hv, counts_at, addi_ofNat]
  have hcard : (Finset.univ.filter fun j : Fin 16 => j.val ≤ i.val ∧ g (ln j) = g (ln i)).card
      = (Finset.univ.filter fun j : Fin 16 => j.val ≤ i.val ∧ w (16 * c + j.val) = w (16 * c + i.val)).card := by
    congr 1
    ext j
    simp only [Finset.mem_filter, Finset.mem_univ, true_and]
    rw [← hg j, ← hg i, BitVec.toNat_inj]
  rw [hcard]
  have hl := pre_lane w c i
  rw [Nat.add_assoc, hl, ← Nat.add_assoc]
  show BitVec.ofNat 32 (_ + 1) - 1#32 = _
  rw [BitVec.ofNat_add]
  unfold rank
  exact BitVec.add_sub_cancel _ _

theorem small_slt (n m : ℕ) (hn : n < 4096) (hm : m < 4096) : (BitVec.ofNat 32 n).slt (BitVec.ofNat 32 m) = decide (n < m) := by
  rw [BitVec.slt_eq_decide, BitVec.toInt_eq_toNat_of_lt (by rw [BitVec.toNat_ofNat]; omega), BitVec.toInt_eq_toNat_of_lt (by rw [BitVec.toNat_ofNat]; omega)]
  simp only [BitVec.toNat_ofNat]
  congr 1
  apply propext
  omega

theorem clamp_word (n : ℕ) (hn : n < 4096) : (IntOp.minsi (BitVec.ofNat 32 n) 415#32).toNat = min n 415 := by
  show (if (BitVec.ofNat 32 n).slt (BitVec.ofNat 32 415) then BitVec.ofNat 32 n else 415#32).toNat = _
  rw [small_slt n 415 hn (by omega)]
  by_cases h : n < 415
  · rw [if_pos (by simpa using h), BitVec.toNat_ofNat]; omega
  · rw [if_neg (by simpa using h)]; simp; omega

theorem below_word (n : ℕ) (hn : n < 4096) : IntOp.cmpi .slt (BitVec.ofNat 32 n) 409#32 = 1#1 ↔ n < 409 := by
  show BitVec.ofBool ((BitVec.ofNat 32 n).slt (BitVec.ofNat 32 409)) = 1#1 ↔ _
  rw [small_slt n 409 hn (by omega)]
  by_cases h : n < 409 <;> simp [h]

/-! ## Scatters into a tile's buffers -/

theorem scat_H (f : Buf (Elt F) (sH.view.loc (V d (cV L) (jV L)))) (idx v : IVec S16 32) (mask : IVec S16 1) (h) (hs)
    {α : Type} (k : PUnit → Prog (TpuEff nD τ sig (Elt F) Λ₀ (.scVector (cV L) (jV L))) α) (Q : α → sProp (MM F)) :
    iprop(tpt d L sH f ∗ (tpt d L sH (storeIdx (F := F) (e := .i32) f ![idx] v mask false h) -∗ WP d L (k ⟨⟩) Q))
      ⊢ WP d L (SparseCore.vectorStoreIdx (F := F) sH ![idx] v mask false h hs >>= k) Q := by
  unfold WP
  iintro ⟨H, Hk⟩
  iapply (SparseCore.wp_vectorStoreIdx 𝒱₀ (V d (cV L) (jV L)) none Set.univ (base := sH) (f := f)) $$ [H]
  · iapply (Entails.of_eq (show tpt d L sH f = ((sH.access (Rect.whole S4096)).loc (V d (cV L) (jV L)) ↦[(sH.access (Rect.whole S4096)).set]{fullShare} f)
      from congrArg (fun S => (sH.view.loc (V d (cV L) (jV L)) ↦[S]{fullShare} f : sProp (MM F))) (Memref.set_access_whole cc1_scratch4).symm)) $$ H
  iintro H
  iapply Hk
  iapply (Entails.of_eq (show ((sH.access (Rect.whole S4096)).loc (V d (cV L) (jV L)) ↦[(sH.access (Rect.whole S4096)).set]{fullShare}
        ((sH.access (Rect.whole S4096)).write (Elt F) f (storeIdx (F := F) (e := .i32) ((sH.access (Rect.whole S4096)).read (Elt F) f) ![idx] v mask false h) Finset.univ))
      = tpt d L sH (storeIdx (F := F) (e := .i32) f ![idx] v mask false h)
      from congrArg₂ (fun S g => (sH.view.loc (V d (cV L) (jV L)) ↦[S]{fullShare} g : sProp (MM F))) (Memref.set_access_whole cc1_scratch4)
        ((Memref.write_access_whole_univ (Elt F) cc1_scratch4 f _).trans
          (congrArg (fun r => storeIdx (F := F) (e := .i32) r ![idx] v mask false h) (Memref.read_access_whole (Elt F) cc1_scratch4 f))))) $$ H

/-- One chunk of a trip counted into the chunk's sixteen places. -/
theorem count_chunk {w : ℕ → ℕ} {e : ℕ} (c : ℕ) (b : BitVec 32) (hb : b = BitVec.ofNat 32 (16 * c)) (hc : 16 * (c + 1) ≤ e) (he : e ≤ 4096)
    (f : Buf (Elt F) (sH.view.loc (V d (cV L) (jV L)))) (hf : Hist w e c f) (g : IVec S16 32)
    (hw : ∀ p, w p < 16) (hg : ∀ i : Fin 16, (g (ln i)).toNat = w (16 * c + i.val)) (h) (hs)
    {α : Type} (k : PUnit → Prog (TpuEff nD τ sig (Elt F) Λ₀ (.scVector (cV L) (jV L))) α) (Q : α → sProp (MM F)) :
    iprop(tpt d L sH f ∗ (∀ f', ⌜Hist w e (c + 1) f'⌝ -∗ tpt d L sH f' -∗ WP d L (k ⟨⟩) Q))
      ⊢ WP d L (SparseCore.vectorStoreIdx (F := F) sH ![addi (broadcast S16 b) g] (scanCount allOn g).2 (scanCount allOn g).1 false h hs >>= k) Q := by
  subst hb
  iintro ⟨H, Hk⟩
  iapply (scat_H d L f _ _ _ _ _ k Q)
  isplitl [H]
  · iexact H
  iintro H
  ispecialize Hk $$ %_ %(hist_step (F := F) hc he hf g hw hg h)
  iapply Hk
  iexact H

theorem scat_I (f : Buf (Elt F) (sI.view.loc (V d (cV L) (jV L)))) (idx v : IVec S16 32) (mask : IVec S16 1) (h) (hs)
    {α : Type} (k : PUnit → Prog (TpuEff nD τ sig (Elt F) Λ₀ (.scVector (cV L) (jV L))) α) (Q : α → sProp (MM F)) :
    iprop(tpt d L sI f ∗ (tpt d L sI (storeIdx (F := F) (e := .i32) f ![idx] v mask false h) -∗ WP d L (k ⟨⟩) Q))
      ⊢ WP d L (SparseCore.vectorStoreIdx (F := F) sI ![idx] v mask false h hs >>= k) Q := by
  unfold WP
  iintro ⟨H, Hk⟩
  iapply (SparseCore.wp_vectorStoreIdx 𝒱₀ (V d (cV L) (jV L)) none Set.univ (base := sI) (f := f)) $$ [H]
  · iapply (Entails.of_eq (show tpt d L sI f = ((sI.access (Rect.whole S416)).loc (V d (cV L) (jV L)) ↦[(sI.access (Rect.whole S416)).set]{fullShare} f)
      from congrArg (fun S => (sI.view.loc (V d (cV L) (jV L)) ↦[S]{fullShare} f : sProp (MM F))) (Memref.set_access_whole cc1_scratch3).symm)) $$ H
  iintro H
  iapply Hk
  iapply (Entails.of_eq (show ((sI.access (Rect.whole S416)).loc (V d (cV L) (jV L)) ↦[(sI.access (Rect.whole S416)).set]{fullShare}
        ((sI.access (Rect.whole S416)).write (Elt F) f (storeIdx (F := F) (e := .i32) ((sI.access (Rect.whole S416)).read (Elt F) f) ![idx] v mask false h) Finset.univ))
      = tpt d L sI (storeIdx (F := F) (e := .i32) f ![idx] v mask false h)
      from congrArg₂ (fun S g => (sI.view.loc (V d (cV L) (jV L)) ↦[S]{fullShare} g : sProp (MM F))) (Memref.set_access_whole cc1_scratch3)
        ((Memref.write_access_whole_univ (Elt F) cc1_scratch3 f _).trans
          (congrArg (fun r => storeIdx (F := F) (e := .i32) r ![idx] v mask false h) (Memref.read_access_whole (Elt F) cc1_scratch3 f))))) $$ H

/-- One chunk's positions placed at their ranks. -/
theorem place_chunk {w : ℕ → ℕ} (c : ℕ) (b : BitVec 32) (hb : b = BitVec.ofNat 32 (16 * c)) (hc : 16 * (c + 1) ≤ 4096)
    (f : Buf (Elt F) (sI.view.loc (V d (cV L) (jV L)))) (hf : Placed w (16 * c) f) (R v2 : IVec S16 32)
    (hR : ∀ i : Fin 16, R (ln i) = BitVec.ofNat 32 (rank w 4096 (16 * c + i.val))) (h2 : ∀ i : Fin 16, v2 (ln i) = BitVec.ofNat 32 i.val) (h) (hs)
    {α : Type} (k : PUnit → Prog (TpuEff nD τ sig (Elt F) Λ₀ (.scVector (cV L) (jV L))) α) (Q : α → sProp (MM F)) :
    iprop(tpt d L sI f ∗ (∀ f', ⌜Placed w (16 * (c + 1)) f'⌝ -∗ tpt d L sI f' -∗ WP d L (k ⟨⟩) Q))
      ⊢ WP d L (SparseCore.vectorStoreIdx (F := F) sI ![minsi R (broadcast S16 415#32)] (addi (broadcast S16 b) v2) (cmpi .slt R (broadcast S16 409#32)) false h hs >>= k) Q := by
  subst hb
  iintro ⟨H, Hk⟩
  iapply (scat_I d L f _ _ _ _ _ k Q)
  isplitl [H]
  · iexact H
  iintro H
  have hlt : ∀ i : Fin 16, rank w 4096 (16 * c + i.val) < 4096 := fun i => rank_lt w 4096 _ (by omega)
  ispecialize Hk $$ %_ %(place_step (F := F) hc hf (minsi R (broadcast S16 415#32)) (addi (broadcast S16 (BitVec.ofNat 32 (16 * c))) v2) (cmpi .slt R (broadcast S16 409#32))
    (fun i => (congrArg (fun x => (IntOp.minsi x 415#32).toNat) (hR i)).trans (clamp_word _ (hlt i)))
    (fun i => (Eq.congr_left (congrArg (fun x => IntOp.cmpi .slt x 409#32) (hR i))).trans (below_word _ (hlt i)))
    (fun i => (congrArg (fun x => IntOp.addi (BitVec.ofNat 32 (16 * c)) x) (h2 i)).trans (addi_ofNat _ _)) h)
  iapply Hk
  iexact H

theorem clamp_lt (R : IVec S16 32) (n : Fin 16 → ℕ) (hn : ∀ i, n i < 4096) (hR : ∀ i : Fin 16, R (ln i) = BitVec.ofNat 32 (n i)) :
    ∀ a x, ((![minsi R (broadcast S16 415#32)] : Fin 1 → IVec S16 32) a x).toNat < S416.size a := by
  intro a x
  obtain rfl : a = 0 := Subsingleton.elim _ _
  show (IntOp.minsi (R x) 415#32).toNat < 416
  rw [← ln_eta x, hR, clamp_word _ (hn _)]
  omega

end Cert.Proof.Sparsity

end
-- ==== Proof.Scan.lean ====
module

public import proofs.«01_k».proof.Proof.Hist

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid1.Coords)

/-! # Loop 1: scores, slots and chunk counts of a row -/

/-- The score of position `p`: the table's entry at its id. -/
def scoreT (fX : S4096.Idx → BitVec 32) (fSt : S16.Idx → F .f32) (p : ℕ) : F .f32 := fSt (ent (fX (pos p)).toNat)

/-- The slot of position `p`. -/
def slotT (fX : S4096.Idx → BitVec 32) (fSl : S16.Idx → BitVec 32) (p : ℕ) : BitVec 32 := fSl (ent (fX (pos p)).toNat)

/-- The slot as a number. -/
def wordT (fX : S4096.Idx → BitVec 32) (fSl : S16.Idx → BitVec 32) (p : ℕ) : ℕ := (slotT fX fSl p).toNat

theorem gather_at {e : EltTy} (fT : S16.Idx → Elt F e) (v : IVec S16 32) (h) (i : Fin 16) :
    loadIdx (F := F) (s := S16) (t := S16) fT ![v] h (ln i) = fT (ent (v (ln i)).toNat) :=
  congrArg fT (ent_eq _ _ rfl)

/-- Counted up to `n`, zero from `n` on. -/
def zeroT (w : ℕ → ℕ) (n p : ℕ) : BitVec 32 := if p < n then grpT w p else 0#32

def S1 (fX : S4096.Idx → BitVec 32) (fSt : S16.Idx → F .f32) (fSl : S16.Idx → BitVec 32) (k : ℕ) (fS : S4096.Idx → F .f32) (fG fH : S4096.Idx → BitVec 32) : Prop :=
  UpTo (128 * k) (scoreT fX fSt) fS ∧ UpTo (128 * k) (slotT fX fSl) fG ∧ UpTo (128 * k) (grpT (wordT fX fSl)) fH

def inv1 (fX : S4096.Idx → BitVec 32) (fSt : S16.Idx → F .f32) (fSl : S16.Idx → BitVec 32) (k : ℕ) : sProp (MM F) :=
  iprop(∃ fS fG fH, ⌜S1 fX fSt fSl k fS fG fH⌝ ∗ tpt (F := F) d L sX fX ∗ tpt (F := F) d L sSc fS ∗ tpt (F := F) d L sG fG ∗ tpt (F := F) d L sH fH
    ∗ tpt (F := F) d L sStab fSt ∗ tpt (F := F) d L sSlot fSl)

set_option maxHeartbeats 2000000 in
theorem trip1 (fX : S4096.Idx → BitVec 32) (fSt : S16.Idx → F .f32) (fSl : S16.Idx → BitVec 32) (hx : ∀ x, (fX x).toNat < 16) (hsl : ∀ x, (fSl x).toNat < 16)
    (v2 : IVec S16 32) (k : Fin k1_t1_loop.trips) (Q : Unit → sProp (MM F)) :
    iprop(inv1 d L fX fSt fSl k.val ∗ (∀ r, inv1 d L fX fSt fSl (k.val + 1) -∗ Q r)) ⊢ WP d L (B1 (F := F) L v2 k1_pay125 k ()) Q := by
  have hk : k.val < 32 := k.isLt
  have hX : ∀ (u : Fin 8) (i : Fin 16), View.readAt (Elt F) sX.view (Rect.unit (s := S4096) (k1_off2 k (BitVec.ofNat 32 u.val)) S16.size (k1_off2_inb k u)).toLoadRect fX (ln i)
      = fX (pos (128 * k.val + 16 * u.val + i.val)) := fun u i => chunk_load (Val := Elt F) sX.view fX _ (k1_off2_inb k u) _ (k1_off2_eq k u) i
  have hc : ∀ (u : Fin 8) a x, ((![View.readAt (Elt F) sX.view (Rect.unit (s := S4096) (k1_off2 k (BitVec.ofNat 32 u.val)) S16.size (k1_off2_inb k u)).toLoadRect fX] : Fin 1 → IVec S16 32) a x).toNat < S16.size a := by
    intro u a x
    obtain rfl : a = 0 := Subsingleton.elim _ _
    show (View.readAt (Elt F) sX.view (Rect.unit (s := S4096) (k1_off2 k (BitVec.ofNat 32 u.val)) S16.size (k1_off2_inb k u)).toLoadRect fX x).toNat < 16
    rw [← ln_eta x, hX]
    exact hx _
  have x0 : k1_chk1 (View.readAt (Elt F) sX.view (Rect.unit (s := S4096) (k1_off2 k 0#32) S16.size (k1_off2_inb k 0)).toLoadRect fX) := ⟨hc 0, hc 0⟩
  have x1 : k1_chk2 (View.readAt (Elt F) sX.view (Rect.unit (s := S4096) (k1_off2 k 1#32) S16.size (k1_off2_inb k 1)).toLoadRect fX) := ⟨hc 1, hc 1⟩
  have x2 : k1_chk3 (View.readAt (Elt F) sX.view (Rect.unit (s := S4096) (k1_off2 k 2#32) S16.size (k1_off2_inb k 2)).toLoadRect fX) := ⟨hc 2, hc 2⟩
  have x3 : k1_chk4 (View.readAt (Elt F) sX.view (Rect.unit (s := S4096) (k1_off2 k 3#32) S16.size (k1_off2_inb k 3)).toLoadRect fX) := ⟨hc 3, hc 3⟩
  have x4 : k1_chk5 (View.readAt (Elt F) sX.view (Rect.unit (s := S4096) (k1_off2 k 4#32) S16.size (k1_off2_inb k 4)).toLoadRect fX) := ⟨hc 4, hc 4⟩
  have x5 : k1_chk6 (View.readAt (Elt F) sX.view (Rect.unit (s := S4096) (k1_off2 k 5#32) S16.size (k1_off2_inb k 5)).toLoadRect fX) := ⟨hc 5, hc 5⟩
  have x6 : k1_chk7 (View.readAt (Elt F) sX.view (Rect.unit (s := S4096) (k1_off2 k 6#32) S16.size (k1_off2_inb k 6)).toLoadRect fX) := ⟨hc 6, hc 6⟩
  have x7 : k1_chk8 (View.readAt (Elt F) sX.view (Rect.unit (s := S4096) (k1_off2 k 7#32) S16.size (k1_off2_inb k 7)).toLoadRect fX) := ⟨hc 7, hc 7⟩
  unfold WP B1 k1_t1_body inv1
  iintro ⟨⟨%fS, %fG, %fH, %hf, HX, HS, HG, H, HSt, HSl⟩, Hk⟩
  simp only [k1_part1_eq_skeleton, k1_part2_eq_skeleton, k1_part3_eq_skeleton]; unfold k1_part1_skel k1_part2_skel k1_part3_skel
  simp only [SparseCore.vectorLoadIdx]
  sl_exec
  dsimp only
  generalize hg0 : loadIdx (View.readAt (Elt F) (View.whole cc1_scratch6) (LoadRect.whole S16) fSl) ![(View.readAt (Elt F) (View.whole cc1_scratch0) (Rect.unit (s := S4096) (k1_off2 k 0#32) S16.size (k1_off2_inb k 0)).toLoadRect fX)] _ = g0
  generalize hs0 : loadIdx (View.readAt (Elt F) (View.whole cc1_scratch5) (LoadRect.whole S16) fSt) ![(View.readAt (Elt F) (View.whole cc1_scratch0) (Rect.unit (s := S4096) (k1_off2 k 0#32) S16.size (k1_off2_inb k 0)).toLoadRect fX)] _ = s0
  generalize hg1 : loadIdx (View.readAt (Elt F) (View.whole cc1_scratch6) (LoadRect.whole S16) fSl) ![(View.readAt (Elt F) (View.whole cc1_scratch0) (Rect.unit (s := S4096) (k1_off2 k 1#32) S16.size (k1_off2_inb k 1)).toLoadRect fX)] _ = g1
  generalize hs1 : loadIdx (View.readAt (Elt F) (View.whole cc1_scratch5) (LoadRect.whole S16) fSt) ![(View.readAt (Elt F) (View.whole cc1_scratch0) (Rect.unit (s := S4096) (k1_off2 k 1#32) S16.size (k1_off2_inb k 1)).toLoadRect fX)] _ = s1
  generalize hg2 : loadIdx (View.readAt (Elt F) (View.whole cc1_scratch6) (LoadRect.whole S16) fSl) ![(View.readAt (Elt F) (View.whole cc1_scratch0) (Rect.unit (s := S4096) (k1_off2 k 2#32) S16.size (k1_off2_inb k 2)).toLoadRect fX)] _ = g2
  generalize hs2 : loadIdx (View.readAt (Elt F) (View.whole cc1_scratch5) (LoadRect.whole S16) fSt) ![(View.readAt (Elt F) (View.whole cc1_scratch0) (Rect.unit (s := S4096) (k1_off2 k 2#32) S16.size (k1_off2_inb k 2)).toLoadRect fX)] _ = s2
  generalize hg3 : loadIdx (View.readAt (Elt F) (View.whole cc1_scratch6) (LoadRect.whole S16) fSl) ![(View.readAt (Elt F) (View.whole cc1_scratch0) (Rect.unit (s := S4096) (k1_off2 k 3#32) S16.size (k1_off2_inb k 3)).toLoadRect fX)] _ = g3
  generalize hs3 : loadIdx (View.readAt (Elt F) (View.whole cc1_scratch5) (LoadRect.whole S16) fSt) ![(View.readAt (Elt F) (View.whole cc1_scratch0) (Rect.unit (s := S4096) (k1_off2 k 3#32) S16.size (k1_off2_inb k 3)).toLoadRect fX)] _ = s3
  generalize hg4 : loadIdx (View.readAt (Elt F) (View.whole cc1_scratch6) (LoadRect.whole S16) fSl) ![(View.readAt (Elt F) (View.whole cc1_scratch0) (Rect.unit (s := S4096) (k1_off2 k 4#32) S16.size (k1_off2_inb k 4)).toLoadRect fX)] _ = g4
  generalize hs4 : loadIdx (View.readAt (Elt F) (View.whole cc1_scratch5) (LoadRect.whole S16) fSt) ![(View.readAt (Elt F) (View.whole cc1_scratch0) (Rect.unit (s := S4096) (k1_off2 k 4#32) S16.size (k1_off2_inb k 4)).toLoadRect fX)] _ = s4
  generalize hg5 : loadIdx (View.readAt (Elt F) (View.whole cc1_scratch6) (LoadRect.whole S16) fSl) ![(View.readAt (Elt F) (View.whole cc1_scratch0) (Rect.unit (s := S4096) (k1_off2 k 5#32) S16.size (k1_off2_inb k 5)).toLoadRect fX)] _ = g5
  generalize hs5 : loadIdx (View.readAt (Elt F) (View.whole cc1_scratch5) (LoadRect.whole S16) fSt) ![(View.readAt (Elt F) (View.whole cc1_scratch0) (Rect.unit (s := S4096) (k1_off2 k 5#32) S16.size (k1_off2_inb k 5)).toLoadRect fX)] _ = s5
  generalize hg6 : loadIdx (View.readAt (Elt F) (View.whole cc1_scratch6) (LoadRect.whole S16) fSl) ![(View.readAt (Elt F) (View.whole cc1_scratch0) (Rect.unit (s := S4096) (k1_off2 k 6#32) S16.size (k1_off2_inb k 6)).toLoadRect fX)] _ = g6
  generalize hs6 : loadIdx (View.readAt (Elt F) (View.whole cc1_scratch5) (LoadRect.whole S16) fSt) ![(View.readAt (Elt F) (View.whole cc1_scratch0) (Rect.unit (s := S4096) (k1_off2 k 6#32) S16.size (k1_off2_inb k 6)).toLoadRect fX)] _ = s6
  generalize hg7 : loadIdx (View.readAt (Elt F) (View.whole cc1_scratch6) (LoadRect.whole S16) fSl) ![(View.readAt (Elt F) (View.whole cc1_scratch0) (Rect.unit (s := S4096) (k1_off2 k 7#32) S16.size (k1_off2_inb k 7)).toLoadRect fX)] _ = g7
  generalize hs7 : loadIdx (View.readAt (Elt F) (View.whole cc1_scratch5) (LoadRect.whole S16) fSt) ![(View.readAt (Elt F) (View.whole cc1_scratch0) (Rect.unit (s := S4096) (k1_off2 k 7#32) S16.size (k1_off2_inb k 7)).toLoadRect fX)] _ = s7
  have hgs : ∀ (u : Fin 8) (g : IVec S16 32) (h), loadIdx (F := F) (s := S16) (t := S16) (e := .i32) fSl ![View.readAt (Elt F) sX.view (Rect.unit (s := S4096) (k1_off2 k (BitVec.ofNat 32 u.val)) S16.size (k1_off2_inb k u)).toLoadRect fX] h = g →
      ∀ i : Fin 16, g (ln i) = slotT fX fSl (128 * k.val + 16 * u.val + i.val) := by
    intro u g h hg i
    rw [← hg, gather_at, hX]
    rfl
  have hss : ∀ (u : Fin 8) (g : FVec F S16 .f32) (h), loadIdx (F := F) (s := S16) (t := S16) (e := .f32) fSt ![View.readAt (Elt F) sX.view (Rect.unit (s := S4096) (k1_off2 k (BitVec.ofNat 32 u.val)) S16.size (k1_off2_inb k u)).toLoadRect fX] h = g →
      ∀ i : Fin 16, g (ln i) = scoreT fX fSt (128 * k.val + 16 * u.val + i.val) := by
    intro u g h hg i
    rw [← hg, gather_at, hX]
    rfl
  rw [show View.readAt (Elt F) (View.whole cc1_scratch6) (LoadRect.whole S16) fSl = fSl from Memref.readAt_whole (Elt F) cc1_scratch6 fSl] at hg0 hg1 hg2 hg3 hg4 hg5 hg6 hg7
  rw [show View.readAt (Elt F) (View.whole cc1_scratch5) (LoadRect.whole S16) fSt = fSt from Memref.readAt_whole (Elt F) cc1_scratch5 fSt] at hs0 hs1 hs2 hs3 hs4 hs5 hs6 hs7
  have hw : ∀ p, wordT fX fSl p < 16 := fun p => hsl _
  have G0 := hgs 0 g0 _ hg0
  have E0 := hss 0 s0 _ hs0
  have W0 : ∀ i : Fin 16, (g0 (ln i)).toNat = wordT fX fSl (16 * (8 * k.val + 0) + i.val) := fun i => by
    rw [G0 i]; unfold wordT; congr 2; show 128 * k.val + 16 * 0 + i.val = _; omega
  clear hg0 hs0
  have G1 := hgs 1 g1 _ hg1
  have E1 := hss 1 s1 _ hs1
  have W1 : ∀ i : Fin 16, (g1 (ln i)).toNat = wordT fX fSl (16 * (8 * k.val + 1) + i.val) := fun i => by
    rw [G1 i]; unfold wordT; congr 2; show 128 * k.val + 16 * 1 + i.val = _; omega
  clear hg1 hs1
  have G2 := hgs 2 g2 _ hg2
  have E2 := hss 2 s2 _ hs2
  have W2 : ∀ i : Fin 16, (g2 (ln i)).toNat = wordT fX fSl (16 * (8 * k.val + 2) + i.val) := fun i => by
    rw [G2 i]; unfold wordT; congr 2; show 128 * k.val + 16 * 2 + i.val = _; omega
  clear hg2 hs2
  have G3 := hgs 3 g3 _ hg3
  have E3 := hss 3 s3 _ hs3
  have W3 : ∀ i : Fin 16, (g3 (ln i)).toNat = wordT fX fSl (16 * (8 * k.val + 3) + i.val) := fun i => by
    rw [G3 i]; unfold wordT; congr 2; show 128 * k.val + 16 * 3 + i.val = _; omega
  clear hg3 hs3
  have G4 := hgs 4 g4 _ hg4
  have E4 := hss 4 s4 _ hs4
  have W4 : ∀ i : Fin 16, (g4 (ln i)).toNat = wordT fX fSl (16 * (8 * k.val + 4) + i.val) := fun i => by
    rw [G4 i]; unfold wordT; congr 2; show 128 * k.val + 16 * 4 + i.val = _; omega
  clear hg4 hs4
  have G5 := hgs 5 g5 _ hg5
  have E5 := hss 5 s5 _ hs5
  have W5 : ∀ i : Fin 16, (g5 (ln i)).toNat = wordT fX fSl (16 * (8 * k.val + 5) + i.val) := fun i => by
    rw [G5 i]; unfold wordT; congr 2; show 128 * k.val + 16 * 5 + i.val = _; omega
  clear hg5 hs5
  have G6 := hgs 6 g6 _ hg6
  have E6 := hss 6 s6 _ hs6
  have W6 : ∀ i : Fin 16, (g6 (ln i)).toNat = wordT fX fSl (16 * (8 * k.val + 6) + i.val) := fun i => by
    rw [G6 i]; unfold wordT; congr 2; show 128 * k.val + 16 * 6 + i.val = _; omega
  clear hg6 hs6
  have G7 := hgs 7 g7 _ hg7
  have E7 := hss 7 s7 _ hs7
  have W7 : ∀ i : Fin 16, (g7 (ln i)).toNat = wordT fX fSl (16 * (8 * k.val + 7) + i.val) := fun i => by
    rw [G7 i]; unfold wordT; congr 2; show 128 * k.val + 16 * 7 + i.val = _; omega
  clear hg7 hs7
  have c0 : k1_chk9 (k1_pay136 (Scalar.muli (Scalar.addi (Scalar.muli (Scf.iv 0#32 1#32 k.val) 8#32) 0#32) 16#32) g0) :=
    slotAt_lt' (16 * (8 * k.val + 0)) (by omega) _ (chunk_word k 0) g0 fun i => by rw [W0]; exact hw _
  have c1 : k1_chk10 (k1_pay137 (Scalar.muli (Scalar.addi (Scalar.muli (Scf.iv 0#32 1#32 k.val) 8#32) 1#32) 16#32) g1) :=
    slotAt_lt' (16 * (8 * k.val + 1)) (by omega) _ (chunk_word k 1) g1 fun i => by rw [W1]; exact hw _
  have c2 : k1_chk11 (k1_pay138 (Scalar.muli (Scalar.addi (Scalar.muli (Scf.iv 0#32 1#32 k.val) 8#32) 2#32) 16#32) g2) :=
    slotAt_lt' (16 * (8 * k.val + 2)) (by omega) _ (chunk_word k 2) g2 fun i => by rw [W2]; exact hw _
  have c3 : k1_chk12 (k1_pay139 (Scalar.muli (Scalar.addi (Scalar.muli (Scf.iv 0#32 1#32 k.val) 8#32) 3#32) 16#32) g3) :=
    slotAt_lt' (16 * (8 * k.val + 3)) (by omega) _ (chunk_word k 3) g3 fun i => by rw [W3]; exact hw _
  have c4 : k1_chk13 (k1_pay140 (Scalar.muli (Scalar.addi (Scalar.muli (Scf.iv 0#32 1#32 k.val) 8#32) 4#32) 16#32) g4) :=
    slotAt_lt' (16 * (8 * k.val + 4)) (by omega) _ (chunk_word k 4) g4 fun i => by rw [W4]; exact hw _
  have c5 : k1_chk14 (k1_pay141 (Scalar.muli (Scalar.addi (Scalar.muli (Scf.iv 0#32 1#32 k.val) 8#32) 5#32) 16#32) g5) :=
    slotAt_lt' (16 * (8 * k.val + 5)) (by omega) _ (chunk_word k 5) g5 fun i => by rw [W5]; exact hw _
  have c6 : k1_chk15 (k1_pay142 (Scalar.muli (Scalar.addi (Scalar.muli (Scf.iv 0#32 1#32 k.val) 8#32) 6#32) 16#32) g6) :=
    slotAt_lt' (16 * (8 * k.val + 6)) (by omega) _ (chunk_word k 6) g6 fun i => by rw [W6]; exact hw _
  have c7 : k1_chk16 (k1_pay143 (Scalar.muli (Scalar.addi (Scalar.muli (Scf.iv 0#32 1#32 k.val) 8#32) 7#32) 16#32) g7) :=
    slotAt_lt' (16 * (8 * k.val + 7)) (by omega) _ (chunk_word k 7) g7 fun i => by rw [W7]; exact hw _
  obtain ⟨hS, hG, hH⟩ := hf
  have nS := (upTo_eight (Val := Elt F) sSc.view fS (T := scoreT fX fSt) (n := 128 * k.val) (fun u => k1_off3 k (BitVec.ofNat 32 u.val)) (k1_off3_eq k) (fun u => k1_off3_inb k u) _ _ _ _ _ _ _ _ hS E0 E1 E2 E3 E4 E5 E6 E7).1
  have nG := (upTo_eight (Val := Elt F) sG.view fG (T := slotT fX fSl) (n := 128 * k.val) (fun u => k1_off3 k (BitVec.ofNat 32 u.val)) (k1_off3_eq k) (fun u => k1_off3_inb k u) _ _ _ _ _ _ _ _ hG G0 G1 G2 G3 G4 G5 G6 G7).1
  have hz : ∀ (u : ℕ) (i : Fin 16), (k1_pay125 : IVec S16 32) (ln i) = zeroT (wordT fX fSl) (128 * k.val) (128 * k.val + u + i.val) := fun u i => by
    unfold zeroT; rw [if_neg (by omega)]; rfl
  have nH := (upTo_eight (Val := Elt F) sH.view fH (T := zeroT (wordT fX fSl) (128 * k.val)) (n := 128 * k.val) (fun u => k1_off2 k (BitVec.ofNat 32 u.val)) (k1_off2_eq k) (fun u => k1_off2_inb k u) _ _ _ _ _ _ _ _
    (fun p hp => by show fH (pos p) = _; unfold zeroT; rw [if_pos hp]; exact hH p hp) (hz _) (hz _) (hz _) (hz _) (hz _) (hz _) (hz _) (hz _)).1
  generalize hfH : View.writes (View.whole cc1_scratch4) (Elt F) fH _ = fH0
  have P0 : Hist (wordT fX fSl) (128 * (k.val + 1)) (8 * k.val) fH0 := by
    subst hfH
    refine ⟨fun p hp => ?_, fun p hp hp' => ?_⟩
    · have := nH p (by omega)
      unfold zeroT at this
      rw [if_pos (by omega)] at this
      exact this
    · have := nH p (by omega)
      unfold zeroT at this
      rw [if_neg (by omega)] at this
      exact this
  clear hfH nH
  sl_exec
  iapply (count_chunk (w := (wordT fX fSl)) (e := 128 * (k.val + 1)) d L (8 * k.val + 0) (Scalar.muli (Scalar.addi (Scalar.muli (Scf.iv 0#32 1#32 k.val) 8#32) 0#32) 16#32)
    (chunk_word k 0) (by omega) (by omega) fH0 P0 g0 hw W0 _ _ _ _)
  isplitl [H]
  · iexact H
  iintro %fH1 %P1 H
  unfold WP
  sl_exec
  iapply (count_chunk (w := (wordT fX fSl)) (e := 128 * (k.val + 1)) d L (8 * k.val + 1) (Scalar.muli (Scalar.addi (Scalar.muli (Scf.iv 0#32 1#32 k.val) 8#32) 1#32) 16#32)
    (chunk_word k 1) (by omega) (by omega) fH1 P1 g1 hw W1 _ _ _ _)
  isplitl [H]
  · iexact H
  iintro %fH2 %P2 H
  unfold WP
  sl_exec
  iapply (count_chunk (w := (wordT fX fSl)) (e := 128 * (k.val + 1)) d L (8 * k.val + 2) (Scalar.muli (Scalar.addi (Scalar.muli (Scf.iv 0#32 1#32 k.val) 8#32) 2#32) 16#32)
    (chunk_word k 2) (by omega) (by omega) fH2 P2 g2 hw W2 _ _ _ _)
  isplitl [H]
  · iexact H
  iintro %fH3 %P3 H
  unfold WP
  sl_exec
  iapply (count_chunk (w := (wordT fX fSl)) (e := 128 * (k.val + 1)) d L (8 * k.val + 3) (Scalar.muli (Scalar.addi (Scalar.muli (Scf.iv 0#32 1#32 k.val) 8#32) 3#32) 16#32)
    (chunk_word k 3) (by omega) (by omega) fH3 P3 g3 hw W3 _ _ _ _)
  isplitl [H]
  · iexact H
  iintro %fH4 %P4 H
  unfold WP
  sl_exec
  iapply (count_chunk (w := (wordT fX fSl)) (e := 128 * (k.val + 1)) d L (8 * k.val + 4) (Scalar.muli (Scalar.addi (Scalar.muli (Scf.iv 0#32 1#32 k.val) 8#32) 4#32) 16#32)
    (chunk_word k 4) (by omega) (by omega) fH4 P4 g4 hw W4 _ _ _ _)
  isplitl [H]
  · iexact H
  iintro %fH5 %P5 H
  unfold WP
  sl_exec
  iapply (count_chunk (w := (wordT fX fSl)) (e := 128 * (k.val + 1)) d L (8 * k.val + 5) (Scalar.muli (Scalar.addi (Scalar.muli (Scf.iv 0#32 1#32 k.val) 8#32) 5#32) 16#32)
    (chunk_word k 5) (by omega) (by omega) fH5 P5 g5 hw W5 _ _ _ _)
  isplitl [H]
  · iexact H
  iintro %fH6 %P6 H
  unfold WP
  sl_exec
  iapply (count_chunk (w := (wordT fX fSl)) (e := 128 * (k.val + 1)) d L (8 * k.val + 6) (Scalar.muli (Scalar.addi (Scalar.muli (Scf.iv 0#32 1#32 k.val) 8#32) 6#32) 16#32)
    (chunk_word k 6) (by omega) (by omega) fH6 P6 g6 hw W6 _ _ _ _)
  isplitl [H]
  · iexact H
  iintro %fH7 %P7 H
  unfold WP
  sl_exec
  iapply (count_chunk (w := (wordT fX fSl)) (e := 128 * (k.val + 1)) d L (8 * k.val + 7) (Scalar.muli (Scalar.addi (Scalar.muli (Scf.iv 0#32 1#32 k.val) 8#32) 7#32) 16#32)
    (chunk_word k 7) (by omega) (by omega) fH7 P7 g7 hw W7 _ _ _ _)
  isplitl [H]
  · iexact H
  iintro %fH8 %P8 H
  unfold WP
  sl_step
  ispecialize Hk $$ %_
  iapply Hk
  iexists _, _, fH8
  isplitr
  swap
  · isplitl [HX]
    · iexact HX
    isplitl [HS]
    · iexact HS
    isplitl [HG]
    · iexact HG
    isplitl [H]
    · iexact H
    isplitl [HSt]
    · iexact HSt
    · iexact HSl
  ipureintro
  refine ⟨nS, nG, ?_⟩
  have := P8.1
  rwa [show 16 * (8 * k.val + 7 + 1) = 128 * (k.val + 1) by omega] at this

end Cert.Proof.Sparsity

end
-- ==== Proof.Place.lean ====
module

public import proofs.«01_k».proof.Proof.Hist

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid1.Coords)

/-! # Loop 4: positions placed at their ranks -/

def inv4 (w : ℕ → ℕ) (fG fH : S4096.Idx → BitVec 32) (k : ℕ) : sProp (MM F) :=
  iprop(∃ fI, ⌜Placed w (128 * k) fI⌝ ∗ tpt (F := F) d L sG fG ∗ tpt (F := F) d L sH fH ∗ tpt (F := F) d L sI fI)

theorem start_at {w : ℕ → ℕ} {c : ℕ} (hc : c < 256) {fH : S4096.Idx → BitVec 32} (hH : UpTo 4096 (plcT w) fH) (hw : ∀ p, w p < 16) (b : BitVec 32)
    (hb : b = BitVec.ofNat 32 (16 * c)) (g : IVec S16 32) (hg : ∀ i : Fin 16, (g (ln i)).toNat = w (16 * c + i.val)) (h) (i : Fin 16) :
    loadIdx (F := F) (s := S4096) (t := S16) (e := .i32) fH ![addi (broadcast S16 b) g] h (ln i)
      = BitVec.ofNat 32 (base w 4096 (w (16 * c + i.val)) + pre w (16 * c) (w (16 * c + i.val))) := by
  subst hb
  have hg' : ∀ i : Fin 16, (g (ln i)).toNat < 16 := fun i => by rw [hg]; exact hw _
  have e : idxAt (s := S4096) (t := S16) ![addi (broadcast S16 (BitVec.ofNat 32 (16 * c))) g] h (ln i) = pos (16 * c + w (16 * c + i.val)) :=
    pos_eq _ _ ((slotAt_val (16 * c) (by omega) g hg' i).trans (by rw [hg]))
  have hl := hw (16 * c + i.val)
  show fH _ = _
  rw [e, hH _ (by omega)]
  unfold plcT
  rw [show (16 * c + w (16 * c + i.val)) / 16 = c by omega, show (16 * c + w (16 * c + i.val)) % 16 = w (16 * c + i.val) by omega]

attribute [local irreducible] rank base pre

set_option maxHeartbeats 2000000 in
theorem trip4 (w : ℕ → ℕ) (fG fH : S4096.Idx → BitVec 32) (hw : ∀ p, w p < 16) (hG : ∀ p, p < 4096 → (fG (pos p)).toNat = w p) (hH : UpTo 4096 (plcT w) fH)
    (v2 v3 : IVec S16 32) (h2 : ∀ i : Fin 16, v2 (ln i) = BitVec.ofNat 32 i.val) (k : Fin k1_t4_loop.trips) (Q : Unit → sProp (MM F)) :
    iprop(inv4 d L w fG fH k.val ∗ (∀ r, inv4 d L w fG fH (k.val + 1) -∗ Q r)) ⊢ WP d L (B4 (F := F) L v2 v3 k ()) Q := by
  have hk : k.val < 32 := k.isLt
  have G0 : ∀ i : Fin 16, ((View.readAt (Elt F) sG.view (Rect.unit (s := S4096) (k1_off6 k 0#32) S16.size (k1_off6_inb k 0)).toLoadRect fG) (ln i)).toNat = w (16 * (8 * k.val + 0) + i.val) := fun i => by
    refine (congrArg BitVec.toNat (chunk_load (Val := Elt F) sG.view fG _ (k1_off6_inb k 0) (128 * k.val + 16 * 0) (k1_off6_eq k 0) i)).trans ((hG _ (by omega)).trans ?_)
    congr 1; omega
  have c0 : k1_chk17 (k1_pay23 (Scalar.muli (Scalar.addi (Scalar.muli (Scf.iv 0#32 1#32 k.val) 8#32) 0#32) 16#32) (View.readAt (Elt F) sG.view (Rect.unit (s := S4096) (k1_off6 k 0#32) S16.size (k1_off6_inb k 0)).toLoadRect fG)) :=
    slotAt_lt' (16 * (8 * k.val + 0)) (by omega) _ (chunk_word k 0) _ fun i => by rw [G0]; exact hw _
  have G1 : ∀ i : Fin 16, ((View.readAt (Elt F) sG.view (Rect.unit (s := S4096) (k1_off6 k 1#32) S16.size (k1_off6_inb k 1)).toLoadRect fG) (ln i)).toNat = w (16 * (8 * k.val + 1) + i.val) := fun i => by
    refine (congrArg BitVec.toNat (chunk_load (Val := Elt F) sG.view fG _ (k1_off6_inb k 1) (128 * k.val + 16 * 1) (k1_off6_eq k 1) i)).trans ((hG _ (by omega)).trans ?_)
    congr 1; omega
  have c1 : k1_chk18 (k1_pay24 (Scalar.muli (Scalar.addi (Scalar.muli (Scf.iv 0#32 1#32 k.val) 8#32) 1#32) 16#32) (View.readAt (Elt F) sG.view (Rect.unit (s := S4096) (k1_off6 k 1#32) S16.size (k1_off6_inb k 1)).toLoadRect fG)) :=
    slotAt_lt' (16 * (8 * k.val + 1)) (by omega) _ (chunk_word k 1) _ fun i => by rw [G1]; exact hw _
  have G2 : ∀ i : Fin 16, ((View.readAt (Elt F) sG.view (Rect.unit (s := S4096) (k1_off6 k 2#32) S16.size (k1_off6_inb k 2)).toLoadRect fG) (ln i)).toNat = w (16 * (8 * k.val + 2) + i.val) := fun i => by
    refine (congrArg BitVec.toNat (chunk_load (Val := Elt F) sG.view fG _ (k1_off6_inb k 2) (128 * k.val + 16 * 2) (k1_off6_eq k 2) i)).trans ((hG _ (by omega)).trans ?_)
    congr 1; omega
  have c2 : k1_chk19 (k1_pay25 (Scalar.muli (Scalar.addi (Scalar.muli (Scf.iv 0#32 1#32 k.val) 8#32) 2#32) 16#32) (View.readAt (Elt F) sG.view (Rect.unit (s := S4096) (k1_off6 k 2#32) S16.size (k1_off6_inb k 2)).toLoadRect fG)) :=
    slotAt_lt' (16 * (8 * k.val + 2)) (by omega) _ (chunk_word k 2) _ fun i => by rw [G2]; exact hw _
  have G3 : ∀ i : Fin 16, ((View.readAt (Elt F) sG.view (Rect.unit (s := S4096) (k1_off6 k 3#32) S16.size (k1_off6_inb k 3)).toLoadRect fG) (ln i)).toNat = w (16 * (8 * k.val + 3) + i.val) := fun i => by
    refine (congrArg BitVec.toNat (chunk_load (Val := Elt F) sG.view fG _ (k1_off6_inb k 3) (128 * k.val + 16 * 3) (k1_off6_eq k 3) i)).trans ((hG _ (by omega)).trans ?_)
    congr 1; omega
  have c3 : k1_chk20 (k1_pay26 (Scalar.muli (Scalar.addi (Scalar.muli (Scf.iv 0#32 1#32 k.val) 8#32) 3#32) 16#32) (View.readAt (Elt F) sG.view (Rect.unit (s := S4096) (k1_off6 k 3#32) S16.size (k1_off6_inb k 3)).toLoadRect fG)) :=
    slotAt_lt' (16 * (8 * k.val + 3)) (by omega) _ (chunk_word k 3) _ fun i => by rw [G3]; exact hw _
  have G4 : ∀ i : Fin 16, ((View.readAt (Elt F) sG.view (Rect.unit (s := S4096) (k1_off6 k 4#32) S16.size (k1_off6_inb k 4)).toLoadRect fG) (ln i)).toNat = w (16 * (8 * k.val + 4) + i.val) := fun i => by
    refine (congrArg BitVec.toNat (chunk_load (Val := Elt F) sG.view fG _ (k1_off6_inb k 4) (128 * k.val + 16 * 4) (k1_off6_eq k 4) i)).trans ((hG _ (by omega)).trans ?_)
    congr 1; omega
  have c4 : k1_chk21 (k1_pay27 (Scalar.muli (Scalar.addi (Scalar.muli (Scf.iv 0#32 1#32 k.val) 8#32) 4#32) 16#32) (View.readAt (Elt F) sG.view (Rect.unit (s := S4096) (k1_off6 k 4#32) S16.size (k1_off6_inb k 4)).toLoadRect fG)) :=
    slotAt_lt' (16 * (8 * k.val + 4)) (by omega) _ (chunk_word k 4) _ fun i => by rw [G4]; exact hw _
  have G5 : ∀ i : Fin 16, ((View.readAt (Elt F) sG.view (Rect.unit (s := S4096) (k1_off6 k 5#32) S16.size (k1_off6_inb k 5)).toLoadRect fG) (ln i)).toNat = w (16 * (8 * k.val + 5) + i.val) := fun i => by
    refine (congrArg BitVec.toNat (chunk_load (Val := Elt F) sG.view fG _ (k1_off6_inb k 5) (128 * k.val + 16 * 5) (k1_off6_eq k 5) i)).trans ((hG _ (by omega)).trans ?_)
    congr 1; omega
  have c5 : k1_chk22 (k1_pay28 (Scalar.muli (Scalar.addi (Scalar.muli (Scf.iv 0#32 1#32 k.val) 8#32) 5#32) 16#32) (View.readAt (Elt F) sG.view (Rect.unit (s := S4096) (k1_off6 k 5#32) S16.size (k1_off6_inb k 5)).toLoadRect fG)) :=
    slotAt_lt' (16 * (8 * k.val + 5)) (by omega) _ (chunk_word k 5) _ fun i => by rw [G5]; exact hw _
  have G6 : ∀ i : Fin 16, ((View.readAt (Elt F) sG.view (Rect.unit (s := S4096) (k1_off6 k 6#32) S16.size (k1_off6_inb k 6)).toLoadRect fG) (ln i)).toNat = w (16 * (8 * k.val + 6) + i.val) := fun i => by
    refine (congrArg BitVec.toNat (chunk_load (Val := Elt F) sG.view fG _ (k1_off6_inb k 6) (128 * k.val + 16 * 6) (k1_off6_eq k 6) i)).trans ((hG _ (by omega)).trans ?_)
    congr 1; omega
  have c6 : k1_chk23 (k1_pay29 (Scalar.muli (Scalar.addi (Scalar.muli (Scf.iv 0#32 1#32 k.val) 8#32) 6#32) 16#32) (View.readAt (Elt F) sG.view (Rect.unit (s := S4096) (k1_off6 k 6#32) S16.size (k1_off6_inb k 6)).toLoadRect fG)) :=
    slotAt_lt' (16 * (8 * k.val + 6)) (by omega) _ (chunk_word k 6) _ fun i => by rw [G6]; exact hw _
  have G7 : ∀ i : Fin 16, ((View.readAt (Elt F) sG.view (Rect.unit (s := S4096) (k1_off6 k 7#32) S16.size (k1_off6_inb k 7)).toLoadRect fG) (ln i)).toNat = w (16 * (8 * k.val + 7) + i.val) := fun i => by
    refine (congrArg BitVec.toNat (chunk_load (Val := Elt F) sG.view fG _ (k1_off6_inb k 7) (128 * k.val + 16 * 7) (k1_off6_eq k 7) i)).trans ((hG _ (by omega)).trans ?_)
    congr 1; omega
  have c7 : k1_chk24 (k1_pay30 (Scalar.muli (Scalar.addi (Scalar.muli (Scf.iv 0#32 1#32 k.val) 8#32) 7#32) 16#32) (View.readAt (Elt F) sG.view (Rect.unit (s := S4096) (k1_off6 k 7#32) S16.size (k1_off6_inb k 7)).toLoadRect fG)) :=
    slotAt_lt' (16 * (8 * k.val + 7)) (by omega) _ (chunk_word k 7) _ fun i => by rw [G7]; exact hw _
  unfold WP B4 k1_t4_body inv4
  iintro ⟨⟨%fI, %hf, HG, HH, H⟩, Hk⟩
  simp only [k1_part6_eq_skeleton, k1_part7_eq_skeleton, k1_part8_eq_skeleton, k1_part9_eq_skeleton]; unfold k1_part6_skel k1_part7_skel k1_part8_skel k1_part9_skel
  simp only [SparseCore.vectorLoadIdx, Prog.bind_assoc]
  sl_exec
  dsimp only
  generalize hq0 : loadIdx (View.readAt (Elt F) (View.whole cc1_scratch4) (LoadRect.whole S4096) fH) ![k1_pay23 (Scalar.muli (Scalar.addi (Scalar.muli (Scf.iv 0#32 1#32 k.val) 8#32) 0#32) 16#32) (View.readAt (Elt F) (View.whole cc1_scratch2) (Rect.unit (s := S4096) (k1_off6 k 0#32) S16.size (k1_off6_inb k 0)).toLoadRect fG)] _ = q0
  generalize hq1 : loadIdx (View.readAt (Elt F) (View.whole cc1_scratch4) (LoadRect.whole S4096) fH) ![k1_pay24 (Scalar.muli (Scalar.addi (Scalar.muli (Scf.iv 0#32 1#32 k.val) 8#32) 1#32) 16#32) (View.readAt (Elt F) (View.whole cc1_scratch2) (Rect.unit (s := S4096) (k1_off6 k 1#32) S16.size (k1_off6_inb k 1)).toLoadRect fG)] _ = q1
  generalize hq2 : loadIdx (View.readAt (Elt F) (View.whole cc1_scratch4) (LoadRect.whole S4096) fH) ![k1_pay25 (Scalar.muli (Scalar.addi (Scalar.muli (Scf.iv 0#32 1#32 k.val) 8#32) 2#32) 16#32) (View.readAt (Elt F) (View.whole cc1_scratch2) (Rect.unit (s := S4096) (k1_off6 k 2#32) S16.size (k1_off6_inb k 2)).toLoadRect fG)] _ = q2
  generalize hq3 : loadIdx (View.readAt (Elt F) (View.whole cc1_scratch4) (LoadRect.whole S4096) fH) ![k1_pay26 (Scalar.muli (Scalar.addi (Scalar.muli (Scf.iv 0#32 1#32 k.val) 8#32) 3#32) 16#32) (View.readAt (Elt F) (View.whole cc1_scratch2) (Rect.unit (s := S4096) (k1_off6 k 3#32) S16.size (k1_off6_inb k 3)).toLoadRect fG)] _ = q3
  generalize hq4 : loadIdx (View.readAt (Elt F) (View.whole cc1_scratch4) (LoadRect.whole S4096) fH) ![k1_pay27 (Scalar.muli (Scalar.addi (Scalar.muli (Scf.iv 0#32 1#32 k.val) 8#32) 4#32) 16#32) (View.readAt (Elt F) (View.whole cc1_scratch2) (Rect.unit (s := S4096) (k1_off6 k 4#32) S16.size (k1_off6_inb k 4)).toLoadRect fG)] _ = q4
  generalize hq5 : loadIdx (View.readAt (Elt F) (View.whole cc1_scratch4) (LoadRect.whole S4096) fH) ![k1_pay28 (Scalar.muli (Scalar.addi (Scalar.muli (Scf.iv 0#32 1#32 k.val) 8#32) 5#32) 16#32) (View.readAt (Elt F) (View.whole cc1_scratch2) (Rect.unit (s := S4096) (k1_off6 k 5#32) S16.size (k1_off6_inb k 5)).toLoadRect fG)] _ = q5
  generalize hq6 : loadIdx (View.readAt (Elt F) (View.whole cc1_scratch4) (LoadRect.whole S4096) fH) ![k1_pay29 (Scalar.muli (Scalar.addi (Scalar.muli (Scf.iv 0#32 1#32 k.val) 8#32) 6#32) 16#32) (View.readAt (Elt F) (View.whole cc1_scratch2) (Rect.unit (s := S4096) (k1_off6 k 6#32) S16.size (k1_off6_inb k 6)).toLoadRect fG)] _ = q6
  generalize hq7 : loadIdx (View.readAt (Elt F) (View.whole cc1_scratch4) (LoadRect.whole S4096) fH) ![k1_pay30 (Scalar.muli (Scalar.addi (Scalar.muli (Scf.iv 0#32 1#32 k.val) 8#32) 7#32) 16#32) (View.readAt (Elt F) (View.whole cc1_scratch2) (Rect.unit (s := S4096) (k1_off6 k 7#32) S16.size (k1_off6_inb k 7)).toLoadRect fG)] _ = q7
  rw [show View.readAt (Elt F) (View.whole cc1_scratch4) (LoadRect.whole S4096) fH = fH from Memref.readAt_whole (Elt F) cc1_scratch4 fH] at hq0 hq1 hq2 hq3 hq4 hq5 hq6 hq7
  have V0 : ∀ i : Fin 16, q0 (ln i) = BitVec.ofNat 32 (base w 4096 (w (16 * (8 * k.val + 0) + i.val)) + pre w (16 * (8 * k.val + 0)) (w (16 * (8 * k.val + 0) + i.val))) := fun i => by
    rw [← hq0]
    exact start_at (by omega) hH hw _ (chunk_word k 0) _ G0 _ i
  clear hq0
  have R0 : ∀ i : Fin 16, k1_pay31 (F := F) (k1_pay15 (View.readAt (Elt F) (View.whole cc1_scratch2) (Rect.unit (s := S4096) (k1_off6 k 0#32) S16.size (k1_off6_inb k 0)).toLoadRect fG)) q0 (ln i) = BitVec.ofNat 32 (rank w 4096 (16 * (8 * k.val + 0) + i.val)) := fun i =>
    rank_word w (View.readAt (Elt F) (View.whole cc1_scratch2) (Rect.unit (s := S4096) (k1_off6 k 0#32) S16.size (k1_off6_inb k 0)).toLoadRect fG) q0 G0 V0 i
  have e0 : k1_chk25 (k1_pay33 (k1_pay15 (View.readAt (Elt F) (View.whole cc1_scratch2) (Rect.unit (s := S4096) (k1_off6 k 0#32) S16.size (k1_off6_inb k 0)).toLoadRect fG)) q0) := clamp_lt _ (fun i => rank w 4096 (16 * (8 * k.val + 0) + i.val)) (fun i => rank_lt w 4096 _ (by omega)) R0
  have V1 : ∀ i : Fin 16, q1 (ln i) = BitVec.ofNat 32 (base w 4096 (w (16 * (8 * k.val + 1) + i.val)) + pre w (16 * (8 * k.val + 1)) (w (16 * (8 * k.val + 1) + i.val))) := fun i => by
    rw [← hq1]
    exact start_at (by omega) hH hw _ (chunk_word k 1) _ G1 _ i
  clear hq1
  have R1 : ∀ i : Fin 16, k1_pay35 (F := F) (k1_pay16 (View.readAt (Elt F) (View.whole cc1_scratch2) (Rect.unit (s := S4096) (k1_off6 k 1#32) S16.size (k1_off6_inb k 1)).toLoadRect fG)) q1 (ln i) = BitVec.ofNat 32 (rank w 4096 (16 * (8 * k.val + 1) + i.val)) := fun i =>
    rank_word w (View.readAt (Elt F) (View.whole cc1_scratch2) (Rect.unit (s := S4096) (k1_off6 k 1#32) S16.size (k1_off6_inb k 1)).toLoadRect fG) q1 G1 V1 i
  have e1 : k1_chk26 (k1_pay37 (k1_pay16 (View.readAt (Elt F) (View.whole cc1_scratch2) (Rect.unit (s := S4096) (k1_off6 k 1#32) S16.size (k1_off6_inb k 1)).toLoadRect fG)) q1) := clamp_lt _ (fun i => rank w 4096 (16 * (8 * k.val + 1) + i.val)) (fun i => rank_lt w 4096 _ (by omega)) R1
  have V2 : ∀ i : Fin 16, q2 (ln i) = BitVec.ofNat 32 (base w 4096 (w (16 * (8 * k.val + 2) + i.val)) + pre w (16 * (8 * k.val + 2)) (w (16 * (8 * k.val + 2) + i.val))) := fun i => by
    rw [← hq2]
    exact start_at (by omega) hH hw _ (chunk_word k 2) _ G2 _ i
  clear hq2
  have R2 : ∀ i : Fin 16, k1_pay39 (F := F) (k1_pay17 (View.readAt (Elt F) (View.whole cc1_scratch2) (Rect.unit (s := S4096) (k1_off6 k 2#32) S16.size (k1_off6_inb k 2)).toLoadRect fG)) q2 (ln i) = BitVec.ofNat 32 (rank w 4096 (16 * (8 * k.val + 2) + i.val)) := fun i =>
    rank_word w (View.readAt (Elt F) (View.whole cc1_scratch2) (Rect.unit (s := S4096) (k1_off6 k 2#32) S16.size (k1_off6_inb k 2)).toLoadRect fG) q2 G2 V2 i
  have e2 : k1_chk27 (k1_pay41 (k1_pay17 (View.readAt (Elt F) (View.whole cc1_scratch2) (Rect.unit (s := S4096) (k1_off6 k 2#32) S16.size (k1_off6_inb k 2)).toLoadRect fG)) q2) := clamp_lt _ (fun i => rank w 4096 (16 * (8 * k.val + 2) + i.val)) (fun i => rank_lt w 4096 _ (by omega)) R2
  have V3 : ∀ i : Fin 16, q3 (ln i) = BitVec.ofNat 32 (base w 4096 (w (16 * (8 * k.val + 3) + i.val)) + pre w (16 * (8 * k.val + 3)) (w (16 * (8 * k.val + 3) + i.val))) := fun i => by
    rw [← hq3]
    exact start_at (by omega) hH hw _ (chunk_word k 3) _ G3 _ i
  clear hq3
  have R3 : ∀ i : Fin 16, k1_pay43 (F := F) (k1_pay18 (View.readAt (Elt F) (View.whole cc1_scratch2) (Rect.unit (s := S4096) (k1_off6 k 3#32) S16.size (k1_off6_inb k 3)).toLoadRect fG)) q3 (ln i) = BitVec.ofNat 32 (rank w 4096 (16 * (8 * k.val + 3) + i.val)) := fun i =>
    rank_word w (View.readAt (Elt F) (View.whole cc1_scratch2) (Rect.unit (s := S4096) (k1_off6 k 3#32) S16.size (k1_off6_inb k 3)).toLoadRect fG) q3 G3 V3 i
  have e3 : k1_chk28 (k1_pay45 (k1_pay18 (View.readAt (Elt F) (View.whole cc1_scratch2) (Rect.unit (s := S4096) (k1_off6 k 3#32) S16.size (k1_off6_inb k 3)).toLoadRect fG)) q3) := clamp_lt _ (fun i => rank w 4096 (16 * (8 * k.val + 3) + i.val)) (fun i => rank_lt w 4096 _ (by omega)) R3
  have V4 : ∀ i : Fin 16, q4 (ln i) = BitVec.ofNat 32 (base w 4096 (w (16 * (8 * k.val + 4) + i.val)) + pre w (16 * (8 * k.val + 4)) (w (16 * (8 * k.val + 4) + i.val))) := fun i => by
    rw [← hq4]
    exact start_at (by omega) hH hw _ (chunk_word k 4) _ G4 _ i
  clear hq4
  have R4 : ∀ i : Fin 16, k1_pay47 (F := F) (k1_pay19 (View.readAt (Elt F) (View.whole cc1_scratch2) (Rect.unit (s := S4096) (k1_off6 k 4#32) S16.size (k1_off6_inb k 4)).toLoadRect fG)) q4 (ln i) = BitVec.ofNat 32 (rank w 4096 (16 * (8 * k.val + 4) + i.val)) := fun i =>
    rank_word w (View.readAt (Elt F) (View.whole cc1_scratch2) (Rect.unit (s := S4096) (k1_off6 k 4#32) S16.size (k1_off6_inb k 4)).toLoadRect fG) q4 G4 V4 i
  have e4 : k1_chk29 (k1_pay49 (k1_pay19 (View.readAt (Elt F) (View.whole cc1_scratch2) (Rect.unit (s := S4096) (k1_off6 k 4#32) S16.size (k1_off6_inb k 4)).toLoadRect fG)) q4) := clamp_lt _ (fun i => rank w 4096 (16 * (8 * k.val + 4) + i.val)) (fun i => rank_lt w 4096 _ (by omega)) R4
  have V5 : ∀ i : Fin 16, q5 (ln i) = BitVec.ofNat 32 (base w 4096 (w (16 * (8 * k.val + 5) + i.val)) + pre w (16 * (8 * k.val + 5)) (w (16 * (8 * k.val + 5) + i.val))) := fun i => by
    rw [← hq5]
    exact start_at (by omega) hH hw _ (chunk_word k 5) _ G5 _ i
  clear hq5
  have R5 : ∀ i : Fin 16, k1_pay51 (F := F) (k1_pay20 (View.readAt (Elt F) (View.whole cc1_scratch2) (Rect.unit (s := S4096) (k1_off6 k 5#32) S16.size (k1_off6_inb k 5)).toLoadRect fG)) q5 (ln i) = BitVec.ofNat 32 (rank w 4096 (16 * (8 * k.val + 5) + i.val)) := fun i =>
    rank_word w (View.readAt (Elt F) (View.whole cc1_scratch2) (Rect.unit (s := S4096) (k1_off6 k 5#32) S16.size (k1_off6_inb k 5)).toLoadRect fG) q5 G5 V5 i
  have e5 : k1_chk30 (k1_pay53 (k1_pay20 (View.readAt (Elt F) (View.whole cc1_scratch2) (Rect.unit (s := S4096) (k1_off6 k 5#32) S16.size (k1_off6_inb k 5)).toLoadRect fG)) q5) := clamp_lt _ (fun i => rank w 4096 (16 * (8 * k.val + 5) + i.val)) (fun i => rank_lt w 4096 _ (by omega)) R5
  have V6 : ∀ i : Fin 16, q6 (ln i) = BitVec.ofNat 32 (base w 4096 (w (16 * (8 * k.val + 6) + i.val)) + pre w (16 * (8 * k.val + 6)) (w (16 * (8 * k.val + 6) + i.val))) := fun i => by
    rw [← hq6]
    exact start_at (by omega) hH hw _ (chunk_word k 6) _ G6 _ i
  clear hq6
  have R6 : ∀ i : Fin 16, k1_pay55 (F := F) (k1_pay21 (View.readAt (Elt F) (View.whole cc1_scratch2) (Rect.unit (s := S4096) (k1_off6 k 6#32) S16.size (k1_off6_inb k 6)).toLoadRect fG)) q6 (ln i) = BitVec.ofNat 32 (rank w 4096 (16 * (8 * k.val + 6) + i.val)) := fun i =>
    rank_word w (View.readAt (Elt F) (View.whole cc1_scratch2) (Rect.unit (s := S4096) (k1_off6 k 6#32) S16.size (k1_off6_inb k 6)).toLoadRect fG) q6 G6 V6 i
  have e6 : k1_chk31 (k1_pay57 (k1_pay21 (View.readAt (Elt F) (View.whole cc1_scratch2) (Rect.unit (s := S4096) (k1_off6 k 6#32) S16.size (k1_off6_inb k 6)).toLoadRect fG)) q6) := clamp_lt _ (fun i => rank w 4096 (16 * (8 * k.val + 6) + i.val)) (fun i => rank_lt w 4096 _ (by omega)) R6
  have V7 : ∀ i : Fin 16, q7 (ln i) = BitVec.ofNat 32 (base w 4096 (w (16 * (8 * k.val + 7) + i.val)) + pre w (16 * (8 * k.val + 7)) (w (16 * (8 * k.val + 7) + i.val))) := fun i => by
    rw [← hq7]
    exact start_at (by omega) hH hw _ (chunk_word k 7) _ G7 _ i
  clear hq7
  have R7 : ∀ i : Fin 16, k1_pay59 (F := F) (k1_pay22 (View.readAt (Elt F) (View.whole cc1_scratch2) (Rect.unit (s := S4096) (k1_off6 k 7#32) S16.size (k1_off6_inb k 7)).toLoadRect fG)) q7 (ln i) = BitVec.ofNat 32 (rank w 4096 (16 * (8 * k.val + 7) + i.val)) := fun i =>
    rank_word w (View.readAt (Elt F) (View.whole cc1_scratch2) (Rect.unit (s := S4096) (k1_off6 k 7#32) S16.size (k1_off6_inb k 7)).toLoadRect fG) q7 G7 V7 i
  have e7 : k1_chk32 (k1_pay61 (k1_pay22 (View.readAt (Elt F) (View.whole cc1_scratch2) (Rect.unit (s := S4096) (k1_off6 k 7#32) S16.size (k1_off6_inb k 7)).toLoadRect fG)) q7) := clamp_lt _ (fun i => rank w 4096 (16 * (8 * k.val + 7) + i.val)) (fun i => rank_lt w 4096 _ (by omega)) R7
  have P0 : Placed w (16 * (8 * k.val)) fI := by rw [show 16 * (8 * k.val) = 128 * k.val by omega]; exact hf
  sl_exec
  try dsimp only
  iapply (place_chunk (w := w) d L (8 * k.val + 0) (Scalar.muli (Scalar.addi (Scalar.muli (Scf.iv 0#32 1#32 k.val) 8#32) 0#32) 16#32) (chunk_word k 0) (by omega) fI P0 (k1_pay31 (F := F) (k1_pay15 (View.readAt (Elt F) (View.whole cc1_scratch2) (Rect.unit (s := S4096) (k1_off6 k 0#32) S16.size (k1_off6_inb k 0)).toLoadRect fG)) q0) v2 R0 h2 _ _ _ _)
  isplitl [H]
  · iexact H
  iintro %fI1 %P1 H
  unfold WP
  sl_exec
  try dsimp only
  iapply (place_chunk (w := w) d L (8 * k.val + 1) (Scalar.muli (Scalar.addi (Scalar.muli (Scf.iv 0#32 1#32 k.val) 8#32) 1#32) 16#32) (chunk_word k 1) (by omega) fI1 P1 (k1_pay35 (F := F) (k1_pay16 (View.readAt (Elt F) (View.whole cc1_scratch2) (Rect.unit (s := S4096) (k1_off6 k 1#32) S16.size (k1_off6_inb k 1)).toLoadRect fG)) q1) v2 R1 h2 _ _ _ _)
  isplitl [H]
  · iexact H
  iintro %fI2 %P2 H
  unfold WP
  sl_exec
  try dsimp only
  iapply (place_chunk (w := w) d L (8 * k.val + 2) (Scalar.muli (Scalar.addi (Scalar.muli (Scf.iv 0#32 1#32 k.val) 8#32) 2#32) 16#32) (chunk_word k 2) (by omega) fI2 P2 (k1_pay39 (F := F) (k1_pay17 (View.readAt (Elt F) (View.whole cc1_scratch2) (Rect.unit (s := S4096) (k1_off6 k 2#32) S16.size (k1_off6_inb k 2)).toLoadRect fG)) q2) v2 R2 h2 _ _ _ _)
  isplitl [H]
  · iexact H
  iintro %fI3 %P3 H
  unfold WP
  sl_exec
  try dsimp only
  iapply (place_chunk (w := w) d L (8 * k.val + 3) (Scalar.muli (Scalar.addi (Scalar.muli (Scf.iv 0#32 1#32 k.val) 8#32) 3#32) 16#32) (chunk_word k 3) (by omega) fI3 P3 (k1_pay43 (F := F) (k1_pay18 (View.readAt (Elt F) (View.whole cc1_scratch2) (Rect.unit (s := S4096) (k1_off6 k 3#32) S16.size (k1_off6_inb k 3)).toLoadRect fG)) q3) v2 R3 h2 _ _ _ _)
  isplitl [H]
  · iexact H
  iintro %fI4 %P4 H
  unfold WP
  sl_exec
  try dsimp only
  iapply (place_chunk (w := w) d L (8 * k.val + 4) (Scalar.muli (Scalar.addi (Scalar.muli (Scf.iv 0#32 1#32 k.val) 8#32) 4#32) 16#32) (chunk_word k 4) (by omega) fI4 P4 (k1_pay47 (F := F) (k1_pay19 (View.readAt (Elt F) (View.whole cc1_scratch2) (Rect.unit (s := S4096) (k1_off6 k 4#32) S16.size (k1_off6_inb k 4)).toLoadRect fG)) q4) v2 R4 h2 _ _ _ _)
  isplitl [H]
  · iexact H
  iintro %fI5 %P5 H
  unfold WP
  sl_exec
  try dsimp only
  iapply (place_chunk (w := w) d L (8 * k.val + 5) (Scalar.muli (Scalar.addi (Scalar.muli (Scf.iv 0#32 1#32 k.val) 8#32) 5#32) 16#32) (chunk_word k 5) (by omega) fI5 P5 (k1_pay51 (F := F) (k1_pay20 (View.readAt (Elt F) (View.whole cc1_scratch2) (Rect.unit (s := S4096) (k1_off6 k 5#32) S16.size (k1_off6_inb k 5)).toLoadRect fG)) q5) v2 R5 h2 _ _ _ _)
  isplitl [H]
  · iexact H
  iintro %fI6 %P6 H
  unfold WP
  sl_exec
  try dsimp only
  iapply (place_chunk (w := w) d L (8 * k.val + 6) (Scalar.muli (Scalar.addi (Scalar.muli (Scf.iv 0#32 1#32 k.val) 8#32) 6#32) 16#32) (chunk_word k 6) (by omega) fI6 P6 (k1_pay55 (F := F) (k1_pay21 (View.readAt (Elt F) (View.whole cc1_scratch2) (Rect.unit (s := S4096) (k1_off6 k 6#32) S16.size (k1_off6_inb k 6)).toLoadRect fG)) q6) v2 R6 h2 _ _ _ _)
  isplitl [H]
  · iexact H
  iintro %fI7 %P7 H
  unfold WP
  sl_exec
  try dsimp only
  iapply (place_chunk (w := w) d L (8 * k.val + 7) (Scalar.muli (Scalar.addi (Scalar.muli (Scf.iv 0#32 1#32 k.val) 8#32) 7#32) 16#32) (chunk_word k 7) (by omega) fI7 P7 (k1_pay59 (F := F) (k1_pay22 (View.readAt (Elt F) (View.whole cc1_scratch2) (Rect.unit (s := S4096) (k1_off6 k 7#32) S16.size (k1_off6_inb k 7)).toLoadRect fG)) q7) v2 R7 h2 _ _ _ _)
  isplitl [H]
  · iexact H
  iintro %fI8 %P8 H
  unfold WP
  sl_step
  ispecialize Hk $$ %_
  iapply Hk
  iexists fI8
  isplitr
  swap
  · isplitl [HG]
    · iexact HG
    isplitl [HH]
    · iexact HH
    · iexact H
  ipureintro
  rwa [show 16 * (8 * k.val + 7 + 1) = 128 * (k.val + 1) by omega] at P8

end Cert.Proof.Sparsity

end
-- ==== Proof.Row.lean ====
module

public import proofs.«01_k».proof.Proof.Scan
public import proofs.«01_k».proof.Proof.Place
public import proofs.«01_k».proof.Proof.Prefix

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid1.Coords)

/-! # A row sorted: the four loops in turn -/

/-- What a row's sort leaves: every position's score, the first 409 positions in rank order, the slots' totals. -/
def Sorted (fX : S4096.Idx → BitVec 32) (fSt : S16.Idx → F .f32) (fSl : S16.Idx → BitVec 32) (t : IVec S16 32) (fS : S4096.Idx → F .f32) (fI : S416.Idx → BitVec 32) : Prop :=
  UpTo 4096 (scoreT fX fSt) fS ∧ Placed (wordT fX fSl) 4096 fI ∧ ∀ i : Fin 16, t (ln i) = BitVec.ofNat 32 (pre (wordT fX fSl) 4096 i.val)

attribute [local irreducible] rank base pre

set_option maxHeartbeats 1000000 in
theorem row_sort (fX : S4096.Idx → BitVec 32) (fSt : S16.Idx → F .f32) (fSl : S16.Idx → BitVec 32) (hx : ∀ x, (fX x).toNat < 16) (hsl : ∀ x, (fSl x).toNat < 16)
    (v2 : IVec S16 32) (h2 : ∀ i : Fin 16, v2 (ln i) = BitVec.ofNat 32 i.val) (Q : IVec S16 32 → sProp (MM F)) :
    iprop((tpt (F := F) d L sX fX ∗ (∃ f, tpt (F := F) d L sSc f) ∗ (∃ f, tpt (F := F) d L sG f) ∗ (∃ f, tpt (F := F) d L sI f) ∗ (∃ f, tpt (F := F) d L sH f)
          ∗ tpt (F := F) d L sStab fSt ∗ tpt (F := F) d L sSlot fSl)
        ∗ (∀ t, (∃ fS fI, ⌜Sorted fX fSt fSl t fS fI⌝ ∗ tpt (F := F) d L sX fX ∗ tpt (F := F) d L sSc fS ∗ (∃ f, tpt (F := F) d L sG f) ∗ tpt (F := F) d L sI fI ∗ (∃ f, tpt (F := F) d L sH f)
          ∗ tpt (F := F) d L sStab fSt ∗ tpt (F := F) d L sSlot fSl) -∗ Q t))
      ⊢ WP d L (Scf.Loop.for k1_t1_loop k1_t1_ok ⟨⟩ (B1 (F := F) L v2 k1_pay125)) fun _ =>
          WP d L (Scf.Loop.for k1_t2_loop k1_t2_ok k1_pay125 (B2 (F := F) L v2 k1_pay125)) fun t =>
            WP d L (Scf.Loop.for k1_t3_loop k1_t3_ok ⟨⟩ (B3 (F := F) L v2 k1_pay125 t)) fun _ =>
              WP d L (Scf.Loop.for k1_t4_loop k1_t4_ok ⟨⟩ (B4 (F := F) L v2 k1_pay125)) fun _ => Q t := by
  have hw : ∀ p, wordT fX fSl p < 16 := fun p => hsl _
  unfold WP
  iintro ⟨⟨HX, ⟨%fS, HS⟩, ⟨%fG, HG⟩, ⟨%fI, HI⟩, ⟨%fH, HH⟩, HSt, HSl⟩, Hk⟩
  sl_for (fun n _ => inv1 (F := F) d L fX fSt fSl n) $$ [HX HS HG HI HH HSt HSl Hk]
  case region =>
    intro k _
    iintro H
    iapply (trip1 (F := F) d L fX fSt fSl hx hsl v2 k)
    isplitl [H]; · iexact H
    iintro %r Hr; iexact Hr
  isplitl [HX HS HG HH HSt HSl]
  · unfold inv1
    iexists fS, fG, fH
    isplitr
    · ipureintro; exact ⟨fun p hp => absurd hp (by omega), fun p hp => absurd hp (by omega), fun p hp => absurd hp (by omega)⟩
    isplitl [HX]; · iexact HX
    isplitl [HS]; · iexact HS
    isplitl [HG]; · iexact HG
    isplitl [HH]; · iexact HH
    isplitl [HSt]; · iexact HSt
    iexact HSl
  iintro %_ H
  unfold inv1
  icases H with ⟨%gS, %gG, %gH, %h1, HX, HS, HG, HH, HSt, HSl⟩
  obtain ⟨hS, hG, hH⟩ := h1
  sl_for (fun n a => inv2 (F := F) d L (wordT fX fSl) n a) $$ [HX HS HG HI HH HSt HSl Hk]
  case region =>
    intro k a
    iintro H
    iapply (trip2 (F := F) d L (wordT fX fSl) v2 k1_pay125 k a)
    isplitl [H]; · iexact H
    iintro %r Hr; iexact Hr
  isplitl [HH]
  · unfold inv2
    iexists gH
    isplitr
    · ipureintro
      refine ⟨fun p hp => absurd hp (by omega), fun p _ hp => hH p hp, fun i => ?_⟩
      show (0#32 : BitVec 32) = _
      rw [show 128 * 0 = 0 from rfl, pre_zero]
    iexact HH
  iintro %t H
  unfold inv2
  icases H with ⟨%gH2, %h2', HH⟩
  obtain ⟨hP, -, ht⟩ := h2'
  sl_for (fun n _ => inv3 (F := F) d L (wordT fX fSl) n) $$ [HX HS HG HI HH HSt HSl Hk]
  case region =>
    intro k _
    iintro H
    iapply (trip3 (F := F) d L (wordT fX fSl) v2 k1_pay125 t ht k)
    isplitl [H]; · iexact H
    iintro %r Hr; iexact Hr
  isplitl [HH]
  · unfold inv3
    iexists gH2
    isplitr
    · ipureintro; exact ⟨fun p hp => absurd hp (by omega), fun p _ hp => hP p hp⟩
    iexact HH
  iintro %_ H
  unfold inv3
  icases H with ⟨%gH3, %h3, HH⟩
  sl_for (fun n _ => inv4 (F := F) d L (wordT fX fSl) gG gH3 n) $$ [HX HS HG HI HH HSt HSl Hk]
  case region =>
    intro k _
    iintro H
    iapply (trip4 (F := F) d L (wordT fX fSl) gG gH3 hw (fun p hp => congrArg BitVec.toNat (hG p hp)) h3.1 v2 k1_pay125 h2 k)
    isplitl [H]; · iexact H
    iintro %r Hr; iexact Hr
  isplitl [HG HH HI]
  · unfold inv4
    iexists fI
    isplitr
    · ipureintro; exact fun p hp => absurd hp (by omega)
    isplitl [HG]; · iexact HG
    isplitl [HH]; · iexact HH
    iexact HI
  iintro %_ H
  unfold inv4
  icases H with ⟨%gI, %h4, HG, HH, HI⟩
  iapply Hk
  iexists gS, gI
  isplitr
  · ipureintro; exact ⟨hS, h4, ht⟩
  isplitl [HX]; · iexact HX
  isplitl [HS]; · iexact HS
  isplitl [HG]; · iexists _; iexact HG
  isplitl [HI]; · iexact HI
  isplitl [HH]; · iexists _; iexact HH
  isplitl [HSt]; · iexact HSt
  iexact HSl

/-- The first row's loops in the kernel's text, before what follows them. -/
theorem sort_first (fX : S4096.Idx → BitVec 32) (fSt : S16.Idx → F .f32) (fSl : S16.Idx → BitVec 32) (hx : ∀ x, (fX x).toNat < 16) (hsl : ∀ x, (fSl x).toNat < 16)
    (v2 : IVec S16 32) (h2 : ∀ i : Fin 16, v2 (ln i) = BitVec.ofNat 32 i.val) {α : Type} (kont : IVec S16 32 → Prog (TpuEff nD τ sig (Elt F) Λ₀ (.scVector (cV L) (jV L))) α)
    (Q : α → sProp (MM F)) :
    iprop((tpt (F := F) d L sX fX ∗ (∃ f, tpt (F := F) d L sSc f) ∗ (∃ f, tpt (F := F) d L sG f) ∗ (∃ f, tpt (F := F) d L sI f) ∗ (∃ f, tpt (F := F) d L sH f)
          ∗ tpt (F := F) d L sStab fSt ∗ tpt (F := F) d L sSlot fSl)
        ∗ (∀ t, (∃ fS fI, ⌜Sorted fX fSt fSl t fS fI⌝ ∗ tpt (F := F) d L sX fX ∗ tpt (F := F) d L sSc fS ∗ (∃ f, tpt (F := F) d L sG f) ∗ tpt (F := F) d L sI fI ∗ (∃ f, tpt (F := F) d L sH f)
          ∗ tpt (F := F) d L sStab fSt ∗ tpt (F := F) d L sSlot fSl) -∗ WP d L (kont t) Q))
      ⊢ WP d L (do
          Scf.Loop.for k1_t1_loop k1_t1_ok ⟨⟩ (B1 (F := F) L v2 k1_pay125)
          let t ← Scf.Loop.for k1_t2_loop k1_t2_ok k1_pay125 (B2 (F := F) L v2 k1_pay125)
          Scf.Loop.for k1_t3_loop k1_t3_ok ⟨⟩ (B3 (F := F) L v2 k1_pay125 t)
          Scf.Loop.for k1_t4_loop k1_t4_ok ⟨⟩ (B4 (F := F) L v2 k1_pay125)
          kont t) Q := by
  have h := row_sort (F := F) d L fX fSt fSl hx hsl v2 h2 (fun t => WP d L (kont t) Q)
  unfold WP at h ⊢
  rw [wp_bind]; simp only [wp_bind]
  exact h

/-- The second row's. -/
theorem sort_second (fX : S4096.Idx → BitVec 32) (fSt : S16.Idx → F .f32) (fSl : S16.Idx → BitVec 32) (hx : ∀ x, (fX x).toNat < 16) (hsl : ∀ x, (fSl x).toNat < 16)
    (v2 : IVec S16 32) (h2 : ∀ i : Fin 16, v2 (ln i) = BitVec.ofNat 32 i.val) (v1 : BitVec 32) {α : Type} (kont : IVec S16 32 → Prog (TpuEff nD τ sig (Elt F) Λ₀ (.scVector (cV L) (jV L))) α)
    (Q : α → sProp (MM F)) :
    iprop((tpt (F := F) d L sX fX ∗ (∃ f, tpt (F := F) d L sSc f) ∗ (∃ f, tpt (F := F) d L sG f) ∗ (∃ f, tpt (F := F) d L sI f) ∗ (∃ f, tpt (F := F) d L sH f)
          ∗ tpt (F := F) d L sStab fSt ∗ tpt (F := F) d L sSlot fSl)
        ∗ (∀ t, (∃ fS fI, ⌜Sorted fX fSt fSl t fS fI⌝ ∗ tpt (F := F) d L sX fX ∗ tpt (F := F) d L sSc fS ∗ (∃ f, tpt (F := F) d L sG f) ∗ tpt (F := F) d L sI fI ∗ (∃ f, tpt (F := F) d L sH f)
          ∗ tpt (F := F) d L sStab fSt ∗ tpt (F := F) d L sSlot fSl) -∗ WP d L (kont t) Q))
      ⊢ WP d L (do
          Scf.Loop.for k1_t5_loop k1_t5_ok ⟨⟩ (k1_t5_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v1 v2 k1_pay125)
          let t ← Scf.Loop.for k1_t6_loop k1_t6_ok k1_pay125 (k1_t6_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v1 v2 k1_pay125)
          Scf.Loop.for k1_t7_loop k1_t7_ok ⟨⟩ (k1_t7_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v1 v2 k1_pay125 t)
          Scf.Loop.for k1_t8_loop k1_t8_ok ⟨⟩ (k1_t8_body (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9 v1 v2 k1_pay125)
          kont t) Q := by
  simp only [loop5_eq, loop6_eq, loop7_eq, loop8_eq]
  exact sort_first (F := F) d L fX fSt fSl hx hsl v2 h2 kont Q

end Cert.Proof.Sparsity

end
-- ==== Proof.Rows.lean ====
module

public import proofs.«01_k».proof.Proof.Row

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! # The rows of the arrays that the tiles address -/

abbrev xLoc (d : Dev nD) : Loc nD τ sig := (SparseCore.T d).loc main_arg0
abbrev stLoc (d : Dev nD) : Loc nD τ sig := (SparseCore.T d).loc main_v0_0
abbrev slLoc (d : Dev nD) : Loc nD τ sig := (SparseCore.T d).loc main_v0_1
abbrev scLoc (d : Dev nD) : Loc nD τ sig := (SparseCore.T d).loc main_v1_0
abbrev ixLoc (d : Dev nD) : Loc nD τ sig := (SparseCore.T d).loc main_v1_1
abbrev ctLoc (d : Dev nD) : Loc nD τ sig := (SparseCore.T d).loc main_v1_2

theorem divW : 64 ∣ S64x4096.size 0 := ⟨1, rfl⟩
theorem divI : 64 ∣ S64x416.size 0 := ⟨1, rfl⟩
theorem divC : 64 ∣ S64x16.size 0 := ⟨1, rfl⟩

/-- Row `b` of the ids and of the scores, of the positions, of the totals. -/
abbrev rowW (b : Fin 64) : Finset S64x4096.Idx := (Rect.part (s := S64x4096) (a₀ := 0) divW b).set
abbrev rowI (b : Fin 64) : Finset S64x416.Idx := (Rect.part (s := S64x416) (a₀ := 0) divI b).set
abbrev rowC (b : Fin 64) : Finset S64x16.Idx := (Rect.part (s := S64x16) (a₀ := 0) divC b).set

/-- The batch that tile `L` sorts at turn `r`. -/
def bt (L : grid1.Coords) (r : Fin 2) : Fin 64 :=
  ⟨4 * (L 1).val + 2 * (L 0).val + r.val, by
    have h1 : (L 1).val < 16 := (L 1).isLt
    have h0 : (L 0).val < 2 := (L 0).isLt
    omega⟩

variable (d : Dev nD) (L : grid1.Coords) (r : Fin 2)

abbrev tW (M : Memref sig .scVector .hbm S64x4096 .i32) : Memref sig .scVector .hbm S4096 .i32 :=
  (M.slice (Rect.unit (s := S64x4096) (k1_off1 L (BitVec.ofNat 32 r.val)) S1x4096.size (k1_off1_inb L r)) (fun _ => rfl)).squeeze S4096 squeezes_S1x4096_S4096
abbrev tS : Memref sig .scVector .hbm S4096 .f32 :=
  (gSc.slice (Rect.unit (s := S64x4096) (k1_off1 L (BitVec.ofNat 32 r.val)) S1x4096.size (k1_off1_inb L r)) (fun _ => rfl)).squeeze S4096 squeezes_S1x4096_S4096
abbrev tI : Memref sig .scVector .hbm S416 .i32 :=
  (gIdx.slice (Rect.unit (s := S64x416) (k1_off7 L (BitVec.ofNat 32 r.val)) S1x416.size (k1_off7_inb L r)) (fun _ => rfl)).squeeze S416 squeezes_S1x416_S416
abbrev tC : Memref sig .scVector .hbm S16 .i32 :=
  (gCnt.slice (Rect.unit (s := S64x16) (k1_off8 L (BitVec.ofNat 32 r.val)) S1x16.size (k1_off8_inb L r)) (fun _ => rfl)).squeeze S16 squeezes_S1x16_S16
abbrev tSt : Memref sig .scVector .hbm S16 .f32 :=
  (gStab.slice (Rect.unit (s := S1x16) ![0, 0] S1x16.size inb_S1x16_S1x16_0_0) (fun _ => rfl)).squeeze S16 squeezes_S1x16_S16
abbrev tSl : Memref sig .scVector .hbm S16 .i32 :=
  (gSlot.slice (Rect.unit (s := S1x16) ![0, 0] S1x16.size inb_S1x16_S1x16_0_0) (fun _ => rfl)).squeeze S16 squeezes_S1x16_S16

theorem rectW_eq : Rect.unit (s := S64x4096) (k1_off1 L (BitVec.ofNat 32 r.val)) S1x4096.size (k1_off1_inb L r) = Rect.part (s := S64x4096) (a₀ := 0) divW (bt L r) := by
  unfold Rect.part Rect.block
  congr 1 <;> funext a
  · rw [k1_off1_eq]
    match a with
    | 0 => simp [Shape.partIx, Shape.partSize, bt]
    | 1 => simp [Shape.partIx, Shape.partSize]
  · match a with
    | 0 => simp [Shape.partSize]
    | 1 => simp [Shape.partSize]

theorem rectI_eq : Rect.unit (s := S64x416) (k1_off7 L (BitVec.ofNat 32 r.val)) S1x416.size (k1_off7_inb L r) = Rect.part (s := S64x416) (a₀ := 0) divI (bt L r) := by
  unfold Rect.part Rect.block
  congr 1 <;> funext a
  · rw [k1_off7_eq]
    match a with
    | 0 => simp [Shape.partIx, Shape.partSize, bt]
    | 1 => simp [Shape.partIx, Shape.partSize]
  · match a with
    | 0 => simp [Shape.partSize]
    | 1 => simp [Shape.partSize]

theorem rectC_eq : Rect.unit (s := S64x16) (k1_off8 L (BitVec.ofNat 32 r.val)) S1x16.size (k1_off8_inb L r) = Rect.part (s := S64x16) (a₀ := 0) divC (bt L r) := by
  unfold Rect.part Rect.block
  congr 1 <;> funext a
  · rw [k1_off8_eq]
    match a with
    | 0 => simp [Shape.partIx, Shape.partSize, bt]
    | 1 => simp [Shape.partIx, Shape.partSize]
  · match a with
    | 0 => simp [Shape.partSize]
    | 1 => simp [Shape.partSize]

theorem set_tX : (tW L r gX).view.set = rowW (bt L r) := by
  show ((gX.view.slice (Rect.unit (s := S64x4096) (k1_off1 L (BitVec.ofNat 32 r.val)) S1x4096.size (k1_off1_inb L r))).reshape S4096 squeezes_S1x4096_S4096.numel_eq).set = _
  rw [View.set_reshape, View.set_slice]; exact Finset.map_refl.trans (congrArg (fun R : Rect S64x4096 => R.set) (rectW_eq L r))
theorem set_tS : (tS L r).view.set = rowW (bt L r) := by
  show ((gSc.view.slice (Rect.unit (s := S64x4096) (k1_off1 L (BitVec.ofNat 32 r.val)) S1x4096.size (k1_off1_inb L r))).reshape S4096 squeezes_S1x4096_S4096.numel_eq).set = _
  rw [View.set_reshape, View.set_slice]; exact Finset.map_refl.trans (congrArg (fun R : Rect S64x4096 => R.set) (rectW_eq L r))
theorem set_tI : (tI L r).view.set = rowI (bt L r) := by
  show ((gIdx.view.slice (Rect.unit (s := S64x416) (k1_off7 L (BitVec.ofNat 32 r.val)) S1x416.size (k1_off7_inb L r))).reshape S416 squeezes_S1x416_S416.numel_eq).set = _
  rw [View.set_reshape, View.set_slice]; exact Finset.map_refl.trans (congrArg (fun R : Rect S64x416 => R.set) (rectI_eq L r))
theorem set_tC : (tC L r).view.set = rowC (bt L r) := by
  show ((gCnt.view.slice (Rect.unit (s := S64x16) (k1_off8 L (BitVec.ofNat 32 r.val)) S1x16.size (k1_off8_inb L r))).reshape S16 squeezes_S1x16_S16.numel_eq).set = _
  rw [View.set_reshape, View.set_slice]; exact Finset.map_refl.trans (congrArg (fun R : Rect S64x16 => R.set) (rectC_eq L r))

theorem wholeT : (Rect.unit (s := S1x16) ![0, 0] S1x16.size inb_S1x16_S1x16_0_0).set = Finset.univ := by decide +kernel

theorem set_tSt : tSt.view.set = Finset.univ := by
  show ((gStab.view.slice (Rect.unit (s := S1x16) ![0, 0] S1x16.size inb_S1x16_S1x16_0_0)).reshape S16 squeezes_S1x16_S16.numel_eq).set = _
  rw [View.set_reshape, View.set_slice, wholeT]; exact Finset.map_refl
theorem set_tSl : tSl.view.set = Finset.univ := by
  show ((gSlot.view.slice (Rect.unit (s := S1x16) ![0, 0] S1x16.size inb_S1x16_S1x16_0_0)).reshape S16 squeezes_S1x16_S16.numel_eq).set = _
  rw [View.set_reshape, View.set_slice, wholeT]; exact Finset.map_refl

theorem pts_tX (q) (f : Buf (Elt F) (xLoc d)) :
    ((tW L r gX).view.loc (V d (cV L) (jV L)) ↦[(tW L r gX).view.set]{q} f : sProp (MM F)) = xLoc d ↦[rowW (bt L r)]{q} f := by rw [set_tX]
theorem pts_tS (q) (f : Buf (Elt F) (scLoc d)) :
    ((tS L r).view.loc (V d (cV L) (jV L)) ↦[(tS L r).view.set]{q} f : sProp (MM F)) = scLoc d ↦[rowW (bt L r)]{q} f := by rw [set_tS]
theorem pts_tI (q) (f : Buf (Elt F) (ixLoc d)) :
    ((tI L r).view.loc (V d (cV L) (jV L)) ↦[(tI L r).view.set]{q} f : sProp (MM F)) = ixLoc d ↦[rowI (bt L r)]{q} f := by rw [set_tI]
theorem pts_tC (q) (f : Buf (Elt F) (ctLoc d)) :
    ((tC L r).view.loc (V d (cV L) (jV L)) ↦[(tC L r).view.set]{q} f : sProp (MM F)) = ctLoc d ↦[rowC (bt L r)]{q} f := by rw [set_tC]
theorem pts_tSt (q) (f : Buf (Elt F) (stLoc d)) :
    (tSt.view.loc (V d (cV L) (jV L)) ↦[tSt.view.set]{q} f : sProp (MM F)) = stLoc d ↦{q} f := by rw [set_tSt]
theorem pts_tSl (q) (f : Buf (Elt F) (slLoc d)) :
    (tSl.view.loc (V d (cV L) (jV L)) ↦[tSl.view.set]{q} f : sProp (MM F)) = slLoc d ↦{q} f := by rw [set_tSl]

/-! # What a tile owns of its own -/

abbrev dmaCell (k : Fin 10) : SemLoc sig := match k with
  | 0 => .dma cc1_scoped0.sem | 1 => .dma cc1_scoped1.sem | 2 => .dma cc1_scoped2.sem | 3 => .dma cc1_scoped3.sem | 4 => .dma cc1_scoped4.sem
  | 5 => .dma cc1_scoped5.sem | 6 => .dma cc1_scoped6.sem | 7 => .dma cc1_scoped7.sem | 8 => .dma cc1_scoped8.sem | 9 => .dma cc1_scoped9.sem

theorem dmaCell_inj : Function.Injective dmaCell := by decide
theorem dmaCell_scoped : ∀ k, (dmaCell k).isScoped .scVector = true := by decide

/-- The ten cells its copies signal, as cells of tile `L` of device `d`. -/
def dmaCells : Fin 10 ↪ GSem nD τ sig := ⟨fun k => (V d (cV L) (jV L), dmaCell k), fun a b h => dmaCell_inj (Prod.ext_iff.mp h).2⟩

abbrev scr (k : Fin 8) : Ref sig .scVector := match k with
  | 0 => cc1_scratch0 | 1 => cc1_scratch1 | 2 => cc1_scratch2 | 3 => cc1_scratch3 | 4 => cc1_scratch4 | 5 => cc1_scratch5 | 6 => cc1_scratch6 | 7 => cc1_scratch7

theorem scr_inj : Function.Injective scr := by decide

/-- Its eight buffers. -/
def scrs : Fin 8 ↪ DevRef τ sig := ⟨fun k => (Proc.scVector (cV L) (jV L)).devRef (scr k), fun a b h => scr_inj (Proc.devRef_injective _ h)⟩

theorem bigSep_pick {A I : Type} [DecidableEq A] [Fintype I] (f : I ↪ A) (s : Finset A) (h : ∀ i, f i ∈ s) (Φ : A → sProp (MM F)) :
    bigSep s Φ = iprop((bigSep Finset.univ fun i => Φ (f i)) ∗ bigSep (s \ Finset.univ.map f) Φ) := by
  rw [SparseCore.bigSep_sdiff_split' (t := Finset.univ.map f) (s := s) (fun a ha => by obtain ⟨i, -, rfl⟩ := Finset.mem_map.mp ha; exact h i), bigSep_map]

theorem ten (Φ : Fin 10 → sProp (MM F)) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem eight (Φ : Fin 8 → sProp (MM F)) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev cell (k : Fin 10) : sProp (MM F) := semVal (V d (cV L) (jV L), dmaCell k) 0

theorem tileSems :
    ∃ R : sProp (MM F), (SparseCore.Cfg.ownSems0 (V d (cV L) (jV L)) : sProp (MM F))
      = iprop((cell d L 0 ∗ cell d L 1 ∗ cell d L 2 ∗ cell d L 3 ∗ cell d L 4 ∗ cell d L 5 ∗ cell d L 6 ∗ cell d L 7 ∗ cell d L 8 ∗ cell d L 9) ∗ R) := by
  refine ⟨bigSep (SparseCore.Cfg.ownCells (V d (cV L) (jV L)) \ Finset.univ.map (dmaCells d L)) fun g => semVal g 0, ?_⟩
  unfold SparseCore.Cfg.ownSems0
  rw [bigSep_pick (dmaCells d L) _ (fun k => (SparseCore.Cfg.mem_ownCells (g := dmaCells d L k)).mpr ⟨rfl, dmaCell_scoped k⟩), ten]
  rfl

theorem tileBufs :
    ∃ R : sProp (MM F), (SparseCore.Cfg.ownBufs (V d (cV L) (jV L)) : sProp (MM F))
      = iprop(((∃ f, tpt d L sX f) ∗ (∃ f, tpt d L sSc f) ∗ (∃ f, tpt d L sG f) ∗ (∃ f, tpt d L sI f) ∗ (∃ f, tpt d L sH f) ∗ (∃ f, tpt d L sStab f) ∗ (∃ f, tpt d L sSlot f)
          ∗ (∃ f, tpt d L sCnt f)) ∗ R) := by
  refine ⟨bigSep (SparseCore.Cfg.ownRefs (τ := τ) (.scVector (cV L) (jV L)) \ Finset.univ.map (scrs L)) fun b => iprop(∃ f, ((d, b) : Loc nD τ sig) ↦{fullShare} f), ?_⟩
  unfold SparseCore.Cfg.ownBufs
  rw [bigSep_pick (scrs L) _ (fun k => SparseCore.Cfg.mem_ownRefs_of_owner (p := Proc.scVector (cV L) (jV L)) (b := (Proc.scVector (cV L) (jV L)).devRef (scr k))
    (match k with | 0 => rfl | 1 => rfl | 2 => rfl | 3 => rfl | 4 => rfl | 5 => rfl | 6 => rfl | 7 => rfl)), eight]
  rfl

/-! # Entries of the rows -/

abbrev atW (b : Fin 64) (p : ℕ) : S64x4096.Idx := Shape.pair (d := ![64, 4096]) b ⟨p % 4096, Nat.mod_lt _ (by decide)⟩
abbrev atI (b : Fin 64) (p : ℕ) : S64x416.Idx := Shape.pair (d := ![64, 416]) b ⟨p % 416, Nat.mod_lt _ (by decide)⟩
abbrev atC (b : Fin 64) (p : ℕ) : S64x16.Idx := Shape.pair (d := ![64, 16]) b ⟨p % 16, Nat.mod_lt _ (by decide)⟩
abbrev atT (p : ℕ) : S1x16.Idx := Shape.pair (d := ![1, 16]) ⟨0, by decide⟩ ⟨p % 16, Nat.mod_lt _ (by decide)⟩

theorem ixW (h) (p : ℕ) : (Rect.unit (s := S64x4096) (k1_off1 L (BitVec.ofNat 32 r.val)) S1x4096.size (k1_off1_inb L r)).emb (Shape.reshapeEquiv (s := S1x4096) (s' := S4096) h (pos p)) = atW (bt L r) p := by
  rw [Shape.reshapeEquiv_cons_one]
  have h1 := k1_off1_eq L r
  funext a
  apply Fin.ext
  match a with
  | 0 => show k1_off1 L (BitVec.ofNat 32 r.val) 0 + 1 * 0 = _; rw [h1]; rfl
  | 1 => show k1_off1 L (BitVec.ofNat 32 r.val) 1 + 1 * (p % 4096) = p % 4096; rw [h1]; show 0 + 1 * (p % 4096) = _; omega

theorem ixI (h) (p : ℕ) : (Rect.unit (s := S64x416) (k1_off7 L (BitVec.ofNat 32 r.val)) S1x416.size (k1_off7_inb L r)).emb (Shape.reshapeEquiv (s := S1x416) (s' := S416) h (plc p)) = atI (bt L r) p := by
  rw [Shape.reshapeEquiv_cons_one]
  have h1 := k1_off7_eq L r
  funext a
  apply Fin.ext
  match a with
  | 0 => show k1_off7 L (BitVec.ofNat 32 r.val) 0 + 1 * 0 = _; rw [h1]; rfl
  | 1 => show k1_off7 L (BitVec.ofNat 32 r.val) 1 + 1 * (p % 416) = p % 416; rw [h1]; show 0 + 1 * (p % 416) = _; omega

theorem ixC (h) (p : ℕ) : (Rect.unit (s := S64x16) (k1_off8 L (BitVec.ofNat 32 r.val)) S1x16.size (k1_off8_inb L r)).emb (Shape.reshapeEquiv (s := S1x16) (s' := S16) h (ent p)) = atC (bt L r) p := by
  rw [Shape.reshapeEquiv_cons_one]
  have h1 := k1_off8_eq L r
  funext a
  apply Fin.ext
  match a with
  | 0 => show k1_off8 L (BitVec.ofNat 32 r.val) 0 + 1 * 0 = _; rw [h1]; rfl
  | 1 => show k1_off8 L (BitVec.ofNat 32 r.val) 1 + 1 * (p % 16) = p % 16; rw [h1]; show 0 + 1 * (p % 16) = _; omega

theorem ixT (h) (p : ℕ) : (Rect.unit (s := S1x16) ![0, 0] S1x16.size inb_S1x16_S1x16_0_0).emb (Shape.reshapeEquiv (s := S1x16) (s' := S16) h (ent p)) = atT p := by
  rw [Shape.reshapeEquiv_cons_one]
  funext a
  apply Fin.ext
  match a with
  | 0 => rfl
  | 1 => show 0 + 1 * (p % 16) = p % 16; omega

/-- A row of the ids, and the tables, as the buffers the tile copies them to hold them. -/
def idRow (X : S64x4096.Idx → BitVec 32) (b : Fin 64) : S4096.Idx → BitVec 32 := fun x => X (atW b (x 0).val)
def scoreRow (tb : S1x16.Idx → F .f32) : S16.Idx → F .f32 := fun x => tb (atT (x 0).val)
def slotRow (sb : S1x16.Idx → BitVec 32) : S16.Idx → BitVec 32 := fun x => sb (atT (x 0).val)

theorem ent_eta (x : S16.Idx) : ent (x 0).val = x := by
  have hx : (x 0).val < 16 := (x 0).isLt
  exact (congrArg ln (Fin.ext (Nat.mod_eq_of_lt hx))).trans (ln_eta x)

theorem read_tX (X : Buf (Elt F) (xLoc d)) : View.read (Elt F) (tW L r gX).view X = idRow X (bt L r) := by
  funext x
  refine Eq.trans (b := X ((Rect.unit (s := S64x4096) (k1_off1 L (BitVec.ofNat 32 r.val)) S1x4096.size (k1_off1_inb L r)).emb (Shape.reshapeEquiv (s := S1x4096) (s' := S4096) squeezes_S1x4096_S4096.numel_eq x))) rfl ?_
  conv_lhs => rw [← pos_eta x, ixW]
  rfl

theorem read_tSt (tb : Buf (Elt F) (stLoc d)) : View.read (Elt F) tSt.view tb = scoreRow (F := F) tb := by
  funext x
  refine Eq.trans (b := tb ((Rect.unit (s := S1x16) ![0, 0] S1x16.size inb_S1x16_S1x16_0_0).emb (Shape.reshapeEquiv (s := S1x16) (s' := S16) squeezes_S1x16_S16.numel_eq x))) rfl ?_
  conv_lhs => rw [← ent_eta x, ixT]
  rfl

theorem read_tSl (sb : Buf (Elt F) (slLoc d)) : View.read (Elt F) tSl.view sb = slotRow sb := by
  funext x
  refine Eq.trans (b := sb ((Rect.unit (s := S1x16) ![0, 0] S1x16.size inb_S1x16_S1x16_0_0).emb (Shape.reshapeEquiv (s := S1x16) (s' := S16) squeezes_S1x16_S16.numel_eq x))) rfl ?_
  conv_lhs => rw [← ent_eta x, ixT]
  rfl

theorem put_tS (f : Buf (Elt F) (scLoc d)) (w : S4096.Idx → F .f32) (p : ℕ) : View.writes (tS L r).view (Elt F) f [⟨Rect.whole S4096, w⟩] (atW (bt L r) p) = w (pos p) := by
  have h : ∀ g : Buf (Elt F) (scLoc d), View.read (Elt F) (tS L r).view g (pos p) = g (atW (bt L r) p) := fun g => by
    refine Eq.trans (b := g ((Rect.unit (s := S64x4096) (k1_off1 L (BitVec.ofNat 32 r.val)) S1x4096.size (k1_off1_inb L r)).emb (Shape.reshapeEquiv (s := S1x4096) (s' := S4096) squeezes_S1x4096_S4096.numel_eq (pos p)))) rfl ?_
    rw [ixW]
  exact (h _).symm.trans (congrFun (View.read_writes_whole (Val := Elt F) (tS L r).view f w) (pos p))
theorem put_tI (f : Buf (Elt F) (ixLoc d)) (w : S416.Idx → BitVec 32) (p : ℕ) : View.writes (tI L r).view (Elt F) f [⟨Rect.whole S416, w⟩] (atI (bt L r) p) = w (plc p) := by
  have h : ∀ g : Buf (Elt F) (ixLoc d), View.read (Elt F) (tI L r).view g (plc p) = g (atI (bt L r) p) := fun g => by
    refine Eq.trans (b := g ((Rect.unit (s := S64x416) (k1_off7 L (BitVec.ofNat 32 r.val)) S1x416.size (k1_off7_inb L r)).emb (Shape.reshapeEquiv (s := S1x416) (s' := S416) squeezes_S1x416_S416.numel_eq (plc p)))) rfl ?_
    rw [ixI]
  exact (h _).symm.trans (congrFun (View.read_writes_whole (Val := Elt F) (tI L r).view f w) (plc p))
theorem put_tC (f : Buf (Elt F) (ctLoc d)) (w : S16.Idx → BitVec 32) (p : ℕ) : View.writes (tC L r).view (Elt F) f [⟨Rect.whole S16, w⟩] (atC (bt L r) p) = w (ent p) := by
  have h : ∀ g : Buf (Elt F) (ctLoc d), View.read (Elt F) (tC L r).view g (ent p) = g (atC (bt L r) p) := fun g => by
    refine Eq.trans (b := g ((Rect.unit (s := S64x16) (k1_off8 L (BitVec.ofNat 32 r.val)) S1x16.size (k1_off8_inb L r)).emb (Shape.reshapeEquiv (s := S1x16) (s' := S16) squeezes_S1x16_S16.numel_eq (ent p)))) rfl ?_
    rw [ixC]
  exact (h _).symm.trans (congrFun (View.read_writes_whole (Val := Elt F) (tC L r).view f w) (ent p))

/-! # What a tile leaves of a row -/

/-- The score of position `p` of batch `b`, and its slot. -/
def scoreOf (X : S64x4096.Idx → BitVec 32) (tb : S1x16.Idx → F .f32) (b : Fin 64) (p : ℕ) : F .f32 := tb (atT (X (atW b p)).toNat)
def slotOfPos (X : S64x4096.Idx → BitVec 32) (sb : S1x16.Idx → BitVec 32) (b : Fin 64) (p : ℕ) : ℕ := (sb (atT (X (atW b p)).toNat)).toNat

def ScoresIn (X : S64x4096.Idx → BitVec 32) (tb : S1x16.Idx → F .f32) (b : Fin 64) (f : S64x4096.Idx → F .f32) : Prop :=
  ∀ p, p < 4096 → f (atW b p) = scoreOf X tb b p
def PlacesIn (X : S64x4096.Idx → BitVec 32) (sb : S1x16.Idx → BitVec 32) (b : Fin 64) (f : S64x416.Idx → BitVec 32) : Prop :=
  ∀ p, p < 4096 → rank (slotOfPos X sb b) 4096 p < 409 → f (atI b (rank (slotOfPos X sb b) 4096 p)) = BitVec.ofNat 32 p
def TotalsIn (X : S64x4096.Idx → BitVec 32) (sb : S1x16.Idx → BitVec 32) (b : Fin 64) (f : S64x16.Idx → BitVec 32) : Prop :=
  ∀ i : Fin 16, f (atC b i.val) = BitVec.ofNat 32 (pre (slotOfPos X sb b) 4096 i.val)

theorem scoreT_row (X : S64x4096.Idx → BitVec 32) (tb : S1x16.Idx → F .f32) (b : Fin 64) (p : ℕ) : scoreT (idRow X b) (scoreRow (F := F) tb) p = scoreOf X tb b p := by
  have e : (p % 4096) % 4096 = p % 4096 := Nat.mod_mod _ _
  show tb (atT ((X (atW b (p % 4096))).toNat % 16)) = tb (atT (X (atW b p)).toNat)
  simp only [atT, atW, Nat.mod_mod]

theorem wordT_row (X : S64x4096.Idx → BitVec 32) (sb : S1x16.Idx → BitVec 32) (b : Fin 64) : wordT (idRow X b) (slotRow sb) = slotOfPos X sb b := by
  funext p
  show (sb (atT ((X (atW b (p % 4096))).toNat % 16))).toNat = (sb (atT (X (atW b p)).toNat)).toNat
  simp only [atT, atW, Nat.mod_mod]

/-- A batch's rows as a tile takes them, and as it brings them back. -/
def rowIn (X : Buf (Elt F) (xLoc d)) (b : Fin 64) : sProp (MM F) :=
  iprop((xLoc d ↦[rowW b]{fullShare} X) ∗ (∃ f, scLoc d ↦[rowW b]{fullShare} f) ∗ (∃ f, ixLoc d ↦[rowI b]{fullShare} f) ∗ (∃ f, ctLoc d ↦[rowC b]{fullShare} f))
def rowOut (X : Buf (Elt F) (xLoc d)) (tb : Buf (Elt F) (stLoc d)) (sb : Buf (Elt F) (slLoc d)) (b : Fin 64) : sProp (MM F) :=
  iprop((xLoc d ↦[rowW b]{fullShare} X) ∗ (∃ f, ⌜ScoresIn (F := F) X tb b f⌝ ∗ scLoc d ↦[rowW b]{fullShare} f) ∗ (∃ f, ⌜PlacesIn X sb b f⌝ ∗ ixLoc d ↦[rowI b]{fullShare} f)
    ∗ (∃ f, ⌜TotalsIn X sb b f⌝ ∗ ctLoc d ↦[rowC b]{fullShare} f))

end Cert.Proof.Sparsity

end
-- ==== Proof.Body.lean ====
module

public import Idealize.ShloMosaic.Lib.VecWindow
public import proofs.«01_k».proof.Proof.Rows

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! # A tile's task -/

variable (d : Dev nD) (L : grid1.Coords)

attribute [local irreducible] rank base pre

theorem iota_at : ∀ i : Fin 16, iota .scVector S16 32 [0] iota_S16_d0_w32_scVector (ln i) = BitVec.ofNat 32 i.val := by decide +kernel

theorem ent_ln (i : Fin 16) : ent i.val = ln i := congrArg ln (Fin.ext (Nat.mod_eq_of_lt i.isLt))

/-- A whole buffer a copy has landed in. -/
theorem landed (b : Ref sig .scVector) (f w g : b.ty.Contents (Elt F)) (h : w = g) :
    ((Memref.whole b).view.loc (V d (cV L) (jV L)) ↦{fullShare} View.write (Elt F) (Memref.whole b).view f w Finset.univ : sProp (MM F))
      ⊢ (Memref.whole b).view.loc (V d (cV L) (jV L)) ↦{fullShare} g :=
  Entails.of_eq (congrArg (fun f => ((Memref.whole b).view.loc (V d (cV L) (jV L)) ↦{fullShare} f : sProp (MM F))) ((View.write_whole_univ (Val := Elt F) b f w).trans h))

set_option maxHeartbeats 4000000 in
theorem tile_run (X : Buf (Elt F) (xLoc d)) (tb : Buf (Elt F) (stLoc d)) (sb : Buf (Elt F) (slLoc d)) (hX : ∀ j, (X j).toNat < 16) (hsb : ∀ j, (sb j).toNat < 16) (q : PosShare TreeShare)
    (O : CellTallies nD τ sig (HIx 1)) (W : Waits sig (HIx 1)) (hO : ∀ g, O g none = 0) :
    iprop(levAts (K (F := F)).L (K (F := F)).lev
        ∗ ((rowIn d X (bt L 0) ∗ rowIn d X (bt L 1)) ∗ (stLoc d ↦{q} tb) ∗ (slLoc d ↦{q} sb))
        ∗ ((∃ f, tpt d L sX f) ∗ (∃ f, tpt d L sSc f) ∗ (∃ f, tpt d L sG f) ∗ (∃ f, tpt d L sI f) ∗ (∃ f, tpt d L sH f) ∗ (∃ f, tpt d L sStab f) ∗ (∃ f, tpt d L sSlot f)
          ∗ (∃ f, tpt d L sCnt f))
        ∗ (cell d L 0 ∗ cell d L 1 ∗ cell d L 2 ∗ cell d L 3 ∗ cell d L 4 ∗ cell d L 5 ∗ cell d L 6 ∗ cell d L 7 ∗ cell d L 8 ∗ cell d L 9)
        ∗ owes (V d (cV L) (jV L)) O W)
      ⊢ WP d L (cc1_sc_kernel (F := F) L gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9) fun _ =>
          iprop(((rowOut d X tb sb (bt L 0) ∗ rowOut d X tb sb (bt L 1)) ∗ (stLoc d ↦{q} tb) ∗ (slLoc d ↦{q} sb))
        ∗ ((∃ f, tpt d L sX f) ∗ (∃ f, tpt d L sSc f) ∗ (∃ f, tpt d L sG f) ∗ (∃ f, tpt d L sI f) ∗ (∃ f, tpt d L sH f) ∗ (∃ f, tpt d L sStab f) ∗ (∃ f, tpt d L sSlot f)
          ∗ (∃ f, tpt d L sCnt f))
        ∗ (cell d L 0 ∗ cell d L 1 ∗ cell d L 2 ∗ cell d L 3 ∗ cell d L 4 ∗ cell d L 5 ∗ cell d L 6 ∗ cell d L 7 ∗ cell d L 8 ∗ cell d L 9)
        ∗ ∃ W', ⌜∀ p ∈ W', p ∈ W ∨ p.2 = none ∨ p.2 = some (0 : Fin 1)⌝ ∗ owes (V d (cV L) (jV L)) O W') := by
  unfold WP
  unfold rowIn
  iintro ⟨#Hlv, ⟨⟨⟨Hx0, ⟨%fs0, Hs0⟩, ⟨%fi0, Hi0⟩, ⟨%fc0, Hc0⟩⟩, ⟨Hx1, ⟨%fs1, Hs1⟩, ⟨%fi1, Hi1⟩, ⟨%fc1, Hc1⟩⟩⟩, Hst, Hsl⟩,
    ⟨⟨%bX, HX⟩, ⟨%bS, HS⟩, ⟨%bG, HG⟩, ⟨%bI, HI⟩, ⟨%bH, HH⟩, ⟨%bSt, HSt⟩, ⟨%bSl, HSl⟩, ⟨%bC, HC⟩⟩, ⟨Z0, Z1, Z2, Z3, Z4, Z5, Z6, Z7, Z8, Z9⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx0 := (Entails.of_eq (pts_tX (F := F) d L 0 _ _).symm) $$ Hx0
  ihave Hx1 := (Entails.of_eq (pts_tX (F := F) d L 1 _ _).symm) $$ Hx1
  ihave Hst := (Entails.of_eq (pts_tSt (F := F) d L _ _).symm) $$ Hst
  ihave Hsl := (Entails.of_eq (pts_tSl (F := F) d L _ _).symm) $$ Hsl
  ihave Hs0 := (Entails.of_eq (pts_tS (F := F) d L 0 _ _).symm) $$ Hs0
  ihave Hs1 := (Entails.of_eq (pts_tS (F := F) d L 1 _ _).symm) $$ Hs1
  ihave Hi0 := (Entails.of_eq (pts_tI (F := F) d L 0 _ _).symm) $$ Hi0
  ihave Hi1 := (Entails.of_eq (pts_tI (F := F) d L 1 _ _).symm) $$ Hi1
  ihave Hc0 := (Entails.of_eq (pts_tC (F := F) d L 0 _ _).symm) $$ Hc0
  ihave Hc1 := (Entails.of_eq (pts_tC (F := F) d L 1 _ _).symm) $$ Hc1
  rw [cc1_sc_kernel_eq_skeleton]; unfold cc1_sc_kernel_skel
  rw [k1_part19_eq_skeleton, k1_part20_eq_skeleton, k1_part21_eq_skeleton]; unfold k1_part19_skel k1_part20_skel k1_part21_skel
  sl_exec (disch := exact View.amount_pos _ _ (show 0 < S4096.numel by decide))
  ihave HX := (landed (F := F) d L cc1_scratch0 bX (tile_run.sl.dma0_2 d L X) (idRow X (bt L 0)) (read_tX d L 0 X)) $$ HX
  ihave HSt := (landed (F := F) d L cc1_scratch5 bSt (tile_run.sl.dma0 d tb) (scoreRow (F := F) tb) (read_tSt d tb)) $$ HSt
  ihave HSl := (landed (F := F) d L cc1_scratch6 bSl (tile_run.sl.dma0_1 d sb) (slotRow sb) (read_tSl d sb)) $$ HSl
  rw [wp_bind]
  have hx : ∀ (r : Fin 2) x, (idRow X (bt L r) x).toNat < 16 := fun r x => hX _
  have hsl : ∀ x, (slotRow sb x).toNat < 16 := fun x => hsb _
  iapply (sort_first (F := F) d L (idRow X (bt L 0)) (scoreRow (F := F) tb) (slotRow sb) (hx 0) hsl _ iota_at)
  isplitl [HX HS HG HI HH HSt HSl]
  · isplitl [HX]; · iexact HX
    isplitl [HS]; · iexists _; iexact HS
    isplitl [HG]; · iexists _; iexact HG
    isplitl [HI]; · iexists _; iexact HI
    isplitl [HH]; · iexists _; iexact HH
    isplitl [HSt]; · iexact HSt
    iexact HSl
  iintro %t ⟨%gS, %gI, %hg, HX, HS, ⟨%gG, HG⟩, HI, ⟨%gH, HH⟩, HSt, HSl⟩
  unfold WP
  sl_exec (disch := exact View.amount_pos _ _ (show 0 < S4096.numel by decide))
  ihave HX := (landed (F := F) d L cc1_scratch0 (idRow X (bt L 0)) (tile_run.sl.dma2_1 d L X) (idRow X (bt L 1)) (read_tX d L 1 X)) $$ HX
  rw [wp_bind]
  iapply (sort_second (F := F) d L (idRow X (bt L 1)) (scoreRow (F := F) tb) (slotRow sb) (hx 1) hsl _ iota_at)
  isplitl [HX HS HG HI HH HSt HSl]
  · isplitl [HX]; · iexact HX
    isplitl [HS]; · iexists _; iexact HS
    isplitl [HG]; · iexists _; iexact HG
    isplitl [HI]; · iexists _; iexact HI
    isplitl [HH]; · iexists _; iexact HH
    isplitl [HSt]; · iexact HSt
    iexact HSl
  iintro %u ⟨%kS, %kI, %hk, HX, HS, ⟨%kG, HG⟩, HI, ⟨%kH, HH⟩, HSt, HSl⟩
  unfold WP
  sl_exec (disch := exact View.amount_pos _ _ (show 0 < S4096.numel by decide))
  sl_step
  have e0 : tile_run.sl.dma2 d L bC t = t := View.read_writes_full (Val := Elt F) sCnt.view bC inb_S16_S16_0 t []
  have e1 : tile_run.sl.dma2_2 d L bC t u = u := View.read_writes_full (Val := Elt F) sCnt.view bC inb_S16_S16_0 u _
  unfold rowOut
  isplitl [Hx0 Hx1 Hs0 Hs1 Hi0 Hi1 Hc0 Hc1 Hst Hsl]
  · isplitr [Hst Hsl]
    swap
    · isplitl [Hst]; · iapply (Entails.of_eq (pts_tSt (F := F) d L _ _)); iexact Hst
      iapply (Entails.of_eq (pts_tSl (F := F) d L _ _)); iexact Hsl
    isplitl [Hx0 Hs0 Hi0 Hc0]
    · isplitl [Hx0]; · iapply (Entails.of_eq (pts_tX (F := F) d L 0 _ _)); iexact Hx0
      isplitl [Hs0]
      · iexists _; isplitr
        swap; · iapply (Entails.of_eq (pts_tS (F := F) d L 0 _ _)); iexact Hs0
        ipureintro; intro p hp
        exact (put_tS (F := F) d L 0 fs0 (tile_run.sl.dma0_3 gS) p).trans ((hg.1 p hp).trans (scoreT_row X tb _ p))
      isplitl [Hi0]
      · iexists _; isplitr
        swap; · iapply (Entails.of_eq (pts_tI (F := F) d L 0 _ _)); iexact Hi0
        ipureintro; intro p hp hr
        have h := hg.2.1 p hp
        rw [wordT_row] at h
        exact (put_tI (F := F) d L 0 fi0 (tile_run.sl.dma0_4 gI) _).trans (h hr)
      iexists _; isplitr
      swap; · iapply (Entails.of_eq (pts_tC (F := F) d L 0 _ _)); iexact Hc0
      ipureintro; intro i
      have h := hg.2.2 i
      rw [wordT_row, ← e0] at h
      exact (put_tC (F := F) d L 0 fc0 (tile_run.sl.dma2 d L bC t) _).trans ((congrArg (tile_run.sl.dma2 d L bC t) (ent_ln i)).trans h)
    isplitl [Hx1]; · iapply (Entails.of_eq (pts_tX (F := F) d L 1 _ _)); iexact Hx1
    isplitl [Hs1]
    · iexists _; isplitr
      swap; · iapply (Entails.of_eq (pts_tS (F := F) d L 1 _ _)); iexact Hs1
      ipureintro; intro p hp
      exact (put_tS (F := F) d L 1 fs1 (tile_run.sl.dma0_5 kS) p).trans ((hk.1 p hp).trans (scoreT_row X tb _ p))
    isplitl [Hi1]
    · iexists _; isplitr
      swap; · iapply (Entails.of_eq (pts_tI (F := F) d L 1 _ _)); iexact Hi1
      ipureintro; intro p hp hr
      have h := hk.2.1 p hp
      rw [wordT_row] at h
      exact (put_tI (F := F) d L 1 fi1 (tile_run.sl.dma0_6 kI) _).trans (h hr)
    iexists _; isplitr
    swap; · iapply (Entails.of_eq (pts_tC (F := F) d L 1 _ _)); iexact Hc1
    ipureintro; intro i
    have h := hk.2.2 i
    rw [wordT_row, ← e1] at h
    exact (put_tC (F := F) d L 1 fc1 (tile_run.sl.dma2_2 d L bC t u) _).trans ((congrArg (tile_run.sl.dma2_2 d L bC t u) (ent_ln i)).trans h)
  isplitl [HX HS HG HI HH HSt HSl HC]
  · isplitl [HX]; · iexists _; iexact HX
    isplitl [HS]; · iexists _; iexact HS
    isplitl [HG]; · iexists _; iexact HG
    isplitl [HI]; · iexists _; iexact HI
    isplitl [HH]; · iexists _; iexact HH
    isplitl [HSt]; · iexists _; iexact HSt
    isplitl [HSl]; · iexists _; iexact HSl
    iexists _; iexact HC
  isplitl [Z0 Z1 Z2 Z3 Z4 Z5 Z6 Z7 Z8 Z9]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  iexists _; isplitr
  swap; · iexact HO
  ipureintro; intro p _
  rcases p.2 with _ | q
  · exact .inr (.inl rfl)
  · exact .inr (.inr (congrArg some (Subsingleton.elim q 0)))

end Cert.Proof.Sparsity

end
-- ==== Proof.Finisher.lean ====
/-
  The finishing call on the TensorCore: from whole staging buffers its body leaves the result column.
-/
module

public import proofs.«01_k».proof.Proof.Setup

@[expose] public section

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F] [∀ e, Nonempty (Elt F e)]

local notation "𝕄" => MM F

/-- Memref `M`'s buffer on core `c`, and it held whole. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- What the finishing body leaves in its result buffer over its thirteen operands, with the run that leaves it. -/
def finishRun (c : Dev nD)
    (M0 : Memref sig .tc .vmem S64x16 .i32) (h0 : M0.IsWhole)
    (M1 : Memref sig .tc .vmem S8x8 .f32) (h1 : M1.IsWhole)
    (M2 : Memref sig .tc .vmem S6x256 .f32) (h2 : M2.IsWhole)
    (M3 : Memref sig .tc .vmem S8x768 .f32) (h3 : M3.IsWhole)
    (M4 : Memref sig .tc .vmem S8 .f32) (h4 : M4.IsWhole)
    (M5 : Memref sig .tc .vmem S8x8 .f32) (h5 : M5.IsWhole)
    (M6 : Memref sig .tc .vmem S8 .f32) (h6 : M6.IsWhole)
    (M7 : Memref sig .tc .vmem S256x8 .f32) (h7 : M7.IsWhole)
    (M8 : Memref sig .tc .vmem S256 .f32) (h8 : M8.IsWhole)
    (M9 : Memref sig .tc .vmem S128x256 .f32) (h9 : M9.IsWhole)
    (M10 : Memref sig .tc .vmem S128 .f32) (h10 : M10.IsWhole)
    (M11 : Memref sig .tc .vmem S1x128 .f32) (h11 : M11.IsWhole)
    (M12 : Memref sig .tc .vmem S1 .f32) (h12 : M12.IsWhole)
    (M13 : Memref sig .tc .vmem S64x1 .f32) (h13 : M13.IsWhole)
    (f0 : Bf F c M0) (f1 : Bf F c M1) (f2 : Bf F c M2) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) :
    Σ' (W13 : Bf F c M13),
      ∀ (g13 : Bf F c M13) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 g13
            ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 W13) -∗ Q ⟨⟩))
          ⊢ wp frame (wpE (defs₀ (F := F)) Variants.none c none) E (cc2__finish_body M0 h0 M1 h1 M2 h2 M3 h3 M4 h4 M5 h5 M6 h6 M7 h7 M8 h8 M9 h9 M10 h10 M11 h11 M12 h12 M13 h13) Q := by
  refine ⟨?_, fun g13 E Q => ?run⟩
  case run =>
    rw [cc2__finish_body_eq_skeleton]; unfold cc2__finish_body_skel
    rw [k2_part1_eq_skeleton]; unfold k2_part1_skel
    rw [k2_part2_eq_skeleton]; unfold k2_part2_skel
    iintro ⟨H0, H1, H2, H3, H4, H5, H6, H7, H8, H9, H10, H11, H12, H13, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-! ## The proof data at an entry valuation -/

variable (V : (c : Dev nD) → (b : Ref sig .tc) → Buf (Elt F) ((c : Thread nD τ).loc b))

/-- The operands' blocks as fetched: the arrays at the entry valuation. -/
abbrev fin0 (c : Dev nD) : (cfg2.win 0).block.Idx → Elt F (cfg2.win 0).elt := ((cfg2.win 0).blk t2_0).view.read (Elt F) (V c main_v1_2)
abbrev fin1 (c : Dev nD) : (cfg2.win 1).block.Idx → Elt F (cfg2.win 1).elt := ((cfg2.win 1).blk t2_0).view.read (Elt F) (V c main_v0_2)
abbrev fin2 (c : Dev nD) : (cfg2.win 2).block.Idx → Elt F (cfg2.win 2).elt := ((cfg2.win 2).blk t2_0).view.read (Elt F) (V c main_arg1)
abbrev fin3 (c : Dev nD) : (cfg2.win 3).block.Idx → Elt F (cfg2.win 3).elt := ((cfg2.win 3).blk t2_0).view.read (Elt F) (V c main_arg6)
abbrev fin4 (c : Dev nD) : (cfg2.win 4).block.Idx → Elt F (cfg2.win 4).elt := ((cfg2.win 4).blk t2_0).view.read (Elt F) (V c main_arg7)
abbrev fin5 (c : Dev nD) : (cfg2.win 5).block.Idx → Elt F (cfg2.win 5).elt := ((cfg2.win 5).blk t2_0).view.read (Elt F) (V c main_arg8)
abbrev fin6 (c : Dev nD) : (cfg2.win 6).block.Idx → Elt F (cfg2.win 6).elt := ((cfg2.win 6).blk t2_0).view.read (Elt F) (V c main_arg9)
abbrev fin7 (c : Dev nD) : (cfg2.win 7).block.Idx → Elt F (cfg2.win 7).elt := ((cfg2.win 7).blk t2_0).view.read (Elt F) (V c main_arg10)
abbrev fin8 (c : Dev nD) : (cfg2.win 8).block.Idx → Elt F (cfg2.win 8).elt := ((cfg2.win 8).blk t2_0).view.read (Elt F) (V c main_arg11)
abbrev fin9 (c : Dev nD) : (cfg2.win 9).block.Idx → Elt F (cfg2.win 9).elt := ((cfg2.win 9).blk t2_0).view.read (Elt F) (V c main_arg12)
abbrev fin10 (c : Dev nD) : (cfg2.win 10).block.Idx → Elt F (cfg2.win 10).elt := ((cfg2.win 10).blk t2_0).view.read (Elt F) (V c main_arg13)
abbrev fin11 (c : Dev nD) : (cfg2.win 11).block.Idx → Elt F (cfg2.win 11).elt := ((cfg2.win 11).blk t2_0).view.read (Elt F) (V c main_arg14)
abbrev fin12 (c : Dev nD) : (cfg2.win 12).block.Idx → Elt F (cfg2.win 12).elt := ((cfg2.win 12).blk t2_0).view.read (Elt F) (V c main_arg15)

abbrev finished (c : Dev nD) := finishRun (F := F) c (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (stage2_8 0) (hstage2_8 0) (stage2_9 0) (hstage2_9 0) (stage2_10 0) (hstage2_10 0) (stage2_11 0) (hstage2_11 0) (stage2_12 0) (hstage2_12 0) (stage2_13 0) (hstage2_13 0)
  (fin0 V c) (fin1 V c) (fin2 V c) (fin3 V c) (fin4 V c) (fin5 V c) (fin6 V c) (fin7 V c) (fin8 V c) (fin9 V c) (fin10 V c) (fin11 V c) (fin12 V c)

abbrev Φf (c : Dev nD) : sProp 𝕄 := Pipeline.scopedRest (Ix := HIx 1) (Name := ℕ) (U := UU) (Lvl := ℕ) (Val := Elt F) spec2 c

/-- The region's proof data: the SparseCores' call is over, and what the core waited for lies at or below its level. -/
def finDat (c : Dev nD) : Dat τ (Elt F) (HIx 1) ℕ UU ℕ cfg2 c where
  A w := V c (Pipeline.arrRef spec2 w)
  after w _ := match w with
    | ⟨0, _⟩ => fin0 V c
    | ⟨1, _⟩ => fin1 V c
    | ⟨2, _⟩ => fin2 V c
    | ⟨3, _⟩ => fin3 V c
    | ⟨4, _⟩ => fin4 V c
    | ⟨5, _⟩ => fin5 V c
    | ⟨6, _⟩ => fin6 V c
    | ⟨7, _⟩ => fin7 V c
    | ⟨8, _⟩ => fin8 V c
    | ⟨9, _⟩ => fin9 V c
    | ⟨10, _⟩ => fin10 V c
    | ⟨11, _⟩ => fin11 V c
    | ⟨12, _⟩ => fin12 V c
    | ⟨13, _⟩ => (finished V c).1
  Φ _ := Φf c
  q _ := fullShare
  owed _ := (K (F := F)).Otc c 1
  recorded _ := {p | (K (F := F)).lev (T c, p.1) p.2 ≤ 8}

theorem before_fin0 (c : Dev nD) (d : (cfg2.win 0).block.Idx → Elt F (cfg2.win 0).elt) : (finDat V c).before 0 t2_0 d = fin0 V c := by
  unfold Dat.before; rw [if_pos (by decide)]; rfl
theorem before_fin1 (c : Dev nD) (d : (cfg2.win 1).block.Idx → Elt F (cfg2.win 1).elt) : (finDat V c).before 1 t2_0 d = fin1 V c := by
  unfold Dat.before; rw [if_pos (by decide)]; rfl
theorem before_fin2 (c : Dev nD) (d : (cfg2.win 2).block.Idx → Elt F (cfg2.win 2).elt) : (finDat V c).before 2 t2_0 d = fin2 V c := by
  unfold Dat.before; rw [if_pos (by decide)]; rfl
theorem before_fin3 (c : Dev nD) (d : (cfg2.win 3).block.Idx → Elt F (cfg2.win 3).elt) : (finDat V c).before 3 t2_0 d = fin3 V c := by
  unfold Dat.before; rw [if_pos (by decide)]; rfl
theorem before_fin4 (c : Dev nD) (d : (cfg2.win 4).block.Idx → Elt F (cfg2.win 4).elt) : (finDat V c).before 4 t2_0 d = fin4 V c := by
  unfold Dat.before; rw [if_pos (by decide)]; rfl
theorem before_fin5 (c : Dev nD) (d : (cfg2.win 5).block.Idx → Elt F (cfg2.win 5).elt) : (finDat V c).before 5 t2_0 d = fin5 V c := by
  unfold Dat.before; rw [if_pos (by decide)]; rfl
theorem before_fin6 (c : Dev nD) (d : (cfg2.win 6).block.Idx → Elt F (cfg2.win 6).elt) : (finDat V c).before 6 t2_0 d = fin6 V c := by
  unfold Dat.before; rw [if_pos (by decide)]; rfl
theorem before_fin7 (c : Dev nD) (d : (cfg2.win 7).block.Idx → Elt F (cfg2.win 7).elt) : (finDat V c).before 7 t2_0 d = fin7 V c := by
  unfold Dat.before; rw [if_pos (by decide)]; rfl
theorem before_fin8 (c : Dev nD) (d : (cfg2.win 8).block.Idx → Elt F (cfg2.win 8).elt) : (finDat V c).before 8 t2_0 d = fin8 V c := by
  unfold Dat.before; rw [if_pos (by decide)]; rfl
theorem before_fin9 (c : Dev nD) (d : (cfg2.win 9).block.Idx → Elt F (cfg2.win 9).elt) : (finDat V c).before 9 t2_0 d = fin9 V c := by
  unfold Dat.before; rw [if_pos (by decide)]; rfl
theorem before_fin10 (c : Dev nD) (d : (cfg2.win 10).block.Idx → Elt F (cfg2.win 10).elt) : (finDat V c).before 10 t2_0 d = fin10 V c := by
  unfold Dat.before; rw [if_pos (by decide)]; rfl
theorem before_fin11 (c : Dev nD) (d : (cfg2.win 11).block.Idx → Elt F (cfg2.win 11).elt) : (finDat V c).before 11 t2_0 d = fin11 V c := by
  unfold Dat.before; rw [if_pos (by decide)]; rfl
theorem before_fin12 (c : Dev nD) (d : (cfg2.win 12).block.Idx → Elt F (cfg2.win 12).elt) : (finDat V c).before 12 t2_0 d = fin12 V c := by
  unfold Dat.before; rw [if_pos (by decide)]; rfl

set_option maxHeartbeats 8000000 in
theorem finish_obligation (c : Dev nD) : BodyObligation (finDat V c) (defs₀ (F := F)) 𝒱₀ (none : HIx 1) Set.univ := fun t => by
  obtain rfl := fin_N2 t
  rw [bigSep_W2, bigSep_W2]
  simp only [owns_whole_eq]
  rw [show (finDat V c).Φ t2_0.castSucc = Φf c from rfl, show (finDat V c).Φ t2_0.succ = Φf c from rfl,
    show (finDat V c).owesAt (none : HIx 1) t2_0.succ = (finDat V c).owesAt (none : HIx 1) t2_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, -, H13⟩⟩
  rw [before_fin0] at hf0
  rw [before_fin1] at hf1
  rw [before_fin2] at hf2
  rw [before_fin3] at hf3
  rw [before_fin4] at hf4
  rw [before_fin5] at hf5
  rw [before_fin6] at hf6
  rw [before_fin7] at hf7
  rw [before_fin8] at hf8
  rw [before_fin9] at hf9
  rw [before_fin10] at hf10
  rw [before_fin11] at hf11
  rw [before_fin12] at hf12
  subst hf0 hf1 hf2 hf3 hf4 hf5 hf6 hf7 hf8 hf9 hf10 hf11 hf12
  iapply ((finished V c).2 f13 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Howes]; · iexact Howes
  isplitl [H0]; · iexists _; isplitr; swap; (· iexact H0); ipureintro; dsimp only [finDat]
  isplitl [H1]; · iexists _; isplitr; swap; (· iexact H1); ipureintro; dsimp only [finDat]
  isplitl [H2]; · iexists _; isplitr; swap; (· iexact H2); ipureintro; dsimp only [finDat]
  isplitl [H3]; · iexists _; isplitr; swap; (· iexact H3); ipureintro; dsimp only [finDat]
  isplitl [H4]; · iexists _; isplitr; swap; (· iexact H4); ipureintro; dsimp only [finDat]
  isplitl [H5]; · iexists _; isplitr; swap; (· iexact H5); ipureintro; dsimp only [finDat]
  isplitl [H6]; · iexists _; isplitr; swap; (· iexact H6); ipureintro; dsimp only [finDat]
  isplitl [H7]; · iexists _; isplitr; swap; (· iexact H7); ipureintro; dsimp only [finDat]
  isplitl [H8]; · iexists _; isplitr; swap; (· iexact H8); ipureintro; dsimp only [finDat]
  isplitl [H9]; · iexists _; isplitr; swap; (· iexact H9); ipureintro; dsimp only [finDat]
  isplitl [H10]; · iexists _; isplitr; swap; (· iexact H10); ipureintro; dsimp only [finDat]
  isplitl [H11]; · iexists _; isplitr; swap; (· iexact H11); ipureintro; dsimp only [finDat]
  isplitl [H12]; · iexists _; isplitr; swap; (· iexact H12); ipureintro; dsimp only [finDat]
  iexists _; isplitr; swap; (· iexact H13); ipureintro; dsimp only [finDat]

theorem Otc_none (d : Dev nD) (n : ℕ) (g : GSem nD τ sig) : (K (F := F)).Otc (N := 1) d n g none = 0 := by
  unfold SparseCore.Cfg.Otc
  simp only [Finset.univ_unique, Finset.sum_singleton]
  split
  · rw [Finset.sum_apply, Finsupp.finset_sum_apply]
    exact Finset.sum_eq_zero fun c _ => by rw [tallyAt_apply, if_neg (fun h => by simp at h)]
  · rfl

end Cert.Proof.Sparsity

end
-- ==== Proof.Scorer.lean ====
/-
  The TensorCore call: from whole staging buffers its body leaves the score table, the slot table and the ordering matrix; as
  one region of the launch it takes the thread from the entry buffers to the same buffers with those three arrays replaced.
-/
module

public import proofs.«01_k».proof.Proof.Finisher

@[expose] public section

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F] [∀ e, Nonempty (Elt F e)]

local notation "𝕄" => MM F

/-- What the scorer leaves in its three result buffers over its five operands, with the run that leaves it. -/
def scorerRun (c : Dev nD)
    (M0 : Memref sig .tc .vmem S6x256 .f32) (h0 : M0.IsWhole) (M1 : Memref sig .tc .vmem S128x256 .f32) (h1 : M1.IsWhole)
    (M2 : Memref sig .tc .vmem S128 .f32) (h2 : M2.IsWhole) (M3 : Memref sig .tc .vmem S1x128 .f32) (h3 : M3.IsWhole)
    (M4 : Memref sig .tc .vmem S1 .f32) (h4 : M4.IsWhole) (M5 : Memref sig .tc .vmem S1x16 .f32) (h5 : M5.IsWhole)
    (M6 : Memref sig .tc .vmem S1x16 .i32) (h6 : M6.IsWhole) (M7 : Memref sig .tc .vmem S8x8 .f32) (h7 : M7.IsWhole)
    (f0 : Bf F c M0) (f1 : Bf F c M1) (f2 : Bf F c M2) (f3 : Bf F c M3) (f4 : Bf F c M4) :
    Σ' (W5 : Bf F c M5) (W6 : Bf F c M6) (W7 : Bf F c M7),
      ∀ (g5 : Bf F c M5) (g6 : Bf F c M6) (g7 : Bf F c M7) (E : Set ℕ) (Q : PUnit → sProp 𝕄),
        iprop(pt c M0 f0 ∗ pt c M1 f1 ∗ pt c M2 f2 ∗ pt c M3 f3 ∗ pt c M4 f4 ∗ pt c M5 g5 ∗ pt c M6 g6 ∗ pt c M7 g7
            ∗ (iprop(pt c M0 f0 ∗ pt c M1 f1 ∗ pt c M2 f2 ∗ pt c M3 f3 ∗ pt c M4 f4 ∗ pt c M5 W5 ∗ pt c M6 W6 ∗ pt c M7 W7) -∗ Q ⟨⟩))
          ⊢ wp frame (wpE (defs₀ (F := F)) Variants.none c none) E (cc0__scorer_body M0 h0 M1 h1 M2 h2 M3 h3 M4 h4 M5 h5 M6 h6 M7 h7) Q := by
  refine ⟨?_, ?_, ?_, fun g5 g6 g7 E Q => ?run⟩
  case run =>
    rw [cc0__scorer_body_eq_skeleton]; unfold cc0__scorer_body_skel
    rw [k0_part1_eq_skeleton]; unfold k0_part1_skel
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The proof data at an entry valuation -/

variable (V : (c : Dev nD) → (b : Ref sig .tc) → Buf (Elt F) ((c : Thread nD τ).loc b))

/-- The operands' blocks as fetched: the arrays at the entry valuation. -/
abbrev stg0 (c : Dev nD) : (cfg0.win 0).block.Idx → Elt F (cfg0.win 0).elt := ((cfg0.win 0).blk t0_0).view.read (Elt F) (V c main_arg1)
abbrev stg1 (c : Dev nD) : (cfg0.win 1).block.Idx → Elt F (cfg0.win 1).elt := ((cfg0.win 1).blk t0_0).view.read (Elt F) (V c main_arg2)
abbrev stg2 (c : Dev nD) : (cfg0.win 2).block.Idx → Elt F (cfg0.win 2).elt := ((cfg0.win 2).blk t0_0).view.read (Elt F) (V c main_arg3)
abbrev stg3 (c : Dev nD) : (cfg0.win 3).block.Idx → Elt F (cfg0.win 3).elt := ((cfg0.win 3).blk t0_0).view.read (Elt F) (V c main_arg4)
abbrev stg4 (c : Dev nD) : (cfg0.win 4).block.Idx → Elt F (cfg0.win 4).elt := ((cfg0.win 4).blk t0_0).view.read (Elt F) (V c main_arg5)

abbrev scored (c : Dev nD) := scorerRun (F := F) c (stage0_0 0) (hstage0_0 0) (stage0_1 0) (hstage0_1 0) (stage0_2 0) (hstage0_2 0)
  (stage0_3 0) (hstage0_3 0) (stage0_4 0) (hstage0_4 0) (stage0_5 0) (hstage0_5 0) (stage0_6 0) (hstage0_6 0) (stage0_7 0) (hstage0_7 0)
  (stg0 V c) (stg1 V c) (stg2 V c) (stg3 V c) (stg4 V c)

abbrev Φs (c : Dev nD) : sProp 𝕄 := Pipeline.scopedRest (Ix := HIx 1) (Name := ℕ) (U := UU) (Lvl := ℕ) (Val := Elt F) spec0 c

/-- The region's proof data: the core owes the SparseCores their start throughout. -/
def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => (scored V c).1
    | ⟨6, _⟩ => (scored V c).2.1
    | ⟨7, _⟩ => (scored V c).2.2.1
  Φ _ := Φs c
  q _ := fullShare
  owed _ := (K (F := F)).Otc c 0
  recorded _ := {p | (K (F := F)).lev (T c, p.1) p.2 ≤ 0}

def pdats : (p : Fin 2) → (c : Dev nD) → Dat τ (Elt F) (HIx 1) ℕ UU ℕ (Pipeline.pin (pcfgs (F := F)) adm p) c
  | ⟨0, _⟩ => fun c => dat V c
  | ⟨1, _⟩ => fun c => finDat V c

theorem before_in0 (c : Dev nD) (d : (cfg0.win 0).block.Idx → Elt F (cfg0.win 0).elt) : (dat V c).before 0 t0_0 d = stg0 V c := by
  unfold Dat.before; rw [if_pos (by decide)]; rfl
theorem before_in1 (c : Dev nD) (d : (cfg0.win 1).block.Idx → Elt F (cfg0.win 1).elt) : (dat V c).before 1 t0_0 d = stg1 V c := by
  unfold Dat.before; rw [if_pos (by decide)]; rfl
theorem before_in2 (c : Dev nD) (d : (cfg0.win 2).block.Idx → Elt F (cfg0.win 2).elt) : (dat V c).before 2 t0_0 d = stg2 V c := by
  unfold Dat.before; rw [if_pos (by decide)]; rfl
theorem before_in3 (c : Dev nD) (d : (cfg0.win 3).block.Idx → Elt F (cfg0.win 3).elt) : (dat V c).before 3 t0_0 d = stg3 V c := by
  unfold Dat.before; rw [if_pos (by decide)]; rfl
theorem before_in4 (c : Dev nD) (d : (cfg0.win 4).block.Idx → Elt F (cfg0.win 4).elt) : (dat V c).before 4 t0_0 d = stg4 V c := by
  unfold Dat.before; rw [if_pos (by decide)]; rfl

theorem body_obligation (c : Dev nD) : BodyObligation (dat V c) (defs₀ (F := F)) 𝒱₀ (none : HIx 1) Set.univ := fun t => by
  obtain rfl := fin_N0 t
  rw [bigSep_W0, bigSep_W0]
  simp only [owns_whole_eq]
  rw [show (dat V c).Φ t0_0.castSucc = Φs c from rfl, show (dat V c).Φ t0_0.succ = Φs c from rfl,
    show (dat V c).owesAt (none : HIx 1) t0_0.succ = (dat V c).owesAt (none : HIx 1) t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, -, H5⟩, ⟨%d6, %f6, -, H6⟩, ⟨%d7, %f7, -, H7⟩⟩
  rw [before_in0] at hf0
  rw [before_in1] at hf1
  rw [before_in2] at hf2
  rw [before_in3] at hf3
  rw [before_in4] at hf4
  subst hf0 hf1 hf2 hf3 hf4
  iapply ((scored V c).2.2.2 f5 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  iexists _; isplitr; swap; (· iexact H7); ipureintro; dsimp only [dat]

/-! ## The region over the thread state -/

/-- The three arrays after the region. -/
def stabOf (c : Dev nD) : Buf (Elt F) ((c : Thread nD τ).loc main_v0_0) := (dat V c).arrAt 5 cfg0.N
def slotOf (c : Dev nD) : Buf (Elt F) ((c : Thread nD τ).loc main_v0_1) := (dat V c).arrAt 6 cfg0.N
def ordOf (c : Dev nD) : Buf (Elt F) ((c : Thread nD τ).loc main_v0_2) := (dat V c).arrAt 7 cfg0.N

variable (Vp : (c : Dev nD) → (b : Ref sig .tc) → Buf (Elt F) ((c : Thread nD τ).loc b))

/-- What the thread owes between its region and its call, its recorded waits all at the bottom level. -/
abbrev tcOwes (c : Dev nD) : sProp 𝕄 :=
  iprop(∃ W, ⌜(K (F := F)).WBelow (T c) W 0⌝ ∗ owes (T c) ((K (F := F)).Otc c 0) W)

set_option backward.isDefEq.respectTransparency.types false in
/-- The scorer's region. -/
def reg (hstab : ∀ c, Vp c main_v0_0 = stabOf V c) (hslot : ∀ c, Vp c main_v0_1 = slotOf V c) (hord : ∀ c, Vp c main_v0_2 = ordOf V c)
    (hne : ∀ c (b : Ref sig .tc), b ≠ main_v0_0 → b ≠ main_v0_1 → b ≠ main_v0_2 → Vp c b = V c b) :
    Pipeline.RegionSeg (pcfgs (F := F)) adm (pdats V) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ 0 c fun w s t => (K (F := F)).mayWait_none _ fun g => Otc_none c 0 g
  pre c := iprop(unscopedBufs c (V c) ∗ tcOwes c)
  post c := iprop(unscopedBufs c (Vp c) ∗ tcOwes c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φs c from rfl]
    iintro ⟨-, -, Hr⟩; iexact Hr
  hout c := by
    rw [Pipeline.ownSems0_none, show (pdats V 0 c).Φ (Fin.last _) = Φs c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hne c main_arg1 (by decide) (by decide) (by decide)).symm
        · exact ((pdats V 0 c).arrAt_in 1 rfl _).trans (hne c main_arg2 (by decide) (by decide) (by decide)).symm
        · exact ((pdats V 0 c).arrAt_in 2 rfl _).trans (hne c main_arg3 (by decide) (by decide) (by decide)).symm
        · exact ((pdats V 0 c).arrAt_in 3 rfl _).trans (hne c main_arg4 (by decide) (by decide) (by decide)).symm
        · exact ((pdats V 0 c).arrAt_in 4 rfl _).trans (hne c main_arg5 (by decide) (by decide) (by decide)).symm
        · exact (hstab c).symm
        · exact (hslot c).symm
        · exact (hord c).symm)
      (fun b hb => hne c b (fun h => hb (h ▸ Finset.mem_image.mpr ⟨5, Finset.mem_univ _, rfl⟩))
        (fun h => hb (h ▸ Finset.mem_image.mpr ⟨6, Finset.mem_univ _, rfl⟩)) (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · exact le_rfl
    iexact HO

end Cert.Proof.Sparsity

end
-- ==== Proof.Deal.lean ====
/-
  What the SparseCore call hands each of its 32 tasks and has back: two rows of each array and a share of the two
  tables.  The arrays are dealt over cores and tasks at once, so a core's share is its tasks' shares side by side.
-/
module

public import proofs.«01_k».proof.Proof.Body
public import proofs.«01_k».proof.Proof.Scorer
public import Idealize.ShloMosaic.Lib.Transfers

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (dealOf pointsTo_deal)

variable {F : FTy → Type} [FloatOps F] [Named F] [∀ e, Nonempty (Elt F e)]

attribute [local irreducible] rank base pre

/-! ## Which rows, and which share -/

/-- The coordinates of task `i` of core `c`. -/
def at2 (c : Fin (grid1.bound 0)) (i : Fin (grid1.bound 1)) : grid1.Coords :=
  fun | 0 => c | 1 => i | ⟨_ + 2, h⟩ => absurd h (Nat.not_lt.2 (Nat.le_add_left _ _))

/-- Row of core, task and turn. -/
def rowOf (x : Fin 2 × Fin 16 × Fin 2) : Fin 64 := bt (at2 x.1 x.2.1) x.2.2

theorem rowOf_bij : Function.Bijective rowOf := by decide +kernel

theorem rows_deal (Φ : Fin 64 → sProp (MM F)) :
    bigSep Finset.univ Φ = bigSep Finset.univ fun c : Fin 2 => bigSep Finset.univ fun i : Fin 16 => iprop(Φ (bt (at2 c i) 0) ∗ Φ (bt (at2 c i) 1)) := by
  rw [bigSep_univ_equiv (Equiv.ofBijective rowOf rowOf_bij), bigSep_univ_prod]
  refine bigSep_congr fun c _ => ?_
  rw [bigSep_univ_prod]
  exact bigSep_congr fun i _ => bigSep_fin_two _

/-- The share of the tables a task reads through. -/
def qOf (c : Fin 2) (i : Fin 16) : PosShare TreeShare := dealOf (dealOf fullShare Finset.univ c) Finset.univ i

theorem share_deal (ℓ : Loc nD τ sig) (f : Buf (Elt F) ℓ) :
    (ℓ ↦{fullShare} f : sProp (MM F)) = bigSep Finset.univ fun c : Fin 2 => bigSep Finset.univ fun i : Fin 16 => ℓ ↦{qOf c i} f := by
  rw [pointsTo_deal (ℓ := ℓ) (S := Finset.univ) (f := f) (Finset.univ : Finset (Fin 2)) ⟨0, Finset.mem_univ _⟩ fullShare]
  exact bigSep_congr fun c _ => pointsTo_deal (ℓ := ℓ) (S := Finset.univ) (f := f) (Finset.univ : Finset (Fin 16)) ⟨0, Finset.mem_univ _⟩ _

/-! ## The rows of an array -/

theorem rowW_disjoint : ∀ i ∈ (Finset.univ : Finset (Fin 64)), ∀ j ∈ (Finset.univ : Finset (Fin 64)), i ≠ j → Disjoint (rowW i) (rowW j) :=
  fun _ _ _ _ h => Rect.part_disjoint divW h
theorem rowW_cover : (Finset.univ : Finset (Fin 64)).biUnion rowW = Finset.univ := Rect.biUnion_part divW
theorem rowI_disjoint : ∀ i ∈ (Finset.univ : Finset (Fin 64)), ∀ j ∈ (Finset.univ : Finset (Fin 64)), i ≠ j → Disjoint (rowI i) (rowI j) :=
  fun _ _ _ _ h => Rect.part_disjoint divI h
theorem rowI_cover : (Finset.univ : Finset (Fin 64)).biUnion rowI = Finset.univ := Rect.biUnion_part divI
theorem rowC_disjoint : ∀ i ∈ (Finset.univ : Finset (Fin 64)), ∀ j ∈ (Finset.univ : Finset (Fin 64)), i ≠ j → Disjoint (rowC i) (rowC j) :=
  fun _ _ _ _ h => Rect.part_disjoint divC h
theorem rowC_cover : (Finset.univ : Finset (Fin 64)).biUnion rowC = Finset.univ := Rect.biUnion_part divC

variable (d : Dev nD)

theorem x_rows (f : Buf (Elt F) (xLoc d)) :
    (xLoc d ↦{fullShare} f : sProp (MM F)) = bigSep Finset.univ fun b : Fin 64 => xLoc d ↦[rowW b]{fullShare} f := by
  rw [← pointsTo_biUnion Finset.univ (ℓ := xLoc d) rowW rowW_disjoint, rowW_cover]
theorem sc_rows (f : Buf (Elt F) (scLoc d)) :
    (scLoc d ↦{fullShare} f : sProp (MM F)) = bigSep Finset.univ fun b : Fin 64 => scLoc d ↦[rowW b]{fullShare} f := by
  rw [← pointsTo_biUnion Finset.univ (ℓ := scLoc d) rowW rowW_disjoint, rowW_cover]
theorem ix_rows (f : Buf (Elt F) (ixLoc d)) :
    (ixLoc d ↦{fullShare} f : sProp (MM F)) = bigSep Finset.univ fun b : Fin 64 => ixLoc d ↦[rowI b]{fullShare} f := by
  rw [← pointsTo_biUnion Finset.univ (ℓ := ixLoc d) rowI rowI_disjoint, rowI_cover]
theorem ct_rows (f : Buf (Elt F) (ctLoc d)) :
    (ctLoc d ↦{fullShare} f : sProp (MM F)) = bigSep Finset.univ fun b : Fin 64 => ctLoc d ↦[rowC b]{fullShare} f := by
  rw [← pointsTo_biUnion Finset.univ (ℓ := ctLoc d) rowC rowC_disjoint, rowC_cover]

/-- The four arrays at any contents, row by row. -/
theorem rows_in (X : Buf (Elt F) (xLoc d)) (f : Buf (Elt F) (scLoc d)) (g : Buf (Elt F) (ixLoc d)) (h : Buf (Elt F) (ctLoc d)) :
    iprop((xLoc d ↦{fullShare} X) ∗ (scLoc d ↦{fullShare} f) ∗ (ixLoc d ↦{fullShare} g) ∗ (ctLoc d ↦{fullShare} h))
      ⊢ (bigSep Finset.univ fun b : Fin 64 => rowIn d X b : sProp (MM F)) := by
  rw [x_rows, sc_rows, ix_rows, ct_rows, ← bigSep_sep', ← bigSep_sep', ← bigSep_sep']
  refine bigSep_mono fun b _ => ?_
  show iprop((xLoc d ↦[rowW b]{fullShare} X) ∗ (scLoc d ↦[rowW b]{fullShare} f) ∗ (ixLoc d ↦[rowI b]{fullShare} g) ∗ (ctLoc d ↦[rowC b]{fullShare} h)) ⊢ rowIn d X b
  unfold rowIn
  iintro ⟨Hx, Hs, Hi, Hc⟩
  isplitl [Hx]; · iexact Hx
  isplitl [Hs]; · iexists f; iexact Hs
  isplitl [Hi]; · iexists g; iexact Hi
  iexists h; iexact Hc

theorem atW_mem (b : Fin 64) (p : ℕ) : atW b p ∈ rowW b := by
  rw [rowW]; unfold Rect.part Rect.block
  rw [Rect.mem_set_unit]; intro a; fin_cases a
  · exact ⟨by show b.val * (64 / 64) ≤ b.val; omega, by show b.val < b.val * (64 / 64) + 64 / 64; omega⟩
  · exact ⟨Nat.zero_le _, by show p % 4096 < 0 + 4096; omega⟩
theorem atI_mem (b : Fin 64) (p : ℕ) : atI b p ∈ rowI b := by
  rw [rowI]; unfold Rect.part Rect.block
  rw [Rect.mem_set_unit]; intro a; fin_cases a
  · exact ⟨by show b.val * (64 / 64) ≤ b.val; omega, by show b.val < b.val * (64 / 64) + 64 / 64; omega⟩
  · exact ⟨Nat.zero_le _, by show p % 416 < 0 + 416; omega⟩
theorem atC_mem (b : Fin 64) (p : ℕ) : atC b p ∈ rowC b := by
  rw [rowC]; unfold Rect.part Rect.block
  rw [Rect.mem_set_unit]; intro a; fin_cases a
  · exact ⟨by show b.val * (64 / 64) ≤ b.val; omega, by show b.val < b.val * (64 / 64) + 64 / 64; omega⟩
  · exact ⟨Nat.zero_le _, by show p % 16 < 0 + 16; omega⟩

/-- Pure parts are read off a separating conjunction together. -/
theorem bigSep_facts {I : Type} (s : Finset I) (P : I → Prop) (Q : I → sProp (MM F)) :
    (bigSep s fun b => iprop(⌜P b⌝ ∗ Q b)) ⊢ (iprop(⌜∀ b ∈ s, P b⌝ ∗ bigSep s Q) : sProp (MM F)) := by
  classical
  induction s using Finset.induction_on with
  | empty =>
    rw [BI.bigSep_empty, BI.bigSep_empty]
    iintro H; isplitr; · ipureintro; exact fun b hb => absurd hb (Finset.notMem_empty b)
    iexact H
  | insert a s ha ih =>
    rw [BI.bigSep_insert ha, BI.bigSep_insert ha]
    show iprop((⌜P a⌝ ∗ Q a) ∗ bigSep s fun b => iprop(⌜P b⌝ ∗ Q b)) ⊢ (iprop(⌜∀ b ∈ insert a s, P b⌝ ∗ (Q a ∗ bigSep s Q)) : sProp (MM F))
    iintro ⟨⟨%h, Ha⟩, Hs⟩
    ihave Hs := ih $$ Hs
    icases Hs with ⟨%hs, Hs⟩
    isplitr
    · ipureintro; intro b hb
      rcases Finset.mem_insert.1 hb with rfl | hb
      · exact h
      · exact hs b hb
    isplitl [Ha] <;> iassumption

/-- One array's rows, each at contents with a property of that row alone, are the array at contents with all of them. -/
theorem rows_join {ℓ : Loc nD τ sig} (K : Fin 64 → Finset (Idx ℓ)) (hd : ∀ i ∈ (Finset.univ : Finset (Fin 64)), ∀ j ∈ (Finset.univ : Finset (Fin 64)), i ≠ j → Disjoint (K i) (K j))
    (hc : (Finset.univ : Finset (Fin 64)).biUnion K = Finset.univ) (P : Fin 64 → Buf (Elt F) ℓ → Prop) [Nonempty (Buf (Elt F) ℓ)]
    (hP : ∀ b f g, P b f → (∀ i ∈ K b, g i = f i) → P b g) :
    (bigSep Finset.univ fun b : Fin 64 => iprop(∃ f, ⌜P b f⌝ ∗ ℓ ↦[K b]{fullShare} f)) ⊢ (iprop(∃ f, ⌜∀ b, P b f⌝ ∗ ℓ ↦{fullShare} f) : sProp (MM F)) := by
  refine (bigSep_exists_pi Finset.univ (fun (b : Fin 64) (f : Buf (Elt F) ℓ) => iprop(⌜P b f⌝ ∗ ℓ ↦[K b]{fullShare} f))).trans ?_
  iintro ⟨%fs, H⟩
  ihave H := (bigSep_facts Finset.univ (fun b => P b (fs b)) (fun b => iprop(ℓ ↦[K b]{fullShare} fs b))) $$ H
  icases H with ⟨%hfs, H⟩
  ihave H := (pointsTo_biUnion_join (ℓ := ℓ) (q := fullShare) (Val := Elt F) Finset.univ K fs (fs 0) hd) $$ H
  icases H with ⟨%g, %hg, H⟩
  rw [hc]
  iexists g
  isplitr
  · ipureintro; exact fun b => hP b (fs b) g (hfs b (Finset.mem_univ b)) (hg b (Finset.mem_univ b))
  iexact H

/-- The rows as the tasks leave them: the ids as they were, and the scores, positions and totals whole, at contents with the
    stated values in every row. -/
theorem rows_out (X : Buf (Elt F) (xLoc d)) (tb : Buf (Elt F) (stLoc d)) (sb : Buf (Elt F) (slLoc d)) :
    (bigSep Finset.univ fun b : Fin 64 => rowOut d X tb sb b)
      ⊢ (iprop((xLoc d ↦{fullShare} X) ∗ (∃ f, ⌜∀ b, ScoresIn (F := F) X tb b f⌝ ∗ scLoc d ↦{fullShare} f)
          ∗ (∃ f, ⌜∀ b, PlacesIn X sb b f⌝ ∗ ixLoc d ↦{fullShare} f)
          ∗ (∃ f, ⌜∀ b, TotalsIn X sb b f⌝ ∗ ctLoc d ↦{fullShare} f)) : sProp (MM F)) := by
  unfold rowOut
  rw [bigSep_sep', bigSep_sep', bigSep_sep', x_rows]
  have n1 : Nonempty (Buf (Elt F) (scLoc d)) := ⟨fun _ => Classical.choice inferInstance⟩
  have n2 : Nonempty (Buf (Elt F) (ixLoc d)) := ⟨fun _ => Classical.choice inferInstance⟩
  have n3 : Nonempty (Buf (Elt F) (ctLoc d)) := ⟨fun _ => Classical.choice inferInstance⟩
  iintro ⟨Hx, Hs, Hi, Ht⟩
  isplitl [Hx]; · iexact Hx
  isplitl [Hs]
  · iapply (rows_join (F := F) (ℓ := scLoc d) rowW rowW_disjoint rowW_cover (fun b f => ScoresIn (F := F) X tb b f)
      (fun b f g hf hg p hp => (hg _ (atW_mem b p)).trans (hf p hp))); iexact Hs
  isplitl [Hi]
  · iapply (rows_join (F := F) (ℓ := ixLoc d) rowI rowI_disjoint rowI_cover (fun b f => PlacesIn X sb b f)
      (fun b f g hf hg p hp h => (hg _ (atI_mem b _)).trans (hf p hp h))); iexact Hi
  · iapply (rows_join (F := F) (ℓ := ctLoc d) rowC rowC_disjoint rowC_cover (fun b f => TotalsIn X sb b f)
      (fun b f g hf hg i => (hg _ (atC_mem b _)).trans (hf i))); iexact Ht

end Cert.Proof.Sparsity

end
-- ==== Proof.Tasks.lean ====
/-
  The SparseCore call as the launch theorem asks for it: what a core and each of its tasks is handed and hands back, that
  a task does so, and that a core's share is its tasks' shares.
-/
module

public import proofs.«01_k».proof.Proof.Deal

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [∀ e, Nonempty (Elt F e)]

attribute [local irreducible] rank base pre

variable (m : (ℓ : Loc nD τ sig) → Buf (Elt F) ℓ)

/-- The TensorCore's buffers at launch. -/
abbrev Vm (c : Dev nD) (b : Ref sig .tc) : Buf (Elt F) ((c : Thread nD τ).loc b) := m ((c : Thread nD τ).loc b)

/-- The ids, and the two tables the scorer leaves. -/
abbrev xOf (d : Dev nD) : Buf (Elt F) (xLoc d) := m (xLoc d)
abbrev tbOf (d : Dev nD) : Buf (Elt F) (stLoc d) := stabOf (Vm m) d
abbrev sbOf (d : Dev nD) : Buf (Elt F) (slLoc d) := slotOf (Vm m) d

/-- What task `i` of core `c` is handed, -/
def taskIn (d : Dev nD) (c : Fin 2) (i : Fin 16) : sProp (MM F) :=
  iprop((rowIn d (xOf m d) (bt (at2 c i) 0) ∗ rowIn d (xOf m d) (bt (at2 c i) 1)) ∗ (stLoc d ↦{qOf c i} tbOf m d) ∗ (slLoc d ↦{qOf c i} sbOf m d))
/-- and what it hands back. -/
def taskOut (d : Dev nD) (c : Fin 2) (i : Fin 16) : sProp (MM F) :=
  iprop((rowOut d (xOf m d) (tbOf m d) (sbOf m d) (bt (at2 c i) 0) ∗ rowOut d (xOf m d) (tbOf m d) (sbOf m d) (bt (at2 c i) 1))
    ∗ (stLoc d ↦{qOf c i} tbOf m d) ∗ (slLoc d ↦{qOf c i} sbOf m d))

instance rowIn_storable (d : Dev nD) (X : Buf (Elt F) (xLoc d)) (b : Fin 64) : BI.Storable (upEmb : UEmb _ (MM F)) (rowIn d X b) := by unfold rowIn; infer_instance
instance rowOut_storable (d : Dev nD) (X : Buf (Elt F) (xLoc d)) (tb : Buf (Elt F) (stLoc d)) (sb : Buf (Elt F) (slLoc d)) (b : Fin 64) :
    BI.Storable (upEmb : UEmb _ (MM F)) (rowOut d X tb sb b) := by unfold rowOut; infer_instance
instance taskIn_storable (d : Dev nD) (c : Fin 2) (i : Fin 16) : BI.Storable (upEmb : UEmb _ (MM F)) (taskIn m d c i) := by unfold taskIn; infer_instance
instance taskOut_storable (d : Dev nD) (c : Fin 2) (i : Fin 16) : BI.Storable (upEmb : UEmb _ (MM F)) (taskOut m d c i) := by unfold taskOut; infer_instance

theorem nCore_eq : (K (F := F)).nCore 0 = 2 := rfl
theorem nSub_eq : (K (F := F)).nSub 0 = 16 := rfl

/-- The one call's payload. -/
def P : (K (F := F)).Pay (nD := nD) (Val := Elt F) (Name := ℕ) (U := UU) where
  st := fun q d c => match q with | 0 => bigSep Finset.univ fun i : Fin 16 => taskIn m d (Fin.cast nCore_eq c) i
  dn := fun q d c => match q with | 0 => bigSep Finset.univ fun i : Fin 16 => taskOut m d (Fin.cast nCore_eq c) i
  go := fun q d c i => match q with | 0 => taskIn m d (Fin.cast nCore_eq c) (Fin.cast nSub_eq i)
  td := fun q d c i => match q with | 0 => taskOut m d (Fin.cast nCore_eq c) (Fin.cast nSub_eq i)
  x := fun _ _ => iprop(emp)

instance P_storable : (P (F := F) m).IsStorable where
  st q d c := match q with
    | 0 => (inferInstance : BI.Storable (upEmb : UEmb _ (MM F)) (bigSep Finset.univ fun i : Fin 16 => taskIn m d (Fin.cast nCore_eq c) i))
  dn q d c := match q with
    | 0 => (inferInstance : BI.Storable (upEmb : UEmb _ (MM F)) (bigSep Finset.univ fun i : Fin 16 => taskOut m d (Fin.cast nCore_eq c) i))
  go q d c i := match q with
    | 0 => (inferInstance : BI.Storable (upEmb : UEmb _ (MM F)) (taskIn m d (Fin.cast nCore_eq c) (Fin.cast nSub_eq i)))
  td q d c i := match q with
    | 0 => (inferInstance : BI.Storable (upEmb : UEmb _ (MM F)) (taskOut m d (Fin.cast nCore_eq c) (Fin.cast nSub_eq i)))

/-! ## The task -/

section Tile
variable (hX : ∀ d j, (xOf m d j : BitVec 32).toNat < 16) (hsb : ∀ d j, (sbOf m d j : BitVec 32).toNat < 16)
include hX hsb

theorem tile_body (d : Dev nD) (c : Fin (grid1.bound 0)) (i : Fin (grid1.bound 1)) (O : CellTallies nD τ sig (HIx 1)) (W : Waits sig (HIx 1)) (hO : ∀ g, O g none = 0) :
    iprop(levAts (K (F := F)).L (K (F := F)).lev ∗ emp ∗ taskIn m d c i
        ∗ scopedBufs (V d (cV (at2 c i)) (jV (at2 c i))) ∗ scopedSems0 (V d (cV (at2 c i)) (jV (at2 c i))) ∗ owes (V d (cV (at2 c i)) (jV (at2 c i))) O W)
      ⊢ WP d (at2 c i) (cc1_sc_kernel (F := F) (at2 c i) gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9) fun _ =>
          iprop(taskOut m d c i ∗ scopedBufs (V d (cV (at2 c i)) (jV (at2 c i))) ∗ scopedSems0 (V d (cV (at2 c i)) (jV (at2 c i)))
            ∗ ∃ W', ⌜∀ p ∈ W', p ∈ W ∨ p.2 = none ∨ p.2 = some (0 : Fin 1)⌝ ∗ owes (V d (cV (at2 c i)) (jV (at2 c i))) O W') := by
  obtain ⟨R, hR⟩ := tileSems (F := F) d (at2 c i)
  obtain ⟨R', hR'⟩ := tileBufs (F := F) d (at2 c i)
  rw [(K (F := F)).scopedBufs_V facts d (cV (at2 c i)) (jV (at2 c i)), SparseCore.Cfg.scopedSems0_V (Val := Elt F) d (cV (at2 c i)) (jV (at2 c i)), hR, hR']
  have h := tile_run d (at2 c i) (xOf m d) (tbOf m d) (sbOf m d) (hX d) (hsb d) (qOf c i) O W hO
  unfold WP at h ⊢
  refine BIBase.Entails.trans ?_ ((sep_mono_left h).trans ((wp_frame_r (R := iprop(R' ∗ R)) _ _ _).trans (wp_mono _ _ _ fun _ => ?_)))
  · unfold taskIn
    iintro ⟨Hlv, -, Ht, ⟨Hbufs, Hbr⟩, ⟨Hsems, Hsr⟩, HO⟩
    isplitr [Hbr Hsr]
    · isplitl [Hlv]; · iexact Hlv
      isplitl [Ht]; · iexact Ht
      isplitl [Hbufs]; · iexact Hbufs
      isplitl [Hsems] <;> iassumption
    isplitl [Hbr] <;> iassumption
  · unfold taskOut
    iintro ⟨⟨Ht, Hbufs, Hsems, HO⟩, Hbr, Hsr⟩
    isplitl [Ht]; · iexact Ht
    isplitl [Hbufs Hbr]; · isplitl [Hbufs] <;> iassumption
    isplitl [Hsems Hsr]; · isplitl [Hsems] <;> iassumption
    iexact HO

theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 1 () = SparseCore.onTile hcore1 hsub1 (fun c s => cc1_sc_kernel (F := F) (at2 c s) gX (Memref.isWhole_whole _) gStab (Memref.isWhole_whole _) gSlot (Memref.isWhole_whole _) gSc (Memref.isWhole_whole _) gIdx (Memref.isWhole_whole _) gCnt (Memref.isWhole_whole _) sX (Memref.isWhole_whole _) sSc (Memref.isWhole_whole _) sG (Memref.isWhole_whole _) sI (Memref.isWhole_whole _) sH (Memref.isWhole_whole _) sStab (Memref.isWhole_whole _) sSlot (Memref.isWhole_whole _) sCnt (Memref.isWhole_whole _) cc1_scoped0 cc1_scoped1 cc1_scoped2 cc1_scoped3 cc1_scoped4 cc1_scoped5 cc1_scoped6 cc1_scoped7 cc1_scoped8 cc1_scoped9) ⟨⟩ ((K (F := F)).core 0 c) ((K (F := F)).sub 0 i) from rfl]
  simp only [SparseCore.onTile, hci, and_self, ↓reduceDIte]
  exact tile_body m hX hsb d ⟨_, hci.1⟩ ⟨_, hci.2⟩ O W hO

end Tile

theorem vecSplit : (K (F := F)).VecSplit' (P m) 0 := by
  intro d c
  show (bigSep Finset.univ fun i : Fin 16 => taskIn m d (Fin.cast nCore_eq c) i) ⊢ |={Set.univ}=> iprop(
      (bigSep Finset.univ fun i : Fin 16 => taskIn m d (Fin.cast nCore_eq c) i)
      ∗ ((bigSep Finset.univ fun i : Fin 16 => taskOut m d (Fin.cast nCore_eq c) i) -∗ bigSep Finset.univ fun i : Fin 16 => taskOut m d (Fin.cast nCore_eq c) i))
  iintro H; imodintro
  isplitl [H]; · iexact H
  iintro H; iexact H

/-- The call's operands from the arrays whole, and its results back to them. -/
theorem call_in (d : Dev nD) (f : Buf (Elt F) (scLoc d)) (g : Buf (Elt F) (ixLoc d)) (h : Buf (Elt F) (ctLoc d)) :
    iprop(((xLoc d ↦{fullShare} xOf m d) ∗ (scLoc d ↦{fullShare} f) ∗ (ixLoc d ↦{fullShare} g) ∗ (ctLoc d ↦{fullShare} h)) ∗ (stLoc d ↦{fullShare} tbOf m d) ∗ (slLoc d ↦{fullShare} sbOf m d))
      ⊢ bigSep Finset.univ fun c : Fin ((K (F := F)).nCore 0) => (P m).st 0 d c := by
  show _ ⊢ bigSep Finset.univ fun c : Fin 2 => bigSep Finset.univ fun i : Fin 16 => taskIn m d c i
  unfold taskIn
  have e : (bigSep Finset.univ fun c : Fin 2 => bigSep Finset.univ fun i : Fin 16 => iprop((rowIn d (xOf m d) (bt (at2 c i) 0) ∗ rowIn d (xOf m d) (bt (at2 c i) 1)) ∗ (stLoc d ↦{qOf c i} tbOf m d) ∗ (slLoc d ↦{qOf c i} sbOf m d)))
      = iprop((bigSep Finset.univ fun b : Fin 64 => rowIn d (xOf m d) b) ∗ (stLoc d ↦{fullShare} tbOf m d) ∗ (slLoc d ↦{fullShare} sbOf m d)) := by
    rw [rows_deal, share_deal (stLoc d), share_deal (slLoc d), ← bigSep_sep', ← bigSep_sep']
    exact bigSep_congr fun c _ => by rw [← bigSep_sep', ← bigSep_sep']
  rw [e]
  exact sep_mono_left (rows_in d _ f g h)

theorem call_out (d : Dev nD) :
    (bigSep Finset.univ fun c : Fin ((K (F := F)).nCore 0) => (P m).dn 0 d c)
      ⊢ (iprop(((xLoc d ↦{fullShare} xOf m d) ∗ (∃ f, ⌜∀ b, ScoresIn (F := F) (xOf m d) (tbOf m d) b f⌝ ∗ scLoc d ↦{fullShare} f)
          ∗ (∃ f, ⌜∀ b, PlacesIn (xOf m d) (sbOf m d) b f⌝ ∗ ixLoc d ↦{fullShare} f)
          ∗ (∃ f, ⌜∀ b, TotalsIn (xOf m d) (sbOf m d) b f⌝ ∗ ctLoc d ↦{fullShare} f)) ∗ (stLoc d ↦{fullShare} tbOf m d) ∗ (slLoc d ↦{fullShare} sbOf m d)) : sProp (MM F)) := by
  show (bigSep Finset.univ fun c : Fin 2 => bigSep Finset.univ fun i : Fin 16 => taskOut m d c i) ⊢ _
  unfold taskOut
  have e : (bigSep Finset.univ fun c : Fin 2 => bigSep Finset.univ fun i : Fin 16 => iprop((rowOut d (xOf m d) (tbOf m d) (sbOf m d) (bt (at2 c i) 0) ∗ rowOut d (xOf m d) (tbOf m d) (sbOf m d) (bt (at2 c i) 1)) ∗ (stLoc d ↦{qOf c i} tbOf m d) ∗ (slLoc d ↦{qOf c i} sbOf m d)))
      = iprop((bigSep Finset.univ fun b : Fin 64 => rowOut d (xOf m d) (tbOf m d) (sbOf m d) b) ∗ (stLoc d ↦{fullShare} tbOf m d) ∗ (slLoc d ↦{fullShare} sbOf m d)) := by
    rw [rows_deal, share_deal (stLoc d), share_deal (slLoc d), ← bigSep_sep', ← bigSep_sep']
    exact bigSep_congr fun c _ => by rw [← bigSep_sep', ← bigSep_sep']
  rw [e]
  exact sep_mono_left (rows_out d _ _ _)

end Cert.Proof.Sparsity

end
-- ==== Proof.Scored.lean ====
/-
  What the scorer's arrays hold after its call: the body's payloads of the five operands.
-/
module

public import proofs.«01_k».proof.Proof.Scorer
public import Idealize.ShloMosaic.Lib.VecWindow

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [∀ e, Nonempty (Elt F e)]
variable (V : (c : Dev nD) → (b : Ref sig .tc) → Buf (Elt F) ((c : Thread nD τ).loc b))

/-! ## A window of one block is its array -/

theorem blk_emb0 (j : S6x256.Idx) : ((cfg0.win 0).blk t0_0).view.emb j = j := by
  funext a; apply Fin.ext
  fin_cases a
  · show 0 * 6 + 1 * (j 0).val = (j 0).val; omega
  · show 0 * 256 + 1 * (j 1).val = (j 1).val; omega

theorem blk_emb1 (j : S128x256.Idx) : ((cfg0.win 1).blk t0_0).view.emb j = j := by
  funext a; apply Fin.ext
  fin_cases a
  · show 0 * 128 + 1 * (j 0).val = (j 0).val; omega
  · show 0 * 256 + 1 * (j 1).val = (j 1).val; omega

theorem blk_emb2 (j : S128.Idx) : ((cfg0.win 2).blk t0_0).view.emb j = j := by
  funext a; apply Fin.ext
  fin_cases a
  show 0 * 128 + 1 * (j 0).val = (j 0).val; omega

theorem blk_emb3 (j : S1x128.Idx) : ((cfg0.win 3).blk t0_0).view.emb j = j := by
  funext a; apply Fin.ext
  fin_cases a
  · show 0 * 1 + 1 * (j 0).val = (j 0).val; omega
  · show 0 * 128 + 1 * (j 1).val = (j 1).val; omega

theorem blk_emb4 (j : S1.Idx) : ((cfg0.win 4).blk t0_0).view.emb j = j := by
  funext a; apply Fin.ext
  fin_cases a
  show 0 * 1 + 1 * (j 0).val = (j 0).val; omega

theorem blk_emb5 (j : S1x16.Idx) : ((cfg0.win 5).blk t0_0).view.emb j = j := by
  funext a; apply Fin.ext
  fin_cases a
  · show 0 * 1 + 1 * (j 0).val = (j 0).val; omega
  · show 0 * 16 + 1 * (j 1).val = (j 1).val; omega

theorem blk_emb6 (j : S1x16.Idx) : ((cfg0.win 6).blk t0_0).view.emb j = j := by
  funext a; apply Fin.ext
  fin_cases a
  · show 0 * 1 + 1 * (j 0).val = (j 0).val; omega
  · show 0 * 16 + 1 * (j 1).val = (j 1).val; omega

/-! ## The staged operands are the arguments -/

/-- Device `c`'s five operands, as vectors. -/
abbrev opT (c : Dev nD) : Vec F S6x256 .f32 := V c main_arg1
abbrev opW (c : Dev nD) : Vec F S128x256 .f32 := V c main_arg2
abbrev opB (c : Dev nD) : Vec F S128 .f32 := V c main_arg3
abbrev opU (c : Dev nD) : Vec F S1x128 .f32 := V c main_arg4
abbrev opV (c : Dev nD) : Vec F S1 .f32 := V c main_arg5

theorem load0 (c : Dev nD) (r) : View.readAt (Elt F) (stage0_0 0).view (Rect.unit ![0, 0] S6x256.size r).toLoadRect (stg0 V c) = opT V c :=
  (View.readAt_full (stage0_0 0).view (stg0 V c) r).trans (funext fun j => congrArg (V c main_arg1) (blk_emb0 j))
theorem load1 (c : Dev nD) (r) : View.readAt (Elt F) (stage0_1 0).view (Rect.unit ![0, 0] S128x256.size r).toLoadRect (stg1 V c) = opW V c :=
  (View.readAt_full (stage0_1 0).view (stg1 V c) r).trans (funext fun j => congrArg (V c main_arg2) (blk_emb1 j))
theorem load2 (c : Dev nD) (r) : View.readAt (Elt F) (stage0_2 0).view (Rect.unit ![0] S128.size r).toLoadRect (stg2 V c) = opB V c :=
  (View.readAt_full (stage0_2 0).view (stg2 V c) r).trans (funext fun j => congrArg (V c main_arg3) (blk_emb2 j))
theorem load3 (c : Dev nD) (r) : View.readAt (Elt F) (stage0_3 0).view (Rect.unit ![0, 0] S1x128.size r).toLoadRect (stg3 V c) = opU V c :=
  (View.readAt_full (stage0_3 0).view (stg3 V c) r).trans (funext fun j => congrArg (V c main_arg4) (blk_emb3 j))
theorem load4 (c : Dev nD) (r) : View.readAt (Elt F) (stage0_4 0).view (Rect.unit ![0] S1.size r).toLoadRect (stg4 V c) = opV V c :=
  (View.readAt_full (stage0_4 0).view (stg4 V c) r).trans (funext fun j => congrArg (V c main_arg5) (blk_emb4 j))

/-! ## The two tables -/

/-- The scores of the eight rows, as a column. -/
abbrev colOf (c : Dev nD) : FVec F S8x1 .f32 := k0_pay7 (opT V c) (opW V c) (opB V c) (opU V c) (opV V c)

/-- The score table over the column. -/
def stabVec (c : Dev nD) : FVec F S1x16 .f32 := k0_pay5 (k0_pay8 (opT V c) (opW V c) (opB V c) (opU V c) (opV V c))

/-- The slot table over the column. -/
def slotVec (c : Dev nD) : IVec S1x16 32 :=
  k0_pay6 (k0_pay9 (opT V c) (opW V c) (opB V c) (opU V c) (opV V c)) (k0_pay10 (opT V c) (opW V c) (opB V c) (opU V c) (opV V c)) k0_pay11
    (k0_pay12 (opT V c) (opW V c) (opB V c) (opU V c) (opV V c)) (k0_pay13 (F := F)) (k0_pay14 (F := F))

theorem scored5 (c : Dev nD) : (scored V c).1 = stabVec V c := by
  unfold scored scorerRun
  dsimp only
  unfold scorerRun.sl.H5_1
  rw [load0, load1, load2, load3, load4]
  refine (View.read_whole (Val := Elt F) cc0_stg5_0 _).symm.trans ?_
  exact View.read_writes_full (Val := Elt F) (View.whole cc0_stg5_0) _ inb_S1x16_S1x16_0_0 _ []

theorem scored6 (c : Dev nD) : (scored V c).2.1 = slotVec V c := by
  unfold scored scorerRun
  dsimp only
  unfold scorerRun.sl.H6_1
  rw [load0, load1, load2, load3, load4]
  refine (View.read_whole (Val := Elt F) cc0_stg6_0 _).symm.trans ?_
  exact View.read_writes_full (Val := Elt F) (View.whole cc0_stg6_0) _ inb_S1x16_S1x16_0_0 _ []

/-- After the call the score table's array is the table. -/
theorem stabOf_eq (c : Dev nD) : stabOf V c = stabVec V c := by
  unfold stabOf
  rw [show cfg0.N = ((0 : Fin 1) : Fin cfg0.N).val + 1 from rfl, (dat V c).arrAt_succ 5 (0 : Fin 1)]
  rw [show (cfg0.win 5).flush (0 : Fin 1) = true from by decide, if_pos rfl]
  funext j
  have h := congrFun (View.read_write_univ (Val := Elt F) (v := ((cfg0.win 5).blk t0_0).view) ((dat V c).arrAt 5 0) ((dat V c).flushed 5 t0_0)) j
  exact (congrArg _ (blk_emb5 j).symm).trans (h.trans (congrFun (scored5 V c) j))

/-- After the call the slot table's array is the table. -/
theorem slotOf_eq (c : Dev nD) : slotOf V c = slotVec V c := by
  unfold slotOf
  rw [show cfg0.N = ((0 : Fin 1) : Fin cfg0.N).val + 1 from rfl, (dat V c).arrAt_succ 6 (0 : Fin 1)]
  rw [show (cfg0.win 6).flush (0 : Fin 1) = true from by decide, if_pos rfl]
  funext j
  have h := congrFun (View.read_write_univ (Val := Elt F) (v := ((cfg0.win 6).blk t0_0).view) ((dat V c).arrAt 6 0) ((dat V c).flushed 6 t0_0)) j
  exact (congrArg _ (blk_emb6 j).symm).trans (h.trans (congrFun (scored6 V c) j))

end Cert.Proof.Sparsity

end
-- ==== Proof.Finished.lean ====
/-
  The finishing call's result is its pure value at the operands, and its region over the thread's state.
-/
module

public import proofs.«01_k».proof.Proof.Scored

@[expose] public section

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F] [∀ e, Nonempty (Elt F e)]

local notation "𝕄" => MM F

variable (V : (c : Dev nD) → (b : Ref sig .tc) → Buf (Elt F) ((c : Thread nD τ).loc b))

/-! ## The blocks are the arrays -/

theorem fin_emb0 (j : S64x16.Idx) : ((cfg2.win 0).blk t2_0).view.emb j = j := by
  funext a; apply Fin.ext
  fin_cases a
  · show 0 * 64 + 1 * (j 0).val = (j 0).val; omega
  · show 0 * 16 + 1 * (j 1).val = (j 1).val; omega

theorem fin_emb1 (j : S8x8.Idx) : ((cfg2.win 1).blk t2_0).view.emb j = j := by
  funext a; apply Fin.ext
  fin_cases a
  · show 0 * 8 + 1 * (j 0).val = (j 0).val; omega
  · show 0 * 8 + 1 * (j 1).val = (j 1).val; omega

theorem fin_emb2 (j : S6x256.Idx) : ((cfg2.win 2).blk t2_0).view.emb j = j := by
  funext a; apply Fin.ext
  fin_cases a
  · show 0 * 6 + 1 * (j 0).val = (j 0).val; omega
  · show 0 * 256 + 1 * (j 1).val = (j 1).val; omega

theorem fin_emb3 (j : S8x768.Idx) : ((cfg2.win 3).blk t2_0).view.emb j = j := by
  funext a; apply Fin.ext
  fin_cases a
  · show 0 * 8 + 1 * (j 0).val = (j 0).val; omega
  · show 0 * 768 + 1 * (j 1).val = (j 1).val; omega

theorem fin_emb4 (j : S8.Idx) : ((cfg2.win 4).blk t2_0).view.emb j = j := by
  funext a; apply Fin.ext
  fin_cases a
  show 0 * 8 + 1 * (j 0).val = (j 0).val; omega

theorem fin_emb5 (j : S8x8.Idx) : ((cfg2.win 5).blk t2_0).view.emb j = j := by
  funext a; apply Fin.ext
  fin_cases a
  · show 0 * 8 + 1 * (j 0).val = (j 0).val; omega
  · show 0 * 8 + 1 * (j 1).val = (j 1).val; omega

theorem fin_emb6 (j : S8.Idx) : ((cfg2.win 6).blk t2_0).view.emb j = j := by
  funext a; apply Fin.ext
  fin_cases a
  show 0 * 8 + 1 * (j 0).val = (j 0).val; omega

theorem fin_emb7 (j : S256x8.Idx) : ((cfg2.win 7).blk t2_0).view.emb j = j := by
  funext a; apply Fin.ext
  fin_cases a
  · show 0 * 256 + 1 * (j 0).val = (j 0).val; omega
  · show 0 * 8 + 1 * (j 1).val = (j 1).val; omega

theorem fin_emb8 (j : S256.Idx) : ((cfg2.win 8).blk t2_0).view.emb j = j := by
  funext a; apply Fin.ext
  fin_cases a
  show 0 * 256 + 1 * (j 0).val = (j 0).val; omega

theorem fin_emb9 (j : S128x256.Idx) : ((cfg2.win 9).blk t2_0).view.emb j = j := by
  funext a; apply Fin.ext
  fin_cases a
  · show 0 * 128 + 1 * (j 0).val = (j 0).val; omega
  · show 0 * 256 + 1 * (j 1).val = (j 1).val; omega

theorem fin_emb10 (j : S128.Idx) : ((cfg2.win 10).blk t2_0).view.emb j = j := by
  funext a; apply Fin.ext
  fin_cases a
  show 0 * 128 + 1 * (j 0).val = (j 0).val; omega

theorem fin_emb11 (j : S1x128.Idx) : ((cfg2.win 11).blk t2_0).view.emb j = j := by
  funext a; apply Fin.ext
  fin_cases a
  · show 0 * 1 + 1 * (j 0).val = (j 0).val; omega
  · show 0 * 128 + 1 * (j 1).val = (j 1).val; omega

theorem fin_emb12 (j : S1.Idx) : ((cfg2.win 12).blk t2_0).view.emb j = j := by
  funext a; apply Fin.ext
  fin_cases a
  show 0 * 1 + 1 * (j 0).val = (j 0).val; omega

theorem fin_emb13 (j : S64x1.Idx) : ((cfg2.win 13).blk t2_0).view.emb j = j := by
  funext a; apply Fin.ext
  fin_cases a
  · show 0 * 64 + 1 * (j 0).val = (j 0).val; omega
  · show 0 * 1 + 1 * (j 1).val = (j 1).val; omega

theorem fin_load0 (c : Dev nD) (r) : View.readAt (Elt F) (stage2_0 0).view (Rect.unit ![0, 0] S64x16.size r).toLoadRect (fin0 V c) = (V c main_v1_2 : Vec F S64x16 .i32) :=
  (View.readAt_full (stage2_0 0).view (fin0 V c) r).trans (funext fun j => congrArg (V c main_v1_2) (fin_emb0 j))
theorem fin_load1 (c : Dev nD) (r) : View.readAt (Elt F) (stage2_1 0).view (Rect.unit ![0, 0] S8x8.size r).toLoadRect (fin1 V c) = (V c main_v0_2 : Vec F S8x8 .f32) :=
  (View.readAt_full (stage2_1 0).view (fin1 V c) r).trans (funext fun j => congrArg (V c main_v0_2) (fin_emb1 j))
theorem fin_load2 (c : Dev nD) (r) : View.readAt (Elt F) (stage2_2 0).view (Rect.unit ![0, 0] S6x256.size r).toLoadRect (fin2 V c) = (V c main_arg1 : Vec F S6x256 .f32) :=
  (View.readAt_full (stage2_2 0).view (fin2 V c) r).trans (funext fun j => congrArg (V c main_arg1) (fin_emb2 j))
theorem fin_load3 (c : Dev nD) (r) : View.readAt (Elt F) (stage2_3 0).view (Rect.unit ![0, 0] S8x768.size r).toLoadRect (fin3 V c) = (V c main_arg6 : Vec F S8x768 .f32) :=
  (View.readAt_full (stage2_3 0).view (fin3 V c) r).trans (funext fun j => congrArg (V c main_arg6) (fin_emb3 j))
theorem fin_load4 (c : Dev nD) (r) : View.readAt (Elt F) (stage2_4 0).view (Rect.unit ![0] S8.size r).toLoadRect (fin4 V c) = (V c main_arg7 : Vec F S8 .f32) :=
  (View.readAt_full (stage2_4 0).view (fin4 V c) r).trans (funext fun j => congrArg (V c main_arg7) (fin_emb4 j))
theorem fin_load5 (c : Dev nD) (r) : View.readAt (Elt F) (stage2_5 0).view (Rect.unit ![0, 0] S8x8.size r).toLoadRect (fin5 V c) = (V c main_arg8 : Vec F S8x8 .f32) :=
  (View.readAt_full (stage2_5 0).view (fin5 V c) r).trans (funext fun j => congrArg (V c main_arg8) (fin_emb5 j))
theorem fin_load6 (c : Dev nD) (r) : View.readAt (Elt F) (stage2_6 0).view (Rect.unit ![0] S8.size r).toLoadRect (fin6 V c) = (V c main_arg9 : Vec F S8 .f32) :=
  (View.readAt_full (stage2_6 0).view (fin6 V c) r).trans (funext fun j => congrArg (V c main_arg9) (fin_emb6 j))
theorem fin_load7 (c : Dev nD) (r) : View.readAt (Elt F) (stage2_7 0).view (Rect.unit ![0, 0] S256x8.size r).toLoadRect (fin7 V c) = (V c main_arg10 : Vec F S256x8 .f32) :=
  (View.readAt_full (stage2_7 0).view (fin7 V c) r).trans (funext fun j => congrArg (V c main_arg10) (fin_emb7 j))
theorem fin_load8 (c : Dev nD) (r) : View.readAt (Elt F) (stage2_8 0).view (Rect.unit ![0] S256.size r).toLoadRect (fin8 V c) = (V c main_arg11 : Vec F S256 .f32) :=
  (View.readAt_full (stage2_8 0).view (fin8 V c) r).trans (funext fun j => congrArg (V c main_arg11) (fin_emb8 j))
theorem fin_load9 (c : Dev nD) (r) : View.readAt (Elt F) (stage2_9 0).view (Rect.unit ![0, 0] S128x256.size r).toLoadRect (fin9 V c) = (V c main_arg12 : Vec F S128x256 .f32) :=
  (View.readAt_full (stage2_9 0).view (fin9 V c) r).trans (funext fun j => congrArg (V c main_arg12) (fin_emb9 j))
theorem fin_load10 (c : Dev nD) (r) : View.readAt (Elt F) (stage2_10 0).view (Rect.unit ![0] S128.size r).toLoadRect (fin10 V c) = (V c main_arg13 : Vec F S128 .f32) :=
  (View.readAt_full (stage2_10 0).view (fin10 V c) r).trans (funext fun j => congrArg (V c main_arg13) (fin_emb10 j))
theorem fin_load11 (c : Dev nD) (r) : View.readAt (Elt F) (stage2_11 0).view (Rect.unit ![0, 0] S1x128.size r).toLoadRect (fin11 V c) = (V c main_arg14 : Vec F S1x128 .f32) :=
  (View.readAt_full (stage2_11 0).view (fin11 V c) r).trans (funext fun j => congrArg (V c main_arg14) (fin_emb11 j))
theorem fin_load12 (c : Dev nD) (r) : View.readAt (Elt F) (stage2_12 0).view (Rect.unit ![0] S1.size r).toLoadRect (fin12 V c) = (V c main_arg15 : Vec F S1 .f32) :=
  (View.readAt_full (stage2_12 0).view (fin12 V c) r).trans (funext fun j => congrArg (V c main_arg15) (fin_emb12 j))

/-- The finishing body's result at its thirteen operands. -/
def column (x0 : Vec F S64x16 .i32) (x1 : Vec F S8x8 .f32) (x2 : Vec F S6x256 .f32) (x3 : Vec F S8x768 .f32) (x4 : Vec F S8 .f32) (x5 : Vec F S8x8 .f32) (x6 : Vec F S8 .f32) (x7 : Vec F S256x8 .f32) (x8 : Vec F S256 .f32) (x9 : Vec F S128x256 .f32) (x10 : Vec F S128 .f32) (x11 : Vec F S1x128 .f32) (x12 : Vec F S1 .f32) : Vec F S64x1 .f32 :=
  k2_pay1 (k2_pay5 (k2_pay3 x0) (k2_pay4 x3 x0 x1 x2 x4) (Scalar.ofBits .f32 0x00000000#32) x5 x6 x7 x8 x9 x10 x11) (k2_pay6 x12)

abbrev columnOf (c : Dev nD) : Vec F S64x1 .f32 :=
  column (V c main_v1_2) (V c main_v0_2) (V c main_arg1) (V c main_arg6) (V c main_arg7) (V c main_arg8) (V c main_arg9) (V c main_arg10) (V c main_arg11) (V c main_arg12) (V c main_arg13) (V c main_arg14) (V c main_arg15)

theorem finished_eq (c : Dev nD) : (finished V c).1 = columnOf V c := by
  unfold finished finishRun
  dsimp only
  unfold finishRun.sl.H13_1
  rw [fin_load0, fin_load1, fin_load2, fin_load3, fin_load4, fin_load5, fin_load6, fin_load7, fin_load8, fin_load9, fin_load10, fin_load11, fin_load12]
  refine (View.read_whole (Val := Elt F) cc2_stg13_0 _).symm.trans ?_
  exact View.read_writes_full (Val := Elt F) (View.whole cc2_stg13_0) _ inb_S64x1_S64x1_0_0 _ []

/-- The result array after the region. -/
def resOf (c : Dev nD) : Buf (Elt F) ((c : Thread nD τ).loc main_v3) := (finDat V c).arrAt 13 cfg2.N

theorem resOf_eq (c : Dev nD) : resOf V c = columnOf V c := by
  unfold resOf
  rw [show cfg2.N = ((0 : Fin 1) : Fin cfg2.N).val + 1 from rfl, (finDat V c).arrAt_succ 13 (0 : Fin 1)]
  rw [show (cfg2.win 13).flush (0 : Fin 1) = true from by decide, if_pos rfl]
  funext j
  have h := congrFun (View.read_write_univ (Val := Elt F) (v := ((cfg2.win 13).blk t2_0).view) ((finDat V c).arrAt 13 0) ((finDat V c).flushed 13 t2_0)) j
  exact (congrArg _ (fin_emb13 j).symm).trans (h.trans (congrFun (finished_eq V c) j))

variable (Vp : (c : Dev nD) → (b : Ref sig .tc) → Buf (Elt F) ((c : Thread nD τ).loc b))

/-- What the thread owes once the SparseCores' call is over, its recorded waits at most at that call's level. -/
abbrev tcOwes1 (c : Dev nD) : sProp 𝕄 :=
  iprop(∃ W, ⌜(K (F := F)).WBelow (T c) W 8⌝ ∗ owes (T c) ((K (F := F)).Otc c 1) W)

set_option backward.isDefEq.respectTransparency.types false in
/-- The finishing call's region. -/
def finReg (hres : ∀ c, Vp c main_v3 = resOf V c) (hne : ∀ c (b : Ref sig .tc), b ≠ main_v3 → Vp c b = V c b) :
    Pipeline.RegionSeg (pcfgs (F := F)) adm (pdats V) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (finish_obligation V c).loose
  hwaits c := Pipeline.cellsWaits_intro _ _ _ 1 c fun w s t => (K (F := F)).mayWait_none _ fun g => Otc_none c 1 g
  pre c := iprop(unscopedBufs c (V c) ∗ tcOwes1 c)
  post c := iprop(unscopedBufs c (Vp c) ∗ tcOwes1 c)
  X _ := BI.emp
  Y _ := BI.emp
  Z c := iprop(Pipeline.unscopedRest (Ix := HIx 1) (Name := ℕ) (U := UU) (Lvl := ℕ) spec2 c (V c))
  hentry c := by
    rw [Pipeline.ownSems0_none]
    have hsplit := Pipeline.arrays_of_unscopedBufs (p := 1) (pcfgs (F := F)) adm (pdats V) (launch2).win (launch2).arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 1 c).Φ 0 = Φf c from rfl]
    iintro ⟨-, -, Hr⟩; iexact Hr
  hout c := by
    rw [Pipeline.ownSems0_none, show (pdats V 1 c).Φ (Fin.last _) = Φf c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v1_2 (by decide)).symm
        · exact ((pdats V 1 c).arrAt_in 1 rfl _).trans (hne c main_v0_2 (by decide)).symm
        · exact ((pdats V 1 c).arrAt_in 2 rfl _).trans (hne c main_arg1 (by decide)).symm
        · exact ((pdats V 1 c).arrAt_in 3 rfl _).trans (hne c main_arg6 (by decide)).symm
        · exact ((pdats V 1 c).arrAt_in 4 rfl _).trans (hne c main_arg7 (by decide)).symm
        · exact ((pdats V 1 c).arrAt_in 5 rfl _).trans (hne c main_arg8 (by decide)).symm
        · exact ((pdats V 1 c).arrAt_in 6 rfl _).trans (hne c main_arg9 (by decide)).symm
        · exact ((pdats V 1 c).arrAt_in 7 rfl _).trans (hne c main_arg10 (by decide)).symm
        · exact ((pdats V 1 c).arrAt_in 8 rfl _).trans (hne c main_arg11 (by decide)).symm
        · exact ((pdats V 1 c).arrAt_in 9 rfl _).trans (hne c main_arg12 (by decide)).symm
        · exact ((pdats V 1 c).arrAt_in 10 rfl _).trans (hne c main_arg13 (by decide)).symm
        · exact ((pdats V 1 c).arrAt_in 11 rfl _).trans (hne c main_arg14 (by decide)).symm
        · exact ((pdats V 1 c).arrAt_in 12 rfl _).trans (hne c main_arg15 (by decide)).symm
        · exact (hres c).symm)
      (fun b hb => hne c b (fun h => hb (h ▸ Finset.mem_image.mpr ⟨13, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

end Cert.Proof.Sparsity

end
-- ==== Proof.Launch.lean ====
/-
  The whole program's run: the launch's ghost state, @main on the TensorCore (the scorer's region, the SparseCore call,
  the host's slice, the finishing call's region, the host's reshape), and what the run leaves in memory.
-/
module

public import proofs.«01_k».proof.Proof.Tasks
public import proofs.«01_k».proof.Proof.Finished

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held wp_hlo_within)

variable {F : FTy → Type} [FloatOps F] [Named F] [∀ e, Nonempty (Elt F e)]

attribute [local irreducible] rank base pre

variable (m : (ℓ : Loc nD τ sig) → Buf (Elt F) ℓ) (ρ : Dev nD → PrngReg)

/-! ## The ghost state the launch deals -/

theorem cell_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) cell_inj) (Pipeline.launchToks (Pipeline.pin (pcfgs (F := F)) adm) cell_inj), 1))

/-- A pipeline's own share of it, per device. -/
def ghostOf (p : Fin 2) (d : Dev nD) : sProp (MM F) :=
  iprop(Pipeline.cellsGhost (Pipeline.pin (pcfgs (F := F)) adm) EP p d ∗ Pipeline.toksInit (Pipeline.pin (pcfgs (F := F)) adm) EP p d)

/-- The two pipelines' shares, per device. -/
def ghost (d : Dev nD) : sProp (MM F) := iprop(ghostOf 0 d ∗ ghostOf 1 d)

theorem bigSep_two (Φ : Fin 2 → sProp (MM F)) : (bigSep Finset.univ Φ) = iprop(Φ 0 ∗ Φ 1) := by
  rw [show (Finset.univ : Finset (Fin 2)) = {0, 1} by decide, SparseCore.bigSep_insert' (by decide), bigSep_singleton]

theorem hu₀ : (ownU (u₀ (F := F)) : sProp (MM F))
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (Pipeline.pin (pcfgs (F := F)) adm) cell_inj) (Pipeline.launchToks (Pipeline.pin (pcfgs (F := F)) adm) cell_inj), 1) : UP × Counters)) $$ Hu
  icases H with ⟨HH, HR⟩
  ihave H := (own_pair_emb (embR : Emb (UP × Counters) (MM F))
    (initOf (Pipeline.cells (Pipeline.pin (pcfgs (F := F)) adm) cell_inj) (Pipeline.launchToks (Pipeline.pin (pcfgs (F := F)) adm) cell_inj)) (1 : Counters)) $$ HR
  icases H with ⟨HP, -⟩
  ihave HP := (show BI.own ((Emb.inl.trans (embR : Emb (UP × Counters) (MM F)))
      (initOf (Pipeline.cells (Pipeline.pin (pcfgs (F := F)) adm) cell_inj) (Pipeline.launchToks (Pipeline.pin (pcfgs (F := F)) adm) cell_inj)))
    ⊢ BI.own ((EP : Emb UP (MM F)) (initOf (Pipeline.cells (Pipeline.pin (pcfgs (F := F)) adm) cell_inj) (Pipeline.launchToks (Pipeline.pin (pcfgs (F := F)) adm) cell_inj))) from .rfl) $$ HP
  imod (Pipeline.fund_ghost (Pipeline.pin (pcfgs (F := F)) adm) (EP : Emb UP (MM F)) cell_inj) $$ HP with ⟨HG, HT⟩
  imodintro
  isplitl [HH]; · iexact HH
  isplitl [HG HT]
  · unfold ghost ghostOf
    rw [bigSep_sep', bigSep_sep', bigSep_sep']
    ihave HG := (Entails.of_eq ((bigSep_congr fun d _ => bigSep_two _).trans (bigSep_sep' _ _ _))) $$ HG
    ihave HT := (Entails.of_eq ((bigSep_congr fun d _ => bigSep_two _).trans (bigSep_sep' _ _ _))) $$ HT
    icases HG with ⟨HG0, HG1⟩
    icases HT with ⟨HT0, HT1⟩
    isplitl [HG0 HT0]
    · isplitl [HG0] <;> iassumption
    isplitl [HG1] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp (MM F)) from bigSep_emp_const _]
  iempintro

/-! ## @main on the TensorCore -/

/-- The buffers once the scorer has run. -/
def Vs (d : Dev nD) : (b : Ref sig .tc) → Buf (Elt F) ((d : Thread nD τ).loc b) :=
  Function.update (Function.update (Function.update (Vm m d) main_v0_0 (stabOf (Vm m) d)) main_v0_1 (slotOf (Vm m) d)) main_v0_2 (ordOf (Vm m) d)

theorem Vs_stab (d : Dev nD) : Vs m d main_v0_0 = stabOf (Vm m) d := by
  unfold Vs; rw [Function.update_of_ne (by decide), Function.update_of_ne (by decide), Function.update_self]
theorem Vs_slot (d : Dev nD) : Vs m d main_v0_1 = slotOf (Vm m) d := by
  unfold Vs; rw [Function.update_of_ne (by decide), Function.update_self]
theorem Vs_ord (d : Dev nD) : Vs m d main_v0_2 = ordOf (Vm m) d := by
  unfold Vs; rw [Function.update_self]
theorem Vs_ne (d : Dev nD) (b : Ref sig .tc) (h0 : b ≠ main_v0_0) (h1 : b ≠ main_v0_1) (h2 : b ≠ main_v0_2) : Vs m d b = Vm m d b := by
  unfold Vs; rw [Function.update_of_ne h2, Function.update_of_ne h1, Function.update_of_ne h0]

/-- The scorer's region. -/
def region := reg (Vm m) (Vs m) (Vs_stab m) (Vs_slot m) (Vs_ord m) (Vs_ne m)

/-- The host's slice of the padded positions. -/
abbrev cut (g : S64x416.Idx → BitVec 32) : S64x409.Idx → BitVec 32 := extractStridedSlice S64x409 ![0, 0] g slices_S64x416_S64x409_0_0
abbrev opCut : HloOp τ sig (Elt F) :=
  StableHlo.unary main_v1_1 main_v2 ((extractStridedSlice S64x409 ![0, 0] · slices_S64x416_S64x409_0_0) : (⟨S64x416, .i32⟩ : BufTy).Contents (Elt F) → (⟨S64x409, .i32⟩ : BufTy).Contents (Elt F))

abbrev aLoc (d : Dev nD) (b : Ref sig .tc) : Loc nD τ sig := (SparseCore.T d).loc b

set_option maxHeartbeats 4000000 in
theorem bufs_eq (d : Dev nD) (W : (b : Ref sig .tc) → Buf (Elt F) ((d : Thread nD τ).loc b)) :
    (unscopedBufs d W : sProp (MM F))
      = iprop((aLoc d main_arg0 ↦{fullShare} W main_arg0)
        ∗ (aLoc d main_arg1 ↦{fullShare} W main_arg1)
        ∗ (aLoc d main_arg2 ↦{fullShare} W main_arg2)
        ∗ (aLoc d main_arg3 ↦{fullShare} W main_arg3)
        ∗ (aLoc d main_arg4 ↦{fullShare} W main_arg4)
        ∗ (aLoc d main_arg5 ↦{fullShare} W main_arg5)
        ∗ (aLoc d main_arg6 ↦{fullShare} W main_arg6)
        ∗ (aLoc d main_arg7 ↦{fullShare} W main_arg7)
        ∗ (aLoc d main_arg8 ↦{fullShare} W main_arg8)
        ∗ (aLoc d main_arg9 ↦{fullShare} W main_arg9)
        ∗ (aLoc d main_arg10 ↦{fullShare} W main_arg10)
        ∗ (aLoc d main_arg11 ↦{fullShare} W main_arg11)
        ∗ (aLoc d main_arg12 ↦{fullShare} W main_arg12)
        ∗ (aLoc d main_arg13 ↦{fullShare} W main_arg13)
        ∗ (aLoc d main_arg14 ↦{fullShare} W main_arg14)
        ∗ (aLoc d main_arg15 ↦{fullShare} W main_arg15)
        ∗ (aLoc d main_v0_0 ↦{fullShare} W main_v0_0)
        ∗ (aLoc d main_v0_1 ↦{fullShare} W main_v0_1)
        ∗ (aLoc d main_v0_2 ↦{fullShare} W main_v0_2)
        ∗ (aLoc d main_v1_0 ↦{fullShare} W main_v1_0)
        ∗ (aLoc d main_v1_1 ↦{fullShare} W main_v1_1)
        ∗ (aLoc d main_v1_2 ↦{fullShare} W main_v1_2)
        ∗ (aLoc d main_v2 ↦{fullShare} W main_v2)
        ∗ (aLoc d main_v3 ↦{fullShare} W main_v3)
        ∗ (aLoc d main_v4 ↦{fullShare} W main_v4)) := by
  unfold unscopedBufs
  rw [show (Finset.univ.filter fun b : Ref sig .tc => ¬ b.isScoped) = {main_arg0, main_arg1, main_arg2, main_arg3, main_arg4, main_arg5, main_arg6, main_arg7, main_arg8, main_arg9, main_arg10, main_arg11, main_arg12, main_arg13, main_arg14, main_arg15, main_v0_0, main_v0_1, main_v0_2, main_v1_0, main_v1_1, main_v1_2, main_v2, main_v3, main_v4} by decide]
  iterate 24 rw [SparseCore.bigSep_insert' (by decide)]
  rw [bigSep_singleton]

abbrev i' : DevRef τ sig := Proc.devRef .tc (main_v1_1 : Ref sig .tc)
abbrev o' : DevRef τ sig := Proc.devRef .tc (main_v2 : Ref sig .tc)
abbrev Sc : Finset (DevRef τ sig) := {i', o'}

theorem held_Sc (d : Dev nD) (W : Valuation τ sig (Elt F)) :
    (held (T d) Sc W : sProp (MM F)) = iprop((aLoc d main_v1_1 ↦{fullShare} W i') ∗ (aLoc d main_v2 ↦{fullShare} W o')) := by
  unfold held Sc
  rw [SparseCore.bigSep_insert' (by decide), bigSep_singleton]

theorem hCut : (opCut (F := F)).bufs ⊆ Sc := by
  rw [StableHlo.unary_bufs]

def V1 (d : Dev nD) (g : Buf (Elt F) (ixLoc d)) : Valuation τ sig (Elt F) := Function.update (fun b => m (d, b)) i' g
theorem V1_i (d : Dev nD) (g : Buf (Elt F) (ixLoc d)) : V1 m d g i' = g := Function.update_self _ _ _
theorem V1_o (d : Dev nD) (g : Buf (Elt F) (ixLoc d)) : V1 m d g o' = m (aLoc d main_v2) := Function.update_of_ne (show o' ≠ i' by decide) _ _

theorem cut_result (d : Dev nD) (g : Buf (Elt F) (ixLoc d)) : (opCut (F := F)).result (V1 m d g) o' = cut g := by
  rw [StableHlo.unary_result', V1_i]

theorem cut_kept (d : Dev nD) (g : Buf (Elt F) (ixLoc d)) : (opCut (F := F)).result (V1 m d g) i' = g := by
  rw [StableHlo.unary_result_ne (h := by decide), V1_i]

/-! ## The buffers around the finishing call -/

section Around
variable (d : Dev nD) (f : Buf (Elt F) (scLoc d)) (g : Buf (Elt F) (ixLoc d)) (h : Buf (Elt F) (ctLoc d))

/-- The buffers as the finishing call finds them: the SparseCores' results in place, and the slice. -/
def Vr : (b : Ref sig .tc) → Buf (Elt F) ((d : Thread nD τ).loc b) :=
  Function.update (Function.update (Function.update (Function.update (Vs m d) main_v1_0 f) main_v1_1 g) main_v1_2 h) main_v2 (cut g)

theorem Vr_sc : Vr m d f g h main_v1_0 = f := by
  unfold Vr; rw [Function.update_of_ne (by decide), Function.update_of_ne (by decide), Function.update_of_ne (by decide), Function.update_self]
theorem Vr_ix : Vr m d f g h main_v1_1 = g := by
  unfold Vr; rw [Function.update_of_ne (by decide), Function.update_of_ne (by decide), Function.update_self]
theorem Vr_ct : Vr m d f g h main_v1_2 = h := by
  unfold Vr; rw [Function.update_of_ne (by decide), Function.update_self]
theorem Vr_cut : Vr m d f g h main_v2 = cut g := by
  unfold Vr; rw [Function.update_self]
theorem Vr_ne (b : Ref sig .tc) (h0 : b ≠ main_v1_0) (h1 : b ≠ main_v1_1) (h2 : b ≠ main_v1_2) (h3 : b ≠ main_v2) : Vr m d f g h b = Vs m d b := by
  unfold Vr; rw [Function.update_of_ne h3, Function.update_of_ne h2, Function.update_of_ne h1, Function.update_of_ne h0]
theorem Vr_arg (b : Ref sig .tc) (h0 : b ≠ main_v1_0) (h1 : b ≠ main_v1_1) (h2 : b ≠ main_v1_2) (h3 : b ≠ main_v2)
    (h4 : b ≠ main_v0_0) (h5 : b ≠ main_v0_1) (h6 : b ≠ main_v0_2) : Vr m d f g h b = m (aLoc d b) :=
  (Vr_ne m d f g h b h0 h1 h2 h3).trans (Vs_ne m d b h4 h5 h6)

def Vf : (c : Dev nD) → (b : Ref sig .tc) → Buf (Elt F) ((c : Thread nD τ).loc b) := Function.update (Vs m) d (Vr m d f g h)
theorem Vf_self : Vf m d f g h d = Vr m d f g h := Function.update_self _ _ _

/-- The buffers as the finishing call leaves them. -/
def Ve (c : Dev nD) : (b : Ref sig .tc) → Buf (Elt F) ((c : Thread nD τ).loc b) := Function.update (Vf m d f g h c) main_v3 (resOf (Vf m d f g h) c)
theorem Ve_res (c : Dev nD) : Ve m d f g h c main_v3 = resOf (Vf m d f g h) c := Function.update_self _ _ _
theorem Ve_ne (c : Dev nD) (b : Ref sig .tc) (hb : b ≠ main_v3) : Ve m d f g h c b = Vf m d f g h c b := Function.update_of_ne hb _ _
theorem Ve_eq (b : Ref sig .tc) (hb : b ≠ main_v3) : Ve m d f g h d b = Vr m d f g h b := by
  rw [Ve_ne m d f g h d b hb, Vf_self]

/-- The finishing call's result, from the totals, the pair matrix and the arguments. -/
def columnAt : Vec F S64x1 .f32 :=
  column h (ordOf (Vm m) d) (m (aLoc d main_arg1)) (m (aLoc d main_arg6)) (m (aLoc d main_arg7)) (m (aLoc d main_arg8)) (m (aLoc d main_arg9)) (m (aLoc d main_arg10)) (m (aLoc d main_arg11)) (m (aLoc d main_arg12)) (m (aLoc d main_arg13)) (m (aLoc d main_arg14)) (m (aLoc d main_arg15))

theorem res_eq : Ve m d f g h d main_v3 = columnAt m d h := by
  rw [Ve_res, resOf_eq]
  unfold columnOf columnAt
  rw [Vf_self, Vr_ct, Vr_ne m d f g h main_v0_2 (by decide) (by decide) (by decide) (by decide), Vs_ord,
    Vr_arg m d f g h main_arg1 (by decide) (by decide) (by decide) (by decide) (by decide) (by decide) (by decide),
    Vr_arg m d f g h main_arg6 (by decide) (by decide) (by decide) (by decide) (by decide) (by decide) (by decide),
    Vr_arg m d f g h main_arg7 (by decide) (by decide) (by decide) (by decide) (by decide) (by decide) (by decide),
    Vr_arg m d f g h main_arg8 (by decide) (by decide) (by decide) (by decide) (by decide) (by decide) (by decide),
    Vr_arg m d f g h main_arg9 (by decide) (by decide) (by decide) (by decide) (by decide) (by decide) (by decide),
    Vr_arg m d f g h main_arg10 (by decide) (by decide) (by decide) (by decide) (by decide) (by decide) (by decide),
    Vr_arg m d f g h main_arg11 (by decide) (by decide) (by decide) (by decide) (by decide) (by decide) (by decide),
    Vr_arg m d f g h main_arg12 (by decide) (by decide) (by decide) (by decide) (by decide) (by decide) (by decide),
    Vr_arg m d f g h main_arg13 (by decide) (by decide) (by decide) (by decide) (by decide) (by decide) (by decide),
    Vr_arg m d f g h main_arg14 (by decide) (by decide) (by decide) (by decide) (by decide) (by decide) (by decide),
    Vr_arg m d f g h main_arg15 (by decide) (by decide) (by decide) (by decide) (by decide) (by decide) (by decide)]

end Around

/-- The finishing call's region. -/
def finRegion (d : Dev nD) (f : Buf (Elt F) (scLoc d)) (g : Buf (Elt F) (ixLoc d)) (h : Buf (Elt F) (ctLoc d)) :=
  finReg (Vf m d f g h) (Ve m d f g h) (Ve_res m d f g h) (Ve_ne m d f g h)

/-! ## The host's reshape -/

abbrev flat (v : S64x1.Idx → F .f32) : S64.Idx → F .f32 := shapeCast S64 v shapeCasts_S64x1_S64
abbrev opFlat : HloOp τ sig (Elt F) := StableHlo.reshape main_v3 main_v4 (rfl : (.f32 : EltTy) = .f32) shapeCasts_S64x1_S64

abbrev i2 : DevRef τ sig := Proc.devRef .tc (main_v3 : Ref sig .tc)
abbrev o2 : DevRef τ sig := Proc.devRef .tc (main_v4 : Ref sig .tc)
abbrev Sf : Finset (DevRef τ sig) := {i2, o2}

theorem held_Sf (d : Dev nD) (W : Valuation τ sig (Elt F)) :
    (held (T d) Sf W : sProp (MM F)) = iprop((aLoc d main_v3 ↦{fullShare} W i2) ∗ (aLoc d main_v4 ↦{fullShare} W o2)) := by
  unfold held Sf
  rw [SparseCore.bigSep_insert' (by decide), bigSep_singleton]

theorem hFlat : (opFlat (F := F)).bufs ⊆ Sf := by
  rw [StableHlo.reshape_bufs]

def V2 (d : Dev nD) (v : Buf (Elt F) (aLoc d main_v3)) : Valuation τ sig (Elt F) := Function.update (fun b => m (d, b)) i2 v
theorem V2_i (d : Dev nD) (v : Buf (Elt F) (aLoc d main_v3)) : V2 m d v i2 = v := Function.update_self _ _ _
theorem V2_o (d : Dev nD) (v : Buf (Elt F) (aLoc d main_v3)) : V2 m d v o2 = m (aLoc d main_v4) := Function.update_of_ne (show o2 ≠ i2 by decide) _ _

theorem flat_result (d : Dev nD) (v : Buf (Elt F) (aLoc d main_v3)) : (opFlat (F := F)).result (V2 m d v) o2 = flat v := by
  rw [StableHlo.reshape_result', V2_i]
  rfl

/-- What @main leaves: the arguments, and the three results at contents with the stated values. -/
def FIN (d : Dev nD) : sProp (MM F) :=
  iprop(((aLoc d main_arg0 ↦{fullShare} m (aLoc d main_arg0))
        ∗ (aLoc d main_arg1 ↦{fullShare} m (aLoc d main_arg1))
        ∗ (aLoc d main_arg2 ↦{fullShare} m (aLoc d main_arg2))
        ∗ (aLoc d main_arg3 ↦{fullShare} m (aLoc d main_arg3))
        ∗ (aLoc d main_arg4 ↦{fullShare} m (aLoc d main_arg4))
        ∗ (aLoc d main_arg5 ↦{fullShare} m (aLoc d main_arg5))
        ∗ (aLoc d main_arg6 ↦{fullShare} m (aLoc d main_arg6))
        ∗ (aLoc d main_arg7 ↦{fullShare} m (aLoc d main_arg7))
        ∗ (aLoc d main_arg8 ↦{fullShare} m (aLoc d main_arg8))
        ∗ (aLoc d main_arg9 ↦{fullShare} m (aLoc d main_arg9))
        ∗ (aLoc d main_arg10 ↦{fullShare} m (aLoc d main_arg10))
        ∗ (aLoc d main_arg11 ↦{fullShare} m (aLoc d main_arg11))
        ∗ (aLoc d main_arg12 ↦{fullShare} m (aLoc d main_arg12))
        ∗ (aLoc d main_arg13 ↦{fullShare} m (aLoc d main_arg13))
        ∗ (aLoc d main_arg14 ↦{fullShare} m (aLoc d main_arg14))
        ∗ (aLoc d main_arg15 ↦{fullShare} m (aLoc d main_arg15)))
    ∗ (∃ f, ⌜∀ b, ScoresIn (F := F) (xOf m d) (tbOf m d) b f⌝ ∗ aLoc d main_v1_0 ↦{fullShare} f)
    ∗ (∃ g, ⌜∀ b, PlacesIn (xOf m d) (sbOf m d) b g⌝ ∗ aLoc d main_v2 ↦{fullShare} cut g)
    ∗ ∃ h, ⌜∀ b, TotalsIn (xOf m d) (sbOf m d) b h⌝ ∗ aLoc d main_v4 ↦{fullShare} flat (columnAt m d h))

/-- The scorer's call: its region, from the boundary and back to it. -/
theorem scorer_step (d : Dev nD) (Q : PUnit → sProp (MM F)) :
    iprop((iprop(boundary (SparseCore.T d) ∗ unscopedBufs d (Vs m d) ∗ tcOwes d) -∗ |={Set.univ}=> Q ⟨⟩) ∗ boundary (SparseCore.T d) ∗ (unscopedBufs d (Vm m d) ∗ tcOwes d)
        ∗ levAts (K (F := F)).L (K (F := F)).lev ∗ ghostOf 0 d)
      ⊢ wp frame (wpE ((K (F := F)).defs (D (F := F))) 𝒱 (SparseCore.T d) none) Set.univ (Prog.lift (.customCall (SparseCore.inner (Pipeline.entry 0)) ())) Q := by
  have hreg := Pipeline.RegionSeg.wp (pcfgs (F := F)) adm (pdats (Vm m)) (none : HIx 1) cell_inj (EP : Emb UP (MM F)) defs₀ 𝒱₀ (K (F := F)).L (K (F := F)).lev
    (region m) d none (fun u hu => absurd hu (by simp)) (α := PUnit) (fun _ => .ret ⟨⟩) Q
  rw [wp_ret] at hreg
  have hl := (K (F := F)).wp_liftProg (D (F := F)) 𝒱 (SparseCore.T d) Set.univ none
    (.op (.customCall (Pipeline.entry 0) ()) fun _ => .ret ⟨⟩) Q
  refine BIBase.Entails.trans ?_ hl
  refine BIBase.Entails.trans ?_ hreg
  rw [show (region m).pre d = iprop(unscopedBufs d (Vm m d) ∗ tcOwes d) from rfl, show (region m).post d = iprop(unscopedBufs d (Vs m d) ∗ tcOwes d) from rfl]
  unfold ghostOf
  iintro ⟨Hk, Hb, Hpre, Hlv, HG, HT⟩
  isplitl [Hk]; · iexact Hk
  isplitl [Hb]; · iexact Hb
  isplitl [Hpre]; · iexact Hpre
  isplitl [Hlv]; · iexact Hlv
  isplitl [HG] <;> iassumption

/-- The finishing call: its region, from the boundary and back to it. -/
theorem finish_step (d : Dev nD) (f : Buf (Elt F) (scLoc d)) (g : Buf (Elt F) (ixLoc d)) (h : Buf (Elt F) (ctLoc d)) (Q : PUnit → sProp (MM F)) :
    iprop((iprop(boundary (SparseCore.T d) ∗ unscopedBufs d (Ve m d f g h d) ∗ tcOwes1 d) -∗ |={Set.univ}=> Q ⟨⟩) ∗ boundary (SparseCore.T d) ∗ (unscopedBufs d (Vf m d f g h d) ∗ tcOwes1 d)
        ∗ levAts (K (F := F)).L (K (F := F)).lev ∗ ghostOf 1 d)
      ⊢ wp frame (wpE ((K (F := F)).defs (D (F := F))) 𝒱 (SparseCore.T d) none) Set.univ (Prog.lift (.customCall (SparseCore.inner (Pipeline.entry 1)) ())) Q := by
  have hreg := Pipeline.RegionSeg.wp (pcfgs (F := F)) adm (pdats (Vf m d f g h)) (none : HIx 1) cell_inj (EP : Emb UP (MM F)) defs₀ 𝒱₀ (K (F := F)).L (K (F := F)).lev
    (finRegion m d f g h) d none (fun u hu => absurd hu (by simp)) (α := PUnit) (fun _ => .ret ⟨⟩) Q
  rw [wp_ret] at hreg
  have hl := (K (F := F)).wp_liftProg (D (F := F)) 𝒱 (SparseCore.T d) Set.univ none
    (.op (.customCall (Pipeline.entry 1) ()) fun _ => .ret ⟨⟩) Q
  refine BIBase.Entails.trans ?_ hl
  refine BIBase.Entails.trans ?_ hreg
  rw [show (finRegion m d f g h).pre d = iprop(unscopedBufs d (Vf m d f g h d) ∗ tcOwes1 d) from rfl, show (finRegion m d f g h).post d = iprop(unscopedBufs d (Ve m d f g h d) ∗ tcOwes1 d) from rfl]
  unfold ghostOf
  iintro ⟨Hk, Hb, Hpre, Hlv, HG, HT⟩
  isplitl [Hk]; · iexact Hk
  isplitl [Hb]; · iexact Hb
  isplitl [Hpre]; · iexact Hpre
  isplitl [Hlv]; · iexact Hlv
  isplitl [HG] <;> iassumption

set_option maxHeartbeats 4000000 in
theorem hmain (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ghost
  simp only [main, wp_bind, wp_pure]
  iintro ⟨#Hctx, Hst, ⟨Hb, Hub, Hts, -⟩, HG, HG1⟩
  ihave Hlv := (SparseCore.Cfg.ctx_levAts (K := K (F := F)) (EH := EH) (P := P m) κ) $$ Hctx
  iapply (scorer_step m d _)
  ihave Hst := (show (K (F := F)).tcSt EH d 0 ⊢ iprop(tcOwes (F := F) d ∗ (tcOwes (F := F) d -∗ (K (F := F)).tcSt EH d 0)) from by
    unfold SparseCore.Cfg.tcSt
    iintro ⟨HO, Hr⟩
    isplitl [HO]; · iexact HO
    iintro HO
    isplitl [HO] <;> iassumption) $$ Hst
  icases Hst with ⟨HO, Hst⟩
  isplitl [Hst Hts HG1]
  · iintro ⟨Hb, Hub, HO⟩
    imodintro
    ihave Hst := Hst $$ HO
    ihave Hub := (Entails.of_eq (bufs_eq d (Vs m d))) $$ Hub
    rw [Vs_stab, Vs_slot, Vs_ord,
      Vs_ne m d main_arg0 (by decide) (by decide) (by decide),
      Vs_ne m d main_arg1 (by decide) (by decide) (by decide),
      Vs_ne m d main_arg2 (by decide) (by decide) (by decide),
      Vs_ne m d main_arg3 (by decide) (by decide) (by decide),
      Vs_ne m d main_arg4 (by decide) (by decide) (by decide),
      Vs_ne m d main_arg5 (by decide) (by decide) (by decide),
      Vs_ne m d main_arg6 (by decide) (by decide) (by decide),
      Vs_ne m d main_arg7 (by decide) (by decide) (by decide),
      Vs_ne m d main_arg8 (by decide) (by decide) (by decide),
      Vs_ne m d main_arg9 (by decide) (by decide) (by decide),
      Vs_ne m d main_arg10 (by decide) (by decide) (by decide),
      Vs_ne m d main_arg11 (by decide) (by decide) (by decide),
      Vs_ne m d main_arg12 (by decide) (by decide) (by decide),
      Vs_ne m d main_arg13 (by decide) (by decide) (by decide),
      Vs_ne m d main_arg14 (by decide) (by decide) (by decide),
      Vs_ne m d main_arg15 (by decide) (by decide) (by decide),
      Vs_ne m d main_v1_0 (by decide) (by decide) (by decide),
      Vs_ne m d main_v1_1 (by decide) (by decide) (by decide),
      Vs_ne m d main_v1_2 (by decide) (by decide) (by decide),
      Vs_ne m d main_v2 (by decide) (by decide) (by decide),
      Vs_ne m d main_v3 (by decide) (by decide) (by decide),
      Vs_ne m d main_v4 (by decide) (by decide) (by decide)]
    icases Hub with ⟨H0, H1, H2, H3, H4, H5, H6, H7, H8, H9, H10, H11, H12, H13, H14, H15, Hsb, Hsl, Hod, Hsc, Hix, Hct, Hv, Hr, Ho⟩
    iapply ((K (F := F)).wp_run (D (F := F)) 𝒱 (EH := EH) (P := P m) κ d 0) $$ [Hst Hb Hts HG1 H0 H1 H2 H3 H4 H5 H6 H7 H8 H9 H10 H11 H12 H13 H14 H15 Hsb Hsl Hod Hsc Hix Hct Hv Hr Ho]
    isplitr; · iexact Hctx
    isplitl [Hst]; · iexact Hst
    isplitl [H0 Hsb Hsl Hsc Hix Hct]
    · iapply (call_in m d (m (scLoc d)) (m (ixLoc d)) (m (ctLoc d)))
      isplitl [H0 Hsc Hix Hct]
      · isplitl [H0]; · iexact H0
        isplitl [Hsc]; · iexact Hsc
        isplitl [Hix]; · iexact Hix
        iexact Hct
      isplitl [Hsb]; · iexact Hsb
      iexact Hsl
    iintro ⟨Hst, Hdn⟩
    ihave Hdn := (call_out m d) $$ Hdn
    icases Hdn with ⟨⟨H0, ⟨%f, %hf, Hsc⟩, ⟨%g, %hg, Hix⟩, ⟨%h, %hh, Hct⟩⟩, Hsb, Hsl⟩
    iapply (wp_hlo_within 𝒱 (SparseCore.T d) none Set.univ (op := opCut) (S := Sc) hCut (V := V1 m d g)) $$ [Hb Hix Hv]
    · isplitl [Hb]; · iexact Hb
      rw [held_Sc, V1_i, V1_o]
      isplitl [Hix]; · iexact Hix
      iexact Hv
    iintro ⟨Hb, Hheld⟩
    ihave Hheld := (Entails.of_eq (held_Sc (F := F) d _)) $$ Hheld
    rw [cut_result, cut_kept]
    icases Hheld with ⟨Hix, Hv⟩
    rw [wp_ret]; imodintro
    iapply (finish_step m d f g h _)
    ihave Hlv := (SparseCore.Cfg.ctx_levAts (K := K (F := F)) (EH := EH) (P := P m) κ) $$ Hctx
    ihave Hst := (show (K (F := F)).tcSt EH d ((0 : Fin 1).val + 1) ⊢ iprop(tcOwes1 (F := F) d ∗ (tcOwes1 (F := F) d -∗ (K (F := F)).tcSt EH d 1)) from by
      change (K (F := F)).tcSt EH d 1 ⊢ _
      unfold SparseCore.Cfg.tcSt
      iintro ⟨HO, Hr⟩
      isplitl [HO]; · iexact HO
      iintro HO
      isplitl [HO] <;> iassumption) $$ Hst
    icases Hst with ⟨HO, Hst⟩
    isplitl [Hst Hts]
    · iintro ⟨Hb, Hub, HO⟩
      imodintro
      ihave Hst := Hst $$ HO
      ihave Hub := (Entails.of_eq (bufs_eq d (Ve m d f g h d))) $$ Hub
      rw [res_eq, Ve_eq m d f g h main_v1_0 (by decide), Vr_sc, Ve_eq m d f g h main_v2 (by decide), Vr_cut,
        Ve_eq m d f g h main_arg0 (by decide), Vr_arg m d f g h main_arg0 (by decide) (by decide) (by decide) (by decide) (by decide) (by decide) (by decide),
        Ve_eq m d f g h main_arg1 (by decide), Vr_arg m d f g h main_arg1 (by decide) (by decide) (by decide) (by decide) (by decide) (by decide) (by decide),
        Ve_eq m d f g h main_arg2 (by decide), Vr_arg m d f g h main_arg2 (by decide) (by decide) (by decide) (by decide) (by decide) (by decide) (by decide),
        Ve_eq m d f g h main_arg3 (by decide), Vr_arg m d f g h main_arg3 (by decide) (by decide) (by decide) (by decide) (by decide) (by decide) (by decide),
        Ve_eq m d f g h main_arg4 (by decide), Vr_arg m d f g h main_arg4 (by decide) (by decide) (by decide) (by decide) (by decide) (by decide) (by decide),
        Ve_eq m d f g h main_arg5 (by decide), Vr_arg m d f g h main_arg5 (by decide) (by decide) (by decide) (by decide) (by decide) (by decide) (by decide),
        Ve_eq m d f g h main_arg6 (by decide), Vr_arg m d f g h main_arg6 (by decide) (by decide) (by decide) (by decide) (by decide) (by decide) (by decide),
        Ve_eq m d f g h main_arg7 (by decide), Vr_arg m d f g h main_arg7 (by decide) (by decide) (by decide) (by decide) (by decide) (by decide) (by decide),
        Ve_eq m d f g h main_arg8 (by decide), Vr_arg m d f g h main_arg8 (by decide) (by decide) (by decide) (by decide) (by decide) (by decide) (by decide),
        Ve_eq m d f g h main_arg9 (by decide), Vr_arg m d f g h main_arg9 (by decide) (by decide) (by decide) (by decide) (by decide) (by decide) (by decide),
        Ve_eq m d f g h main_arg10 (by decide), Vr_arg m d f g h main_arg10 (by decide) (by decide) (by decide) (by decide) (by decide) (by decide) (by decide),
        Ve_eq m d f g h main_arg11 (by decide), Vr_arg m d f g h main_arg11 (by decide) (by decide) (by decide) (by decide) (by decide) (by decide) (by decide),
        Ve_eq m d f g h main_arg12 (by decide), Vr_arg m d f g h main_arg12 (by decide) (by decide) (by decide) (by decide) (by decide) (by decide) (by decide),
        Ve_eq m d f g h main_arg13 (by decide), Vr_arg m d f g h main_arg13 (by decide) (by decide) (by decide) (by decide) (by decide) (by decide) (by decide),
        Ve_eq m d f g h main_arg14 (by decide), Vr_arg m d f g h main_arg14 (by decide) (by decide) (by decide) (by decide) (by decide) (by decide) (by decide),
        Ve_eq m d f g h main_arg15 (by decide), Vr_arg m d f g h main_arg15 (by decide) (by decide) (by decide) (by decide) (by decide) (by decide) (by decide),
        Ve_eq m d f g h main_v4 (by decide), Vr_arg m d f g h main_v4 (by decide) (by decide) (by decide) (by decide) (by decide) (by decide) (by decide)]
      icases Hub with ⟨H0, H1, H2, H3, H4, H5, H6, H7, H8, H9, H10, H11, H12, H13, H14, H15, -, -, -, Hsc, -, -, Hv, Hr, Ho⟩
      iapply (wp_hlo_within 𝒱 (SparseCore.T d) none Set.univ (op := opFlat) (S := Sf) hFlat (V := V2 m d (columnAt m d h))) $$ [Hb Hr Ho]
      · isplitl [Hb]; · iexact Hb
        rw [held_Sf, V2_i, V2_o]
        isplitl [Hr]; · iexact Hr
        iexact Ho
      iintro ⟨Hb, Hheld⟩
      ihave Hheld := (Entails.of_eq (held_Sf (F := F) d _)) $$ Hheld
      rw [flat_result]
      icases Hheld with ⟨-, Ho⟩
      rw [wp_ret]; imodintro; imodintro
      isplitl [Hst]; · iexact Hst
      isplitr [Hb Hts]
      · unfold FIN
        isplitl [H0 H1 H2 H3 H4 H5 H6 H7 H8 H9 H10 H11 H12 H13 H14 H15]
        · isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          iexact H15
        isplitl [Hsc]
        · iexists f; isplitr; · ipureintro; exact hf
          iexact Hsc
        isplitl [Hv]
        · iexists g; isplitr; · ipureintro; exact hg
          iexact Hv
        iexists h; isplitr; · ipureintro; exact hh
        iexact Ho
      isplitl [Hb] <;> iassumption
    isplitl [Hb]; · iexact Hb
    isplitr [Hlv HG1]
    · isplitr [HO]
      · rw [Vf_self]
        iapply (Entails.of_eq (bufs_eq d (Vr m d f g h)).symm)
        rw [Vr_sc, Vr_ix, Vr_ct, Vr_cut, Vr_ne m d f g h main_v0_0 (by decide) (by decide) (by decide) (by decide), Vr_ne m d f g h main_v0_1 (by decide) (by decide) (by decide) (by decide), Vr_ne m d f g h main_v0_2 (by decide) (by decide) (by decide) (by decide), Vs_stab, Vs_slot, Vs_ord,
          Vr_arg m d f g h main_arg0 (by decide) (by decide) (by decide) (by decide) (by decide) (by decide) (by decide),
          Vr_arg m d f g h main_arg1 (by decide) (by decide) (by decide) (by decide) (by decide) (by decide) (by decide),
          Vr_arg m d f g h main_arg2 (by decide) (by decide) (by decide) (by decide) (by decide) (by decide) (by decide),
          Vr_arg m d f g h main_arg3 (by decide) (by decide) (by decide) (by decide) (by decide) (by decide) (by decide),
          Vr_arg m d f g h main_arg4 (by decide) (by decide) (by decide) (by decide) (by decide) (by decide) (by decide),
          Vr_arg m d f g h main_arg5 (by decide) (by decide) (by decide) (by decide) (by decide) (by decide) (by decide),
          Vr_arg m d f g h main_arg6 (by decide) (by decide) (by decide) (by decide) (by decide) (by decide) (by decide),
          Vr_arg m d f g h main_arg7 (by decide) (by decide) (by decide) (by decide) (by decide) (by decide) (by decide),
          Vr_arg m d f g h main_arg8 (by decide) (by decide) (by decide) (by decide) (by decide) (by decide) (by decide),
          Vr_arg m d f g h main_arg9 (by decide) (by decide) (by decide) (by decide) (by decide) (by decide) (by decide),
          Vr_arg m d f g h main_arg10 (by decide) (by decide) (by decide) (by decide) (by decide) (by decide) (by decide),
          Vr_arg m d f g h main_arg11 (by decide) (by decide) (by decide) (by decide) (by decide) (by decide) (by decide),
          Vr_arg m d f g h main_arg12 (by decide) (by decide) (by decide) (by decide) (by decide) (by decide) (by decide),
          Vr_arg m d f g h main_arg13 (by decide) (by decide) (by decide) (by decide) (by decide) (by decide) (by decide),
          Vr_arg m d f g h main_arg14 (by decide) (by decide) (by decide) (by decide) (by decide) (by decide) (by decide),
          Vr_arg m d f g h main_arg15 (by decide) (by decide) (by decide) (by decide) (by decide) (by decide) (by decide),
          Vr_arg m d f g h main_v3 (by decide) (by decide) (by decide) (by decide) (by decide) (by decide) (by decide),
          Vr_arg m d f g h main_v4 (by decide) (by decide) (by decide) (by decide) (by decide) (by decide) (by decide)]
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [Hsb]; · iexact Hsb
        isplitl [Hsl]; · iexact Hsl
        isplitl [Hod]; · iexact Hod
        isplitl [Hsc]; · iexact Hsc
        isplitl [Hix]; · iexact Hix
        isplitl [Hct]; · iexact Hct
        isplitl [Hv]; · iexact Hv
        isplitl [Hr]; · iexact Hr
        iexact Ho
      iexact HO
    isplitl [Hlv]; · iexact Hlv
    iexact HG1
  isplitl [Hb]; · iexact Hb
  isplitl [Hub HO]
  · isplitl [Hub]; · iexact Hub
    iexact HO
  isplitl [Hlv]; · iexact Hlv
  iexact HG

/-- What the run leaves in device `d`'s memory. -/
def fq (d : Dev nD) (s' : Phys nD τ sig (Elt F)) : Prop :=
  (s'.mem.mem (aLoc d main_arg0) = m (aLoc d main_arg0)
    ∧ s'.mem.mem (aLoc d main_arg1) = m (aLoc d main_arg1)
    ∧ s'.mem.mem (aLoc d main_arg2) = m (aLoc d main_arg2)
    ∧ s'.mem.mem (aLoc d main_arg3) = m (aLoc d main_arg3)
    ∧ s'.mem.mem (aLoc d main_arg4) = m (aLoc d main_arg4)
    ∧ s'.mem.mem (aLoc d main_arg5) = m (aLoc d main_arg5)
    ∧ s'.mem.mem (aLoc d main_arg6) = m (aLoc d main_arg6)
    ∧ s'.mem.mem (aLoc d main_arg7) = m (aLoc d main_arg7)
    ∧ s'.mem.mem (aLoc d main_arg8) = m (aLoc d main_arg8)
    ∧ s'.mem.mem (aLoc d main_arg9) = m (aLoc d main_arg9)
    ∧ s'.mem.mem (aLoc d main_arg10) = m (aLoc d main_arg10)
    ∧ s'.mem.mem (aLoc d main_arg11) = m (aLoc d main_arg11)
    ∧ s'.mem.mem (aLoc d main_arg12) = m (aLoc d main_arg12)
    ∧ s'.mem.mem (aLoc d main_arg13) = m (aLoc d main_arg13)
    ∧ s'.mem.mem (aLoc d main_arg14) = m (aLoc d main_arg14)
    ∧ s'.mem.mem (aLoc d main_arg15) = m (aLoc d main_arg15))
  ∧ (∀ b, ScoresIn (F := F) (xOf m d) (tbOf m d) b (s'.mem.mem (aLoc d main_v1_0)))
  ∧ (∃ g, (∀ b, PlacesIn (xOf m d) (sbOf m d) b g) ∧ s'.mem.mem (aLoc d main_v2) = cut g)
  ∧ ∃ h, (∀ b, TotalsIn (xOf m d) (sbOf m d) b h) ∧ s'.mem.mem (aLoc d main_v4) = flat (columnAt m d h)

theorem mem_eq (s' : Phys nD τ sig (Elt F)) (ℓ : Loc nD τ sig) (f : Buf (Elt F) ℓ) : iprop((ℓ ↦{fullShare} f) ∗ SI s') ⊢ (iprop(⌜s'.mem.mem ℓ = f⌝ ∗ SI s') : sProp (MM F)) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr; · ipureintro; exact funext fun i => hx i (Finset.mem_univ i)
  iexact HSI

theorem hfin (d : Dev nD) (s' : Phys nD τ sig (Elt F)) : iprop(FIN m d ∗ SI s') ⊢ (⌜fq m d s'⌝ : sProp (MM F)) := by
  unfold FIN
  iintro ⟨⟨⟨H0, H1, H2, H3, H4, H5, H6, H7, H8, H9, H10, H11, H12, H13, H14, H15⟩, ⟨%f, %hf, Hsc⟩, ⟨%g, %hg, Hv⟩, ⟨%h, %hh, Ho⟩⟩, HSI⟩
  ihave H := (mem_eq s' (aLoc d main_arg0) _) $$ [H0 HSI]
  · isplitl [H0] <;> iassumption
  icases H with ⟨%e0, HSI⟩
  ihave H := (mem_eq s' (aLoc d main_arg1) _) $$ [H1 HSI]
  · isplitl [H1] <;> iassumption
  icases H with ⟨%e1, HSI⟩
  ihave H := (mem_eq s' (aLoc d main_arg2) _) $$ [H2 HSI]
  · isplitl [H2] <;> iassumption
  icases H with ⟨%e2, HSI⟩
  ihave H := (mem_eq s' (aLoc d main_arg3) _) $$ [H3 HSI]
  · isplitl [H3] <;> iassumption
  icases H with ⟨%e3, HSI⟩
  ihave H := (mem_eq s' (aLoc d main_arg4) _) $$ [H4 HSI]
  · isplitl [H4] <;> iassumption
  icases H with ⟨%e4, HSI⟩
  ihave H := (mem_eq s' (aLoc d main_arg5) _) $$ [H5 HSI]
  · isplitl [H5] <;> iassumption
  icases H with ⟨%e5, HSI⟩
  ihave H := (mem_eq s' (aLoc d main_arg6) _) $$ [H6 HSI]
  · isplitl [H6] <;> iassumption
  icases H with ⟨%e6, HSI⟩
  ihave H := (mem_eq s' (aLoc d main_arg7) _) $$ [H7 HSI]
  · isplitl [H7] <;> iassumption
  icases H with ⟨%e7, HSI⟩
  ihave H := (mem_eq s' (aLoc d main_arg8) _) $$ [H8 HSI]
  · isplitl [H8] <;> iassumption
  icases H with ⟨%e8, HSI⟩
  ihave H := (mem_eq s' (aLoc d main_arg9) _) $$ [H9 HSI]
  · isplitl [H9] <;> iassumption
  icases H with ⟨%e9, HSI⟩
  ihave H := (mem_eq s' (aLoc d main_arg10) _) $$ [H10 HSI]
  · isplitl [H10] <;> iassumption
  icases H with ⟨%e10, HSI⟩
  ihave H := (mem_eq s' (aLoc d main_arg11) _) $$ [H11 HSI]
  · isplitl [H11] <;> iassumption
  icases H with ⟨%e11, HSI⟩
  ihave H := (mem_eq s' (aLoc d main_arg12) _) $$ [H12 HSI]
  · isplitl [H12] <;> iassumption
  icases H with ⟨%e12, HSI⟩
  ihave H := (mem_eq s' (aLoc d main_arg13) _) $$ [H13 HSI]
  · isplitl [H13] <;> iassumption
  icases H with ⟨%e13, HSI⟩
  ihave H := (mem_eq s' (aLoc d main_arg14) _) $$ [H14 HSI]
  · isplitl [H14] <;> iassumption
  icases H with ⟨%e14, HSI⟩
  ihave H := (mem_eq s' (aLoc d main_arg15) _) $$ [H15 HSI]
  · isplitl [H15] <;> iassumption
  icases H with ⟨%e15, HSI⟩
  ihave H := (mem_eq s' (aLoc d main_v1_0) _) $$ [Hsc HSI]
  · isplitl [Hsc] <;> iassumption
  icases H with ⟨%e16, HSI⟩
  ihave H := (mem_eq s' (aLoc d main_v2) _) $$ [Hv HSI]
  · isplitl [Hv] <;> iassumption
  icases H with ⟨%e17, HSI⟩
  ihave H := (mem_eq s' (aLoc d main_v4) _) $$ [Ho HSI]
  · isplitl [Ho] <;> iassumption
  icases H with ⟨%e18, HSI⟩
  ipureintro
  exact ⟨⟨e0, e1, e2, e3, e4, e5, e6, e7, e8, e9, e10, e11, e12, e13, e14, e15⟩, fun b => e16 ▸ hf b, ⟨g, hg, e17⟩, h, hh, e18⟩

/-! ## The run -/

def QC : PUnit × MemSt nD τ sig (Elt F) → Prop := fun r => (∀ d : Dev nD,
  (r.2.mem (aLoc d main_arg0) = m (aLoc d main_arg0)
    ∧ r.2.mem (aLoc d main_arg1) = m (aLoc d main_arg1)
    ∧ r.2.mem (aLoc d main_arg2) = m (aLoc d main_arg2)
    ∧ r.2.mem (aLoc d main_arg3) = m (aLoc d main_arg3)
    ∧ r.2.mem (aLoc d main_arg4) = m (aLoc d main_arg4)
    ∧ r.2.mem (aLoc d main_arg5) = m (aLoc d main_arg5)
    ∧ r.2.mem (aLoc d main_arg6) = m (aLoc d main_arg6)
    ∧ r.2.mem (aLoc d main_arg7) = m (aLoc d main_arg7)
    ∧ r.2.mem (aLoc d main_arg8) = m (aLoc d main_arg8)
    ∧ r.2.mem (aLoc d main_arg9) = m (aLoc d main_arg9)
    ∧ r.2.mem (aLoc d main_arg10) = m (aLoc d main_arg10)
    ∧ r.2.mem (aLoc d main_arg11) = m (aLoc d main_arg11)
    ∧ r.2.mem (aLoc d main_arg12) = m (aLoc d main_arg12)
    ∧ r.2.mem (aLoc d main_arg13) = m (aLoc d main_arg13)
    ∧ r.2.mem (aLoc d main_arg14) = m (aLoc d main_arg14)
    ∧ r.2.mem (aLoc d main_arg15) = m (aLoc d main_arg15))
  ∧ (∀ b, ScoresIn (F := F) (xOf m d) (tbOf m d) b (r.2.mem (aLoc d main_v1_0)))
  ∧ (∃ g, (∀ b, PlacesIn (xOf m d) (sbOf m d) b g) ∧ r.2.mem (aLoc d main_v2) = cut g)
  ∧ ∃ h, (∀ b, TotalsIn (xOf m d) (sbOf m d) b h) ∧ r.2.mem (aLoc d main_v4) = flat (columnAt m d h)) ∧ r.2.sem = fun _ => 0

/-- Every run from ids and slots below 16 ends with the arguments as they were, every semaphore at zero, each row's
    scores looked up, each row's first 409 positions in place, and the finishing call's column of the rows' totals. -/
theorem run_main (hX : ∀ d j, (xOf m d j : BitVec 32).toNat < 16) (hsb : ∀ d j, (sbOf m d j : BitVec 32).toNat < 16) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hX hsb)
    (fun q _ => match q with | 0 => SparseCore.Cfg.VecSplit.of_plain (vecSplit m))
    m ρ main (fun d => ghost d) (FIN m) (u₀ (F := F)) (sep_elim_left.trans (hu₀ m)) (hmain m ρ) (fq m) (hfin m) (QC m) (fun _ h hz => ⟨h, hz⟩)

end Cert.Proof.Sparsity

end
-- ==== Proof.Twin.lean ====
/-
  The two kernel programs have one text.
-/
module
public import proofs.«01_k».proof.Defs
public import proofs.«01_k».proof.Proof.Gen.Kernel
public import proofs.«01_k».proof.Proof.Gen.KernelIdeal

@[expose] public section

set_option maxRecDepth 65536

noncomputable section

namespace Cert.Proof.Sparsity

open Cert.KernelIdeal Cert.KernelIdeal.Gen
open Idealize.ShloMosaic
open Idealize.ShloMosaic.TcCoe

/-! ## The kernel's body table on bit patterns is the other program's -/

/-- On bit patterns a named constant is the word that the program prints. -/
instance namedBits : Named Bits := ⟨fun _ _ {_} w => FloatOps.ofBits _ w⟩

theorem named_word (w : BitVec 32) : (Named.named (F := Bits) Cert.KernelIdeal.κ "k" (φ := .f32) w) = Scalar.ofBits .f32 w := rfl

set_option maxHeartbeats 4000000 in
theorem part2_eq : @Cert.Kernel.k2_part2 Bits _ Cert.Kernel.Gen.facts = @Cert.KernelIdeal.k2_part2 Bits _ _ Cert.KernelIdeal.Gen.facts := by
  unfold Cert.KernelIdeal.k2_part2
  simp only [named_word]
  rfl

set_option maxHeartbeats 4000000 in
theorem finish_body_eq : @Cert.Kernel.cc2__finish_body Bits _ Cert.Kernel.Gen.facts = @Cert.KernelIdeal.cc2__finish_body Bits _ _ Cert.KernelIdeal.Gen.facts := by
  unfold Cert.Kernel.cc2__finish_body Cert.KernelIdeal.cc2__finish_body
  rw [part2_eq]
  rfl

set_option maxHeartbeats 4000000 in
theorem finish_entry_eq (a) : Cert.Kernel.defs₀ (F := Bits) .tc 2 a = Cert.KernelIdeal.defs₀ (F := Bits) .tc 2 a := by
  obtain ⟨t, s⟩ := a
  unfold Cert.Kernel.defs₀ Cert.KernelIdeal.defs₀
  dsimp only
  rw [finish_body_eq]
  rfl

set_option maxHeartbeats 4000000 in
theorem defs₀_eq : Cert.Kernel.defs₀ (F := Bits) = Cert.KernelIdeal.defs₀ (F := Bits) := by
  funext p ℓ a
  match p, ℓ, a with
  | .tc, 0, (t, s) => rfl
  | .scVector c s, 1, _ => rfl
  | .tc, 2, a => exact finish_entry_eq a
  | .tc, 1, _ => rfl
  | .scVector c s, 0, _ => rfl
  | .scVector c s, 2, _ => rfl
  | .scScalar c, 0, _ => rfl
  | .scScalar c, 1, _ => rfl
  | .scScalar c, 2, _ => rfl

theorem defs_eq : Cert.Kernel.defs (F := Bits) = Cert.KernelIdeal.defs (F := Bits) := by
  unfold Cert.Kernel.defs Cert.KernelIdeal.defs
  rw [defs₀_eq]; rfl

end Cert.Proof.Sparsity

end
-- ==== Proof.Slots.lean ====
/-
  The slot table: its words lie below sixteen.
-/
module

public import proofs.«01_k».proof.Proof.Scored
public import proofs.«01_k».proof.Proof.Twin
public import Idealize.ShloMosaic.Lib.Pointwise
public import Idealize.ShloMosaic.Lib.NatWords

@[expose] public section

set_option maxRecDepth 65536

noncomputable section

namespace Cert.Proof.Sparsity

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [∀ e, Nonempty (Elt F e)]

/-! ## The scorer's rows, entry by entry -/

/-- One or zero as a bit says. -/
def bitVal (b : BitVec 1) : F .f32 := Scalar.select b (FloatOps.ofBits .f32 0x3F800000#32) (FloatOps.ofBits .f32 0x00000000#32)

/-- Column `j` of the mask of first occurrences: whether the row sum at `j` is zero. -/
theorem first_apply (v39 : IVec S8x8 1) (v40 v41 : FVec F S8x8 .f32) (i j : Fin 8) :
    k0_pay1 v39 v40 v41 (ix2 i j)
      = bitVal (FloatOps.cmpf .oeq (FloatOps.reduceAdd [1] reduces_S8x8_S8 (select v39 v40 v41) (ix1 j)) (FloatOps.ofBits .f32 0x00000000#32)) := by
  unfold k0_pay1 bitVal
  simp only [pointwise]
  rfl

/-- What row `i` of the slot count sums. -/
def above (v29 v31 : FVec F S8x8 .f32) (v35 v39 : IVec S8x8 1) (v40 v41 : FVec F S8x8 .f32) : FVec F S8x8 .f32 :=
  mulf (select (andi (cmpf .ogt v31 v29) v35) (broadcast S8x8 (FloatOps.ofBits .f32 0x3F800000#32)) (broadcast S8x8 (FloatOps.ofBits .f32 0x00000000#32)))
    (k0_pay1 v39 v40 v41)

theorem above_apply (v29 v31 : FVec F S8x8 .f32) (v35 v39 : IVec S8x8 1) (v40 v41 : FVec F S8x8 .f32) (j : S8x8.Idx) :
    above v29 v31 v35 v39 v40 v41 j
      = FloatOps.mulf (bitVal (IntOp.andi (FloatOps.cmpf .ogt (v31 j) (v29 j)) (v35 j))) (k0_pay1 v39 v40 v41 j) := rfl

theorem count_apply (v29 v31 : FVec F S8x8 .f32) (v35 v39 : IVec S8x8 1) (v40 v41 : FVec F S8x8 .f32) (i : Fin 8) :
    k0_pay2 v29 v31 v35 v39 v40 v41 (ix2 0 i) = FloatOps.reduceAdd [1] reduces_S8x8_S8 (above v29 v31 v35 v39 v40 v41) (ix1 i) := by
  unfold k0_pay2
  simp only [pointwise]
  rfl

/-- A slot word: the count in the first eight lanes, zero in the others, each as an integer. -/
theorem slot_apply (v29 v31 : FVec F S8x8 .f32) (v35 v39 : IVec S8x8 1) (v40 v41 : FVec F S8x8 .f32) (j : Fin 16) :
    k0_pay6 v29 v31 v35 v39 v40 v41 (ix2 0 j)
      = FloatOps.fptosi 32 (if h : j.val < 8 then k0_pay2 v29 v31 v35 v39 v40 v41 (ix2 0 ⟨j.val, h⟩) else FloatOps.ofBits .f32 0x00000000#32) := by
  unfold k0_pay6 k0_pay4
  simp only [pointwise]

/-! ## On bit patterns: every word is a small natural -/

theorem bitVal_nat (b : BitVec 1) : (bitVal b : Bits .f32) = Bits.f32OfNat b.toNat := by
  have h1 : (FloatOps.ofBits .f32 0x3F800000#32 : Bits .f32) = Bits.f32OfNat 1 := by
    rw [Bits.f32OfNat_eq 1 (by decide)]; decide
  rcases (by decide +revert : b = 0#1 ∨ b = 1#1) with rfl | rfl
  · exact Bits.f32OfNat_zero.symm
  · exact h1

/-- Each row's count is a natural at most eight. -/
theorem count_nat (v29 v31 : FVec Bits S8x8 .f32) (v35 v39 : IVec S8x8 1) (v40 v41 : FVec Bits S8x8 .f32) (i : Fin 8) :
    ∃ k, k ≤ 8 ∧ k0_pay2 v29 v31 v35 v39 v40 v41 (ix2 0 i) = Bits.f32OfNat k := by
  have hex : ∀ j : S8x8.Idx, ∃ n, n ≤ 1 ∧ above v29 v31 v35 v39 v40 v41 j = Bits.f32OfNat n := by
    intro j
    obtain ⟨a, b, rfl⟩ : ∃ a b : Fin 8, j = ix2 a b := ⟨j 0, j 1, by funext x; fin_cases x <;> rfl⟩
    rw [above_apply, first_apply, bitVal_nat, bitVal_nat]
    have hb : ∀ x : BitVec 1, x.toNat ≤ 1 := by decide
    exact ⟨_, Nat.mul_le_mul (hb _) (hb _), Bits.mulf32_nat _ _ ((hb _).trans_lt (by decide)) ((hb _).trans_lt (by decide))
      ((Nat.mul_le_mul (hb _) (hb _)).trans_lt (by decide))⟩
  choose n hn1 hn using hex
  have hsum : (Bits.reduceFiber reduces_S8x8_S8 (ix1 i)).sum n ≤ 8 := by
    unfold Bits.reduceFiber
    rw [Shape.Reduces.sum_fiber_r2_a1]
    exact (Finset.sum_le_card_nsmul _ _ 1 fun k _ => hn1 _).trans (by simp)
  refine ⟨_, hsum, ?_⟩
  rw [count_apply]
  exact Bits.multiReduction_add_nat [1] reduces_S8x8_S8 _ (ix1 i) n
    (fun j _ => by rw [hn j]; exact Bits.natOfF32?_f32OfNat _ ((hn1 j).trans_lt (by decide))) (hsum.trans_lt (by decide))

/-- Every slot word lies below sixteen. -/
theorem slot_lt_bits (v29 v31 : FVec Bits S8x8 .f32) (v35 v39 : IVec S8x8 1) (v40 v41 : FVec Bits S8x8 .f32) (j : S1x16.Idx) :
    (k0_pay6 v29 v31 v35 v39 v40 v41 j).toNat < 16 := by
  obtain ⟨b, rfl⟩ : ∃ b : Fin 16, j = ix2 0 b := ⟨j 1, by funext x; fin_cases x <;> [exact Subsingleton.elim (α := Fin 1) _ _; rfl]⟩
  rw [slot_apply]
  obtain ⟨k, hk, e⟩ : ∃ k, k ≤ 8 ∧ (if h : b.val < 8 then k0_pay2 v29 v31 v35 v39 v40 v41 (ix2 0 ⟨b.val, h⟩) else FloatOps.ofBits .f32 0x00000000#32)
      = Bits.f32OfNat k := by
    by_cases h : b.val < 8
    · rw [dif_pos h]; exact count_nat _ _ _ _ _ _ _
    · rw [dif_neg h]; exact ⟨0, by omega, Bits.f32OfNat_zero.symm⟩
  rw [e]
  show (Bits.fptosi32 32 (Bits.f32OfNat k)).toNat < 16
  rw [Bits.fptosi32_nat k (by omega), BitVec.toNat_ofNat]
  omega

theorem slotOf_lt_bits (V : (c : Dev nD) → (b : Ref sig .tc) → Buf (Elt Bits) ((c : Thread nD τ).loc b)) (c : Dev nD) (j : S1x16.Idx) :
    (slotOf V c j : BitVec 32).toNat < 16 := by
  rw [slotOf_eq]; exact slot_lt_bits _ _ _ _ _ _ j

end Cert.Proof.Sparsity

end
-- ==== Proof.Order.lean ====
/-
  On exact values a slot counts the distinct scores above.
-/
module

public import proofs.«01_k».proof.Proof.Slots
public import Idealize.ShloMosaic.Lib.Pointwise
public import Idealize.ShloMosaic.Lib.NatWords

@[expose] public section

set_option maxRecDepth 65536

noncomputable section

namespace Cert.Proof.Sparsity

open Cert.KernelIdeal Cert.KernelIdeal.Gen
open Idealize.ShloMosaic
open Idealize.ShloMosaic.TcCoe

/-! ## On exact values: a slot word counts distinct larger scores -/

theorem one_ideal : (FloatOps.ofBits .f32 0x3F800000#32 : Ideal .f32) = (1 : EReal) := Ideal.ofBits_one_f32
theorem zero_ideal : (FloatOps.ofBits .f32 0x00000000#32 : Ideal .f32) = (0 : EReal) := Ideal.ofBits_zero_f32

theorem bitVal_ideal (p : Prop) [Decidable p] (b : BitVec 1) (h : b = 1#1 ↔ p) : (bitVal b : Ideal .f32) = ((if p then 1 else 0 : EReal)) := by
  unfold bitVal
  rw [one_ideal, zero_ideal]
  by_cases hp : p
  · rw [if_pos hp, h.mpr hp]; rfl
  · rw [if_neg hp, (BitVec.eq_zero_or_eq_one b).resolve_right fun e => hp (h.mp e)]; rfl

theorem sum_indicator {n : Nat} (p : Fin n → Prop) [DecidablePred p] :
    (∑ j : Fin n, (if p j then 1 else 0 : EReal)) = ((Finset.univ.filter p).card : EReal) := by
  rw [Finset.sum_boole]

theorem fptosi_small (k : Nat) (h : k ≤ 8) : FloatOps.fptosi (F := Ideal) (φ := .f32) 32 (k : EReal) = BitVec.ofNat 32 k := by
  show Ideal.fptosi 32 ((k : EReal)) = _
  rw [← EReal.coe_natCast]
  unfold Ideal.fptosi
  show BitVec.ofInt 32 (max _ (min _ (if (0 : ℝ) ≤ (k : ℝ) then ⌊(k : ℝ)⌋ else _))) = _
  rw [if_pos (Nat.cast_nonneg k), Int.floor_natCast]
  interval_cases k <;> decide

variable (V : (c : Dev nD) → (b : Ref sig .tc) → Buf (Elt Ideal) ((c : Thread nD τ).loc b)) (c : Dev nD)

/-- The score of vocabulary row `i`. -/
def sc (i : Fin 8) : EReal := colOf V c (ix2 i 0)

open Classical in
/-- The distinct scores above row `i`'s, each by its first row. -/
def aboves (i : Fin 8) : Finset (Fin 8) :=
  Finset.univ.filter fun j => (sc V c i < sc V c j ∧ j.val < 6) ∧ ∀ k : Fin 8, ¬ (sc V c k = sc V c j ∧ k.val < j.val ∧ k.val < 6)

theorem pay9_apply (i j : Fin 8) : k0_pay9 (opT V c) (opW V c) (opB V c) (opU V c) (opV V c) (ix2 i j) = sc V c i := by
  unfold k0_pay9 sc
  simp only [pointwise]
  rfl
theorem pay8_apply (i : Fin 1) (j : Fin 8) : k0_pay8 (opT V c) (opW V c) (opB V c) (opU V c) (opV V c) (ix2 i j) = sc V c j := by
  unfold k0_pay8 sc
  simp only [pointwise]
theorem pay10_apply (i j : Fin 8) : k0_pay10 (opT V c) (opW V c) (opB V c) (opU V c) (opV V c) (ix2 i j) = sc V c j := by
  unfold k0_pay10
  simp only [pointwise]
  exact pay8_apply V c _ _
theorem pay11_apply (i j : Fin 8) : (k0_pay11 (ix2 i j) : BitVec 1) = 1#1 ↔ j.val < 6 := by
  unfold k0_pay11
  simp only [pointwise]
  revert i j; decide
theorem andi_iff (a b : BitVec 1) : IntOp.andi a b = 1#1 ↔ a = 1#1 ∧ b = 1#1 := by revert a b; decide
theorem oeq_iff (x y : EReal) : (FloatOps.cmpf (F := Ideal) (φ := .f32) .oeq x y) = 1#1 ↔ x = y := by
  show BitVec.ofBool (decide (x = y)) = 1#1 ↔ _
  by_cases h : x = y <;> simp [h]
theorem ogt_iff (x y : EReal) : (FloatOps.cmpf (F := Ideal) (φ := .f32) .ogt x y) = 1#1 ↔ y < x := by
  show BitVec.ofBool (decide (y < x)) = 1#1 ↔ _
  by_cases h : y < x <;> simp [h]
theorem pay12_apply (j k : Fin 8) : (k0_pay12 (opT V c) (opW V c) (opB V c) (opU V c) (opV V c) (ix2 j k) : BitVec 1) = 1#1
    ↔ sc V c k = sc V c j ∧ k.val < j.val ∧ k.val < 6 := by
  have h : ∀ j k : Fin 8, IntOp.cmpi .slt (BitVec.ofNat 32 k.val) (BitVec.ofNat 32 j.val) = 1#1 ↔ k.val < j.val := by decide
  unfold k0_pay12
  simp only [pointwise]
  rw [andi_iff, andi_iff, pay11_apply, pay10_apply, pay9_apply, show (BitVec.ofBool (decide (sc V c k = sc V c j)) = 1#1 ↔ sc V c k = sc V c j) from oeq_iff _ _]
  rw [and_assoc]
  refine and_congr_right fun _ => and_congr_left fun _ => ?_
  refine Iff.trans (iff_of_eq (congrArg₂ (fun a b => IntOp.cmpi .slt (BitVec.ofNat 32 a) (BitVec.ofNat 32 b) = 1#1) ?_ ?_)) (h j k)
  · show 0 * 8 + k.val = k.val; omega
  · show 0 * 8 + j.val = j.val; omega

theorem row_sum (v : S8x8.Idx → EReal) (i : Fin 8) : Ideal.reduceAdd reduces_S8x8_S8 v (ix1 i) = ∑ k : Fin 8, v (ix2 i k) :=
  Ideal.reduceAdd_r2_a1 reduces_S8x8_S8 v (ix1 i)

theorem eqlow_apply (j k : Fin 8) :
    select (k0_pay12 (opT V c) (opW V c) (opB V c) (opU V c) (opV V c)) (k0_pay13 (F := Ideal)) (k0_pay14 (F := Ideal)) (ix2 j k)
      = (if sc V c k = sc V c j ∧ k.val < j.val ∧ k.val < 6 then 1 else 0 : EReal) := bitVal_ideal _ _ (pay12_apply V c j k)

open Classical in
theorem count_ideal (i : Fin 8) :
    k0_pay2 (k0_pay9 (opT V c) (opW V c) (opB V c) (opU V c) (opV V c)) (k0_pay10 (opT V c) (opW V c) (opB V c) (opU V c) (opV V c)) k0_pay11
      (k0_pay12 (opT V c) (opW V c) (opB V c) (opU V c) (opV V c)) (k0_pay13 (F := Ideal)) (k0_pay14 (F := Ideal)) (ix2 0 i) = ((aboves V c i).card : EReal) := by
  rw [count_apply]
  show Ideal.reduceAdd reduces_S8x8_S8 _ (ix1 i) = _
  rw [row_sum]
  unfold aboves
  rw [← sum_indicator]
  refine Finset.sum_congr rfl fun j _ => ?_
  rw [above_apply, first_apply, bitVal_ideal (sc V c i < sc V c j ∧ j.val < 6), bitVal_ideal (∀ k : Fin 8, ¬ (sc V c k = sc V c j ∧ k.val < j.val ∧ k.val < 6))]
  · show ((if _ then 1 else 0 : EReal)) * (if _ then 1 else 0 : EReal) = _
    by_cases h1 : sc V c i < sc V c j ∧ j.val < 6 <;>
      by_cases h2 : ∀ k : Fin 8, ¬ (sc V c k = sc V c j ∧ k.val < j.val ∧ k.val < 6) <;> simp [h1, h2]
  · rw [zero_ideal, oeq_iff]
    show Ideal.reduceAdd reduces_S8x8_S8 _ (ix1 j) = 0 ↔ _
    rw [row_sum, Finset.sum_congr rfl fun (k : Fin 8) _ => eqlow_apply V c j k, sum_indicator,
      Nat.cast_eq_zero, Finset.card_eq_zero, Finset.filter_eq_empty_iff]
    exact ⟨fun h k => h (Finset.mem_univ k), fun h k _ => h k⟩
  · rw [andi_iff, ogt_iff, pay11_apply, pay10_apply, pay9_apply]

/-! ## The slots order the rows as the scores do, backwards -/

theorem aboves_eq {u v : Fin 8} (h : sc V c u = sc V c v) : aboves V c u = aboves V c v := by
  unfold aboves; rw [h]

theorem aboves_lt {u v : Fin 8} (hu : u.val < 6) (h : sc V c v < sc V c u) : (aboves V c u).card < (aboves V c v).card := by
  classical
  obtain ⟨j, hj, hmin⟩ := Finset.exists_min_image (Finset.univ.filter fun j : Fin 8 => sc V c j = sc V c u ∧ j.val < 6) (fun j => j.val)
    ⟨u, by simp [hu]⟩
  simp only [Finset.mem_filter, Finset.mem_univ, true_and] at hj hmin
  refine Finset.card_lt_card (Finset.ssubset_iff_of_subset ?_ |>.mpr ⟨j, ?_, ?_⟩)
  · intro k hk
    unfold aboves at hk ⊢
    simp only [Finset.mem_filter, Finset.mem_univ, true_and] at hk ⊢
    exact ⟨⟨h.trans hk.1.1, hk.1.2⟩, hk.2⟩
  · unfold aboves
    simp only [Finset.mem_filter, Finset.mem_univ, true_and]
    refine ⟨⟨hj.1 ▸ h, hj.2⟩, fun k hk => ?_⟩
    have := hmin k ⟨hk.1.trans hj.1, hk.2.2⟩
    omega
  · unfold aboves
    simp only [Finset.mem_filter, Finset.mem_univ, true_and]
    intro hk
    rw [hj.1] at hk
    exact lt_irrefl _ hk.1.1

theorem aboves_card (u : Fin 8) : (aboves V c u).card ≤ 8 := (Finset.card_le_univ _).trans (by simp)

/-- A slot word of the first eight lanes is the count. -/
theorem slot_ideal (u : Fin 8) : slotVec V c (ix2 0 ⟨u.val, by omega⟩) = BitVec.ofNat 32 (aboves V c u).card := by
  unfold slotVec
  rw [slot_apply, dif_pos u.isLt]
  rw [show (⟨u.val, u.isLt⟩ : Fin 8) = u from rfl, count_ideal]
  exact fptosi_small _ (aboves_card V c u)

theorem slotN (u : Fin 8) : (slotOf V c (ix2 0 ⟨u.val, by omega⟩) : BitVec 32).toNat = (aboves V c u).card := by
  rw [slotOf_eq, slot_ideal, BitVec.toNat_ofNat]
  have := aboves_card V c u
  omega

/-- Every slot word lies below sixteen. -/
theorem slotOf_lt_ideal (j : S1x16.Idx) : (slotOf V c j : BitVec 32).toNat < 16 := by
  obtain ⟨b, rfl⟩ : ∃ b : Fin 16, j = ix2 0 b := ⟨j 1, by funext x; fin_cases x <;> [exact Subsingleton.elim (α := Fin 1) _ _; rfl]⟩
  by_cases h : b.val < 8
  · have e := slotN V c ⟨b.val, h⟩
    have := aboves_card V c ⟨b.val, h⟩
    rw [show (⟨(⟨b.val, h⟩ : Fin 8).val, by omega⟩ : Fin 16) = b from rfl] at e
    omega
  · rw [slotOf_eq]
    unfold slotVec
    rw [slot_apply, dif_neg h, zero_ideal]
    have e := fptosi_small 0 (by omega)
    rw [Nat.cast_zero] at e
    rw [e]; decide

theorem slot_lt_iff {u v : Fin 8} (hu : u.val < 6) (hv : v.val < 6) :
    (slotOf V c (ix2 0 ⟨u.val, by omega⟩) : BitVec 32).toNat < (slotOf V c (ix2 0 ⟨v.val, by omega⟩) : BitVec 32).toNat ↔ sc V c v < sc V c u := by
  rw [slotN, slotN]
  rcases lt_trichotomy (sc V c v) (sc V c u) with h | h | h
  · exact ⟨fun _ => h, fun _ => aboves_lt V c hu h⟩
  · rw [aboves_eq V c h, h]; simp
  · have := aboves_lt V c hv h
    exact ⟨fun h' => absurd h' (by omega), fun h' => absurd h (lt_asymm h')⟩

theorem slot_eq_iff {u v : Fin 8} (hu : u.val < 6) (hv : v.val < 6) :
    (slotOf V c (ix2 0 ⟨u.val, by omega⟩) : BitVec 32).toNat = (slotOf V c (ix2 0 ⟨v.val, by omega⟩) : BitVec 32).toNat ↔ sc V c u = sc V c v := by
  rw [slotN, slotN]
  refine ⟨fun e => ?_, fun e => by rw [aboves_eq V c e]⟩
  rcases lt_trichotomy (sc V c v) (sc V c u) with h | h | h
  · have := aboves_lt V c hu h; omega
  · exact h.symm
  · have := aboves_lt V c hv h; omega

end Cert.Proof.Sparsity

end
-- ==== Proof.Range.lean ====
/-
  Every token lies below six.
-/
module

public import proofs.«01_k».proof.Proof.Setup
public import proofs.«01_k».proof.Proof.Gen.Pre_in_range
public import Idealize.ShloMosaic.Lib.ReduceAll
public import Idealize.ShloMosaic.Lib.StableHlo.Predicate

@[expose] public section

set_option maxRecDepth 65536

noncomputable section

namespace Cert.Proof.Sparsity

open Cert.KernelIdeal Cert.KernelIdeal.Gen
open Idealize.ShloMosaic
open Idealize.ShloMosaic.TcCoe

/-! ## The precondition: every token is below six -/

theorem six_of_bits (w : BitVec 32) (h0 : IntOp.cmpi .sge w 0#32 = 1#1) (h6 : IntOp.cmpi .slt w 6#32 = 1#1) : w.toNat < 6 := by
  unfold IntOp.cmpi at h0 h6
  simp only [BitVec.sle, BitVec.slt] at h0 h6
  have a : (0#32).toInt ≤ w.toInt := by
    by_contra hc; rw [decide_eq_false hc] at h0; exact absurd h0 (by decide)
  have b : w.toInt < (6#32).toInt := by
    by_contra hc; rw [decide_eq_false hc] at h6; exact absurd h6 (by decide)
  rw [show (0#32).toInt = 0 from by decide] at a
  rw [show (6#32).toInt = 6 from by decide] at b
  rw [BitVec.toInt_eq_toNat_cond] at a b
  split at a <;> omega

variable {F : FTy → Type} [FloatOps F]

theorem tokens_lt (x0 : IVec S64x4096 32) (x1 : FVec F S6x256 .f32) (x2 : FVec F S128x256 .f32) (x3 : FVec F S128 .f32) (x4 : FVec F S1x128 .f32) (x5 : FVec F S1 .f32) (x6 : FVec F S8x768 .f32) (x7 : FVec F S8 .f32) (x8 : FVec F S8x8 .f32) (x9 : FVec F S8 .f32) (x10 : FVec F S256x8 .f32) (x11 : FVec F S256 .f32) (x12 : FVec F S128x256 .f32) (x13 : FVec F S128 .f32) (x14 : FVec F S1x128 .f32) (x15 : FVec F S1 .f32)
    (h : Cert.Pre_in_range.fn (F := F) x0 x1 x2 x3 x4 x5 x6 x7 x8 x9 x10 x11 x12 x13 x14 x15 = fun _ => 1#1) (j : S64x4096.Idx) : (x0 j : BitVec 32).toNat < 6 := by
  haveI : Subsingleton Cert.Pre_in_range.S_.Idx := ⟨fun a b => funext fun i => i.elim0⟩
  have e := Host.reduce_andi_all _ _ _ _ (Shape.Idx.first Cert.Pre_in_range.Gen.h_S_) (congrFun h (Shape.Idx.first Cert.Pre_in_range.Gen.h_S_)) j
  have e' : IntOp.cmpi .sge (x0 j) 0#32 = 1#1 ∧ IntOp.cmpi .slt (x0 j) 6#32 = 1#1 := by
    have ai : ∀ a b : BitVec 1, IntOp.andi a b = 1#1 ↔ a = 1#1 ∧ b = 1#1 := by decide
    exact (ai _ _).mp e
  exact six_of_bits _ e'.1 e'.2

end Cert.Proof.Sparsity

end
-- ==== Proof.RefScore.lean ====
/-
  The reference's scores, position by position.
-/
module
public import proofs.«01_k».proof.Proof.Gen.ReferenceIdeal.Read
public import Idealize.ShloMosaic.Lib.ReduceAll
public import Idealize.ShloMosaic.Lib.Pointwise
public import Idealize.ShloMosaic.Lib.StableHlo.Predicate

@[expose] public section

set_option maxRecDepth 65536

noncomputable section

namespace Cert.Proof.Sparsity

open Idealize.ShloMosaic
open Idealize.ShloMosaic.TcCoe

open Cert.ReferenceIdeal Cert.ReferenceIdeal.Gen Cert.ReferenceIdeal.Read

/-! ## The score of a vocabulary row, as both programs compute it -/

/-- The logit of row `u`: a hidden layer of 128 over the row's 256 entries, then one output. -/
def logit (T : (⟨2, ![6, 256]⟩ : Shape).Idx → EReal) (W : (⟨2, ![128, 256]⟩ : Shape).Idx → EReal) (B : (⟨1, ![128]⟩ : Shape).Idx → EReal)
    (U : (⟨2, ![1, 128]⟩ : Shape).Idx → EReal) (v : (⟨1, ![1]⟩ : Shape).Idx → EReal) (u : Fin 6) : EReal :=
  (∑ k : Fin 128, max ((∑ d : Fin 256, T (ix2 u d) * W (ix2 k d)) + B (ix1 k)) 0 * U (ix2 0 k)) + v (ix1 0)

/-- The logistic function of the logit. -/
def score (T : (⟨2, ![6, 256]⟩ : Shape).Idx → EReal) (W : (⟨2, ![128, 256]⟩ : Shape).Idx → EReal) (B : (⟨1, ![128]⟩ : Shape).Idx → EReal)
    (U : (⟨2, ![1, 128]⟩ : Shape).Idx → EReal) (v : (⟨1, ![1]⟩ : Shape).Idx → EReal) (u : Fin 6) : EReal :=
  Ideal.div 1 (1 + Ideal.exp (-logit T W B U v u))

/-! ## The reference's row lookup -/

theorem gather_token (x : (⟨2, ![6, 256]⟩ : Shape).Idx → EReal) (idx : IVec S64x4096x1 32) (b : Fin 64) (p : Fin 4096) (d : Fin 256) (u : Fin 6)
    (hu : (idx (ix3 b p 0) : BitVec 32).toNat = u.val) :
    Host.gather gather_S6x256_S64x4096x1_S64x4096x256_2_0_n_n_0_2_1256 x idx (ix3 b p d) = x (ix2 u d) := by
  unfold Host.gather
  refine congrArg x (funext fun a => Fin.ext ?_)
  generalize hG : gather_S6x256_S64x4096x1_S64x4096x256_2_0_n_n_0_2_1256 = G
  show G.start (ix3 b p d) idx a + G.batchCoord (ix3 b p d) a + G.offCoord (ix3 b p d) a = _
  have h01 : a = 0 ∨ a = 1 := by
    match a with
    | ⟨0, _⟩ => exact Or.inl rfl
    | ⟨1, _⟩ => exact Or.inr rfl
  subst hG
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S6x256_S64x4096x1_S64x4096x256_2_0_n_n_0_2_1256.startIndexMap from List.mem_singleton.mpr rfl)]
    have hsi : gather_S6x256_S64x4096x1_S64x4096x256_2_0_n_n_0_2_1256.siIdx (ix3 b p d) ⟨List.idxOf (0 : Fin 2) gather_S6x256_S64x4096x1_S64x4096x256_2_0_n_n_0_2_1256.startIndexMap,
        List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    rw [hsi, StableHlo.Predicate.toInt_eq_toNat_of_lt (by omega), hu]
    show min ((u.val : Int).toNat) (6 - 1) = u.val
    omega
  · rw [GatherDims.batchCoord_eq_zero _ _ _ List.not_mem_nil]
    unfold GatherDims.start
    rw [dif_neg (by decide)]
    show 0 + 0 + d.val = d.val
    omega

theorem logistic_host (x : EReal) : FloatOps.hostDivf (F := Ideal) (φ := .f32) (1 : EReal) (FloatOps.addf (F := Ideal) (φ := .f32) (1 : EReal)
    (FloatOps.hostUnary (F := Ideal) (φ := .f32) .exp (FloatOps.hostNegf (F := Ideal) (φ := .f32) x))) = Ideal.div 1 (1 + Ideal.exp (-x)) := rfl

variable (x0 : IVec S64x4096 32) (x1 : (⟨2, ![6, 256]⟩ : Shape).Idx → EReal) (x2 : (⟨2, ![128, 256]⟩ : Shape).Idx → EReal) (x3 : (⟨1, ![128]⟩ : Shape).Idx → EReal)
  (x4 : (⟨2, ![1, 128]⟩ : Shape).Idx → EReal) (x5 : (⟨1, ![1]⟩ : Shape).Idx → EReal) (hx : ∀ j, (x0 j : BitVec 32).toNat < 6)
include hx

theorem wrapped (i : S64x4096.Idx) : val_main_call0_v4 (F := Ideal) x0 i = x0 i := by
  rw [val_main_call0_v4_apply, val_main_call0_v1_apply, val_main_call0_v0_apply, val_main_call0_c_apply]
  have h : IntOp.cmpi .slt (x0 i) 0#32 = 0#1 := by
    refine (BitVec.eq_zero_or_eq_one _).resolve_right fun e => ?_
    have := (StableHlo.Predicate.slt_iff_toNat (by have := hx i; omega) (by decide)).mp e
    exact absurd this (by simp)
  rw [h]; rfl

theorem started (b : Fin 64) (p : Fin 4096) (k : Fin 1) : val_main_call0_v5 (F := Ideal) x0 (ix3 b p k) = x0 (ix2 b p) := by
  rw [val_main_call0_v5_apply, wrapped x0 hx]
  exact congrArg x0 (funext fun a => by fin_cases a <;> rfl)

theorem inside (i : S64x4096x1.Idx) : val_main_call0_v11 (F := Ideal) x0 i = 1#1 := by
  have e : val_main_call0_v5 (F := Ideal) x0 i = x0 (ix2 (i 0) (i 1)) := by
    rw [eq_ix3 i]; exact started x0 hx _ _ _
  have := hx (ix2 (i 0) (i 1))
  rw [val_main_call0_v11_apply, val_main_call0_v7_apply, val_main_call0_v10_apply, e, val_main_call0_v6_apply, val_main_call0_v9_apply, val_main_call0_v8_apply,
    val_main_call0_c_2_apply, val_main_call0_c_1_apply,
    (StableHlo.Predicate.sge_iff_toNat (by omega) (by decide)).mpr (by simp), (StableHlo.Predicate.sle_iff_toNat (by omega) (by decide)).mpr (by simp; omega)]
  rfl

theorem taken (b : Fin 64) (p : Fin 4096) (d : Fin 256) : val_main_v0 (F := Ideal) x0 x1 (ix3 b p d) = x1 (ix2 ⟨(x0 (ix2 b p) : BitVec 32).toNat, hx _⟩ d) := by
  have h12 : ∀ j, val_main_call0_v12 (F := Ideal) x0 j = 1#1 := fun j => Host.reduce_andi_one _ _ _ _ _ rfl (inside x0 hx)
  rw [val_main_v0_apply, val_main_call0_v14_apply, h12]
  unfold val_main_call0_v13
  exact gather_token x1 _ b p d ⟨_, hx _⟩ (by rw [started x0 hx])

/-! ## The reference's scores -/

theorem hidden (b : Fin 64) (p : Fin 4096) (k : Fin 128) :
    val_main_v6 (F := Ideal) x0 x1 x2 x3 (ix3 b p k)
      = max ((∑ d : Fin 256, x1 (ix2 ⟨(x0 (ix2 b p) : BitVec 32).toNat, hx _⟩ d) * x2 (ix2 k d)) + x3 (ix1 k)) 0 := by
  rw [val_main_v6_apply, val_main_v5_apply, val_main_v4_apply, val_main_v3_apply, val_main_call1_v0_apply, val_main_call1_cst_apply, val_main_v2_apply]
  rw [show (FloatOps.ofBits .f32 0x00000000#32 : Ideal .f32) = (0 : EReal) from Ideal.ofBits_zero_f32]
  refine congrArg (fun y : EReal => max y 0) (congrArg₂ (fun y z : EReal => y + z) (Finset.sum_congr rfl fun d _ => ?_) (congrArg x3 ?_))
  · refine congrArg₂ (fun y z : EReal => y * z) ?_ ?_
    · rw [← taken x0 x1 hx b p d]
      exact congrArg _ (funext fun a => by fin_cases a <;> rfl)
    · rw [val_main_v1_apply]
      exact congrArg x2 (funext fun a => by fin_cases a <;> rfl)
  · funext a; fin_cases a; rfl

theorem reference_logit (b : Fin 64) (p : Fin 4096) (k0 : Fin 1) :
    val_main_v11 (F := Ideal) x0 x1 x2 x3 x4 x5 (ix3 b p k0) = logit x1 x2 x3 x4 x5 ⟨(x0 (ix2 b p) : BitVec 32).toNat, hx _⟩ := by
  rw [val_main_v11_apply, val_main_v10_apply, val_main_v9_apply, val_main_v8_apply]
  unfold logit
  refine congrArg₂ (fun y z : EReal => y + z) (Finset.sum_congr rfl fun k _ => ?_) (congrArg x5 ?_)
  · refine congrArg₂ (fun y z : EReal => y * z) ?_ ?_
    · rw [← hidden x0 x1 x2 x3 hx b p k]
      exact congrArg _ (funext fun a => by fin_cases a <;> rfl)
    · rw [val_main_v7_apply]
      exact congrArg x4 (funext fun a => by fin_cases a <;> [exact Subsingleton.elim (α := Fin 1) _ _; rfl])
  · funext a; fin_cases a; rfl

/-- The reference's score at a position is its token's. -/
theorem reference_score (b : Fin 64) (p : Fin 4096) :
    val_main_v18 (F := Ideal) x0 x1 x2 x3 x4 x5 (ix2 b p) = score x1 x2 x3 x4 x5 ⟨(x0 (ix2 b p) : BitVec 32).toNat, hx _⟩ := by
  have hi : idx_main_v18 (ix2 b p) = ix3 b p 0 := by
    funext a
    fin_cases a
    · refine Fin.ext ?_; show (b.val * 4096 + p.val) / 4096 = b.val; have := p.isLt; omega
    · refine Fin.ext ?_; show (b.val * 4096 + p.val) / 1 % 4096 = p.val; have := p.isLt; omega
    · rfl
  rw [val_main_v18_apply, hi, val_main_v17_apply, val_main_v16_apply, val_main_cst_0_apply, val_main_v15_apply, val_main_v14_apply, val_main_cst_apply,
    val_main_v13_apply, val_main_v12_apply, reference_logit x0 x1 x2 x3 x4 x5 hx]
  rw [show (FloatOps.ofBits .f32 0x3F800000#32 : Ideal .f32) = (1 : EReal) from Ideal.ofBits_one_f32]
  exact logistic_host _

end Cert.Proof.Sparsity

end
-- ==== Proof.KernScore.lean ====
/-
  The scorer's column holds the reference's scores.
-/
module

public import proofs.«01_k».proof.Proof.Order
public import proofs.«01_k».proof.Proof.RefScore
public import proofs.«01_k».proof.Proof.Scored

@[expose] public section

set_option maxRecDepth 65536

noncomputable section

namespace Cert.Proof.Sparsity

open Cert.KernelIdeal Cert.KernelIdeal.Gen
open Idealize.ShloMosaic
open Idealize.ShloMosaic.TcCoe

/-! ## The scorer's column is the same score -/

theorem column_score (T : FVec Ideal S6x256 .f32) (W : FVec Ideal S128x256 .f32) (B : FVec Ideal S128 .f32) (U : FVec Ideal S1x128 .f32) (v : FVec Ideal S1 .f32) (u : Fin 6) :
    k0_pay7 (F := Ideal) T W B U v (ix2 ⟨u.val, by omega⟩ 0) = score T W B U v u := by
  unfold k0_pay7 score logit
  simp only [pointwise]
  refine (dif_pos trivial).trans (congrArg (fun y : EReal => Ideal.div 1 (1 + Ideal.exp y)) ?_)
  refine Eq.trans (b := 0 - ((∑ k : Fin 128, max ((0 + ∑ d : Fin 256, T (ix2 u d) * W (ix2 k d)) + B (ix1 k)) 0 * U (ix2 0 k)) + v (ix1 0) : EReal)) ?_ ?_
  · refine congrArg (fun y : EReal => 0 - (y + v (ix1 0))) (Finset.sum_congr rfl fun k _ => ?_)
    rfl
  · simp only [zero_add]
    exact zero_sub (G := EReal) _

variable (V : (c : Dev nD) → (b : Ref sig .tc) → Buf (Elt Ideal) ((c : Thread nD τ).loc b)) (c : Dev nD)

/-- The score of a vocabulary row. -/
theorem sc_score (u : Fin 6) : sc V c ⟨u.val, by omega⟩ = score (opT V c) (opW V c) (opB V c) (opU V c) (opV V c) u :=
  column_score _ _ _ _ _ u

/-- The scores' table holds the score of each row. -/
theorem stab_score (u : Fin 6) : stabOf V c (ix2 0 ⟨u.val, by omega⟩) = score (opT V c) (opW V c) (opB V c) (opU V c) (opV V c) u := by
  rw [← sc_score V c u, stabOf_eq, ← pay8_apply V c 0]
  unfold stabVec k0_pay5
  simp only [pointwise]
  refine (dif_pos (show u.val < 8 by omega)).trans ?_
  rfl

end Cert.Proof.Sparsity

end
-- ==== Proof.Sorted.lean ====
/-
  A stable sort by slots puts each position at its rank.
-/
module

public import proofs.«01_k».proof.Proof.Counting
public import Idealize.ShloMosaic.Lib.SortFacts
public import Idealize.ShloMosaic.Lib.Pointwise

@[expose] public section

set_option maxRecDepth 65536

noncomputable section

namespace Cert.Proof.Sparsity

open Idealize.ShloMosaic
open Idealize.ShloMosaic.TcCoe

/-! ## A stable sort by slots puts each position at its rank -/

/-- "Before" by slots alone, and with ties broken by position. -/
def slotBefore {n : Nat} (w : Nat → Nat) (a b : Fin n) : Bool := decide (w a.val < w b.val)
def fullBefore {n : Nat} (w : Nat → Nat) (a b : Fin n) : Bool := decide (w a.val < w b.val ∨ (w a.val = w b.val ∧ a.val < b.val))

/-- In a list of rising positions the two orders sort alike. -/
theorem stableSort_slot {n : Nat} (w : Nat → Nat) (l : List (Fin n)) (hl : l.Pairwise (· < ·)) :
    stableSort (slotBefore w) l = stableSort (fullBefore w) l := by
  induction l with
  | nil => rfl
  | cons a l ih =>
    rw [List.pairwise_cons] at hl
    unfold stableSort
    rw [ih hl.2]
    refine insertBefore_congr _ _ a _ fun b hb => ?_
    have hab : a.val < b.val := hl.1 b ((perm_stableSort _ l).mem_iff.mp hb)
    unfold slotBefore fullBefore
    refine decide_eq_decide.mpr ⟨Or.inl, fun h => h.elim id fun h' => ?_⟩
    omega

/-- Later places hold what comes later in the full order. -/
theorem sortedFrom_lt {n : Nat} (w : Nat → Nat) (i j : Fin n) (hij : i < j) :
    fullBefore w (sortedFrom (slotBefore w) i) (sortedFrom (slotBefore w) j) = true := by
  have hf : sortedFrom (slotBefore w) = sortedFrom (n := n) (fullBefore w) := by
    funext k
    unfold sortedFrom
    refine List.get_of_eq ?_ _ |>.trans rfl
    exact stableSort_slot w _ (List.pairwise_lt_finRange n)
  rw [hf]
  have h := sortedFrom_noInversion (n := n) (fullBefore w) (fullBefore w) ?_ (fun _ _ h => h) ?_ i j hij
  · have hne : sortedFrom (n := n) (fullBefore w) i ≠ sortedFrom (fullBefore w) j := fun e => absurd (sortedFrom_injective _ e) (ne_of_lt hij)
    have hv := fun e => hne (Fin.ext e)
    generalize sortedFrom (n := n) (fullBefore w) i = a at h hv ⊢
    generalize sortedFrom (n := n) (fullBefore w) j = b at h hv ⊢
    unfold fullBefore at h ⊢
    simp only [decide_eq_false_iff_not, decide_eq_true_eq] at h ⊢
    have : a.val ≠ b.val := hv
    omega
  · intro a b h
    unfold fullBefore at h ⊢
    simp only [decide_eq_false_iff_not, decide_eq_true_eq] at h ⊢
    omega
  · intro a b c h h'
    unfold fullBefore at h h' ⊢
    simp only [decide_eq_false_iff_not] at h h' ⊢
    omega

/-- The rank of the position sorted to place `r` is `r`. -/
theorem rank_sortedFrom {n : Nat} (w : Nat → Nat) (r : Fin n) : rank w n (sortedFrom (slotBefore w) r).val = r.val := by
  rw [rank_card _ _ _ (Nat.le_of_lt (sortedFrom (slotBefore w) r).isLt)]
  have him : ((Finset.range n).filter fun q => w q < w (sortedFrom (slotBefore w) r).val ∨ (w q = w (sortedFrom (slotBefore w) r).val ∧ q < (sortedFrom (slotBefore w) r).val))
      = (Finset.univ.filter fun i : Fin n => i < r).image fun i => (sortedFrom (slotBefore w) i).val := by
    ext q
    simp only [Finset.mem_filter, Finset.mem_range, Finset.mem_image, Finset.mem_univ, true_and]
    constructor
    · rintro ⟨hq, h⟩
      obtain ⟨i, hi⟩ := sortedFrom_surjective (n := n) (slotBefore w) ⟨q, hq⟩
      have hv : (sortedFrom (slotBefore w) i).val = q := congrArg Fin.val hi
      refine ⟨i, ?_, hv⟩
      by_contra hc
      rcases eq_or_lt_of_le (not_lt.mp hc) with e | hlt
      · rw [e, hv] at h; omega
      · have hb := sortedFrom_lt w r i hlt
        unfold fullBefore at hb
        simp only [decide_eq_true_eq] at hb
        rw [hv] at hb
        omega
    · rintro ⟨i, hi, rfl⟩
      have hb := sortedFrom_lt w i r hi
      unfold fullBefore at hb
      simp only [decide_eq_true_eq] at hb
      exact ⟨(sortedFrom (slotBefore w) i).isLt, hb⟩
  rw [him, Finset.card_image_of_injective _ fun a b e => sortedFrom_injective (n := n) (slotBefore w) (Fin.ext e)]
  rw [show (Finset.univ.filter fun i : Fin n => i < r) = Finset.Iio r from by ext; simp, Fin.card_Iio]

theorem sort2_snd {α β : Type} (cmp : α × β → α × β → BitVec 1) (x : (⟨2, ![64, 4096]⟩ : Shape).Idx → α) (y : (⟨2, ![64, 4096]⟩ : Shape).Idx → β)
    (j : (⟨2, ![64, 4096]⟩ : Shape).Idx) :
    (Host.sort2 _ 1 cmp x y).2 j = y (j.along (1 : Fin 2) (sortedFrom (fun k k' : Fin 4096 =>
      cmp (x (j.along (1 : Fin 2) k), y (j.along (1 : Fin 2) k)) (x (j.along (1 : Fin 2) k'), y (j.along (1 : Fin 2) k')) == 1#1) (j 1))) := rfl

/-- The index result of a stable top-k of a row, where "greater" is "of a smaller slot": the position of rank `r`. -/
theorem topK_rank {α : Type} (gt : α → α → BitVec 1) (x : (⟨2, ![64, 4096]⟩ : Shape).Idx → α) (h) (w : Nat → Nat) (b : Fin 64) (r : Fin 409)
    (hgt : ∀ k k' : Fin 4096, gt (x (ix2 b k)) (x (ix2 b k')) = 1#1 ↔ w k.val < w k'.val) :
    ∃ p : Fin 4096, rank w 4096 p.val = r.val ∧ (Host.topK (⟨2, ![64, 409]⟩ : Shape) 1 gt x h).2 (ix2 b r) = BitVec.ofNat 32 p.val := by
  have hr : r.val < 4096 := lt_trans r.isLt (by decide)
  refine ⟨sortedFrom (slotBefore w) ⟨r.val, hr⟩, rank_sortedFrom w _, ?_⟩
  have hperm : (fun k k' : Fin 4096 => gt (x (ix2 b k)) (x (ix2 b k')) == 1#1) = slotBefore w := by
    funext k k'
    unfold slotBefore
    rw [Bool.eq_iff_iff, beq_iff_eq, decide_eq_true_eq]
    exact hgt k k'
  have hal : ∀ q k : Fin 4096, (ix2 b q : (⟨2, ![64, 4096]⟩ : Shape).Idx).along (1 : Fin 2) k = ix2 b k := by
    intro q k; funext a; fin_cases a <;> rfl
  have key : ∀ y : (⟨2, ![64, 4096]⟩ : Shape).Idx → BitVec 32, (∀ k : Fin 4096, y (ix2 b k) = BitVec.ofNat 32 k.val) →
      (Host.sort2 _ 1 (fun l r => gt l.1 r.1) x y).2 (ix2 b ⟨r.val, hr⟩) = BitVec.ofNat 32 (sortedFrom (slotBefore w) (⟨r.val, hr⟩ : Fin 4096)).val := by
    intro y hy
    rw [sort2_snd]
    simp only [hal]
    rw [hperm]
    exact (congrArg y (hal _ _)).trans (hy _)
  have hj : (fun a : Fin 2 => (⟨0 + ((ix2 b r : (⟨2, ![64, 409]⟩ : Shape).Idx) (a.cast h.1.symm)).val,
      Nat.lt_of_lt_of_le (Nat.add_lt_add_left (Fin.isLt _) _) (h.2 a)⟩ : Fin ((⟨2, ![64, 4096]⟩ : Shape).size a))) = ix2 b ⟨r.val, hr⟩ := by
    funext a; fin_cases a <;> exact Fin.ext (Nat.zero_add _)
  unfold Host.topK extractStridedSlice
  simp only []
  rw [hj]
  exact key _ fun k => dif_pos (by decide)

end Cert.Proof.Sparsity

end
-- ==== Proof.Values.lean ====
/-
  The two results of the kernel's run are the reference's.
-/
module

public import proofs.«01_k».proof.Proof.KernScore
public import proofs.«01_k».proof.Proof.Sorted
public import proofs.«01_k».proof.Proof.Launch

@[expose] public section

set_option maxRecDepth 65536

noncomputable section

namespace Cert.Proof.Sparsity

open Cert.KernelIdeal Cert.KernelIdeal.Gen
open Idealize.ShloMosaic
open Idealize.ShloMosaic.TcCoe

variable (m : (ℓ : Loc nD τ sig) → Buf (Elt Ideal) ℓ) (d : Dev nD) (hx : ∀ j, (xOf m d j : BitVec 32).toNat < 6)

/-- The reference's scores and indices of the kernel's arguments. -/
abbrev scoresV : (⟨2, ![64, 4096]⟩ : Shape).Idx → EReal :=
  Cert.ReferenceIdeal.Read.val_main_v18 (F := Ideal) (m (aLoc d main_arg0)) (m (aLoc d main_arg1)) (m (aLoc d main_arg2)) (m (aLoc d main_arg3)) (m (aLoc d main_arg4)) (m (aLoc d main_arg5))
abbrev indicesV : (⟨2, ![64, 409]⟩ : Shape).Idx → BitVec 32 :=
  Cert.ReferenceIdeal.Read.val_main_indices (F := Ideal) (m (aLoc d main_arg0)) (m (aLoc d main_arg1)) (m (aLoc d main_arg2)) (m (aLoc d main_arg3)) (m (aLoc d main_arg4)) (m (aLoc d main_arg5))

theorem atW_eq (b : Fin 64) (p : Fin 4096) : atW b p.val = ix2 b p := by
  funext a
  match a with
  | ⟨0, _⟩ => rfl
  | ⟨1, _⟩ => exact Fin.ext (Nat.mod_eq_of_lt p.isLt)
theorem atI_eq (b : Fin 64) (r : Fin 409) : atI b r.val = ix2 b ⟨r.val, by omega⟩ := by
  funext a
  match a with
  | ⟨0, _⟩ => rfl
  | ⟨1, _⟩ => exact Fin.ext (Nat.mod_eq_of_lt (show r.val < 416 by omega))
theorem atT_eq (u : ℕ) (hu : u < 16) : atT u = ix2 0 ⟨u, hu⟩ := by
  funext a
  match a with
  | ⟨0, _⟩ => rfl
  | ⟨1, _⟩ => exact Fin.ext (Nat.mod_eq_of_lt hu)

include hx

/-- The token at a position, as a row of the table. -/
abbrev tok (b : Fin 64) (p : Fin 4096) : Fin 6 := ⟨(m (aLoc d main_arg0) (ix2 b p) : BitVec 32).toNat, hx _⟩

theorem scoresV_apply (b : Fin 64) (p : Fin 4096) : scoresV m d (ix2 b p) = score (opT (Vm m) d) (opW (Vm m) d) (opB (Vm m) d) (opU (Vm m) d) (opV (Vm m) d) (tok m d hx b p) :=
  reference_score (m (aLoc d main_arg0)) (m (aLoc d main_arg1)) (m (aLoc d main_arg2)) (m (aLoc d main_arg3)) (m (aLoc d main_arg4)) (m (aLoc d main_arg5)) hx b p

/-- The scores looked up are the reference's. -/
theorem scores_eq (f : S64x4096.Idx → EReal) (h : ∀ b, ScoresIn (F := Ideal) (xOf m d) (tbOf m d) b f) : f = scoresV m d := by
  refine funext fun i => ?_
  rw [eq_ix2 i]
  revert i
  suffices key : ∀ (b : Fin 64) (p : Fin 4096), f (ix2 b p) = scoresV m d (ix2 b p) from fun i => key _ _
  intro b p
  have hb := h b p.val p.isLt
  rw [atW_eq] at hb
  rw [hb, scoresV_apply m d hx]
  unfold scoreOf
  rw [atW_eq, atT_eq _ (lt_trans (hx (ix2 b p)) (by decide))]
  exact stab_score (Vm m) d (tok m d hx b p)

theorem slotOfPos_eq (b : Fin 64) (p : Fin 4096) : slotOfPos (xOf m d) (sbOf m d) b p.val = (slotOf (Vm m) d (ix2 0 ⟨(tok m d hx b p).val, by omega⟩) : BitVec 32).toNat := by
  unfold slotOfPos
  rw [atW_eq, atT_eq _ (lt_trans (hx (ix2 b p)) (by decide))]

theorem greater_iff (b : Fin 64) (k k' : Fin 4096) : FloatOps.cmpfTotal (F := Ideal) (φ := .f32) .gt (scoresV m d (ix2 b k)) (scoresV m d (ix2 b k')) = 1#1
    ↔ slotOfPos (xOf m d) (sbOf m d) b k.val < slotOfPos (xOf m d) (sbOf m d) b k'.val := by
  rw [slotOfPos_eq m d hx, slotOfPos_eq m d hx, scoresV_apply m d hx, scoresV_apply m d hx, ← sc_score, ← sc_score]
  refine Iff.trans ?_ (slot_lt_iff (Vm m) d (u := ⟨(tok m d hx b k).val, by omega⟩) (v := ⟨(tok m d hx b k').val, by omega⟩) (tok m d hx b k).isLt (tok m d hx b k').isLt).symm
  exact ogt_iff _ _

/-- The positions placed are the reference's top 409. -/
theorem indices_eq (g : S64x416.Idx → BitVec 32) (h : ∀ b, PlacesIn (xOf m d) (sbOf m d) b g) : cut g = indicesV m d := by
  refine funext fun i => ?_
  rw [eq_ix2 i]
  revert i
  suffices key : ∀ (b : Fin 64) (r : Fin 409), cut g (ix2 b r) = indicesV m d (ix2 b r) from fun i => key _ _
  intro b r
  obtain ⟨p, hp, ht⟩ := topK_rank (FloatOps.cmpfTotal (F := Ideal) (φ := .f32) .gt) (scoresV m d) Cert.ReferenceIdeal.Gen.sliceFits_S64x4096_S64x409
    (slotOfPos (xOf m d) (sbOf m d) b) b r (greater_iff m d hx b)
  refine Eq.trans ?_ ht.symm
  have hb := h b p.val p.isLt (by rw [hp]; exact r.isLt)
  rw [hp, atI_eq] at hb
  rw [← hb]
  refine congrArg g (funext fun a => ?_)
  match a with
  | ⟨0, _⟩ => exact Fin.ext (Nat.zero_add _)
  | ⟨1, _⟩ => exact Fin.ext (Nat.zero_add _)

end Cert.Proof.Sparsity

end
-- ==== Proof.FinPre.lean ====
/-
  What the precondition of the finishing call says of its arguments.
-/
module
public import proofs.«01_k».proof.Proof.Gen.Pre_counted
public import Idealize.ShloMosaic.Lib.ReduceAll
public import Idealize.ShloMosaic.Lib.Pointwise
public import Idealize.ShloMosaic.Lib.IdealHost
public import Idealize.ShloMosaic.Lib.StableHlo.Predicate

@[expose] public section

set_option maxRecDepth 65536

noncomputable section

namespace Cert.Proof.Finishing

open Idealize.ShloMosaic
open Idealize.ShloMosaic.TcCoe

open Cert.Pre_counted Cert.Pre_counted.Gen

/-! ## What the precondition says -/

theorem top_of_bits : Ideal.ofBits .f32 0x7F800000#32 = ⊤ := by simp [Ideal.ofBits, Ideal.ieee]

/-- 4096.0 is the real 4096. -/
theorem ranks_of_bits : Ideal.ofBits .f32 0x45800000#32 = ((4096 : ℝ) : EReal) := by
  simp [Ideal.ofBits, Ideal.ieee, -EReal.coe_mul]; norm_num

/-- 409.0 is the real 409. -/
theorem kept_of_bits : Ideal.ofBits .f32 0x43CC8000#32 = ((409 : ℝ) : EReal) := by
  simp [Ideal.ofBits, Ideal.ieee, -EReal.coe_mul]; norm_num

/-- The power of two the kernel scales by is exactly one over 4096. -/
theorem scale_of_bits : Ideal.ofBits .f32 0x39800000#32 = ((1 / 4096 : ℝ) : EReal) := by
  simp [Ideal.ofBits, Ideal.ieee, -EReal.coe_mul]; norm_num

theorem real_of_bits (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  rw [Ideal.ofBits_def, top_of_bits] at h
  have h' : max x (-x) < (⊤ : EReal) := by
    by_contra hc
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hc]; rfl
    rw [this] at h
    exact absurd h (by decide)
  rw [max_lt_iff] at h'
  induction x using EReal.rec with
  | bot => exact absurd h'.2 (by simp)
  | top => exact absurd h'.1 (by simp)
  | coe r => exact ⟨r, rfl⟩

theorem le_of_bits (w : BitVec 32) (h0 : IntOp.cmpi .sge w 0#32 = 1#1) (h6 : IntOp.cmpi .sle w 4096#32 = 1#1) : w.toNat ≤ 4096 := by
  unfold IntOp.cmpi at h0 h6
  simp only [BitVec.sle] at h0 h6
  have a : (0#32).toInt ≤ w.toInt := by
    by_contra hc; rw [decide_eq_false hc] at h0; exact absurd h0 (by decide)
  have b : w.toInt ≤ (4096#32).toInt := by
    by_contra hc; rw [decide_eq_false hc] at h6; exact absurd h6 (by decide)
  rw [show (0#32).toInt = 0 from by decide] at a
  rw [show (4096#32).toInt = 4096 from by decide] at b
  rw [BitVec.toInt_eq_toNat_cond] at a b
  split at a <;> omega

/-- The counts of batch row `b`, as numbers. -/
def counts (x0 : IVec S64x16 32) (b : Fin 64) (s : Fin 8) : ℕ := (x0 (ix2 b (s.castLE (by omega))) : BitVec 32).toNat

section

variable (x0 : IVec S64x16 32) (x1 : FVec Ideal S8x8 .f32) (x2 : FVec Ideal S6x256 .f32) (x3 : FVec Ideal S8x768 .f32) (x4 : FVec Ideal S8 .f32) (x5 : FVec Ideal S8x8 .f32)
  (x6 : FVec Ideal S8 .f32) (x7 : FVec Ideal S256x8 .f32) (x8 : FVec Ideal S256 .f32) (x9 : FVec Ideal S128x256 .f32) (x10 : FVec Ideal S128 .f32) (x11 : FVec Ideal S1x128 .f32)
  (x12 : FVec Ideal S1 .f32) (h : Cert.Pre_counted.fn (F := Ideal) x0 x1 x2 x3 x4 x5 x6 x7 x8 x9 x10 x11 x12 = fun _ => 1#1)
include h

theorem counted_split :
    ((∀ b s, counts x0 b s ≤ 4096) ∧ (∀ b, ∑ s, counts x0 b s = 4096))
      ∧ (∀ i, ∃ r : ℝ, x1 i = (r : EReal)) ∧ (∀ i, ∃ r : ℝ, x2 i = (r : EReal)) ∧ (∀ i, ∃ r : ℝ, x3 i = (r : EReal)) := by
  haveI : Subsingleton S_.Idx := ⟨fun a b => funext fun i => i.elim0⟩
  have ai : ∀ a b : BitVec 1, IntOp.andi a b = 1#1 ↔ a = 1#1 ∧ b = 1#1 := by decide
  have e := congrFun h (Shape.Idx.first h_S_)
  unfold Cert.Pre_counted.fn Cert.Pre_counted.fn_part1 Cert.Pre_counted.fn_part2 at e
  obtain ⟨e, eW⟩ := (ai _ _).mp e
  obtain ⟨e, eT⟩ := (ai _ _).mp e
  obtain ⟨e, eP⟩ := (ai _ _).mp e
  obtain ⟨eC, eS⟩ := (ai _ _).mp e
  have hle : ∀ b s, counts x0 b s ≤ 4096 := by
    intro b s
    have k := Host.reduce_andi_all _ _ _ _ _ eC (ix2 b s)
    obtain ⟨k0, k1⟩ := (ai _ _).mp k
    have hs : (extractStridedSlice S64x8 ![0, 0] x0 slices_S64x16_S64x8_0_0) (ix2 b s) = x0 (ix2 b (s.castLE (by omega))) := by
      simp only [pointwise]
      exact congrArg x0 (funext fun a => by fin_cases a <;> exact Fin.ext (by simp))
    refine le_of_bits _ ?_ ?_
    · rw [← hs]; exact k0
    · rw [← hs]; exact k1
  refine ⟨⟨hle, fun b => ?_⟩, fun i => real_of_bits _ (Host.reduce_andi_all _ _ _ _ _ eP i), fun i => real_of_bits _ (Host.reduce_andi_all _ _ _ _ _ eT i),
    fun i => real_of_bits _ (Host.reduce_andi_all _ _ _ _ _ eW i)⟩
  have k := Host.reduce_andi_all _ _ _ _ _ eS (ix1 b)
  simp only [pointwise, Matrix.cons_val_zero, zero_add, Fin.eta] at k
  have k' : x0 (ix2 b 0) + x0 (ix2 b 1) + x0 (ix2 b 2) + x0 (ix2 b 3) + x0 (ix2 b 4) + x0 (ix2 b 5) + x0 (ix2 b 6) + x0 (ix2 b 7) = (4096#32 : BitVec 32) := by
    by_contra hc
    have : IntOp.cmpi .eq (x0 (ix2 b 0) + x0 (ix2 b 1) + x0 (ix2 b 2) + x0 (ix2 b 3) + x0 (ix2 b 4) + x0 (ix2 b 5) + x0 (ix2 b 6) + x0 (ix2 b 7)) (4096#32 : BitVec 32) = 0#1 := by
      show BitVec.ofBool (_ == _) = 0#1
      rw [beq_eq_false_iff_ne.mpr hc]; rfl
    exact absurd (this.symm.trans k) (by decide)
  have l0 : (x0 (ix2 b 0) : BitVec 32).toNat ≤ 4096 := hle b 0
  have l1 : (x0 (ix2 b 1) : BitVec 32).toNat ≤ 4096 := hle b 1
  have l2 : (x0 (ix2 b 2) : BitVec 32).toNat ≤ 4096 := hle b 2
  have l3 : (x0 (ix2 b 3) : BitVec 32).toNat ≤ 4096 := hle b 3
  have l4 : (x0 (ix2 b 4) : BitVec 32).toNat ≤ 4096 := hle b 4
  have l5 : (x0 (ix2 b 5) : BitVec 32).toNat ≤ 4096 := hle b 5
  have l6 : (x0 (ix2 b 6) : BitVec 32).toNat ≤ 4096 := hle b 6
  have l7 : (x0 (ix2 b 7) : BitVec 32).toNat ≤ 4096 := hle b 7
  have t := congrArg BitVec.toNat k'
  simp only [BitVec.toNat_add, BitVec.toNat_ofNat] at t
  rw [Fin.sum_univ_eight]
  show (x0 (ix2 b 0) : BitVec 32).toNat + (x0 (ix2 b 1) : BitVec 32).toNat + (x0 (ix2 b 2) : BitVec 32).toNat + (x0 (ix2 b 3) : BitVec 32).toNat
    + (x0 (ix2 b 4) : BitVec 32).toNat + (x0 (ix2 b 5) : BitVec 32).toNat + (x0 (ix2 b 6) : BitVec 32).toNat + (x0 (ix2 b 7) : BitVec 32).toNat = 4096
  omega

end

end Cert.Proof.Finishing

end
-- ==== Proof.FinCount.lean ====
/-
  Counts, running ends and the slot of a rank.
-/
module
public import Idealize.ShloMosaic.Lib.IdealHost
public import Mathlib.Data.EReal.Operations
public import Mathlib.Algebra.Order.BigOperators.Group.Finset
public import Mathlib.Tactic.FinCases

@[expose] public section

set_option maxRecDepth 65536

noncomputable section

namespace Cert.Proof.Finishing

open Idealize.ShloMosaic
open Idealize.ShloMosaic.TcCoe

/-! ## The running ends of the counts, and the slot of a rank -/

/-- How many items the first `s` slots hold. -/
def upTo (c : Fin 8 → ℕ) (s : ℕ) : ℕ := ∑ t : Fin 8, if t.val < s then c t else 0

theorem upTo_succ (c : Fin 8 → ℕ) (s : Fin 8) : upTo c (s.val + 1) = upTo c s.val + c s := by
  fin_cases s <;> simp [upTo, Fin.sum_univ_eight]

theorem upTo_mono (c : Fin 8 → ℕ) {s t : ℕ} (h : s ≤ t) : upTo c s ≤ upTo c t := by
  refine Finset.sum_le_sum fun i _ => ?_
  by_cases hi : i.val < s
  · rw [if_pos hi, if_pos (lt_of_lt_of_le hi h)]
  · rw [if_neg hi]; exact Nat.zero_le _

theorem upTo_zero (c : Fin 8 → ℕ) : upTo c 0 = 0 := by simp [upTo]

theorem upTo_eight (c : Fin 8 → ℕ) : upTo c 8 = ∑ t, c t :=
  Finset.sum_congr rfl fun t _ => if_pos t.isLt

/-- The slot of the item of rank `r`: how many of the first seven running ends it has passed. -/
def slotAt (c : Fin 8 → ℕ) (r : ℕ) : ℕ := ∑ s : Fin 7, if upTo c (s.val + 1) ≤ r then 1 else 0

theorem slotAt_lt (c : Fin 8 → ℕ) (r : ℕ) : slotAt c r < 8 := by
  have : slotAt c r ≤ ∑ _s : Fin 7, 1 := Finset.sum_le_sum fun i _ => by split <;> omega
  simp at this; omega

/-- The slot of a rank, as an index of the eight slots. -/
def slotOf (c : Fin 8 → ℕ) (r : ℕ) : Fin 8 := ⟨slotAt c r, slotAt_lt c r⟩

theorem slotAt_of (c : Fin 8 → ℕ) (r : ℕ) (s : Fin 8) (h0 : upTo c s.val ≤ r) (h1 : r < upTo c (s.val + 1)) : slotAt c r = s.val := by
  have e : slotAt c r = ∑ i : Fin 7, if i.val < s.val then 1 else 0 := Finset.sum_congr rfl fun i _ => by
    by_cases hi : i.val < s.val
    · rw [if_pos hi, if_pos ((upTo_mono c (by omega)).trans h0)]
    · rw [if_neg hi, if_neg]
      have := upTo_mono c (show s.val + 1 ≤ i.val + 1 by omega)
      omega
  rw [e]
  have k : ∀ s : Fin 8, (∑ i : Fin 7, if i.val < s.val then 1 else 0) = s.val := by decide
  exact k s

theorem slot_exists (c : Fin 8 → ℕ) (r : ℕ) (h : r < upTo c 8) : ∃ s : Fin 8, upTo c s.val ≤ r ∧ r < upTo c (s.val + 1) := by
  have key : ∀ k : ℕ, k ≤ 8 → r < upTo c k → ∃ s : Fin 8, upTo c s.val ≤ r ∧ r < upTo c (s.val + 1) := by
    intro k
    induction k with
    | zero => intro _ hk; rw [upTo_zero] at hk; omega
    | succ k ih =>
      intro hk8 hk
      by_cases hr : r < upTo c k
      · exact ih (by omega) hr
      · exact ⟨⟨k, by omega⟩, by simpa using hr, hk⟩
  exact key 8 le_rfl h

theorem slotOf_iff (c : Fin 8 → ℕ) (r : ℕ) (h : r < upTo c 8) (s : Fin 8) : slotOf c r = s ↔ upTo c s.val ≤ r ∧ r < upTo c (s.val + 1) := by
  constructor
  · intro hs
    obtain ⟨t, h0, h1⟩ := slot_exists c r h
    have : t = s := Fin.ext (by rw [← slotAt_of c r t h0 h1, ← hs]; rfl)
    subst this; exact ⟨h0, h1⟩
  · rintro ⟨h0, h1⟩
    exact Fin.ext (slotAt_of c r s h0 h1)

theorem card_slot (c : Fin 8 → ℕ) (N : ℕ) (hN : N ≤ upTo c 8) (s : Fin 8) :
    (Finset.univ.filter fun r : Fin N => slotOf c r.val = s).card = min (N - upTo c s.val) (c s) := by
  have e : (Finset.univ.filter fun r : Fin N => slotOf c r.val = s).map Fin.valEmbedding
      = Finset.Ico (min N (upTo c s.val)) (min N (upTo c (s.val + 1))) := by
    ext x
    simp only [Finset.mem_map, Finset.mem_filter, Finset.mem_univ, true_and, Fin.valEmbedding_apply, Finset.mem_Ico]
    constructor
    · rintro ⟨r, hr, rfl⟩
      have := (slotOf_iff c r.val (lt_of_lt_of_le r.isLt hN) s).mp hr
      have := r.isLt
      omega
    · intro hx
      have hxN : x < N := by omega
      exact ⟨⟨x, hxN⟩, (slotOf_iff c x (lt_of_lt_of_le hxN hN) s).mpr (by omega), rfl⟩
  rw [← Finset.card_map Fin.valEmbedding, e, Nat.card_Ico, upTo_succ]
  omega

/-- A sum over the ranks below `N` of a function of the slot is a sum over the slots, each taken as often as it occurs. -/
theorem sum_slots (c : Fin 8 → ℕ) (N : ℕ) (hN : N ≤ upTo c 8) (f : Fin 8 → EReal) :
    (∑ r : Fin N, f (slotOf c r.val)) = ∑ s : Fin 8, ((min (N - upTo c s.val) (c s) : ℕ) : EReal) * f s := by
  rw [← Finset.sum_fiberwise' (s := Finset.univ) (g := fun r : Fin N => slotOf c r.val) (f := f)]
  refine Finset.sum_congr rfl fun s _ => ?_
  rw [Finset.sum_const, card_slot c N hN s, EReal.nsmul_eq_mul]

/-- Over all the ranks each slot occurs as often as its count says. -/
theorem sum_slots_all (c : Fin 8 → ℕ) (h : ∑ t, c t = 4096) (f : Fin 8 → EReal) :
    (∑ r : Fin 4096, f (slotOf c r.val)) = ∑ s : Fin 8, (c s : EReal) * f s := by
  rw [sum_slots c 4096 (by rw [upTo_eight, h]) f]
  refine Finset.sum_congr rfl fun s _ => ?_
  have h1 := upTo_mono c (show s.val + 1 ≤ 8 from s.isLt)
  rw [upTo_succ, upTo_eight, h] at h1
  rw [show min (4096 - upTo c s.val) (c s) = c s by omega]

end Cert.Proof.Finishing

end
-- ==== Proof.FinSlot.lean ====
/-
  The slot of every rank, as the reference of the finishing call counts it.
-/
module

public import proofs.«01_k».proof.Proof.FinPre
public import proofs.«01_k».proof.Proof.FinCount
public import proofs.«01_k».proof.Proof.Gen.FinishReferenceIdeal.Read
public import Idealize.ShloMosaic.Lib.ReduceAll
public import Idealize.ShloMosaic.Lib.Pointwise
public import Idealize.ShloMosaic.Lib.StableHlo.Predicate

@[expose] public section

set_option maxRecDepth 65536

noncomputable section

namespace Cert.Proof.Finishing

open Idealize.ShloMosaic
open Idealize.ShloMosaic.TcCoe

open Cert.FinishReferenceIdeal Cert.FinishReferenceIdeal.Gen Cert.FinishReferenceIdeal.Read

/-! ## The reference's slots -/

theorem passed (w : BitVec 32) (n r : ℕ) (hw : w.toNat = n) (hn : n ≤ 4096) (hr : r < 4096) :
    ((IntOp.cmpi .sle w (BitVec.ofNat 32 r)).setWidth 32 : BitVec 32).toNat = if n ≤ r then 1 else 0 := by
  have e : (BitVec.ofNat 32 r).toNat = r := by rw [BitVec.toNat_ofNat]; omega
  have k := StableHlo.Predicate.sle_iff_toNat (a := w) (b := BitVec.ofNat 32 r) (by omega) (by omega)
  rw [hw, e] at k
  by_cases h : n ≤ r
  · rw [k.mpr h, if_pos h]; rfl
  · rw [(BitVec.eq_zero_or_eq_one _).resolve_right fun c => h (k.mp c), if_neg h]; rfl

theorem sum_toNat (v w : BitVec 32) (a b : ℕ) (hv : v.toNat = a) (hw : w.toNat = b) (h : a + b ≤ 4096) : (IntOp.addi v w : BitVec 32).toNat = a + b := by
  show (v + w).toNat = a + b
  rw [BitVec.toNat_add, hv, hw]; omega

section

variable (x0 : IVec S64x16 32) (hsum : ∀ b, ∑ s, counts x0 b s = 4096)
include hsum

theorem upTo_le (b : Fin 64) (s : ℕ) (hs : s ≤ 8) : upTo (counts x0 b) s ≤ 4096 := by
  rw [← hsum b, ← upTo_eight]; exact upTo_mono _ hs

theorem end_0 (i : S64x1.Idx) : (val_main_v4 (F := Ideal) x0 i : BitVec 32).toNat = upTo (counts x0 (i 0)) 1 := by
  refine Eq.trans ?_ ((upTo_succ (counts x0 (i 0)) 0).trans (by rw [show ((0 : Fin 8) : ℕ) = 0 from rfl, upTo_zero, Nat.zero_add])).symm
  rw [val_main_v4_apply]
  have h1 : (i 1).val = 0 := by have h : (i 1).val < 1 := (i 1).isLt; omega
  refine congrArg (fun j => (x0 j : BitVec 32).toNat) (funext fun a => ?_)
  fin_cases a
  · rfl
  · exact Fin.ext (by show _ = 0; simp [idx_main_v4, h1])

theorem end_1 (i : S64x1.Idx) : (val_main_v10 (F := Ideal) x0 i : BitVec 32).toNat = upTo (counts x0 (i 0)) 2 := by
  have l := upTo_le x0 hsum (i 0) 2 (by omega)
  have u := upTo_succ (counts x0 (i 0)) 1
  rw [show ((1 : Fin 8) : ℕ) + 1 = 2 from rfl, show ((1 : Fin 8) : ℕ) = 1 from rfl] at u
  rw [u] at l ⊢
  rw [val_main_v10_apply]
  refine sum_toNat _ _ _ _ (end_0 x0 hsum i) ?_ l
  rw [val_main_v9_apply]
  have h1 : (i 1).val = 0 := by have h : (i 1).val < 1 := (i 1).isLt; omega
  refine congrArg (fun j => (x0 j : BitVec 32).toNat) (funext fun a => ?_)
  fin_cases a
  · rfl
  · exact Fin.ext (by show _ = 1; simp [idx_main_v9, h1])

theorem end_2 (i : S64x1.Idx) : (val_main_v17 (F := Ideal) x0 i : BitVec 32).toNat = upTo (counts x0 (i 0)) 3 := by
  have l := upTo_le x0 hsum (i 0) 3 (by omega)
  have u := upTo_succ (counts x0 (i 0)) 2
  rw [show ((2 : Fin 8) : ℕ) + 1 = 3 from rfl, show ((2 : Fin 8) : ℕ) = 2 from rfl] at u
  rw [u] at l ⊢
  rw [val_main_v17_apply]
  refine sum_toNat _ _ _ _ (end_1 x0 hsum i) ?_ l
  rw [val_main_v16_apply]
  have h1 : (i 1).val = 0 := by have h : (i 1).val < 1 := (i 1).isLt; omega
  refine congrArg (fun j => (x0 j : BitVec 32).toNat) (funext fun a => ?_)
  fin_cases a
  · rfl
  · exact Fin.ext (by show _ = 2; simp [idx_main_v16, h1])

theorem end_3 (i : S64x1.Idx) : (val_main_v24 (F := Ideal) x0 i : BitVec 32).toNat = upTo (counts x0 (i 0)) 4 := by
  have l := upTo_le x0 hsum (i 0) 4 (by omega)
  have u := upTo_succ (counts x0 (i 0)) 3
  rw [show ((3 : Fin 8) : ℕ) + 1 = 4 from rfl, show ((3 : Fin 8) : ℕ) = 3 from rfl] at u
  rw [u] at l ⊢
  rw [val_main_v24_apply]
  refine sum_toNat _ _ _ _ (end_2 x0 hsum i) ?_ l
  rw [val_main_v23_apply]
  have h1 : (i 1).val = 0 := by have h : (i 1).val < 1 := (i 1).isLt; omega
  refine congrArg (fun j => (x0 j : BitVec 32).toNat) (funext fun a => ?_)
  fin_cases a
  · rfl
  · exact Fin.ext (by show _ = 3; simp [idx_main_v23, h1])

theorem end_4 (i : S64x1.Idx) : (val_main_v31 (F := Ideal) x0 i : BitVec 32).toNat = upTo (counts x0 (i 0)) 5 := by
  have l := upTo_le x0 hsum (i 0) 5 (by omega)
  have u := upTo_succ (counts x0 (i 0)) 4
  rw [show ((4 : Fin 8) : ℕ) + 1 = 5 from rfl, show ((4 : Fin 8) : ℕ) = 4 from rfl] at u
  rw [u] at l ⊢
  rw [val_main_v31_apply]
  refine sum_toNat _ _ _ _ (end_3 x0 hsum i) ?_ l
  rw [val_main_v30_apply]
  have h1 : (i 1).val = 0 := by have h : (i 1).val < 1 := (i 1).isLt; omega
  refine congrArg (fun j => (x0 j : BitVec 32).toNat) (funext fun a => ?_)
  fin_cases a
  · rfl
  · exact Fin.ext (by show _ = 4; simp [idx_main_v30, h1])

theorem end_5 (i : S64x1.Idx) : (val_main_v38 (F := Ideal) x0 i : BitVec 32).toNat = upTo (counts x0 (i 0)) 6 := by
  have l := upTo_le x0 hsum (i 0) 6 (by omega)
  have u := upTo_succ (counts x0 (i 0)) 5
  rw [show ((5 : Fin 8) : ℕ) + 1 = 6 from rfl, show ((5 : Fin 8) : ℕ) = 5 from rfl] at u
  rw [u] at l ⊢
  rw [val_main_v38_apply]
  refine sum_toNat _ _ _ _ (end_4 x0 hsum i) ?_ l
  rw [val_main_v37_apply]
  have h1 : (i 1).val = 0 := by have h : (i 1).val < 1 := (i 1).isLt; omega
  refine congrArg (fun j => (x0 j : BitVec 32).toNat) (funext fun a => ?_)
  fin_cases a
  · rfl
  · exact Fin.ext (by show _ = 5; simp [idx_main_v37, h1])

theorem end_6 (i : S64x1.Idx) : (val_main_v45 (F := Ideal) x0 i : BitVec 32).toNat = upTo (counts x0 (i 0)) 7 := by
  have l := upTo_le x0 hsum (i 0) 7 (by omega)
  have u := upTo_succ (counts x0 (i 0)) 6
  rw [show ((6 : Fin 8) : ℕ) + 1 = 7 from rfl, show ((6 : Fin 8) : ℕ) = 6 from rfl] at u
  rw [u] at l ⊢
  rw [val_main_v45_apply]
  refine sum_toNat _ _ _ _ (end_5 x0 hsum i) ?_ l
  rw [val_main_v44_apply]
  have h1 : (i 1).val = 0 := by have h : (i 1).val < 1 := (i 1).isLt; omega
  refine congrArg (fun j => (x0 j : BitVec 32).toNat) (funext fun a => ?_)
  fin_cases a
  · rfl
  · exact Fin.ext (by show _ = 6; simp [idx_main_v44, h1])

theorem pass_0 (b : Fin 64) (r : Fin 4096) : (val_main_v8 (F := Ideal) x0 (ix2 b r) : BitVec 32).toNat = if upTo (counts x0 b) 1 ≤ r.val then 1 else 0 := by
  rw [val_main_v8_apply, val_main_v7_apply, val_main_v5_apply, val_main_v6_apply, val_main_v3_apply, val_main_v2_apply]
  exact passed _ _ r.val (end_0 x0 hsum _) (upTo_le x0 hsum b 1 (by omega)) r.isLt

theorem pass_1 (b : Fin 64) (r : Fin 4096) : (val_main_v14 (F := Ideal) x0 (ix2 b r) : BitVec 32).toNat = if upTo (counts x0 b) 2 ≤ r.val then 1 else 0 := by
  rw [val_main_v14_apply, val_main_v13_apply, val_main_v11_apply, val_main_v12_apply, val_main_v3_apply, val_main_v2_apply]
  exact passed _ _ r.val (end_1 x0 hsum _) (upTo_le x0 hsum b 2 (by omega)) r.isLt

theorem pass_2 (b : Fin 64) (r : Fin 4096) : (val_main_v21 (F := Ideal) x0 (ix2 b r) : BitVec 32).toNat = if upTo (counts x0 b) 3 ≤ r.val then 1 else 0 := by
  rw [val_main_v21_apply, val_main_v20_apply, val_main_v18_apply, val_main_v19_apply, val_main_v3_apply, val_main_v2_apply]
  exact passed _ _ r.val (end_2 x0 hsum _) (upTo_le x0 hsum b 3 (by omega)) r.isLt

theorem pass_3 (b : Fin 64) (r : Fin 4096) : (val_main_v28 (F := Ideal) x0 (ix2 b r) : BitVec 32).toNat = if upTo (counts x0 b) 4 ≤ r.val then 1 else 0 := by
  rw [val_main_v28_apply, val_main_v27_apply, val_main_v25_apply, val_main_v26_apply, val_main_v3_apply, val_main_v2_apply]
  exact passed _ _ r.val (end_3 x0 hsum _) (upTo_le x0 hsum b 4 (by omega)) r.isLt

theorem pass_4 (b : Fin 64) (r : Fin 4096) : (val_main_v35 (F := Ideal) x0 (ix2 b r) : BitVec 32).toNat = if upTo (counts x0 b) 5 ≤ r.val then 1 else 0 := by
  rw [val_main_v35_apply, val_main_v34_apply, val_main_v32_apply, val_main_v33_apply, val_main_v3_apply, val_main_v2_apply]
  exact passed _ _ r.val (end_4 x0 hsum _) (upTo_le x0 hsum b 5 (by omega)) r.isLt

theorem pass_5 (b : Fin 64) (r : Fin 4096) : (val_main_v42 (F := Ideal) x0 (ix2 b r) : BitVec 32).toNat = if upTo (counts x0 b) 6 ≤ r.val then 1 else 0 := by
  rw [val_main_v42_apply, val_main_v41_apply, val_main_v39_apply, val_main_v40_apply, val_main_v3_apply, val_main_v2_apply]
  exact passed _ _ r.val (end_5 x0 hsum _) (upTo_le x0 hsum b 6 (by omega)) r.isLt

theorem pass_6 (b : Fin 64) (r : Fin 4096) : (val_main_v49 (F := Ideal) x0 (ix2 b r) : BitVec 32).toNat = if upTo (counts x0 b) 7 ≤ r.val then 1 else 0 := by
  rw [val_main_v49_apply, val_main_v48_apply, val_main_v46_apply, val_main_v47_apply, val_main_v3_apply, val_main_v2_apply]
  exact passed _ _ r.val (end_6 x0 hsum _) (upTo_le x0 hsum b 7 (by omega)) r.isLt

theorem slot_toNat (b : Fin 64) (r : Fin 4096) : (val_main_v50 (F := Ideal) x0 (ix2 b r) : BitVec 32).toNat = slotAt (counts x0 b) r.val := by
  have one : ∀ n : ℕ, (if n ≤ r.val then 1 else 0) ≤ 1 := fun n => by split <;> omega
  have o1 := one (upTo (counts x0 b) 2)
  have o2 := one (upTo (counts x0 b) 3)
  have o3 := one (upTo (counts x0 b) 4)
  have o4 := one (upTo (counts x0 b) 5)
  have o5 := one (upTo (counts x0 b) 6)
  have o6 := one (upTo (counts x0 b) 7)
  have o0 := one (upTo (counts x0 b) 1)
  have s1 := sum_toNat _ _ _ _ (pass_0 x0 hsum b r) (pass_1 x0 hsum b r) (by omega)
  rw [← val_main_v15_apply] at s1
  have s2 := sum_toNat _ _ _ _ s1 (pass_2 x0 hsum b r) (by omega)
  rw [← val_main_v22_apply] at s2
  have s3 := sum_toNat _ _ _ _ s2 (pass_3 x0 hsum b r) (by omega)
  rw [← val_main_v29_apply] at s3
  have s4 := sum_toNat _ _ _ _ s3 (pass_4 x0 hsum b r) (by omega)
  rw [← val_main_v36_apply] at s4
  have s5 := sum_toNat _ _ _ _ s4 (pass_5 x0 hsum b r) (by omega)
  rw [← val_main_v43_apply] at s5
  have s6 := sum_toNat _ _ _ _ s5 (pass_6 x0 hsum b r) (by omega)
  rw [← val_main_v50_apply] at s6
  rw [s6, slotAt, Fin.sum_univ_seven]
  rfl

theorem slot_lt (b : Fin 64) (r : Fin 4096) : (val_main_v50 (F := Ideal) x0 (ix2 b r) : BitVec 32).toNat < 8 := by
  rw [slot_toNat x0 hsum]; exact slotAt_lt _ _

end

end Cert.Proof.Finishing

end
-- ==== Proof.FinTake.lean ====
/-
  The rows the reference of the finishing call looks up by slot.
-/
module

public import proofs.«01_k».proof.Proof.FinSlot
public import proofs.«01_k».proof.Proof.Gen.FinishReferenceIdeal.Read
public import Idealize.ShloMosaic.Lib.ReduceAll
public import Idealize.ShloMosaic.Lib.Pointwise
public import Idealize.ShloMosaic.Lib.StableHlo.Predicate

@[expose] public section

set_option maxRecDepth 65536

noncomputable section

namespace Cert.Proof.Finishing

open Idealize.ShloMosaic
open Idealize.ShloMosaic.TcCoe

open Cert.FinishReferenceIdeal Cert.FinishReferenceIdeal.Gen Cert.FinishReferenceIdeal.Read

/-! ## The values both sides speak of -/

/-- Row `s` of the slot table: the slot's distribution over the vocabulary times the embedding table. -/
def rowOf (P : (⟨2, ![8, 8]⟩ : Shape).Idx → EReal) (T : (⟨2, ![6, 256]⟩ : Shape).Idx → EReal) (s : Fin 8) (d : Fin 256) : EReal :=
  ∑ v : Fin 6, P (ix2 s (v.castLE (by omega))) * T (ix2 v d)

/-! ## The reference's lookup by slot -/

theorem gather_slot (x : (⟨2, ![8, 256]⟩ : Shape).Idx → EReal) (idx : IVec S64x4096x1 32) (b : Fin 64) (p : Fin 4096) (d : Fin 256) (u : Fin 8)
    (hu : (idx (ix3 b p 0) : BitVec 32).toNat = u.val) :
    Host.gather gather_S8x256_S64x4096x1_S64x4096x256_2_0_n_n_0_2_1256 x idx (ix3 b p d) = x (ix2 u d) := by
  unfold Host.gather
  refine congrArg x (funext fun a => Fin.ext ?_)
  generalize hG : gather_S8x256_S64x4096x1_S64x4096x256_2_0_n_n_0_2_1256 = G
  show G.start (ix3 b p d) idx a + G.batchCoord (ix3 b p d) a + G.offCoord (ix3 b p d) a = _
  have h01 : a = 0 ∨ a = 1 := by
    match a with
    | ⟨0, _⟩ => exact Or.inl rfl
    | ⟨1, _⟩ => exact Or.inr rfl
  subst hG
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8x256_S64x4096x1_S64x4096x256_2_0_n_n_0_2_1256.startIndexMap from List.mem_singleton.mpr rfl)]
    have hsi : gather_S8x256_S64x4096x1_S64x4096x256_2_0_n_n_0_2_1256.siIdx (ix3 b p d) ⟨List.idxOf (0 : Fin 2) gather_S8x256_S64x4096x1_S64x4096x256_2_0_n_n_0_2_1256.startIndexMap,
        List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    rw [hsi, StableHlo.Predicate.toInt_eq_toNat_of_lt (by omega), hu]
    show min ((u.val : Int).toNat) (8 - 1) = u.val
    omega
  · rw [GatherDims.batchCoord_eq_zero _ _ _ List.not_mem_nil]
    unfold GatherDims.start
    rw [dif_neg (by decide)]
    show 0 + 0 + d.val = d.val
    omega

section

variable (x0 : IVec S64x16 32) (x1 : (⟨2, ![8, 8]⟩ : Shape).Idx → EReal) (x2 : (⟨2, ![6, 256]⟩ : Shape).Idx → EReal) (hsum : ∀ b, ∑ s, counts x0 b s = 4096)
include hsum

theorem slot_wrapped (b : Fin 64) (p : Fin 4096) : val_main_call0_v4 (F := Ideal) x0 (ix2 b p) = val_main_v50 (F := Ideal) x0 (ix2 b p) := by
  have l := slot_lt x0 hsum b p
  rw [val_main_call0_v4_apply, val_main_call0_v1_apply, val_main_call0_v0_apply, val_main_call0_c_apply]
  have h : IntOp.cmpi .slt (val_main_v50 (F := Ideal) x0 (ix2 b p)) 0#32 = 0#1 := by
    refine (BitVec.eq_zero_or_eq_one _).resolve_right fun e => ?_
    have := (StableHlo.Predicate.slt_iff_toNat (by omega) (by decide)).mp e
    exact absurd this (by simp)
  rw [h]; rfl

theorem slot_started (b : Fin 64) (p : Fin 4096) (k : Fin 1) : val_main_call0_v5 (F := Ideal) x0 (ix3 b p k) = val_main_v50 (F := Ideal) x0 (ix2 b p) := by
  rw [val_main_call0_v5_apply, ← slot_wrapped x0 hsum]
  exact congrArg (val_main_call0_v4 (F := Ideal) x0) (funext fun a => by fin_cases a <;> rfl)

theorem slot_inside (i : S64x4096x1.Idx) : val_main_call0_v11 (F := Ideal) x0 i = 1#1 := by
  have e : val_main_call0_v5 (F := Ideal) x0 i = val_main_v50 (F := Ideal) x0 (ix2 (i 0) (i 1)) := by
    rw [eq_ix3 i]; exact slot_started x0 hsum _ _ _
  have l := slot_lt x0 hsum (i 0) (i 1)
  rw [val_main_call0_v11_apply, val_main_call0_v7_apply, val_main_call0_v10_apply, e, val_main_call0_v6_apply, val_main_call0_v9_apply, val_main_call0_v8_apply,
    val_main_call0_c_2_apply, val_main_call0_c_1_apply,
    (StableHlo.Predicate.sge_iff_toNat (by omega) (by decide)).mpr (by simp), (StableHlo.Predicate.sle_iff_toNat (by omega) (by decide)).mpr (by simp; omega)]
  rfl

omit hsum in
theorem row_read (s : Fin 8) (d : Fin 256) : val_main_v1 (F := Ideal) x1 x2 (ix2 s d) = rowOf x1 x2 s d := by
  rw [val_main_v1_apply]
  refine Finset.sum_congr rfl fun v _ => congrArg₂ (fun y z : EReal => y * z) ?_ ?_
  · rw [val_main_v0_apply]
    exact congrArg x1 (funext fun a => by fin_cases a <;> rfl)
  · exact congrArg x2 (funext fun a => by fin_cases a <;> rfl)

theorem slot_taken (b : Fin 64) (p : Fin 4096) (d : Fin 256) :
    val_main_v51 (F := Ideal) x0 x1 x2 (ix3 b p d) = rowOf x1 x2 (slotOf (counts x0 b) p.val) d := by
  have h12 : ∀ j, val_main_call0_v12 (F := Ideal) x0 j = 1#1 := fun j => Host.reduce_andi_one _ _ _ _ _ rfl (slot_inside x0 hsum)
  have hu : (val_main_v50 (F := Ideal) x0 (ix2 b p) : BitVec 32).toNat = (slotOf (counts x0 b) p.val).val := slot_toNat x0 hsum b p
  generalize slotOf (counts x0 b) p.val = u at hu ⊢
  have hs := congrArg BitVec.toNat (slot_started x0 hsum b p 0)
  rw [hu] at hs
  have g := gather_slot (val_main_v1 (F := Ideal) x1 x2) (val_main_call0_v5 (F := Ideal) x0) b p d u hs
  rw [val_main_v51_apply, val_main_call0_v14_apply, h12, ← row_read x1 x2, ← g]
  rfl

end

end Cert.Proof.Finishing

end
-- ==== Proof.FinRef.lean ====
/-
  The result of the reference of the finishing call, batch row by batch row.
-/
module

public import proofs.«01_k».proof.Proof.FinTake
public import proofs.«01_k».proof.Proof.Gen.FinishReferenceIdeal.Read
public import Idealize.ShloMosaic.Lib.Pointwise

@[expose] public section

set_option maxRecDepth 65536

noncomputable section

namespace Cert.Proof.Finishing

open Idealize.ShloMosaic
open Idealize.ShloMosaic.TcCoe

open Cert.FinishReferenceIdeal Cert.FinishReferenceIdeal.Gen Cert.FinishReferenceIdeal.Read

/-! ## The layers both sides apply -/

/-- The second and third layer of the item network, on the first layer's sums. -/
def layers (W2 : (⟨2, ![8, 8]⟩ : Shape).Idx → EReal) (b2 : (⟨1, ![8]⟩ : Shape).Idx → EReal) (W3 : (⟨2, ![256, 8]⟩ : Shape).Idx → EReal) (b3 : (⟨1, ![256]⟩ : Shape).Idx → EReal)
    (a : Fin 8 → EReal) (d : Fin 256) : EReal :=
  (∑ k : Fin 8, max ((∑ j : Fin 8, max (a j) 0 * W2 (ix2 k j)) + b2 (ix1 k)) 0 * W3 (ix2 d k)) + b3 (ix1 d)

/-- The classifier on the averaged item vector. -/
def classify (C1 : (⟨2, ![128, 256]⟩ : Shape).Idx → EReal) (c1 : (⟨1, ![128]⟩ : Shape).Idx → EReal) (C2 : (⟨2, ![1, 128]⟩ : Shape).Idx → EReal) (c2 : (⟨1, ![1]⟩ : Shape).Idx → EReal)
    (v : Fin 256 → EReal) : EReal :=
  Ideal.div 1 (1 + Ideal.exp (-((∑ k : Fin 128, max ((∑ d : Fin 256, v d * C1 (ix2 k d)) + c1 (ix1 k)) 0 * C2 (ix2 0 k)) + c2 (ix1 0))))

/-- The first layer's sums of an item `x` under the query `q`: the query once, the item twice. -/
def firstSum (W1 : (⟨2, ![8, 768]⟩ : Shape).Idx → EReal) (b1 : (⟨1, ![8]⟩ : Shape).Idx → EReal) (q x : Fin 256 → EReal) (j : Fin 8) : EReal :=
  ((∑ e : Fin 256, q e * W1 (ix2 j ⟨e.val, by omega⟩)) + ((∑ e : Fin 256, x e * W1 (ix2 j ⟨256 + e.val, by omega⟩)) + ∑ e : Fin 256, x e * W1 (ix2 j ⟨512 + e.val, by omega⟩))) + b1 (ix1 j)

theorem zero_read : (FloatOps.ofBits .f32 0x00000000#32 : Ideal .f32) = (0 : EReal) := Ideal.ofBits_zero_f32
theorem one_read : (FloatOps.ofBits .f32 0x3F800000#32 : Ideal .f32) = (1 : EReal) := Ideal.ofBits_one_f32

theorem sum_768 (f : Fin 768 → EReal) : (∑ e, f e) = (∑ e : Fin 256, f ⟨e.val, by omega⟩) + ((∑ e : Fin 256, f ⟨256 + e.val, by omega⟩) + ∑ e : Fin 256, f ⟨512 + e.val, by omega⟩) := by
  rw [show (∑ e : Fin 768, f e) = ∑ e : Fin (256 + (256 + 256)), f e from rfl, Fin.sum_univ_add, Fin.sum_univ_add]
  refine congrArg₂ (fun y z : EReal => y + z) rfl (congrArg₂ (fun y z : EReal => y + z) rfl (Finset.sum_congr rfl fun e _ => congrArg f (Fin.ext ?_)))
  show 256 + (256 + e.val) = 512 + e.val
  omega

section

variable (x0 : IVec S64x16 32) (x1 : (⟨2, ![8, 8]⟩ : Shape).Idx → EReal) (x2 : (⟨2, ![6, 256]⟩ : Shape).Idx → EReal) (x3 : (⟨2, ![8, 768]⟩ : Shape).Idx → EReal)
  (x4 : (⟨1, ![8]⟩ : Shape).Idx → EReal) (x5 : (⟨2, ![8, 8]⟩ : Shape).Idx → EReal) (x6 : (⟨1, ![8]⟩ : Shape).Idx → EReal) (x7 : (⟨2, ![256, 8]⟩ : Shape).Idx → EReal)
  (x8 : (⟨1, ![256]⟩ : Shape).Idx → EReal) (x9 : (⟨2, ![128, 256]⟩ : Shape).Idx → EReal) (x10 : (⟨1, ![128]⟩ : Shape).Idx → EReal) (x11 : (⟨2, ![1, 128]⟩ : Shape).Idx → EReal)
  (x12 : (⟨1, ![1]⟩ : Shape).Idx → EReal) (hsum : ∀ b, ∑ s, counts x0 b s = 4096)

/-- The reference's query of a batch row: the mean of its rows over all ranks. -/
def queryRef (b : Fin 64) (d : Fin 256) : EReal :=
  Ideal.div (∑ p : Fin 4096, rowOf x1 x2 (slotOf (counts x0 b) p.val) d) (Ideal.ofBits .f32 0x45800000#32)

include hsum

theorem query_read (b : Fin 64) (d : Fin 256) : val_main_v55 (F := Ideal) x0 x1 x2 (ix2 b d) = queryRef x0 x1 x2 b d := by
  rw [val_main_v55_apply, val_main_v54_apply, val_main_cst_0_apply, val_main_v53_apply, val_main_cst_apply, zero_read, zero_add]
  refine congrArg (fun y : EReal => Ideal.div y (Ideal.ofBits .f32 0x45800000#32)) (Finset.sum_congr rfl fun p _ => ?_)
  rw [← slot_taken x0 x1 x2 hsum]
  exact congrArg (val_main_v51 (F := Ideal) x0 x1 x2) (funext fun a => by fin_cases a <;> rfl)

theorem selected_read (b : Fin 64) (r : Fin 409) (d : Fin 256) : val_main_v52 (F := Ideal) x0 x1 x2 (ix3 b r d) = rowOf x1 x2 (slotOf (counts x0 b) r.val) d := by
  rw [val_main_v52_apply]
  refine Eq.trans ?_ (slot_taken x0 x1 x2 hsum b ⟨r.val, by omega⟩ d)
  exact congrArg (val_main_v51 (F := Ideal) x0 x1 x2) (funext fun a => by fin_cases a <;> rfl)

theorem spread_read (b : Fin 64) (r : Fin 409) (d : Fin 256) : val_main_v57 (F := Ideal) x0 x1 x2 (ix3 b r d) = queryRef x0 x1 x2 b d := by
  rw [val_main_v57_apply, val_main_v56_apply, ← query_read x0 x1 x2 hsum]
  exact congrArg (val_main_v55 (F := Ideal) x0 x1 x2) (funext fun a => by fin_cases a <;> rfl)

theorem joined_0 (b : Fin 64) (r : Fin 409) (e : Fin 256) : val_main_v58 (F := Ideal) x0 x1 x2 (ix3 b r (⟨e.val, by omega⟩ : Fin 768)) = queryRef x0 x1 x2 b e := by
  rw [← spread_read x0 x1 x2 hsum b r e]
  unfold val_main_v58
  generalize val_main_v57 (F := Ideal) x0 x1 x2 = y
  generalize val_main_v52 (F := Ideal) x0 x1 x2 = z
  simp only [pointwise]
  refine (dif_pos trivial).trans ?_
  refine congrArg y (funext fun a => ?_)
  fin_cases a <;> exact Fin.ext (by simp)

theorem joined_1 (b : Fin 64) (r : Fin 409) (e : Fin 256) :
    val_main_v58 (F := Ideal) x0 x1 x2 (ix3 b r (⟨256 + e.val, by omega⟩ : Fin 768)) = rowOf x1 x2 (slotOf (counts x0 b) r.val) e := by
  rw [← selected_read x0 x1 x2 hsum b r e]
  unfold val_main_v58
  generalize val_main_v57 (F := Ideal) x0 x1 x2 = y
  generalize val_main_v52 (F := Ideal) x0 x1 x2 = z
  simp only [pointwise]
  refine (dif_neg (show ¬256 + e.val < 256 by omega)).trans ((dif_pos (show 256 + e.val - 256 < 256 by omega)).trans (congrArg z (funext fun a => ?_)))
  fin_cases a
  · exact Fin.ext (by simp)
  · exact Fin.ext (by simp)
  · exact Fin.ext (by show (if True then 256 + e.val - 256 else 256 + e.val) = e.val; rw [if_pos trivial]; omega)

theorem joined_2 (b : Fin 64) (r : Fin 409) (e : Fin 256) :
    val_main_v58 (F := Ideal) x0 x1 x2 (ix3 b r (⟨512 + e.val, by omega⟩ : Fin 768)) = rowOf x1 x2 (slotOf (counts x0 b) r.val) e := by
  rw [← selected_read x0 x1 x2 hsum b r e]
  unfold val_main_v58
  generalize val_main_v57 (F := Ideal) x0 x1 x2 = y
  generalize val_main_v52 (F := Ideal) x0 x1 x2 = z
  simp only [pointwise]
  refine (dif_neg (show ¬512 + e.val < 256 by omega)).trans ((dif_neg (show ¬512 + e.val - 256 < 256 by omega)).trans (congrArg z (funext fun a => ?_)))
  fin_cases a
  · exact Fin.ext (by simp)
  · exact Fin.ext (by simp)
  · exact Fin.ext (by show (if True then 512 + e.val - 256 - 256 else 512 + e.val) = e.val; rw [if_pos trivial]; omega)

/-- The first layer's sums of the item of rank `r`, as the reference has them. -/
theorem first_read (b : Fin 64) (r : Fin 409) (j : Fin 8) :
    val_main_v63 (F := Ideal) x0 x1 x2 x3 x4 (ix3 b r j) = firstSum x3 x4 (queryRef x0 x1 x2 b) (rowOf x1 x2 (slotOf (counts x0 b) r.val)) j := by
  rw [val_main_v63_apply, val_main_v60_apply, val_main_v62_apply, val_main_v61_apply]
  refine congrArg₂ (fun y z : EReal => y + z) ?_ (congrArg x4 (funext fun a => by fin_cases a; rfl))
  have w : ∀ k : Fin 768, (val_main_v59 (F := Ideal) x3) (ridx_main_v60 (ix3 b r j) k) = x3 (ix2 j k) := fun k => by
    rw [val_main_v59_apply]; exact congrArg x3 (funext fun a => by fin_cases a <;> rfl)
  have l : ∀ k : Fin 768, lidx_main_v60 (ix3 b r j) k = ix3 b r k := fun k => funext fun a => by fin_cases a <;> rfl
  refine (Finset.sum_congr rfl fun k _ => congrArg₂ (fun y z : EReal => y * z) (congrArg (val_main_v58 (F := Ideal) x0 x1 x2) (l k)) (w k)).trans ?_
  refine (sum_768 _).trans ?_
  refine congrArg₂ (fun y z : EReal => y + z) (Finset.sum_congr rfl fun e _ => ?_) (congrArg₂ (fun y z : EReal => y + z) (Finset.sum_congr rfl fun e _ => ?_) (Finset.sum_congr rfl fun e _ => ?_))
  · exact congrArg (fun y : EReal => y * _) (joined_0 x0 x1 x2 hsum b r e)
  · exact congrArg (fun y : EReal => y * _) (joined_1 x0 x1 x2 hsum b r e)
  · exact congrArg (fun y : EReal => y * _) (joined_2 x0 x1 x2 hsum b r e)

theorem layers_read (b : Fin 64) (r : Fin 409) (d : Fin 256) :
    val_main_v75 (F := Ideal) x0 x1 x2 x3 x4 x5 x6 x7 x8 (ix3 b r d)
      = layers x5 x6 x7 x8 (firstSum x3 x4 (queryRef x0 x1 x2 b) (rowOf x1 x2 (slotOf (counts x0 b) r.val))) d := by
  rw [val_main_v75_apply, val_main_v72_apply, val_main_v74_apply, val_main_v73_apply]
  unfold layers
  refine congrArg₂ (fun y z : EReal => y + z) (Finset.sum_congr rfl fun k _ => congrArg₂ (fun y z : EReal => y * z) ?_ ?_) (congrArg x8 (funext fun a => by fin_cases a; rfl))
  · rw [val_main_v70_apply, val_main_v69_apply, val_main_v66_apply, val_main_v68_apply, val_main_v67_apply, val_main_call2_v0_apply, val_main_call2_cst_apply, zero_read]
    refine congrArg (fun y : EReal => max y 0) (congrArg₂ (fun y z : EReal => y + z) (Finset.sum_congr rfl fun j _ => congrArg₂ (fun y z : EReal => y * z) ?_ ?_)
      (congrArg x6 (funext fun a => by fin_cases a; rfl)))
    · rw [val_main_v64_apply, val_main_call1_v0_apply, val_main_call1_cst_apply, zero_read]
      refine congrArg (fun y : EReal => max y 0) ?_
      rw [← first_read x0 x1 x2 x3 x4 hsum]
      exact congrArg (val_main_v63 (F := Ideal) x0 x1 x2 x3 x4) (funext fun a => by fin_cases a <;> rfl)
    · rw [val_main_v65_apply]
      exact congrArg x5 (funext fun a => by fin_cases a <;> rfl)
  · rw [val_main_v71_apply]
    exact congrArg x7 (funext fun a => by fin_cases a <;> rfl)

/-- The reference's result of batch row `b`. -/
theorem reference_out (b : Fin 64) (k0 : Fin 1) :
    val_main_v95 (F := Ideal) x0 x1 x2 x3 x4 x5 x6 x7 x8 x9 x10 x11 x12 (ix2 b k0)
      = classify x9 x10 x11 x12 fun d => Ideal.div (∑ r : Fin 409, layers x5 x6 x7 x8 (firstSum x3 x4 (queryRef x0 x1 x2 b) (rowOf x1 x2 (slotOf (counts x0 b) r.val))) d)
          (Ideal.ofBits .f32 0x43CC8000#32) := by
  obtain rfl : k0 = 0 := Subsingleton.elim _ _
  rw [val_main_v95_apply, val_main_v94_apply, val_main_cst_4_apply, val_main_v93_apply, val_main_v92_apply, val_main_cst_3_apply, val_main_v91_apply, val_main_v90_apply, one_read]
  unfold classify
  refine congrArg (fun y : EReal => Ideal.div 1 (1 + Ideal.exp (-y))) ?_
  rw [val_main_v89_apply, val_main_v86_apply, val_main_v88_apply, val_main_v87_apply]
  refine congrArg₂ (fun y z : EReal => y + z) (Finset.sum_congr rfl fun k _ => congrArg₂ (fun y z : EReal => y * z) ?_ ?_) (congrArg x12 (funext fun a => by fin_cases a; rfl))
  · rw [val_main_v84_apply, val_main_v83_apply, val_main_v80_apply, val_main_v82_apply, val_main_v81_apply, val_main_call3_v0_apply, val_main_call3_cst_apply, zero_read]
    refine congrArg (fun y : EReal => max y 0) (congrArg₂ (fun y z : EReal => y + z) (Finset.sum_congr rfl fun d _ => congrArg₂ (fun y z : EReal => y * z) ?_ ?_)
      (congrArg x10 (funext fun a => by fin_cases a; rfl)))
    · rw [val_main_v78_apply, val_main_v77_apply, val_main_cst_2_apply, val_main_v76_apply, val_main_cst_1_apply, zero_read, zero_add]
      refine congrArg (fun y : EReal => Ideal.div y (Ideal.ofBits .f32 0x43CC8000#32)) (Finset.sum_congr rfl fun r _ => ?_)
      rw [← layers_read x0 x1 x2 x3 x4 x5 x6 x7 x8 hsum]
      exact congrArg (val_main_v75 (F := Ideal) x0 x1 x2 x3 x4 x5 x6 x7 x8) (funext fun a => by fin_cases a <;> rfl)
    · rw [val_main_v79_apply]
      exact congrArg x9 (funext fun a => by fin_cases a <;> rfl)
  · rw [val_main_v85_apply]
    exact congrArg x11 (funext fun a => by fin_cases a <;> rfl)

end

end Cert.Proof.Finishing

end
-- ==== Proof.FinKer.lean ====
/-
  The kernel of the finishing call, batch row by batch row.
-/
module

public import proofs.«01_k».proof.Proof.FinRef
public import proofs.«01_k».proof.Proof.Gen.FinishIdeal.Value
public import Idealize.ShloMosaic.Lib.Pointwise

@[expose] public section

set_option maxRecDepth 65536

noncomputable section

namespace Cert.Proof.Finishing

open Idealize.ShloMosaic
open Idealize.ShloMosaic.TcCoe

open Cert.FinishIdeal Cert.FinishIdeal.Gen

/-! ## The kernel's values -/

/-- The kernel's count of a slot, as an extended real. -/
def countK (x0 : IVec S64x16 32) (b : Fin 64) (s : Fin 8) : EReal := k0_pay2 (F := Ideal) x0 (ix2 b s)

/-- How many of the selected items the kernel counts in a slot. -/
def chosenK (x0 : IVec S64x16 32) (b : Fin 64) (s : Fin 8) : EReal :=
  min (max (Ideal.ofBits .f32 0x43CC8000#32 - ∑ k : Fin 8, if k.val < s.val then countK x0 b k else 0) 0) (countK x0 b s)

/-- The kernel's query of a batch row: its slot rows weighted by their counts. -/
def queryK (x0 : IVec S64x16 32) (x1 : (⟨2, ![8, 8]⟩ : Shape).Idx → EReal) (x2 : (⟨2, ![6, 256]⟩ : Shape).Idx → EReal) (b : Fin 64) (d : Fin 256) : EReal :=
  (∑ s : Fin 8, countK x0 b s * rowOf x1 x2 s d) * Ideal.ofBits .f32 0x39800000#32

/-- The kernel's first layer's sums: the two blocks of weights the item meets are added first. -/
def firstK (W1 : (⟨2, ![8, 768]⟩ : Shape).Idx → EReal) (b1 : (⟨1, ![8]⟩ : Shape).Idx → EReal) (q x : Fin 256 → EReal) (j : Fin 8) : EReal :=
  ((∑ e : Fin 256, q e * W1 (ix2 j ⟨e.val, by omega⟩)) + ∑ e : Fin 256, x e * (W1 (ix2 j ⟨256 + e.val, by omega⟩) + W1 (ix2 j ⟨512 + e.val, by omega⟩))) + b1 (ix1 j)

theorem slt_table : ∀ k s : Fin 8, IntOp.cmpi .slt (BitVec.ofNat 32 k.val) (BitVec.ofNat 32 s.val) = if k.val < s.val then 1#1 else 0#1 := by decide

theorem chosen_read (x0 : IVec S64x16 32) (b : Fin 64) (s : Fin 8) : k0_pay3 (F := Ideal) x0 (ix2 b s) = chosenK x0 b s := by
  unfold k0_pay3 chosenK
  simp only [pointwise, zero_add]
  refine congrArg (fun y : EReal => min (max (Ideal.ofBits .f32 0x43CC8000#32 - y) 0) (countK x0 b s)) (Finset.sum_congr rfl fun k _ => ?_)
  have e := slt_table k s
  have f : ∀ n : Fin 8, 0 * 8 + n.val = n.val := fun n => by omega
  show Scalar.select (IntOp.cmpi .slt (BitVec.ofNat 32 (0 * 8 + k.val)) (BitVec.ofNat 32 (0 * 8 + s.val))) (countK x0 b k * 1) 0 = _
  rw [f, f, e, mul_one]
  by_cases h : k.val < s.val
  · rw [if_pos h, if_pos h]; rfl
  · rw [if_neg h, if_neg h]; rfl

theorem first_kernel (x0 : IVec S64x16 32) (x3 : FVec Ideal S8x768 .f32) (x1 : FVec Ideal S8x8 .f32) (x2 : FVec Ideal S6x256 .f32) (x4 : FVec Ideal S8 .f32) (b : Fin 64) (s : Fin 8) (j : Fin 8) :
    k0_pay4 (F := Ideal) x3 x0 x1 x2 x4 (ix3 b s j) = max (firstK x3 x4 (queryK x0 x1 x2 b) (rowOf x1 x2 s) j) (0 : EReal) := by
  unfold k0_pay4
  simp only [pointwise, zero_add, Matrix.cons_val_zero, Fin.eta]
  unfold firstK queryK rowOf
  refine congrArg (fun y : EReal => max y 0) (congrArg₂ (fun y z : EReal => y + z) (congrArg₂ (fun y z : EReal => y + z) (Finset.sum_congr rfl fun e _ => ?_) (Finset.sum_congr rfl fun e _ => ?_)) rfl)
  · refine congrArg₂ (fun y z : EReal => y * z) (congrArg (fun y : EReal => y * _) (Finset.sum_congr rfl fun k _ => congrArg₂ (fun y z : EReal => y * z) rfl (Finset.sum_congr rfl fun v _ => congrArg₂ (fun y z : EReal => y * z) ?_ rfl))) ?_
    · exact congrArg x1 (funext fun a => by fin_cases a <;> exact Fin.ext (by simp))
    · exact congrArg x3 (funext fun a => by fin_cases a <;> exact Fin.ext (by simp))
  · refine congrArg₂ (fun y z : EReal => y * z) (Finset.sum_congr rfl fun v _ => congrArg₂ (fun y z : EReal => y * z) ?_ rfl) rfl
    exact congrArg x1 (funext fun a => by fin_cases a <;> exact Fin.ext (by simp))

/-- The named constant is one over 409. -/
theorem named_k : Named.named (F := Ideal) Cert.FinishIdeal.κ "k" (φ := .f32) 0x3B203C17#32 = (((409 : ℝ)⁻¹ : ℝ) : EReal) :=
  IdealRules.named_const.ideal_named_scalar _ _ _ _ rfl

theorem logit_kernel (y : FVec Ideal S64x8 .f32) (z : FVec Ideal S64x8x8 .f32) (x5 : FVec Ideal S8x8 .f32) (x6 : FVec Ideal S8 .f32) (x7 : FVec Ideal S256x8 .f32) (x8 : FVec Ideal S256 .f32)
    (x9 : FVec Ideal S128x256 .f32) (x10 : FVec Ideal S128 .f32) (x11 : FVec Ideal S1x128 .f32) (x12 : FVec Ideal S1 .f32) (b : Fin 64) (a : Fin 8 → Fin 8 → EReal)
    (hz : ∀ s j, z (ix3 b s j) = max (a s j) (0 : EReal)) :
    Ideal.div 1 (1 + Ideal.exp (-(k0_pay5 (F := Ideal) y z x5 x6 x7 x8 x9 x10 x11 x12 (ix2 b 0) : EReal)))
      = classify x9 x10 x11 x12 fun d => (∑ s : Fin 8, y (ix2 b s) * layers x5 x6 x7 x8 (a s) d) * (((409 : ℝ)⁻¹ : ℝ) : EReal) := by
  unfold k0_pay5 classify
  refine congrArg (fun y : EReal => Ideal.div 1 (1 + Ideal.exp (-y))) ?_
  simp only [pointwise, zero_add, named_k, hz]
  rfl

theorem kernel_out (x0 : IVec S64x16 32) (x1 : FVec Ideal S8x8 .f32) (x2 : FVec Ideal S6x256 .f32) (x3 : FVec Ideal S8x768 .f32) (x4 : FVec Ideal S8 .f32) (x5 : FVec Ideal S8x8 .f32)
    (x6 : FVec Ideal S8 .f32) (x7 : FVec Ideal S256x8 .f32) (x8 : FVec Ideal S256 .f32) (x9 : FVec Ideal S128x256 .f32) (x10 : FVec Ideal S128 .f32) (x11 : FVec Ideal S1x128 .f32) (x12 : FVec Ideal S1 .f32) (b : Fin 64) (k0 : Fin 1) :
    Cert.FinishIdeal.Value.G13 (F := Ideal) x0 x1 x2 x3 x4 x5 x6 x7 x8 x9 x10 x11 x12 (ix2 b k0)
      = classify x9 x10 x11 x12 fun d => (∑ s : Fin 8, chosenK x0 b s * layers x5 x6 x7 x8 (firstK x3 x4 (queryK x0 x1 x2 b) (rowOf x1 x2 s)) d) * (((409 : ℝ)⁻¹ : ℝ) : EReal) := by
  obtain rfl : k0 = 0 := Subsingleton.elim _ _
  unfold Cert.FinishIdeal.Value.G13 k0_pay1
  simp only [pointwise]
  refine (congrArg (fun y : EReal => Ideal.div 1 (1 + Ideal.exp y)) ?_).trans ((logit_kernel (k0_pay3 (F := Ideal) x0) (k0_pay4 (F := Ideal) x3 x0 x1 x2 x4) x5 x6 x7 x8 x9 x10 x11 x12 b _ fun s j => first_kernel x0 x3 x1 x2 x4 b s j).trans ?_)
  · exact zero_sub (G := EReal) _
  · exact congrArg (classify x9 x10 x11 x12) (funext fun d => congrArg (fun y : EReal => y * _) (Finset.sum_congr rfl fun s _ => congrArg (fun y : EReal => y * _) (chosen_read x0 b s)))

end Cert.Proof.Finishing

end
-- ==== Proof.FinEq.lean ====
/-
  The finishing call and its reference have one value.
-/
module

public import proofs.«01_k».proof.Proof.FinKer

@[expose] public section

set_option maxRecDepth 65536

noncomputable section

namespace Cert.Proof.Finishing

open Idealize.ShloMosaic
open Idealize.ShloMosaic.TcCoe

/-! ## Both sides have one value -/

section

variable (x0 : IVec (⟨2, ![64, 16]⟩ : Shape) 32) (x1 : (⟨2, ![8, 8]⟩ : Shape).Idx → EReal) (x2 : (⟨2, ![6, 256]⟩ : Shape).Idx → EReal) (x3 : (⟨2, ![8, 768]⟩ : Shape).Idx → EReal)
  (x4 : (⟨1, ![8]⟩ : Shape).Idx → EReal)
  (hle : ∀ b s, counts x0 b s ≤ 4096) (hsum : ∀ b, ∑ s, counts x0 b s = 4096)

include hle in
theorem count_eq (b : Fin 64) (s : Fin 8) : countK x0 b s = (counts x0 b s : EReal) := by
  have e : countK x0 b s = (((x0 (ix2 b (s.castLE (by omega))) : BitVec 32).toInt : ℝ) : EReal) := by
    unfold countK Cert.FinishIdeal.Gen.k0_pay2
    simp only [pointwise]
    show (((x0 _ : BitVec 32).toInt : ℝ) : EReal) = _
    refine congrArg (fun j => (((x0 j : BitVec 32).toInt : ℝ) : EReal)) (funext fun a => ?_)
    fin_cases a <;> exact Fin.ext (by simp)
  have l : (x0 (ix2 b (s.castLE (by omega))) : BitVec 32).toNat ≤ 4096 := hle b s
  rw [e, StableHlo.Predicate.toInt_eq_toNat_of_lt (by omega), Int.cast_natCast]
  rfl

include hle in
theorem chosen_eq (b : Fin 64) (s : Fin 8) : chosenK x0 b s = ((min (409 - upTo (counts x0 b) s.val) (counts x0 b s) : ℕ) : EReal) := by
  have e : (∑ k : Fin 8, if k.val < s.val then countK x0 b k else 0) = ((upTo (counts x0 b) s.val : ℕ) : EReal) := by
    unfold upTo
    rw [Nat.cast_sum]
    refine Finset.sum_congr rfl fun k _ => ?_
    by_cases h : k.val < s.val
    · rw [if_pos h, if_pos h, count_eq x0 hle]
    · rw [if_neg h, if_neg h, Nat.cast_zero]
  unfold chosenK
  rw [e, count_eq x0 hle, kept_of_bits]
  generalize upTo (counts x0 b) s.val = u
  generalize counts x0 b s = c
  have d : max ((((409 : ℝ) : EReal)) - ((u : ℕ) : EReal)) 0 = ((409 - u : ℕ) : EReal) := by
    rw [← EReal.coe_coe_eq_natCast, ← EReal.coe_coe_eq_natCast, ← EReal.coe_sub]
    by_cases h : u ≤ 409
    · rw [Nat.cast_sub h]
      refine max_eq_left ?_
      have : (0 : ℝ) ≤ 409 - (u : ℝ) := by
        have : (u : ℝ) ≤ 409 := by exact_mod_cast h
        linarith
      exact_mod_cast this
    · rw [Nat.sub_eq_zero_of_le (by omega), Nat.cast_zero]
      refine max_eq_right ?_
      have : (409 : ℝ) - (u : ℝ) ≤ 0 := by
        have : (409 : ℝ) ≤ (u : ℝ) := by exact_mod_cast (by omega : 409 ≤ u)
        linarith
      exact_mod_cast this
  rw [d]
  rcases le_total (409 - u) c with h | h
  · rw [min_eq_left h]; exact min_eq_left (by exact_mod_cast h)
  · rw [min_eq_right h]; exact min_eq_right (by exact_mod_cast h)

include hle hsum in
theorem query_eq (b : Fin 64) : queryRef x0 x1 x2 b = queryK x0 x1 x2 b := by
  funext d
  unfold queryRef queryK
  rw [ranks_of_bits, scale_of_bits, Ideal.div_coe (by norm_num), sum_slots_all (counts x0 b) (hsum b) fun s => rowOf x1 x2 s d]
  exact congrArg (fun y : EReal => y * _) (Finset.sum_congr rfl fun s _ => congrArg (fun y : EReal => y * _) (count_eq x0 hle b s).symm)

theorem real_sum {ι : Type} (s : Finset ι) (f : ι → EReal) (h : ∀ i, ∃ r : ℝ, f i = (r : EReal)) : ∃ r : ℝ, (∑ i ∈ s, f i) = (r : EReal) := by
  choose g hg using h
  refine ⟨∑ i ∈ s, g i, ?_⟩
  classical
  induction s using Finset.induction_on with
  | empty => simp
  | insert a s ha ih => rw [Finset.sum_insert ha, Finset.sum_insert ha, ih, hg, EReal.coe_add]

theorem real_row (h1 : ∀ i, ∃ r : ℝ, x1 i = (r : EReal)) (h2 : ∀ i, ∃ r : ℝ, x2 i = (r : EReal)) (s : Fin 8) (d : Fin 256) : ∃ r : ℝ, rowOf x1 x2 s d = (r : EReal) := by
  refine real_sum _ _ fun v => ?_
  obtain ⟨p, hp⟩ := h1 (ix2 s (v.castLE (by omega)))
  obtain ⟨t, ht⟩ := h2 (ix2 v d)
  exact ⟨p * t, by rw [hp, ht, EReal.coe_mul]⟩

theorem first_eq (q x : Fin 256 → EReal) (hx : ∀ e, ∃ r : ℝ, x e = (r : EReal)) (h3 : ∀ i, ∃ r : ℝ, x3 i = (r : EReal)) (j : Fin 8) : firstSum x3 x4 q x j = firstK x3 x4 q x j := by
  unfold firstSum firstK
  refine congrArg (fun y : EReal => y + x4 (ix1 j)) (congrArg (fun y : EReal => _ + y) ?_)
  rw [← Finset.sum_add_distrib]
  refine Finset.sum_congr rfl fun e _ => ?_
  obtain ⟨r, hr⟩ := hx e
  obtain ⟨v, hv⟩ := h3 (ix2 j ⟨256 + e.val, by omega⟩)
  obtain ⟨w, hw⟩ := h3 (ix2 j ⟨512 + e.val, by omega⟩)
  rw [hr, hv, hw, ← EReal.coe_add, ← EReal.coe_mul, ← EReal.coe_mul, ← EReal.coe_mul, ← EReal.coe_add, mul_add]

end

/-- The kernel's result is the reference's, entry by entry. -/
theorem finish_values (x0 : IVec (⟨2, ![64, 16]⟩ : Shape) 32) (x1 : FVec Ideal (⟨2, ![8, 8]⟩ : Shape) .f32) (x2 : FVec Ideal (⟨2, ![6, 256]⟩ : Shape) .f32) (x3 : FVec Ideal (⟨2, ![8, 768]⟩ : Shape) .f32)
    (x4 : FVec Ideal (⟨1, ![8]⟩ : Shape) .f32) (x5 : FVec Ideal (⟨2, ![8, 8]⟩ : Shape) .f32) (x6 : FVec Ideal (⟨1, ![8]⟩ : Shape) .f32) (x7 : FVec Ideal (⟨2, ![256, 8]⟩ : Shape) .f32)
    (x8 : FVec Ideal (⟨1, ![256]⟩ : Shape) .f32) (x9 : FVec Ideal (⟨2, ![128, 256]⟩ : Shape) .f32) (x10 : FVec Ideal (⟨1, ![128]⟩ : Shape) .f32) (x11 : FVec Ideal (⟨2, ![1, 128]⟩ : Shape) .f32)
    (x12 : FVec Ideal (⟨1, ![1]⟩ : Shape) .f32)
    (h : Cert.Pre_counted.fn (F := Ideal) x0 x1 x2 x3 x4 x5 x6 x7 x8 x9 x10 x11 x12 = fun _ => 1#1) :
    Cert.FinishReferenceIdeal.Read.val_main_v95 (F := Ideal) x0 x1 x2 x3 x4 x5 x6 x7 x8 x9 x10 x11 x12
      = Cert.FinishIdeal.Value.G13 (F := Ideal) x0 x1 x2 x3 x4 x5 x6 x7 x8 x9 x10 x11 x12 := by
  obtain ⟨⟨hle, hsum⟩, h1, h2, h3⟩ := counted_split x0 x1 x2 x3 x4 x5 x6 x7 x8 x9 x10 x11 x12 h
  refine funext fun i => ?_
  rw [eq_ix2 i]
  revert i
  suffices key : ∀ (b : Fin 64) (k0 : Fin 1), Cert.FinishReferenceIdeal.Read.val_main_v95 (F := Ideal) x0 x1 x2 x3 x4 x5 x6 x7 x8 x9 x10 x11 x12 (ix2 b k0)
      = Cert.FinishIdeal.Value.G13 (F := Ideal) x0 x1 x2 x3 x4 x5 x6 x7 x8 x9 x10 x11 x12 (ix2 b k0) from fun i => key _ _
  intro b k0
  refine (reference_out x0 x1 x2 x3 x4 x5 x6 x7 x8 x9 x10 x11 x12 hsum b k0).trans (Eq.trans ?_ (kernel_out x0 x1 x2 x3 x4 x5 x6 x7 x8 x9 x10 x11 x12 b k0).symm)
  refine congrArg (classify x9 x10 x11 x12) (funext fun d => ?_)
  have f : ∀ s : Fin 8, firstSum x3 x4 (queryRef x0 x1 x2 b) (rowOf x1 x2 s) = firstK x3 x4 (queryK x0 x1 x2 b) (rowOf x1 x2 s) := fun s => funext fun j => by
    rw [query_eq x0 x1 x2 hle hsum]
    exact first_eq x3 x4 _ _ (real_row x1 x2 h1 h2 s) h3 j
  rw [kept_of_bits, Ideal.div_coe (by norm_num), one_div,
    sum_slots (counts x0 b) 409 (by rw [upTo_eight, hsum b]; omega) fun s => layers x5 x6 x7 x8 (firstSum x3 x4 (queryRef x0 x1 x2 b) (rowOf x1 x2 s)) d]
  refine congrArg (fun y : EReal => y * _) (Finset.sum_congr rfl fun s _ => ?_)
  rw [chosen_eq x0 hle, f s]

end Cert.Proof.Finishing

end
-- ==== Proof.Alike.lean ====
/-
  What the precondition of the whole kernel says of its arguments.
-/
module

public import proofs.«01_k».proof.Pre_alike
public import proofs.«01_k».proof.Proof.RefScore
public import proofs.«01_k».proof.Proof.FinPre
public import proofs.«01_k».proof.Proof.Range

@[expose] public section

set_option maxRecDepth 65536
set_option synthInstance.maxSize 4096

noncomputable section

namespace Cert.Proof.Whole

open Idealize.ShloMosaic
open Idealize.ShloMosaic.TcCoe

open Cert.Pre_alike
open Cert.Proof.Sparsity (score logit six_of_bits logistic_host)
open Cert.Proof.Finishing (real_of_bits)

/-- The shapes of the precondition fit. -/
instance alikeFacts : Cert.Pre_alike.Facts where
  transposes_S128x256_S256x128_1_0 := by decide
  bcast_S128_S1x128_1 := by decide
  bcast_S1x128_S6x128_0_1 := by decide
  bcast_S_S6x128 := by decide
  transposes_S1x128_S128x1_1_0 := by decide
  bcast_S1_S1x1_1 := by decide
  bcast_S1x1_S6x1_0_1 := by decide
  bcast_S_S6x1 := by decide
  shapeCasts_S6x1_S6 := by decide
  bcast_S6_S6x1_0 := by decide
  bcast_S6_S1x6_1 := by decide
  bcast_S6x1_S6x6_0_1 := by decide
  bcast_S1x6_S6x6_0_1 := by decide
  bcast_S6x256_S6x1x256_0_2 := by decide
  bcast_S6x256_S1x6x256_1_2 := by decide
  bcast_S6x1x256_S6x6x256_0_1_2 := by decide
  bcast_S1x6x256_S6x6x256_0_1_2 := by decide
  reducesTo_S6x6x256_S6x6_d2 := by decide
  h_S_ := by decide
  bcast_S_S64x4096 := by decide
  reducesTo_S64x4096_S_d0_1 := by decide
  bcast_S_S6x256 := by decide
  reducesTo_S6x256_S_d0_1 := by decide
  bcast_S_S8x768 := by decide
  reducesTo_S8x768_S_d0_1 := by decide
  reducesTo_S6x6_S_d0_1 := by decide
  dot_S6x256_S256x128_S6x128_1_0_0_1_n_n_wf := by decide
  dot_S6x128_S128x1_S6x1_1_0_0_1_n_n_wf := by decide

open Cert.Pre_alike.Facts

theorem ori_iff (a b : BitVec 1) : IntOp.ori a b = 1#1 ↔ a = 1#1 ∨ b = 1#1 := by revert a b; decide
theorem andi_both (a b : BitVec 1) : IntOp.andi a b = 1#1 ↔ a = 1#1 ∧ b = 1#1 := by revert a b; decide
theorem same_iff (x y : EReal) : (FloatOps.cmpf (F := Ideal) (φ := .f32) .oeq x y) = 1#1 ↔ x = y := by
  show BitVec.ofBool (decide (x = y)) = 1#1 ↔ _
  by_cases h : x = y <;> simp [h]
theorem other_iff (x y : EReal) : (FloatOps.cmpf (F := Ideal) (φ := .f32) .une x y) = 1#1 ↔ x ≠ y := by
  show BitVec.ofBool (decide (x ≠ y)) = 1#1 ↔ _
  by_cases h : x = y <;> simp [h]

/-- The scores the precondition compares. -/
def scoresP (x1 : FVec Ideal S6x256 .f32) (x2 : FVec Ideal S128x256 .f32) (x3 : FVec Ideal S128 .f32) (x4 : FVec Ideal S1x128 .f32) (x5 : FVec Ideal S1 .f32) : FVec Ideal S6 .f32 :=
  shapeCast S6 (Host.divf (broadcastInDim S6x1 ![] bcast_S_S6x1 (constant S_ .f32 0x3F800000#32)) (addf (broadcastInDim S6x1 ![] bcast_S_S6x1 (constant S_ .f32 0x3F800000#32)) (Host.exp (Host.negf
    (addf (Host.dotGeneral dot_S6x128_S128x1_S6x1_1_0_0_1_n_n none (fn_relu (F := Ideal) (addf (Host.dotGeneral dot_S6x256_S256x128_S6x128_1_0_0_1_n_n none x1 (transpose S256x128 [1, 0] x2 transposes_S128x256_S256x128_1_0))
      (broadcastInDim S6x128 ![0, 1] bcast_S1x128_S6x128_0_1 (broadcastInDim S1x128 ![1] bcast_S128_S1x128_1 x3)))) (transpose S128x1 [1, 0] x4 transposes_S1x128_S128x1_1_0))
      (broadcastInDim S6x1 ![0, 1] bcast_S1x1_S6x1_0_1 (broadcastInDim S1x1 ![1] bcast_S1_S1x1_1 x5))))))) shapeCasts_S6x1_S6

/-- Each is the score of the table's row. -/
theorem scoresP_apply (x1 : FVec Ideal S6x256 .f32) (x2 : FVec Ideal S128x256 .f32) (x3 : FVec Ideal S128 .f32) (x4 : FVec Ideal S1x128 .f32) (x5 : FVec Ideal S1 .f32) (i : Fin 6) :
    scoresP x1 x2 x3 x4 x5 (ix1 i) = score x1 x2 x3 x4 x5 i := by
  unfold scoresP score logit fn_relu
  simp only [pointwise]
  simp only [zero_add]
  rfl

/-- The precondition: the tokens are below six, the table and the first weights are real, and rows of one score are one row. -/
theorem alike_split (x0 : IVec S64x4096 32) (x1 : FVec Ideal S6x256 .f32) (x2 : FVec Ideal S128x256 .f32) (x3 : FVec Ideal S128 .f32) (x4 : FVec Ideal S1x128 .f32) (x5 : FVec Ideal S1 .f32) (x6 : FVec Ideal S8x768 .f32) (x7 : FVec Ideal S8 .f32) (x8 : FVec Ideal S8x8 .f32) (x9 : FVec Ideal S8 .f32) (x10 : FVec Ideal S256x8 .f32) (x11 : FVec Ideal S256 .f32) (x12 : FVec Ideal S128x256 .f32) (x13 : FVec Ideal S128 .f32) (x14 : FVec Ideal S1x128 .f32) (x15 : FVec Ideal S1 .f32)
    (h : Cert.Pre_alike.fn (F := Ideal) x0 x1 x2 x3 x4 x5 x6 x7 x8 x9 x10 x11 x12 x13 x14 x15 = fun _ => 1#1) :
    (∀ j, (x0 j : BitVec 32).toNat < 6) ∧ (∀ i, ∃ r : ℝ, x1 i = (r : EReal)) ∧ (∀ i, ∃ r : ℝ, x6 i = (r : EReal))
      ∧ ∀ i j : Fin 6, score x1 x2 x3 x4 x5 i = score x1 x2 x3 x4 x5 j → ∀ d : Fin 256, x1 (ix2 i d) = x1 (ix2 j d) := by
  haveI : Subsingleton S_.Idx := ⟨fun a b => funext fun i => i.elim0⟩
  have e := congrFun h (Shape.Idx.first h_S_)
  unfold Cert.Pre_alike.fn Cert.Pre_alike.fn_part1 Cert.Pre_alike.fn_part2 at e
  obtain ⟨e, eP⟩ := (andi_both _ _).mp e
  obtain ⟨e, eW⟩ := (andi_both _ _).mp e
  obtain ⟨eX, eT⟩ := (andi_both _ _).mp e
  refine ⟨fun j => ?_, fun i => real_of_bits _ (Host.reduce_andi_all _ _ _ _ _ eT i), fun i => real_of_bits _ (Host.reduce_andi_all _ _ _ _ _ eW i), fun i j hij d => ?_⟩
  · obtain ⟨k0, k1⟩ := (andi_both _ _).mp (Host.reduce_andi_all _ _ _ _ _ eX j)
    exact six_of_bits _ k0 k1
  · have k := Host.reduce_andi_all _ _ _ _ _ eP (ix2 i j)
    rcases (ori_iff _ _).mp k with k | k
    · refine absurd hij ?_
      have k' : (FloatOps.cmpf (F := Ideal) (φ := .f32) .une (scoresP x1 x2 x3 x4 x5 (ix1 i)) (scoresP x1 x2 x3 x4 x5 (ix1 j))) = 1#1 := by
        refine Eq.trans ?_ k
        show FloatOps.cmpf (F := Ideal) (φ := .f32) .une _ _ = FloatOps.cmpf (F := Ideal) (φ := .f32) .une
          ((broadcastInDim S6x6 ![0, 1] bcast_S6x1_S6x6_0_1 (broadcastInDim S6x1 ![0] bcast_S6_S6x1_0 (scoresP x1 x2 x3 x4 x5))) (ix2 i j))
          ((broadcastInDim S6x6 ![0, 1] bcast_S1x6_S6x6_0_1 (broadcastInDim S1x6 ![1] bcast_S6_S1x6_1 (scoresP x1 x2 x3 x4 x5))) (ix2 i j))
        generalize scoresP x1 x2 x3 x4 x5 = y
        simp only [pointwise]
        rfl
      rw [other_iff, scoresP_apply, scoresP_apply] at k'
      exact k'
    · have k' := Host.reduce_andi_eq_one _ _ _ _ _ k (ix3 i j d) (funext fun a => by fin_cases a <;> rfl)
      refine (same_iff _ _).mp (Eq.trans ?_ k')
      show FloatOps.cmpf (F := Ideal) (φ := .f32) .oeq _ _ = FloatOps.cmpf (F := Ideal) (φ := .f32) .oeq
        ((broadcastInDim S6x6x256 ![0, 1, 2] bcast_S6x1x256_S6x6x256_0_1_2 (broadcastInDim S6x1x256 ![0, 2] bcast_S6x256_S6x1x256_0_2 x1)) (ix3 i j d))
        ((broadcastInDim S6x6x256 ![0, 1, 2] bcast_S1x6x256_S6x6x256_0_1_2 (broadcastInDim S1x6x256 ![1, 2] bcast_S6x256_S1x6x256_1_2 x1)) (ix3 i j d))
      simp only [pointwise]
      rfl

end Cert.Proof.Whole

end
-- ==== Proof.Table.lean ====
/-
  The order table: row `s` marks the first vocabulary row whose score has slot `s`.
-/
module

public import proofs.«01_k».proof.Proof.Order

@[expose] public section

set_option maxRecDepth 65536

noncomputable section

namespace Cert.Proof.Sparsity

open Cert.KernelIdeal Cert.KernelIdeal.Gen
open Idealize.ShloMosaic
open Idealize.ShloMosaic.TcCoe

section

variable {F : FTy → Type} [FloatOps F] [Named F] [∀ e, Nonempty (Elt F e)]
variable (V : (c : Dev nD) → (b : Ref sig .tc) → Buf (Elt F) ((c : Thread nD τ).loc b))

/-! ## The array after the call -/

theorem blk_emb7 (j : S8x8.Idx) : ((cfg0.win 7).blk t0_0).view.emb j = j := by
  funext a; apply Fin.ext
  fin_cases a
  · show 0 * 8 + 1 * (j 0).val = (j 0).val; omega
  · show 0 * 8 + 1 * (j 1).val = (j 1).val; omega

/-- The order table over the column. -/
def ordVec (c : Dev nD) : FVec F S8x8 .f32 :=
  k0_pay3 (k0_pay9 (opT V c) (opW V c) (opB V c) (opU V c) (opV V c)) (k0_pay10 (opT V c) (opW V c) (opB V c) (opU V c) (opV V c)) (iota .tc S8x8 32 [0] iota_S8x8_d0_w32) k0_pay11
    (k0_pay12 (opT V c) (opW V c) (opB V c) (opU V c) (opV V c)) (k0_pay13 (F := F)) (k0_pay14 (F := F))

theorem scored7 (c : Dev nD) : (scored V c).2.2.1 = ordVec V c := by
  unfold scored scorerRun
  dsimp only
  unfold scorerRun.sl.H7_1
  rw [load0, load1, load2, load3, load4]
  refine (View.read_whole (Val := Elt F) cc0_stg7_0 _).symm.trans ?_
  exact View.read_writes_full (Val := Elt F) (View.whole cc0_stg7_0) _ inb_S8x8_S8x8_0_0 _ []

/-- After the call the order table's array is the table. -/
theorem ordOf_eq (c : Dev nD) : ordOf V c = ordVec V c := by
  unfold ordOf
  rw [show cfg0.N = ((0 : Fin 1) : Fin cfg0.N).val + 1 from rfl, (dat V c).arrAt_succ 7 (0 : Fin 1)]
  rw [show (cfg0.win 7).flush (0 : Fin 1) = true from by decide, if_pos rfl]
  funext j
  have h := congrFun (View.read_write_univ (Val := Elt F) (v := ((cfg0.win 7).blk t0_0).view) ((dat V c).arrAt 7 0) ((dat V c).flushed 7 t0_0)) j
  exact (congrArg _ (blk_emb7 j).symm).trans (h.trans (congrFun (scored7 V c) j))

end

/-! ## The entries of the table -/

variable (V : (c : Dev nD) → (b : Ref sig .tc) → Buf (Elt Ideal) ((c : Thread nD τ).loc b)) (c : Dev nD)

/-- Row `v` is the first of its score. -/
def Leads (v : Fin 8) : Prop := ∀ k : Fin 8, ¬ (sc V c k = sc V c v ∧ k.val < v.val ∧ k.val < 6)

theorem leads_ideal (i v : Fin 8) : (FloatOps.cmpf (F := Ideal) (φ := .f32) .ogt
    (k0_pay1 (k0_pay12 (opT V c) (opW V c) (opB V c) (opU V c) (opV V c)) (k0_pay13 (F := Ideal)) (k0_pay14 (F := Ideal)) (ix2 i v)) (0 : EReal) : BitVec 1) = 1#1 ↔ Leads V c v := by
  classical
  rw [first_apply, bitVal_ideal (Leads V c v), ogt_iff]
  · by_cases h : Leads V c v <;> simp [h]
  · rw [zero_ideal, oeq_iff]
    show Ideal.reduceAdd reduces_S8x8_S8 _ (ix1 v) = 0 ↔ _
    rw [row_sum, Finset.sum_congr rfl fun (k : Fin 8) _ => eqlow_apply V c v k, sum_indicator,
      Nat.cast_eq_zero, Finset.card_eq_zero, Finset.filter_eq_empty_iff]
    exact ⟨fun h k => h (Finset.mem_univ k), fun h k _ => h k⟩

theorem nat_table : ∀ s : Fin 8, (FloatOps.sitofp (F := Ideal) .f32 (BitVec.ofNat 32 s.val) : EReal) = ((s.val : ℕ) : EReal) := by
  intro s
  show (((BitVec.ofNat 32 s.val).toInt : ℝ) : EReal) = _
  rw [show (BitVec.ofNat 32 s.val).toInt = (s.val : ℤ) from by revert s; decide, Int.cast_natCast]
  rfl

open Classical in
theorem ord_ideal (s v : Fin 8) : ordVec V c (ix2 s v) = (if (aboves V c v).card = s.val ∧ Leads V c v ∧ v.val < 6 then 1 else 0 : EReal) := by
  refine bitVal_ideal _ _ ?_
  refine Eq.to_iff (congrArg (· = 1#1) (show _ = IntOp.andi (IntOp.andi _ _) (k0_pay11 (ix2 s v) : BitVec 1) from rfl)) |>.trans ?_
  rw [andi_iff, andi_iff, pay11_apply]
  rw [and_assoc]
  refine and_congr ?_ (and_congr_left fun _ => ?_)
  · have e : FloatOps.cmpf (F := Ideal) (φ := .f32) .oeq (k0_pay2 (k0_pay9 (opT V c) (opW V c) (opB V c) (opU V c) (opV V c)) (k0_pay10 (opT V c) (opW V c) (opB V c) (opU V c) (opV V c)) k0_pay11
        (k0_pay12 (opT V c) (opW V c) (opB V c) (opU V c) (opV V c)) (k0_pay13 (F := Ideal)) (k0_pay14 (F := Ideal)) (ix2 0 v)) (FloatOps.sitofp (F := Ideal) .f32 (BitVec.ofNat 32 s.val)) = 1#1
        ↔ (aboves V c v).card = s.val := by
      rw [count_ideal, oeq_iff, nat_table]
      exact_mod_cast Iff.rfl
    refine Iff.trans (Eq.to_iff (congrArg (· = 1#1) ?_)) e
    refine congrArg₂ (fun a b : EReal => (FloatOps.cmpf (F := Ideal) (φ := .f32) .oeq a b : BitVec 1)) ?_ ?_
    · simp only [pointwise]
      rfl
    · exact congrArg (fun n : ℕ => (FloatOps.sitofp (F := Ideal) .f32 (BitVec.ofNat 32 n) : EReal)) (show 0 * 8 + s.val = s.val by omega)
  · exact (iff_of_eq (congrArg (fun z : EReal => (FloatOps.cmpf (F := Ideal) (φ := .f32) .ogt _ z : BitVec 1) = 1#1) zero_ideal)).trans (leads_ideal V c s v)

/-- The first row of a score. -/
theorem leader (u : Fin 8) (hu : u.val < 6) : ∃ v : Fin 8, sc V c v = sc V c u ∧ v.val < 6 ∧ Leads V c v := by
  classical
  obtain ⟨j, hj, hmin⟩ := Finset.exists_min_image (Finset.univ.filter fun j : Fin 8 => sc V c j = sc V c u ∧ j.val < 6) (fun j => j.val)
    ⟨u, by simp [hu]⟩
  simp only [Finset.mem_filter, Finset.mem_univ, true_and] at hj hmin
  refine ⟨j, hj.1, hj.2, fun k hk => ?_⟩
  have := hmin k ⟨hk.1.trans hj.1, hk.2.2⟩
  omega

/-- The row of the order table at the slot of `u` picks one row of `u`'s score. -/
theorem pick (u : Fin 8) (hu : u.val < 6) (s : Fin 8) (hs : s.val = (aboves V c u).card) (g : Fin 6 → EReal)
    (hg : ∀ v : Fin 6, sc V c (v.castLE (by omega)) = sc V c u → g v = g ⟨u.val, hu⟩) :
    (∑ v : Fin 6, ordVec V c (ix2 s (v.castLE (by omega))) * g v) = g ⟨u.val, hu⟩ := by
  classical
  obtain ⟨w, hw, hw6, hl⟩ := leader V c u hu
  rw [Finset.sum_eq_single (⟨w.val, hw6⟩ : Fin 6)]
  · rw [ord_ideal, if_pos, one_mul]
    · exact hg _ hw
    · exact ⟨(congrArg Finset.card (aboves_eq V c hw)).trans hs.symm, hl, hw6⟩
  · intro v _ hv
    rw [ord_ideal, if_neg, zero_mul]
    rintro ⟨h1, h2, h3⟩
    rw [hs] at h1
    have hvu : sc V c (v.castLE (by omega)) = sc V c u := by
      have := (slot_eq_iff V c (u := v.castLE (by omega)) (v := u) h3 hu).mp (by rw [slotN, slotN, h1])
      exact this
    rcases lt_trichotomy v.val w.val with h | h | h
    · exact hl _ ⟨hvu.trans hw.symm, h, h3⟩
    · exact hv (Fin.ext h)
    · exact h2 w ⟨hw.trans hvu.symm, h, hw6⟩
  · intro h; exact absurd (Finset.mem_univ _) h

/-- Every entry of the table is real. -/
theorem ord_real (i : S8x8.Idx) : ∃ r : ℝ, ordVec V c i = (r : EReal) := by
  classical
  rw [eq_ix2 i]
  revert i
  suffices key : ∀ s v : Fin 8, ∃ r : ℝ, ordVec V c (ix2 s v) = (r : EReal) from fun i => key _ _
  intro s v
  rw [ord_ideal]
  split
  · exact ⟨1, by norm_num⟩
  · exact ⟨0, by norm_num⟩

/-- A row of the table has a slot below eight. -/
theorem slot_small (u : Fin 8) (hu : u.val < 6) : (aboves V c u).card < 8 := by
  have : (aboves V c u).card ≤ (Finset.univ.erase u).card := Finset.card_le_card fun j hj => by
    unfold aboves at hj
    simp only [Finset.mem_filter, Finset.mem_univ, true_and] at hj
    refine Finset.mem_erase.mpr ⟨fun e => ?_, Finset.mem_univ _⟩
    subst e
    exact lt_irrefl _ hj.1.1
  rw [Finset.card_erase_of_mem (Finset.mem_univ _), Finset.card_univ, Fintype.card_fin] at this
  omega

end Cert.Proof.Sparsity

end
-- ==== Proof.Tally.lean ====
/-
  The counts of the slots against the ranks of the positions.
-/
module

public import proofs.«01_k».proof.Proof.Counting
public import proofs.«01_k».proof.Proof.FinCount

@[expose] public section

set_option maxRecDepth 65536

noncomputable section

namespace Cert.Proof.Whole

open Cert.Proof.Sparsity (pre base rank base_le rank_lt pre_succ)
open Cert.Proof.Finishing (upTo upTo_succ upTo_zero upTo_eight slotOf slotOf_iff)

variable (w : ℕ → ℕ) (hw : ∀ p, p < 4096 → w p < 8) (c : Fin 8 → ℕ) (hc : ∀ s : Fin 8, c s = pre w 4096 s.val)

include hc in
/-- The running ends of the counts are where the slots begin. -/
theorem upTo_base : ∀ s, s ≤ 8 → upTo c s = base w 4096 s := by
  intro s
  induction s with
  | zero => intro _; rw [upTo_zero]; simp [base]
  | succ s ih =>
    intro hs
    have e := upTo_succ c ⟨s, by omega⟩
    rw [show ((⟨s, by omega⟩ : Fin 8) : ℕ) = s from rfl, ih (by omega), hc] at e
    rw [e, base, base, Finset.sum_range_succ]

include hw hc in
/-- The counts add up to all the positions. -/
theorem tally_sum : ∑ s, c s = 4096 := by
  rw [← upTo_eight, upTo_base w c hc 8 le_rfl, base_le, Finset.filter_true_of_mem fun q hq => hw q (Finset.mem_range.mp hq), Finset.card_range]

/-- More positions, no smaller count. -/
theorem pre_mono {n k : ℕ} (h : n ≤ k) (l : ℕ) : pre w n l ≤ pre w k l :=
  Finset.card_le_card (Finset.filter_subset_filter _ (Finset.range_mono h))

include hw hc in
/-- The slot the counts give a position's rank is the position's slot. -/
theorem slot_of_rank (p : ℕ) (hp : p < 4096) : slotOf c (rank w 4096 p) = ⟨w p, hw p hp⟩ := by
  refine (slotOf_iff c _ (by rw [upTo_eight, tally_sum w hw c hc]; exact rank_lt w 4096 p hp) _).mpr ⟨?_, ?_⟩
  · rw [upTo_base w c hc _ (le_of_lt (hw p hp))]
    exact Nat.le_add_right _ _
  · rw [upTo_succ, upTo_base w c hc _ (le_of_lt (hw p hp)), hc]
    have h1 := pre_succ w p (w p)
    rw [if_pos rfl] at h1
    have h2 := pre_mono w (show p + 1 ≤ 4096 from hp) (w p)
    show base w 4096 (w p) + pre w p (w p) < base w 4096 (w p) + pre w 4096 (w p)
    omega

include hc in
/-- A sum over the positions of a function of the slot is a sum over the slots, each as often as its count says. -/
theorem sum_positions (f : Fin 8 → EReal) : (∑ p : Fin 4096, f ⟨w p.val, hw p.val p.isLt⟩) = ∑ s : Fin 8, (c s : EReal) * f s := by
  rw [← Finset.sum_fiberwise' (s := Finset.univ) (g := fun p : Fin 4096 => (⟨w p.val, hw p.val p.isLt⟩ : Fin 8)) (f := f)]
  refine Finset.sum_congr rfl fun s _ => ?_
  rw [Finset.sum_const, EReal.nsmul_eq_mul, hc, pre]
  refine congrArg (fun n : ℕ => (n : EReal) * f s) ?_
  rw [← Finset.card_map Fin.valEmbedding]
  refine congrArg Finset.card (Finset.ext fun x => ?_)
  simp only [Finset.mem_map, Finset.mem_filter, Finset.mem_univ, true_and, Fin.valEmbedding_apply, Finset.mem_range]
  constructor
  · rintro ⟨r, hr, rfl⟩
    exact ⟨r.isLt, congrArg Fin.val hr⟩
  · rintro ⟨hx, h⟩
    exact ⟨⟨x, hx⟩, Fin.ext h, rfl⟩

end Cert.Proof.Whole

end
-- ==== Proof.OutKer.lean ====
/-
  The finishing payloads of the kernel are those of the finishing call alone.
-/
module

public import proofs.«01_k».proof.Proof.FinKer
public import proofs.«01_k».proof.Proof.Finished

@[expose] public section

set_option maxRecDepth 65536

noncomputable section

namespace Cert.Proof.Whole

open Idealize.ShloMosaic
open Idealize.ShloMosaic.TcCoe

open Cert.KernelIdeal Cert.KernelIdeal.Gen

/-! ## One payload and the other -/

theorem cast_same {s : Shape} {α : Type} (v : s.Idx → α) (h : s.ShapeCasts s) : shapeCast s v h = v := by simp only [pointwise]

theorem counts_same (x0 : IVec S64x16 32) : k2_pay2 (F := Ideal) x0 = Cert.FinishIdeal.Gen.k0_pay2 (F := Ideal) x0 := by
  unfold k2_pay2 Cert.FinishIdeal.Gen.k0_pay2
  rw [cast_same]

theorem chosen_same (x0 : IVec S64x16 32) : k2_pay3 (F := Ideal) x0 = Cert.FinishIdeal.Gen.k0_pay3 (F := Ideal) x0 := by
  unfold k2_pay3 Cert.FinishIdeal.Gen.k0_pay3
  rw [counts_same]
  rfl

theorem first_same (x0 : IVec S64x16 32) (x1 : FVec Ideal S8x8 .f32) (x2 : FVec Ideal S6x256 .f32) (x3 : FVec Ideal S8x768 .f32) (x4 : FVec Ideal S8 .f32) :
    maximumf (k2_pay4 (F := Ideal) x3 x0 x1 x2 x4) (broadcast S64x8x8 (Scalar.ofBits .f32 0x00000000#32)) = Cert.FinishIdeal.Gen.k0_pay4 (F := Ideal) x3 x0 x1 x2 x4 := by
  unfold k2_pay4 Cert.FinishIdeal.Gen.k0_pay4
  rw [cast_same, counts_same]
  rfl

/-- The two tables of named constants are one. -/
theorem named_same : Named.named (F := Ideal) Cert.KernelIdeal.κ "k" (φ := .f32) 0x3B203C17#32 = Named.named (F := Ideal) Cert.FinishIdeal.κ "k" (φ := .f32) 0x3B203C17#32 :=
  Eq.trans (b := (((409 : ℝ)⁻¹ : ℝ) : EReal)) (IdealRules.named_const.ideal_named_scalar _ _ _ _ rfl) Cert.Proof.Finishing.named_k.symm

theorem logit_same (y : FVec Ideal S64x8 .f32) (z : FVec Ideal S64x8x8 .f32) (c : Ideal .f32) (x5 : FVec Ideal S8x8 .f32) (x6 : FVec Ideal S8 .f32) (x7 : FVec Ideal S256x8 .f32)
    (x8 : FVec Ideal S256 .f32) (x9 : FVec Ideal S128x256 .f32) (x10 : FVec Ideal S128 .f32) (x11 : FVec Ideal S1x128 .f32) (x12 : FVec Ideal S1 .f32) :
    addf (k2_pay5 (F := Ideal) y z c x5 x6 x7 x8 x9 x10 x11) (k2_pay6 (F := Ideal) x12)
      = Cert.FinishIdeal.Gen.k0_pay5 (F := Ideal) y (maximumf z (broadcast S64x8x8 c)) x5 x6 x7 x8 x9 x10 x11 x12 := by
  unfold k2_pay5 k2_pay6 Cert.FinishIdeal.Gen.k0_pay5
  rw [named_same]
  rfl

/-- The column the kernel's last call leaves is that of the finishing call alone. -/
theorem column_same (x0 : IVec S64x16 32) (x1 : FVec Ideal S8x8 .f32) (x2 : FVec Ideal S6x256 .f32) (x3 : FVec Ideal S8x768 .f32) (x4 : FVec Ideal S8 .f32) (x5 : FVec Ideal S8x8 .f32)
    (x6 : FVec Ideal S8 .f32) (x7 : FVec Ideal S256x8 .f32) (x8 : FVec Ideal S256 .f32) (x9 : FVec Ideal S128x256 .f32) (x10 : FVec Ideal S128 .f32) (x11 : FVec Ideal S1x128 .f32) (x12 : FVec Ideal S1 .f32) :
    Sparsity.column (F := Ideal) x0 x1 x2 x3 x4 x5 x6 x7 x8 x9 x10 x11 x12 = Cert.FinishIdeal.Value.G13 (F := Ideal) x0 x1 x2 x3 x4 x5 x6 x7 x8 x9 x10 x11 x12 := by
  have e : addf (k2_pay5 (F := Ideal) (k2_pay3 x0) (k2_pay4 x3 x0 x1 x2 x4) (Scalar.ofBits .f32 0x00000000#32) x5 x6 x7 x8 x9 x10 x11) (k2_pay6 (F := Ideal) x12)
      = Cert.FinishIdeal.Gen.k0_pay5 (F := Ideal) (Cert.FinishIdeal.Gen.k0_pay3 x0) (Cert.FinishIdeal.Gen.k0_pay4 x3 x0 x1 x2 x4) x5 x6 x7 x8 x9 x10 x11 x12 := by
    rw [logit_same, first_same, chosen_same]
  unfold Sparsity.column Cert.FinishIdeal.Value.G13 k2_pay1 Cert.FinishIdeal.Gen.k0_pay1
  rw [e]

end Cert.Proof.Whole

end
-- ==== Proof.OutRef.lean ====
/-
  The reference's first result, batch row by batch row, in terms of the rows of its items.
-/
module

public import proofs.«01_k».proof.Proof.RefScore
public import proofs.«01_k».proof.Proof.FinRef

@[expose] public section

set_option maxRecDepth 65536

noncomputable section

namespace Cert.Proof.Whole

open Idealize.ShloMosaic
open Idealize.ShloMosaic.TcCoe

open Cert.ReferenceIdeal Cert.ReferenceIdeal.Gen Cert.ReferenceIdeal.Read
open Cert.Proof.Finishing (layers classify firstSum zero_read one_read sum_768)

variable (x0 : IVec S64x4096 32) (x1 : (⟨2, ![6, 256]⟩ : Shape).Idx → EReal) (x2 : (⟨2, ![128, 256]⟩ : Shape).Idx → EReal) (x3 : (⟨1, ![128]⟩ : Shape).Idx → EReal)
  (x4 : (⟨2, ![1, 128]⟩ : Shape).Idx → EReal) (x5 : (⟨1, ![1]⟩ : Shape).Idx → EReal)

/-! ## The reference's lookup of the selected items -/

theorem gather_item (x : (⟨3, ![64, 4096, 256]⟩ : Shape).Idx → EReal) (idx : IVec S64x409x1 32) (b : Fin 64) (r : Fin 409) (d : Fin 256) (p : Fin 4096)
    (hp : (idx (ix3 b r 0) : BitVec 32).toNat = p.val) :
    Host.gather gather_S64x4096x256_S64x409x1_S64x409x256_2_1_0_0_1_2_11256 x idx (ix3 b r d) = x (ix3 b p d) := by
  unfold Host.gather
  refine congrArg x (funext fun a => Fin.ext ?_)
  generalize hG : gather_S64x4096x256_S64x409x1_S64x409x256_2_1_0_0_1_2_11256 = G
  show G.start (ix3 b r d) idx a + G.batchCoord (ix3 b r d) a + G.offCoord (ix3 b r d) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  subst hG
  rcases h01 with rfl | rfl | rfl
  · unfold GatherDims.start
    rw [dif_neg (by decide), GatherDims.offCoord_eq_zero _ _ _ (fun h => ((GatherDims.mem_sKept _ _).mp h).2 (List.mem_singleton.mpr rfl))]
    show 0 + b.val + 0 = b.val
    omega
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S64x4096x256_S64x409x1_S64x409x256_2_1_0_0_1_2_11256.startIndexMap from List.mem_singleton.mpr rfl)]
    have hsi : gather_S64x4096x256_S64x409x1_S64x409x256_2_1_0_0_1_2_11256.siIdx (ix3 b r d) ⟨List.idxOf (1 : Fin 3) gather_S64x4096x256_S64x409x1_S64x409x256_2_1_0_0_1_2_11256.startIndexMap,
        List.idxOf_lt_length_iff.2 (List.mem_singleton.mpr rfl)⟩ = ix3 b r 0 := by
      funext c; refine Fin.ext ?_
      match c with
      | ⟨0, _⟩ => rfl
      | ⟨1, _⟩ => rfl
      | ⟨2, _⟩ => rfl
    rw [hsi, StableHlo.Predicate.toInt_eq_toNat_of_lt (by omega), hp]
    show min ((p.val : Int).toNat) (4096 - 1) = p.val
    omega
  · rw [GatherDims.batchCoord_eq_zero _ _ _ (by decide)]
    unfold GatherDims.start
    rw [dif_neg (by decide)]
    show 0 + 0 + d.val = d.val
    omega

section

variable (hi : ∀ j, (val_main_indices (F := Ideal) x0 x1 x2 x3 x4 x5 j : BitVec 32).toNat < 4096)
include hi

theorem item_wrapped (b : Fin 64) (r : Fin 409) (k : Fin 1) : val_main_call2_v4 (F := Ideal) x0 x1 x2 x3 x4 x5 (ix3 b r k) = val_main_indices (F := Ideal) x0 x1 x2 x3 x4 x5 (ix2 b r) := by
  have e : val_main_v19 (F := Ideal) x0 x1 x2 x3 x4 x5 (ix3 b r k) = val_main_indices (F := Ideal) x0 x1 x2 x3 x4 x5 (ix2 b r) := by
    rw [val_main_v19_apply]
    exact congrArg (val_main_indices (F := Ideal) x0 x1 x2 x3 x4 x5) (funext fun a => by fin_cases a <;> rfl)
  rw [val_main_call2_v4_apply, val_main_call2_v1_apply, val_main_call2_v0_apply, val_main_call2_c_apply, e]
  have l := hi (ix2 b r)
  have h : IntOp.cmpi .slt (val_main_indices (F := Ideal) x0 x1 x2 x3 x4 x5 (ix2 b r)) 0#32 = 0#1 := by
    refine (BitVec.eq_zero_or_eq_one _).resolve_right fun e => ?_
    have := (StableHlo.Predicate.slt_iff_toNat (by omega) (by decide)).mp e
    exact absurd this (by simp)
  rw [h]; rfl

theorem item_inside (i : S64x409x1.Idx) : val_main_call2_v10 (F := Ideal) x0 x1 x2 x3 x4 x5 i = 1#1 := by
  have e : val_main_call2_v4 (F := Ideal) x0 x1 x2 x3 x4 x5 i = val_main_indices (F := Ideal) x0 x1 x2 x3 x4 x5 (ix2 (i 0) (i 1)) := by
    rw [eq_ix3 i]; exact item_wrapped x0 x1 x2 x3 x4 x5 hi _ _ _
  have l := hi (ix2 (i 0) (i 1))
  rw [val_main_call2_v10_apply, val_main_call2_v6_apply, val_main_call2_v9_apply, e, val_main_call2_v5_apply, val_main_call2_v8_apply, val_main_call2_v7_apply,
    val_main_call2_c_2_apply, val_main_call2_c_1_apply,
    (StableHlo.Predicate.sge_iff_toNat (by omega) (by decide)).mpr (by simp), (StableHlo.Predicate.sle_iff_toNat (by omega) (by decide)).mpr (by simp; omega)]
  rfl

/-- The item of rank `r` is the item at the position the indices name. -/
theorem item_taken (b : Fin 64) (r : Fin 409) (d : Fin 256) :
    val_main_v20 (F := Ideal) x0 x1 x2 x3 x4 x5 (ix3 b r d)
      = val_main_v0 (F := Ideal) x0 x1 (ix3 b ⟨(val_main_indices (F := Ideal) x0 x1 x2 x3 x4 x5 (ix2 b r) : BitVec 32).toNat, hi _⟩ d) := by
  have h11 : ∀ j, val_main_call2_v11 (F := Ideal) x0 x1 x2 x3 x4 x5 j = 1#1 := fun j => Host.reduce_andi_one _ _ _ _ _ rfl (item_inside x0 x1 x2 x3 x4 x5 hi)
  have sel : ∀ a b : EReal, Scalar.select (1#1) a b = a := fun _ _ => rfl
  have g : ∀ p : Fin 4096, (val_main_indices (F := Ideal) x0 x1 x2 x3 x4 x5 (ix2 b r) : BitVec 32).toNat = p.val →
      val_main_call2_v12 (F := Ideal) x0 x1 x2 x3 x4 x5 (ix3 b r d) = val_main_v0 (F := Ideal) x0 x1 (ix3 b p d) := by
    intro p hp
    have w := item_wrapped x0 x1 x2 x3 x4 x5 hi b r 0
    unfold val_main_call2_v12
    generalize val_main_call2_v4 (F := Ideal) x0 x1 x2 x3 x4 x5 = idx at w ⊢
    generalize val_main_v0 (F := Ideal) x0 x1 = y
    exact gather_item y idx b r d p ((congrArg BitVec.toNat w).trans hp)
  rw [val_main_v20_apply, val_main_call2_v13_apply, h11, g ⟨_, hi (ix2 b r)⟩ rfl]
  exact sel _ _

end

/-! ## The reference's result -/

/-- The reference's query of a batch row: the mean of its items. -/
def queryT (b : Fin 64) (d : Fin 256) : EReal :=
  Ideal.div (∑ p : Fin 4096, val_main_v0 (F := Ideal) x0 x1 (ix3 b p d)) (Ideal.ofBits .f32 0x45800000#32)

/-- The reference's item of rank `r`. -/
def itemT (b : Fin 64) (r : Fin 409) (d : Fin 256) : EReal := val_main_v20 (F := Ideal) x0 x1 x2 x3 x4 x5 (ix3 b r d)

theorem query_read (b : Fin 64) (d : Fin 256) : val_main_v23 (F := Ideal) x0 x1 (ix2 b d) = queryT x0 x1 b d := by
  rw [val_main_v23_apply, val_main_v22_apply, val_main_cst_2_apply, val_main_v21_apply, val_main_cst_1_apply, zero_read, zero_add]
  refine congrArg (fun y : EReal => Ideal.div y (Ideal.ofBits .f32 0x45800000#32)) (Finset.sum_congr rfl fun p _ => ?_)
  exact congrArg (val_main_v0 (F := Ideal) x0 x1) (funext fun a => by fin_cases a <;> rfl)

variable (x6 : (⟨2, ![8, 768]⟩ : Shape).Idx → EReal) (x7 : (⟨1, ![8]⟩ : Shape).Idx → EReal) (x8 : (⟨2, ![8, 8]⟩ : Shape).Idx → EReal) (x9 : (⟨1, ![8]⟩ : Shape).Idx → EReal)
  (x10 : (⟨2, ![256, 8]⟩ : Shape).Idx → EReal) (x11 : (⟨1, ![256]⟩ : Shape).Idx → EReal) (x12 : (⟨2, ![128, 256]⟩ : Shape).Idx → EReal) (x13 : (⟨1, ![128]⟩ : Shape).Idx → EReal)
  (x14 : (⟨2, ![1, 128]⟩ : Shape).Idx → EReal) (x15 : (⟨1, ![1]⟩ : Shape).Idx → EReal)

theorem spread_read (b : Fin 64) (r : Fin 409) (d : Fin 256) : val_main_v25 (F := Ideal) x0 x1 (ix3 b r d) = queryT x0 x1 b d := by
  rw [val_main_v25_apply, val_main_v24_apply, ← query_read x0 x1]
  exact congrArg (val_main_v23 (F := Ideal) x0 x1) (funext fun a => by fin_cases a <;> rfl)

theorem joined_0 (b : Fin 64) (r : Fin 409) (e : Fin 256) : val_main_v26 (F := Ideal) x0 x1 x2 x3 x4 x5 (ix3 b r (⟨e.val, by omega⟩ : Fin 768)) = queryT x0 x1 b e := by
  rw [← spread_read x0 x1 b r e]
  unfold val_main_v26
  generalize val_main_v25 (F := Ideal) x0 x1 = y
  generalize val_main_v20 (F := Ideal) x0 x1 x2 x3 x4 x5 = z
  simp only [pointwise]
  refine (dif_pos trivial).trans ?_
  refine congrArg y (funext fun a => ?_)
  fin_cases a <;> exact Fin.ext (by simp)

theorem joined_1 (b : Fin 64) (r : Fin 409) (e : Fin 256) :
    val_main_v26 (F := Ideal) x0 x1 x2 x3 x4 x5 (ix3 b r (⟨256 + e.val, by omega⟩ : Fin 768)) = itemT x0 x1 x2 x3 x4 x5 b r e := by
  unfold itemT
  unfold val_main_v26
  generalize val_main_v25 (F := Ideal) x0 x1 = y
  generalize val_main_v20 (F := Ideal) x0 x1 x2 x3 x4 x5 = z
  simp only [pointwise]
  refine (dif_neg (show ¬256 + e.val < 256 by omega)).trans ((dif_pos (show 256 + e.val - 256 < 256 by omega)).trans (congrArg z (funext fun a => ?_)))
  fin_cases a
  · exact Fin.ext (by simp)
  · exact Fin.ext (by simp)
  · exact Fin.ext (by show (if True then 256 + e.val - 256 else 256 + e.val) = e.val; rw [if_pos trivial]; omega)

theorem joined_2 (b : Fin 64) (r : Fin 409) (e : Fin 256) :
    val_main_v26 (F := Ideal) x0 x1 x2 x3 x4 x5 (ix3 b r (⟨512 + e.val, by omega⟩ : Fin 768)) = itemT x0 x1 x2 x3 x4 x5 b r e := by
  unfold itemT
  unfold val_main_v26
  generalize val_main_v25 (F := Ideal) x0 x1 = y
  generalize val_main_v20 (F := Ideal) x0 x1 x2 x3 x4 x5 = z
  simp only [pointwise]
  refine (dif_neg (show ¬512 + e.val < 256 by omega)).trans ((dif_neg (show ¬512 + e.val - 256 < 256 by omega)).trans (congrArg z (funext fun a => ?_)))
  fin_cases a
  · exact Fin.ext (by simp)
  · exact Fin.ext (by simp)
  · exact Fin.ext (by show (if True then 512 + e.val - 256 - 256 else 512 + e.val) = e.val; rw [if_pos trivial]; omega)

/-- The first layer's sums of the item of rank `r`, as the reference has them. -/
theorem first_read (b : Fin 64) (r : Fin 409) (j : Fin 8) :
    val_main_v31 (F := Ideal) x0 x1 x2 x3 x4 x5 x6 x7 (ix3 b r j) = firstSum x6 x7 (queryT x0 x1 b) (itemT x0 x1 x2 x3 x4 x5 b r) j := by
  rw [val_main_v31_apply, val_main_v28_apply, val_main_v30_apply, val_main_v29_apply]
  refine congrArg₂ (fun y z : EReal => y + z) ?_ (congrArg x7 (funext fun a => by fin_cases a; rfl))
  have w : ∀ k : Fin 768, (val_main_v27 (F := Ideal) x6) (ridx_main_v28 (ix3 b r j) k) = x6 (ix2 j k) := fun k => by
    rw [val_main_v27_apply]; exact congrArg x6 (funext fun a => by fin_cases a <;> rfl)
  have l : ∀ k : Fin 768, lidx_main_v28 (ix3 b r j) k = ix3 b r k := fun k => funext fun a => by fin_cases a <;> rfl
  refine (Finset.sum_congr rfl fun k _ => congrArg₂ (fun y z : EReal => y * z) (congrArg (val_main_v26 (F := Ideal) x0 x1 x2 x3 x4 x5) (l k)) (w k)).trans ?_
  refine (sum_768 _).trans ?_
  refine congrArg₂ (fun y z : EReal => y + z) (Finset.sum_congr rfl fun e _ => ?_) (congrArg₂ (fun y z : EReal => y + z) (Finset.sum_congr rfl fun e _ => ?_) (Finset.sum_congr rfl fun e _ => ?_))
  · exact congrArg (fun y : EReal => y * _) (joined_0 x0 x1 x2 x3 x4 x5 b r e)
  · exact congrArg (fun y : EReal => y * _) (joined_1 x0 x1 x2 x3 x4 x5 b r e)
  · exact congrArg (fun y : EReal => y * _) (joined_2 x0 x1 x2 x3 x4 x5 b r e)

theorem layers_read (b : Fin 64) (r : Fin 409) (d : Fin 256) :
    val_main_v43 (F := Ideal) x0 x1 x2 x3 x4 x5 x6 x7 x8 x9 x10 x11 (ix3 b r d)
      = layers x8 x9 x10 x11 (firstSum x6 x7 (queryT x0 x1 b) (itemT x0 x1 x2 x3 x4 x5 b r)) d := by
  rw [val_main_v43_apply, val_main_v40_apply, val_main_v42_apply, val_main_v41_apply]
  unfold layers
  refine congrArg₂ (fun y z : EReal => y + z) (Finset.sum_congr rfl fun k _ => congrArg₂ (fun y z : EReal => y * z) ?_ ?_) (congrArg x11 (funext fun a => by fin_cases a; rfl))
  · rw [val_main_v38_apply, val_main_v37_apply, val_main_v34_apply, val_main_v36_apply, val_main_v35_apply, val_main_call4_v0_apply, val_main_call4_cst_apply, zero_read]
    refine congrArg (fun y : EReal => max y 0) (congrArg₂ (fun y z : EReal => y + z) (Finset.sum_congr rfl fun j _ => congrArg₂ (fun y z : EReal => y * z) ?_ ?_)
      (congrArg x9 (funext fun a => by fin_cases a; rfl)))
    · rw [val_main_v32_apply, val_main_call3_v0_apply, val_main_call3_cst_apply, zero_read]
      refine congrArg (fun y : EReal => max y 0) ?_
      rw [← first_read x0 x1 x2 x3 x4 x5 x6 x7]
      exact congrArg (val_main_v31 (F := Ideal) x0 x1 x2 x3 x4 x5 x6 x7) (funext fun a => by fin_cases a <;> rfl)
    · rw [val_main_v33_apply]
      exact congrArg x8 (funext fun a => by fin_cases a <;> rfl)
  · rw [val_main_v39_apply]
    exact congrArg x10 (funext fun a => by fin_cases a <;> rfl)

/-- The reference's result of batch row `b`. -/
theorem reference_out (b : Fin 64) (k0 : Fin 1) :
    val_main_v63 (F := Ideal) x0 x1 x2 x3 x4 x5 x6 x7 x8 x9 x10 x11 x12 x13 x14 x15 (ix2 b k0)
      = classify x12 x13 x14 x15 fun d => Ideal.div (∑ r : Fin 409, layers x8 x9 x10 x11 (firstSum x6 x7 (queryT x0 x1 b) (itemT x0 x1 x2 x3 x4 x5 b r)) d)
          (Ideal.ofBits .f32 0x43CC8000#32) := by
  obtain rfl : k0 = 0 := Subsingleton.elim _ _
  rw [val_main_v63_apply, val_main_v62_apply, val_main_cst_6_apply, val_main_v61_apply, val_main_v60_apply, val_main_cst_5_apply, val_main_v59_apply, val_main_v58_apply, one_read]
  unfold classify
  refine congrArg (fun y : EReal => Ideal.div 1 (1 + Ideal.exp (-y))) ?_
  rw [val_main_v57_apply, val_main_v54_apply, val_main_v56_apply, val_main_v55_apply]
  refine congrArg₂ (fun y z : EReal => y + z) (Finset.sum_congr rfl fun k _ => congrArg₂ (fun y z : EReal => y * z) ?_ ?_) (congrArg x15 (funext fun a => by fin_cases a; rfl))
  · rw [val_main_v52_apply, val_main_v51_apply, val_main_v48_apply, val_main_v50_apply, val_main_v49_apply, val_main_call5_v0_apply, val_main_call5_cst_apply, zero_read]
    refine congrArg (fun y : EReal => max y 0) (congrArg₂ (fun y z : EReal => y + z) (Finset.sum_congr rfl fun d _ => congrArg₂ (fun y z : EReal => y * z) ?_ ?_)
      (congrArg x13 (funext fun a => by fin_cases a; rfl)))
    · rw [val_main_v46_apply, val_main_v45_apply, val_main_cst_4_apply, val_main_v44_apply, val_main_cst_3_apply, zero_read, zero_add]
      refine congrArg (fun y : EReal => Ideal.div y (Ideal.ofBits .f32 0x43CC8000#32)) (Finset.sum_congr rfl fun r _ => ?_)
      rw [← layers_read x0 x1 x2 x3 x4 x5 x6 x7 x8 x9 x10 x11]
      exact congrArg (val_main_v43 (F := Ideal) x0 x1 x2 x3 x4 x5 x6 x7 x8 x9 x10 x11) (funext fun a => by fin_cases a <;> rfl)
    · rw [val_main_v47_apply]
      exact congrArg x12 (funext fun a => by fin_cases a <;> rfl)
  · rw [val_main_v53_apply]
    exact congrArg x14 (funext fun a => by fin_cases a <;> rfl)

end Cert.Proof.Whole

end
-- ==== Proof.Out.lean ====
/-
  The kernel's first result is the reference's.
-/
module

public import proofs.«01_k».proof.Proof.Table
public import proofs.«01_k».proof.Proof.Values
public import proofs.«01_k».proof.Proof.Tally
public import proofs.«01_k».proof.Proof.OutKer
public import proofs.«01_k».proof.Proof.OutRef
public import proofs.«01_k».proof.Proof.FinEq

@[expose] public section

set_option maxRecDepth 65536

noncomputable section

namespace Cert.Proof.Whole

open Cert.KernelIdeal Cert.KernelIdeal.Gen
open Idealize.ShloMosaic
open Idealize.ShloMosaic.TcCoe
open Cert.Proof.Sparsity hiding rowOf
open Cert.Proof.Finishing (counts rowOf countK chosenK queryK firstK firstSum layers classify)

/-- The entry of a batch row's count. -/
theorem atC_eq (b : Fin 64) (p : Fin 16) : atC b p.val = ix2 b p := by
  funext a
  match a with
  | ⟨0, _⟩ => rfl
  | ⟨1, _⟩ => exact Fin.ext (Nat.mod_eq_of_lt p.isLt)

variable (m : (ℓ : Loc nD τ sig) → Buf (Elt Ideal) ℓ) (d : Dev nD)

/-- The slot of each position of a batch row. -/
abbrev slots (b : Fin 64) : ℕ → ℕ := slotOfPos (xOf m d) (sbOf m d) b

/-- The table of item rows. -/
abbrev rows : (⟨2, ![6, 256]⟩ : Shape).Idx → EReal := m (aLoc d main_arg1)

/-- The order table the scorer leaves. -/
abbrev order : (⟨2, ![8, 8]⟩ : Shape).Idx → EReal := ordOf (Vm m) d

/-- The score of a table row. -/
abbrev scoreAt (u : Fin 6) : EReal := score (opT (Vm m) d) (opW (Vm m) d) (opB (Vm m) d) (opU (Vm m) d) (opV (Vm m) d) u

section

variable (hx : ∀ j, (xOf m d j : BitVec 32).toNat < 6)
include hx

/-- A position's slot is how many vocabulary scores stand above its own. -/
theorem slots_card (b : Fin 64) (p : Fin 4096) : slots m d b p.val = (aboves (Vm m) d ⟨(tok m d hx b p).val, by omega⟩).card :=
  (slotOfPos_eq m d hx b p).trans (slotN (Vm m) d ⟨(tok m d hx b p).val, by omega⟩)

/-- Slots lie below eight. -/
theorem slots_lt (b : Fin 64) (p : ℕ) (hp : p < 4096) : slots m d b p < 8 := by
  rw [slots_card m d hx b ⟨p, hp⟩]
  exact slot_small (Vm m) d _ (tok m d hx b ⟨p, hp⟩).isLt

/-- The position of every rank. -/
theorem placed (b : Fin 64) (r : Fin 409) : ∃ p : Fin 4096, rank (slots m d b) 4096 p.val = r.val ∧ indicesV m d (ix2 b r) = BitVec.ofNat 32 p.val :=
  topK_rank (FloatOps.cmpfTotal (F := Ideal) (φ := .f32) .gt) (scoresV m d) Cert.ReferenceIdeal.Gen.sliceFits_S64x4096_S64x409
    (slotOfPos (xOf m d) (sbOf m d) b) b r (greater_iff m d hx b)

/-- The reference's indices are positions. -/
theorem indices_lt (j : (⟨2, ![64, 409]⟩ : Shape).Idx) : (indicesV m d j : BitVec 32).toNat < 4096 := by
  rw [eq_ix2 j]
  revert j
  suffices key : ∀ (b : Fin 64) (r : Fin 409), (indicesV m d (ix2 b r) : BitVec 32).toNat < 4096 from fun j => key _ _
  intro b r
  obtain ⟨p, -, e⟩ := placed m d hx b r
  rw [e, BitVec.toNat_ofNat]
  exact lt_of_le_of_lt (Nat.mod_le _ _) p.isLt

variable (hl : ∀ i j : Fin 6, scoreAt m d i = scoreAt m d j → ∀ e : Fin 256, rows m d (ix2 i e) = rows m d (ix2 j e))
include hl

/-- The order table's row of a position's slot picks the position's own item. -/
theorem row_picked (b : Fin 64) (p : Fin 4096) (e : Fin 256) :
    rowOf (order m d) (rows m d) ⟨slots m d b p.val, slots_lt m d hx b p.val p.isLt⟩ e = rows m d (ix2 (tok m d hx b p) e) := by
  unfold rowOf order
  rw [ordOf_eq]
  refine pick (Vm m) d ⟨(tok m d hx b p).val, by omega⟩ (tok m d hx b p).isLt ⟨slots m d b p.val, slots_lt m d hx b p.val p.isLt⟩ (slots_card m d hx b p)
    (fun v => rows m d (ix2 v e)) fun v hv => ?_
  refine hl v (tok m d hx b p) ?_ e
  exact (sc_score (Vm m) d v).symm.trans (hv.trans (sc_score (Vm m) d (tok m d hx b p)))

variable (h : S64x16.Idx → BitVec 32) (hT : ∀ b, TotalsIn (xOf m d) (sbOf m d) b h)

omit hx hl in
include hT in
/-- The counts the kernel leaves are those of the slots. -/
theorem counts_pre (b : Fin 64) (s : Fin 8) : counts h b s = pre (slots m d b) 4096 s.val := by
  have e := hT b (s.castLE (by omega))
  rw [atC_eq] at e
  unfold counts
  rw [e, BitVec.toNat_ofNat]
  exact Nat.mod_eq_of_lt (lt_of_le_of_lt (pre_le _ _ _) (by decide))

include hT

/-- The reference's item of a rank is the kernel's row of the rank's slot. -/
theorem item_row (b : Fin 64) (r : Fin 409) :
    itemT (m (aLoc d main_arg0)) (m (aLoc d main_arg1)) (m (aLoc d main_arg2)) (m (aLoc d main_arg3)) (m (aLoc d main_arg4)) (m (aLoc d main_arg5)) b r
      = rowOf (order m d) (rows m d) (Finishing.slotOf (counts h b) r.val) := by
  funext e
  obtain ⟨p, hp, hi⟩ := placed m d hx b r
  unfold itemT
  have k : (⟨(indicesV m d (ix2 b r) : BitVec 32).toNat, indices_lt m d hx _⟩ : Fin 4096) = p :=
    Fin.ext ((congrArg BitVec.toNat hi).trans ((BitVec.toNat_ofNat _ _).trans (Nat.mod_eq_of_lt (lt_trans p.isLt (by decide)))))
  refine (item_taken _ _ _ _ _ _ (indices_lt m d hx) b r e).trans ?_
  refine (congrArg (fun q : Fin 4096 => Cert.ReferenceIdeal.Read.val_main_v0 (F := Ideal) (m (aLoc d main_arg0)) (m (aLoc d main_arg1)) (ix3 b q e)) k).trans ?_
  refine (taken _ _ hx b p e).trans ?_
  rw [← hp, slot_of_rank (slots m d b) (slots_lt m d hx b) (counts h b) (counts_pre m d h hT b) p.val p.isLt]
  exact (row_picked m d hx hl b p e).symm

/-- No count exceeds the number of positions. -/
theorem counts_le (b : Fin 64) (s : Fin 8) : counts h b s ≤ 4096 := by
  rw [counts_pre m d h hT]; exact pre_le _ _ _

/-- The average of a batch row's items is the counts' average of the rows. -/
theorem query_row (b : Fin 64) : queryT (m (aLoc d main_arg0)) (m (aLoc d main_arg1)) b = queryK h (order m d) (rows m d) b := by
  funext e
  have key : (∑ p : Fin 4096, Cert.ReferenceIdeal.Read.val_main_v0 (F := Ideal) (m (aLoc d main_arg0)) (m (aLoc d main_arg1)) (ix3 b p e))
      = ∑ s : Fin 8, countK h b s * rowOf (order m d) (rows m d) s e := by
    refine (Finset.sum_congr rfl fun p _ => (taken (m (aLoc d main_arg0)) (m (aLoc d main_arg1)) hx b p e).trans (row_picked m d hx hl b p e).symm).trans ?_
    refine (sum_positions (slots m d b) (slots_lt m d hx b) (counts h b) (counts_pre m d h hT b) fun s => rowOf (order m d) (rows m d) s e).trans ?_
    exact Finset.sum_congr rfl fun s _ => congrArg (fun y : EReal => y * rowOf (order m d) (rows m d) s e) (Finishing.count_eq h (counts_le m d hx hl h hT) b s).symm
  unfold queryT queryK
  rw [key, Finishing.ranks_of_bits, Finishing.scale_of_bits, Ideal.div_coe (by norm_num)]

variable (hr : ∀ i, ∃ r : ℝ, rows m d i = (r : EReal)) (hw : ∀ i, ∃ r : ℝ, (m (aLoc d main_arg6) : (⟨2, ![8, 768]⟩ : Shape).Idx → EReal) i = (r : EReal))
include hr hw

/-- The column of the finishing call is the reference's. -/
theorem column_value (b : Fin 64) (k0 : Fin 1) : columnAt m d h (ix2 b k0)
    = Cert.ReferenceIdeal.Read.val_main_v63 (F := Ideal) (m (aLoc d main_arg0)) (m (aLoc d main_arg1)) (m (aLoc d main_arg2)) (m (aLoc d main_arg3)) (m (aLoc d main_arg4)) (m (aLoc d main_arg5))
      (m (aLoc d main_arg6)) (m (aLoc d main_arg7)) (m (aLoc d main_arg8)) (m (aLoc d main_arg9)) (m (aLoc d main_arg10)) (m (aLoc d main_arg11)) (m (aLoc d main_arg12)) (m (aLoc d main_arg13))
      (m (aLoc d main_arg14)) (m (aLoc d main_arg15)) (ix2 b k0) := by
  have ho : ∀ i, ∃ r : ℝ, order m d i = (r : EReal) := fun i => by
    unfold order; rw [ordOf_eq]; exact ord_real (Vm m) d i
  have hle := counts_le m d hx hl h hT
  refine Eq.trans ?_ (reference_out _ _ _ _ _ _ _ _ _ _ _ _ _ _ _ _ b k0).symm
  unfold columnAt
  refine (congrFun (column_same _ _ _ _ _ _ _ _ _ _ _ _ _) (ix2 b k0)).trans ((Finishing.kernel_out _ _ _ _ _ _ _ _ _ _ _ _ _ b k0).trans ?_)
  refine congrArg (classify _ _ _ _) (funext fun e => ?_)
  have f : ∀ s : Fin 8, firstSum (m (aLoc d main_arg6)) (m (aLoc d main_arg7)) (queryT (m (aLoc d main_arg0)) (m (aLoc d main_arg1)) b) (rowOf (order m d) (rows m d) s)
      = firstK (m (aLoc d main_arg6)) (m (aLoc d main_arg7)) (queryK h (order m d) (rows m d) b) (rowOf (order m d) (rows m d) s) := fun s => funext fun j => by
    rw [query_row m d hx hl h hT b]
    exact Finishing.first_eq _ _ _ _ (Finishing.real_row _ _ ho hr s) hw j
  have g : (∑ r : Fin 409, layers (m (aLoc d main_arg8)) (m (aLoc d main_arg9)) (m (aLoc d main_arg10)) (m (aLoc d main_arg11))
        (firstSum (m (aLoc d main_arg6)) (m (aLoc d main_arg7)) (queryT (m (aLoc d main_arg0)) (m (aLoc d main_arg1)) b)
          (itemT (m (aLoc d main_arg0)) (m (aLoc d main_arg1)) (m (aLoc d main_arg2)) (m (aLoc d main_arg3)) (m (aLoc d main_arg4)) (m (aLoc d main_arg5)) b r)) e)
      = ∑ s : Fin 8, chosenK h b s * layers (m (aLoc d main_arg8)) (m (aLoc d main_arg9)) (m (aLoc d main_arg10)) (m (aLoc d main_arg11))
        (firstK (m (aLoc d main_arg6)) (m (aLoc d main_arg7)) (queryK h (order m d) (rows m d) b) (rowOf (order m d) (rows m d) s)) e := by
    refine (Finset.sum_congr rfl fun r _ => congrArg (fun x => layers (m (aLoc d main_arg8)) (m (aLoc d main_arg9)) (m (aLoc d main_arg10)) (m (aLoc d main_arg11))
        (firstSum (m (aLoc d main_arg6)) (m (aLoc d main_arg7)) (queryT (m (aLoc d main_arg0)) (m (aLoc d main_arg1)) b) x) e) (item_row m d hx hl h hT b r)).trans ?_
    refine (Finishing.sum_slots (counts h b) 409 (by rw [Finishing.upTo_eight, tally_sum (slots m d b) (slots_lt m d hx b) (counts h b) (counts_pre m d h hT b)]; omega)
      fun s => layers (m (aLoc d main_arg8)) (m (aLoc d main_arg9)) (m (aLoc d main_arg10)) (m (aLoc d main_arg11))
        (firstSum (m (aLoc d main_arg6)) (m (aLoc d main_arg7)) (queryT (m (aLoc d main_arg0)) (m (aLoc d main_arg1)) b) (rowOf (order m d) (rows m d) s)) e).trans ?_
    refine Finset.sum_congr rfl fun s _ => ?_
    rw [Finishing.chosen_eq h hle, f s]
  rw [Finishing.kept_of_bits, Ideal.div_coe (by norm_num), one_div]
  exact congrArg (fun y : EReal => y * _) g.symm

/-- The kernel's first result is the reference's, entry by entry. -/
theorem out_value : flat (columnAt m d h)
    = Cert.ReferenceIdeal.Read.val_main_v64 (F := Ideal) (m (aLoc d main_arg0)) (m (aLoc d main_arg1)) (m (aLoc d main_arg2)) (m (aLoc d main_arg3)) (m (aLoc d main_arg4)) (m (aLoc d main_arg5))
      (m (aLoc d main_arg6)) (m (aLoc d main_arg7)) (m (aLoc d main_arg8)) (m (aLoc d main_arg9)) (m (aLoc d main_arg10)) (m (aLoc d main_arg11)) (m (aLoc d main_arg12)) (m (aLoc d main_arg13))
      (m (aLoc d main_arg14)) (m (aLoc d main_arg15)) := by
  refine funext fun i => ?_
  rw [Cert.ReferenceIdeal.Read.val_main_v64_apply]
  have e1 : flat (columnAt m d h) i = columnAt m d h (ix2 (i 0) 0) := by
    rw [eq_ix1 i]
    unfold flat
    generalize columnAt m d h = y
    simp only [pointwise]
  have e2 : Cert.ReferenceIdeal.Read.idx_main_v64 i = ix2 (i 0) 0 := funext fun a => by
    fin_cases a
    · exact Fin.ext (Nat.div_one _)
    · rfl
  rw [e1, e2]
  exact column_value m d hx hl h hT hr hw (i 0) 0

end

end Cert.Proof.Whole

end
-- ==== Proof.lean ====
/-
  The certificate's claims, from the launch's one run and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Gen.Finish
public import proofs.«01_k».proof.Proof.Gen.Finish.Frame
public import proofs.«01_k».proof.Proof.Gen.FinishIdeal
public import proofs.«01_k».proof.Proof.Gen.FinishIdeal.Frame
public import proofs.«01_k».proof.Proof.Gen.FinishIdeal.Value
public import proofs.«01_k».proof.Proof.Gen.FinishReferenceIdeal
public import proofs.«01_k».proof.Proof.Gen.FinishReferenceIdeal.Run
public import proofs.«01_k».proof.Proof.Gen.FinishReferenceIdeal.Read
public import proofs.«01_k».proof.Proof.Gen.Pre_counted
public import proofs.«01_k».proof.Proof.Launch
public import proofs.«01_k».proof.Proof.Order
public import proofs.«01_k».proof.Proof.Twin
public import proofs.«01_k».proof.Proof.Range
public import proofs.«01_k».proof.Proof.Values
public import proofs.«01_k».proof.Proof.FinEq
public import proofs.«01_k».proof.Proof.Alike
public import proofs.«01_k».proof.Proof.Out

@[expose] public section

noncomputable section

namespace Cert.Proof

open Idealize.ShloMosaic Idealize.SL.Sem

open Sparsity

/-! ## The frames: what the launch's one run says of the arguments and the semaphores -/

theorem frame_ideal : Cert.quiescent_KernelIdeal := fun m ρ hpre =>
  (θ_run (Cert.KernelIdeal.defs (F := Ideal)) _ _).mono (fun _ h => ⟨fun c => (h.1 c).1, h.2⟩)
    (run_main (F := Ideal) m ρ (fun d j => (tokens_lt _ _ _ _ _ _ _ _ _ _ _ _ _ _ _ _ (hpre d) j).trans (by decide)) (fun d j => slotOf_lt_ideal _ d j))

theorem frame_kernel : Cert.quiescent_Kernel := fun m ρ hpre => by
  rw [defs_eq]
  exact (θ_run (Cert.KernelIdeal.defs (F := Bits)) (Cert.KernelIdeal.threads (F := Bits)) ⟨m, fun _ => 0, ρ⟩).mono
    (fun (r : PUnit × MemSt Cert.KernelIdeal.nD Cert.KernelIdeal.τ Cert.KernelIdeal.sig (Elt Bits)) (h : QC (F := Bits) m r) =>
      (⟨fun c => (h.1 c).1, h.2⟩ : (∀ c, (r.2.mem (aLoc c Cert.KernelIdeal.main_arg0) = m (aLoc c Cert.KernelIdeal.main_arg0) ∧ _)) ∧ _))
    (run_main (F := Bits) m ρ (fun d j => (tokens_lt _ _ _ _ _ _ _ _ _ _ _ _ _ _ _ _ (hpre d) j).trans (by decide)) (fun d j => slotOf_lt_bits _ d j))

theorem frame_reference_alike : Cert.quiescent_ReferenceIdeal_pre_alike := fun m ρ _ =>
  (θ_run (Cert.ReferenceIdeal.defs (F := Ideal)) _ _).mono (fun r h => ⟨fun c => (h c).2.2.2, sem_eq_zero_of_no_sems (by decide) r.2⟩)
    (Cert.ReferenceIdeal.Value.run (F := Ideal) m ρ)

theorem frame_reference : Cert.quiescent_ReferenceIdeal := fun m ρ _ =>
  (θ_run (Cert.ReferenceIdeal.defs (F := Ideal)) _ _).mono (fun r h => ⟨fun c => (h c).2.2.2, sem_eq_zero_of_no_sems (by decide) r.2⟩)
    (Cert.ReferenceIdeal.Value.run (F := Ideal) m ρ)

theorem frame_ideal_alike : Cert.quiescent_KernelIdeal_pre_alike := fun m ρ hpre =>
  (θ_run (Cert.KernelIdeal.defs (F := Ideal)) _ _).mono (fun _ h => ⟨fun c => (h.1 c).1, h.2⟩)
    (run_main (F := Ideal) m ρ (fun d j => ((Whole.alike_split _ _ _ _ _ _ _ _ _ _ _ _ _ _ _ _ (hpre d)).1 j).trans (by decide)) (fun d j => slotOf_lt_ideal _ d j))

/-- The named constant has the value the kernel is claimed with: one over 409. -/
theorem preserves_kernel : Cert.preserves_Kernel_KernelIdeal :=
  IdealRules.named_const.statement Cert.KernelIdeal.κ "k" .f32 0x3B203C17#32 (((409 : ℝ)⁻¹ : ℝ) : EReal) rfl

/-! ## The three results: what the kernel's run leaves is what the reference's run leaves -/

theorem congr6 {A0 A1 A2 A3 A4 A5 B : Type} (f : A0 → A1 → A2 → A3 → A4 → A5 → B) {a0 b0 : A0} {a1 b1 : A1} {a2 b2 : A2} {a3 b3 : A3} {a4 b4 : A4} {a5 b5 : A5}
    (h0 : a0 = b0) (h1 : a1 = b1) (h2 : a2 = b2) (h3 : a3 = b3) (h4 : a4 = b4) (h5 : a5 = b5) : f a0 a1 a2 a3 a4 a5 = f b0 b1 b2 b3 b4 b5 := by
  subst h0 h1 h2 h3 h4 h5; rfl

theorem congr16 {A0 A1 A2 A3 A4 A5 A6 A7 A8 A9 A10 A11 A12 A13 A14 A15 B : Type} (f : A0 → A1 → A2 → A3 → A4 → A5 → A6 → A7 → A8 → A9 → A10 → A11 → A12 → A13 → A14 → A15 → B)
    {a0 b0 : A0} {a1 b1 : A1} {a2 b2 : A2} {a3 b3 : A3} {a4 b4 : A4} {a5 b5 : A5} {a6 b6 : A6} {a7 b7 : A7} {a8 b8 : A8} {a9 b9 : A9} {a10 b10 : A10} {a11 b11 : A11} {a12 b12 : A12} {a13 b13 : A13} {a14 b14 : A14} {a15 b15 : A15}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    f a0 a1 a2 a3 a4 a5 a6 a7 a8 a9 a10 a11 a12 a13 a14 a15 = f b0 b1 b2 b3 b4 b5 b6 b7 b8 b9 b10 b11 b12 b13 b14 b15 := by
  subst h0 h1 h2 h3 h4 h5 h6 h7 h8 h9 h10 h11 h12 h13 h14 h15; rfl

/-- The reference's first result of the kernel's arguments. -/
def outV (m : (ℓ : Loc Cert.KernelIdeal.nD Cert.KernelIdeal.τ Cert.KernelIdeal.sig) → Buf (Elt Ideal) ℓ) (d : Dev Cert.KernelIdeal.nD) : (⟨1, ![64]⟩ : Shape).Idx → EReal :=
  Cert.ReferenceIdeal.Read.val_main_v64 (F := Ideal) (m (aLoc d Cert.KernelIdeal.main_arg0)) (m (aLoc d Cert.KernelIdeal.main_arg1)) (m (aLoc d Cert.KernelIdeal.main_arg2)) (m (aLoc d Cert.KernelIdeal.main_arg3)) (m (aLoc d Cert.KernelIdeal.main_arg4)) (m (aLoc d Cert.KernelIdeal.main_arg5)) (m (aLoc d Cert.KernelIdeal.main_arg6)) (m (aLoc d Cert.KernelIdeal.main_arg7)) (m (aLoc d Cert.KernelIdeal.main_arg8)) (m (aLoc d Cert.KernelIdeal.main_arg9)) (m (aLoc d Cert.KernelIdeal.main_arg10)) (m (aLoc d Cert.KernelIdeal.main_arg11)) (m (aLoc d Cert.KernelIdeal.main_arg12)) (m (aLoc d Cert.KernelIdeal.main_arg13)) (m (aLoc d Cert.KernelIdeal.main_arg14)) (m (aLoc d Cert.KernelIdeal.main_arg15))

theorem values : Cert.algebraic_KernelIdeal_ReferenceIdeal_pre_alike := fun m g m' g' hpre harg => by
  have hs : ∀ d, _ := fun d => Whole.alike_split _ _ _ _ _ _ _ _ _ _ _ _ _ _ _ _ (hpre d)
  have hx : ∀ d j, (xOf m d j : BitVec 32).toNat < 6 := fun d j => (hs d).1 j
  refine ⟨fun d => outV m d, fun d => indicesV m d, fun d => scoresV m d, ?_, ?_⟩
  · refine (θ_run (Cert.KernelIdeal.defs (F := Ideal)) _ _).mono (fun r h c => ?_)
      (run_main (F := Ideal) m g (fun d j => (hx d j).trans (by decide)) (fun d j => slotOf_lt_ideal _ d j))
    obtain ⟨ha, hsc, ⟨t, ht, he⟩, w, hw, ho⟩ := h.1 c
    exact ⟨ho.trans (Whole.out_value m c (hx c) (hs c).2.2.2 w hw (hs c).2.1 (hs c).2.2.1), he.trans (indices_eq m c (hx c) t ht), scores_eq m c (hx c) _ hsc, ha⟩
  · refine (θ_run (Cert.ReferenceIdeal.defs (F := Ideal)) _ _).mono (fun r h c => ?_) (Cert.ReferenceIdeal.Value.run (F := Ideal) m' g')
    obtain ⟨e0, e1, e2, e3, e4, e5, e6, e7, e8, e9, e10, e11, e12, e13, e14, e15⟩ := harg c
    exact ⟨((h c).1.trans (Cert.ReferenceIdeal.Read.val_main_v64_eq _ _)).trans
        (congr16 (Cert.ReferenceIdeal.Read.val_main_v64 (F := Ideal)) e0 e1 e2 e3 e4 e5 e6 e7 e8 e9 e10 e11 e12 e13 e14 e15),
      ((h c).2.1.trans (Cert.ReferenceIdeal.Read.val_main_indices_eq _ _ _ _ _ _)).trans
        (congr6 (Cert.ReferenceIdeal.Read.val_main_indices (F := Ideal)) e0 e1 e2 e3 e4 e5),
      ((h c).2.2.1.trans (Cert.ReferenceIdeal.Read.val_main_v18_eq _ _ _ _ _ _)).trans
        (congr6 (Cert.ReferenceIdeal.Read.val_main_v18 (F := Ideal)) e0 e1 e2 e3 e4 e5), (h c).2.2.2⟩

/-! ## The finishing call -/

theorem frame_finish : Cert.quiescent_Finish := fun m ρ _ => Cert.Finish.Gen.frame m ρ

theorem frame_finish_ideal : Cert.quiescent_FinishIdeal := fun m ρ _ => Cert.FinishIdeal.Gen.frame m ρ

theorem frame_finish_ideal_counted : Cert.quiescent_FinishIdeal_pre_counted := fun m ρ _ => Cert.FinishIdeal.Gen.frame m ρ

theorem frame_finish_reference : Cert.quiescent_FinishReferenceIdeal := fun m ρ _ =>
  (θ_run (Cert.FinishReferenceIdeal.defs (F := Ideal)) _ _).mono (fun r h => ⟨fun c => (h c).2, sem_eq_zero_of_no_sems (by decide) r.2⟩)
    (Cert.FinishReferenceIdeal.Value.run (F := Ideal) m ρ)

theorem frame_finish_reference_counted : Cert.quiescent_FinishReferenceIdeal_pre_counted := fun m ρ _ => frame_finish_reference m ρ trivial

/-- The named constant has the value the program is claimed with: one over 409. -/
theorem preserves_finish : Cert.preserves_Finish_FinishIdeal :=
  IdealRules.named_const.statement Cert.FinishIdeal.κ "k" .f32 0x3B203C17#32 (((409 : ℝ)⁻¹ : ℝ) : EReal) rfl

theorem congr13 {A0 A1 A2 A3 A4 A5 A6 A7 A8 A9 A10 A11 A12 B : Type} (f : A0 → A1 → A2 → A3 → A4 → A5 → A6 → A7 → A8 → A9 → A10 → A11 → A12 → B)
    {a0 b0 : A0} {a1 b1 : A1} {a2 b2 : A2} {a3 b3 : A3} {a4 b4 : A4} {a5 b5 : A5} {a6 b6 : A6} {a7 b7 : A7} {a8 b8 : A8} {a9 b9 : A9} {a10 b10 : A10} {a11 b11 : A11} {a12 b12 : A12}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) :
    f a0 a1 a2 a3 a4 a5 a6 a7 a8 a9 a10 a11 a12 = f b0 b1 b2 b3 b4 b5 b6 b7 b8 b9 b10 b11 b12 := by
  subst h0 h1 h2 h3 h4 h5 h6 h7 h8 h9 h10 h11 h12; rfl

theorem finish_value : Cert.algebraic_FinishIdeal_FinishReferenceIdeal_pre_counted := fun m g m' g' hpre harg => by
  refine ⟨_, Cert.FinishIdeal.Value.run (F := Ideal) m g, ?_⟩
  refine (θ_run (Cert.FinishReferenceIdeal.defs (F := Ideal)) _ _).mono (fun r h c => ?_) (Cert.FinishReferenceIdeal.Value.run (F := Ideal) m' g')
  obtain ⟨e0, e1, e2, e3, e4, e5, e6, e7, e8, e9, e10, e11, e12⟩ := harg c
  exact ⟨((h c).1.trans (Cert.FinishReferenceIdeal.Read.val_main_v95_eq _)).trans
      ((congr13 (Cert.FinishReferenceIdeal.Read.val_main_v95 (F := Ideal)) e0 e1 e2 e3 e4 e5 e6 e7 e8 e9 e10 e11 e12).trans (Finishing.finish_values _ _ _ _ _ _ _ _ _ _ _ _ _ (hpre c))), (h c).2⟩

theorem claim : Cert.Claim := ⟨Cert.Kernel.Gen.facts, Cert.KernelIdeal.Gen.facts, Cert.ReferenceIdeal.Gen.facts, Cert.Finish.Gen.facts, Cert.FinishIdeal.Gen.facts,
  Cert.FinishReferenceIdeal.Gen.facts, Cert.Pre_in_range.Gen.facts, Whole.alikeFacts, Cert.Pre_counted.Gen.facts,
  frame_kernel, frame_ideal, frame_ideal_alike, frame_reference, frame_reference_alike,
  frame_finish, frame_finish_ideal, frame_finish_ideal_counted, frame_finish_reference, frame_finish_reference_counted,
  preserves_kernel, values, preserves_finish, finish_value⟩

end Cert.Proof

end
